-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_WeightsReference (m : (ℓ : Loc Cert.WeightsReference.nD Cert.WeightsReference.τ Cert.WeightsReference.sig) → Buf (Elt Bits) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInReferenceIdeal (m : (ℓ : Loc Cert.SumInReferenceIdeal.nD Cert.SumInReferenceIdeal.τ Cert.SumInReferenceIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutReferenceIdeal (m : (ℓ : Loc Cert.SumOutReferenceIdeal.nD Cert.SumOutReferenceIdeal.τ Cert.SumOutReferenceIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpReferenceIdeal (m : (ℓ : Loc Cert.SumUpReferenceIdeal.nD Cert.SumUpReferenceIdeal.τ Cert.SumUpReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpReferenceIdeal (m : (ℓ : Loc Cert.AdamwUpReferenceIdeal.nD Cert.AdamwUpReferenceIdeal.τ Cert.AdamwUpReferenceIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownReferenceIdeal (m : (ℓ : Loc Cert.AdamwDownReferenceIdeal.nD Cert.AdamwDownReferenceIdeal.τ Cert.AdamwDownReferenceIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvReferenceIdeal (m : (ℓ : Loc Cert.AdamwConvReferenceIdeal.nD Cert.AdamwConvReferenceIdeal.τ Cert.AdamwConvReferenceIdeal.sig) → Buf (Elt Ideal) ℓ) : Prop :=
  True

def Pre_AdamwFfnConv (m : (ℓ : Loc Cert.AdamwFfnConv.nD Cert.AdamwFfnConv.τ Cert.AdamwFfnConv.sig) → Buf (Elt Bits) ℓ) : Prop :=
  True

def Pre_AdamwFfnConvIdeal (m : (ℓ : Loc Cert.AdamwFfnConvIdeal.nD Cert.AdamwFfnConvIdeal.τ Cert.AdamwFfnConvIdeal.sig) → Buf (Elt Ideal) ℓ) : Prop :=
  True

def Pre_AdamwFfnConvReferenceIdeal (m : (ℓ : Loc Cert.AdamwFfnConvReferenceIdeal.nD Cert.AdamwFfnConvReferenceIdeal.τ Cert.AdamwFfnConvReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvReferenceIdeal (m : (ℓ : Loc Cert.ProjQkvReferenceIdeal.nD Cert.ProjQkvReferenceIdeal.τ Cert.ProjQkvReferenceIdeal.sig) → Buf (Elt Ideal) ℓ) : Prop :=
  True

def Pre_ProjAg (m : (ℓ : Loc Cert.ProjAg.nD Cert.ProjAg.τ Cert.ProjAg.sig) → Buf (Elt Bits) ℓ) : Prop :=
  True

def Pre_ProjAgIdeal (m : (ℓ : Loc Cert.ProjAgIdeal.nD Cert.ProjAgIdeal.τ Cert.ProjAgIdeal.sig) → Buf (Elt Ideal) ℓ) : Prop :=
  True

def Pre_ProjAgReferenceIdeal (m : (ℓ : Loc Cert.ProjAgReferenceIdeal.nD Cert.ProjAgReferenceIdeal.τ Cert.ProjAgReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedReferenceIdeal (m : (ℓ : Loc Cert.DMixedReferenceIdeal.nD Cert.DMixedReferenceIdeal.τ Cert.DMixedReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpReferenceIdeal (m : (ℓ : Loc Cert.GradUpReferenceIdeal.nD Cert.GradUpReferenceIdeal.τ Cert.GradUpReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2)
      ∧ r.2.mem ((c.tc : Thread Cert.Weights.nD Cert.Weights.τ).loc Cert.Weights.main_arg3) = m ((c.tc : Thread Cert.Weights.nD Cert.Weights.τ).loc Cert.Weights.main_arg3)
      ∧ r.2.mem ((c.tc : Thread Cert.Weights.nD Cert.Weights.τ).loc Cert.Weights.main_arg4) = m ((c.tc : Thread Cert.Weights.nD Cert.Weights.τ).loc Cert.Weights.main_arg4)
      ∧ r.2.mem ((c.tc : Thread Cert.Weights.nD Cert.Weights.τ).loc Cert.Weights.main_arg5) = m ((c.tc : Thread Cert.Weights.nD Cert.Weights.τ).loc Cert.Weights.main_arg5))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
      ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
      ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
      ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1)
      ∧ r.2.mem ((c.tc : Thread Cert.WeightsReferenceIdeal.nD Cert.WeightsReferenceIdeal.τ).loc Cert.WeightsReferenceIdeal.main_arg2) = m ((c.tc : Thread Cert.WeightsReferenceIdeal.nD Cert.WeightsReferenceIdeal.τ).loc Cert.WeightsReferenceIdeal.main_arg2)
      ∧ r.2.mem ((c.tc : Thread Cert.WeightsReferenceIdeal.nD Cert.WeightsReferenceIdeal.τ).loc Cert.WeightsReferenceIdeal.main_arg3) = m ((c.tc : Thread Cert.WeightsReferenceIdeal.nD Cert.WeightsReferenceIdeal.τ).loc Cert.WeightsReferenceIdeal.main_arg3)
      ∧ r.2.mem ((c.tc : Thread Cert.WeightsReferenceIdeal.nD Cert.WeightsReferenceIdeal.τ).loc Cert.WeightsReferenceIdeal.main_arg4) = m ((c.tc : Thread Cert.WeightsReferenceIdeal.nD Cert.WeightsReferenceIdeal.τ).loc Cert.WeightsReferenceIdeal.main_arg4)
      ∧ r.2.mem ((c.tc : Thread Cert.WeightsReferenceIdeal.nD Cert.WeightsReferenceIdeal.τ).loc Cert.WeightsReferenceIdeal.main_arg5) = m ((c.tc : Thread Cert.WeightsReferenceIdeal.nD Cert.WeightsReferenceIdeal.τ).loc Cert.WeightsReferenceIdeal.main_arg5))
      ∧ r.2.sem = fun _ => 0)

def quiescent_WeightsReference [hWeightsReference : Cert.WeightsReference.Facts] : Prop :=
  ∀ (m : (ℓ : Loc Cert.WeightsReference.nD Cert.WeightsReference.τ Cert.WeightsReference.sig) → Buf (Elt Bits) ℓ) (g : Dev Cert.WeightsReference.nD → PrngReg), Pre_WeightsReference m →
    θ_run (Cert.WeightsReference.defs (F := Bits)) (onTc (τ := Cert.WeightsReference.τ) (Cert.WeightsReference.main (F := Bits))) ⟨m, fun _ => 0, g⟩ (fun r => (∀ c : Dev Cert.WeightsReference.nD,
      r.2.mem ((c.tc : Thread Cert.WeightsReference.nD Cert.WeightsReference.τ).loc Cert.WeightsReference.main_arg0) = m ((c.tc : Thread Cert.WeightsReference.nD Cert.WeightsReference.τ).loc Cert.WeightsReference.main_arg0)
      ∧ r.2.mem ((c.tc : Thread Cert.WeightsReference.nD Cert.WeightsReference.τ).loc Cert.WeightsReference.main_arg1) = m ((c.tc : Thread Cert.WeightsReference.nD Cert.WeightsReference.τ).loc Cert.WeightsReference.main_arg1)
      ∧ r.2.mem ((c.tc : Thread Cert.WeightsReference.nD Cert.WeightsReference.τ).loc Cert.WeightsReference.main_arg2) = m ((c.tc : Thread Cert.WeightsReference.nD Cert.WeightsReference.τ).loc Cert.WeightsReference.main_arg2)
      ∧ r.2.mem ((c.tc : Thread Cert.WeightsReference.nD Cert.WeightsReference.τ).loc Cert.WeightsReference.main_arg3) = m ((c.tc : Thread Cert.WeightsReference.nD Cert.WeightsReference.τ).loc Cert.WeightsReference.main_arg3)
      ∧ r.2.mem ((c.tc : Thread Cert.WeightsReference.nD Cert.WeightsReference.τ).loc Cert.WeightsReference.main_arg4) = m ((c.tc : Thread Cert.WeightsReference.nD Cert.WeightsReference.τ).loc Cert.WeightsReference.main_arg4)
      ∧ r.2.mem ((c.tc : Thread Cert.WeightsReference.nD Cert.WeightsReference.τ).loc Cert.WeightsReference.main_arg5) = m ((c.tc : Thread Cert.WeightsReference.nD Cert.WeightsReference.τ).loc Cert.WeightsReference.main_arg5))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInReferenceIdeal [hSumInReferenceIdeal : Cert.SumInReferenceIdeal.Facts] : Prop :=
  ∀ (m : (ℓ : Loc Cert.SumInReferenceIdeal.nD Cert.SumInReferenceIdeal.τ Cert.SumInReferenceIdeal.sig) → Buf (Elt Ideal) ℓ) (g : Dev Cert.SumInReferenceIdeal.nD → PrngReg), Pre_SumInReferenceIdeal m →
    θ_run (Cert.SumInReferenceIdeal.defs (F := Ideal)) (onTc (τ := Cert.SumInReferenceIdeal.τ) (Cert.SumInReferenceIdeal.main (F := Ideal))) ⟨m, fun _ => 0, g⟩ (fun r => (∀ c : Dev Cert.SumInReferenceIdeal.nD,
      r.2.mem ((c.tc : Thread Cert.SumInReferenceIdeal.nD Cert.SumInReferenceIdeal.τ).loc Cert.SumInReferenceIdeal.main_arg0) = m ((c.tc : Thread Cert.SumInReferenceIdeal.nD Cert.SumInReferenceIdeal.τ).loc Cert.SumInReferenceIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutReferenceIdeal [hSumOutReferenceIdeal : Cert.SumOutReferenceIdeal.Facts] : Prop :=
  ∀ (m : (ℓ : Loc Cert.SumOutReferenceIdeal.nD Cert.SumOutReferenceIdeal.τ Cert.SumOutReferenceIdeal.sig) → Buf (Elt Ideal) ℓ) (g : Dev Cert.SumOutReferenceIdeal.nD → PrngReg), Pre_SumOutReferenceIdeal m →
    θ_run (Cert.SumOutReferenceIdeal.defs (F := Ideal)) (onTc (τ := Cert.SumOutReferenceIdeal.τ) (Cert.SumOutReferenceIdeal.main (F := Ideal))) ⟨m, fun _ => 0, g⟩ (fun r => (∀ c : Dev Cert.SumOutReferenceIdeal.nD,
      r.2.mem ((c.tc : Thread Cert.SumOutReferenceIdeal.nD Cert.SumOutReferenceIdeal.τ).loc Cert.SumOutReferenceIdeal.main_arg0) = m ((c.tc : Thread Cert.SumOutReferenceIdeal.nD Cert.SumOutReferenceIdeal.τ).loc Cert.SumOutReferenceIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpReferenceIdeal [hSumUpReferenceIdeal : Cert.SumUpReferenceIdeal.Facts] : Prop :=
  ∀ (m : (ℓ : Loc Cert.SumUpReferenceIdeal.nD Cert.SumUpReferenceIdeal.τ Cert.SumUpReferenceIdeal.sig) → Buf (Elt Ideal) ℓ) (g : Dev Cert.SumUpReferenceIdeal.nD → PrngReg), Pre_SumUpReferenceIdeal m →
    θ_run (Cert.SumUpReferenceIdeal.defs (F := Ideal)) (onTc (τ := Cert.SumUpReferenceIdeal.τ) (Cert.SumUpReferenceIdeal.main (F := Ideal))) ⟨m, fun _ => 0, g⟩ (fun r => (∀ c : Dev Cert.SumUpReferenceIdeal.nD,
      r.2.mem ((c.tc : Thread Cert.SumUpReferenceIdeal.nD Cert.SumUpReferenceIdeal.τ).loc Cert.SumUpReferenceIdeal.main_arg0) = m ((c.tc : Thread Cert.SumUpReferenceIdeal.nD Cert.SumUpReferenceIdeal.τ).loc Cert.SumUpReferenceIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpReferenceIdeal [hAdamwUpReferenceIdeal : Cert.AdamwUpReferenceIdeal.Facts] : Prop :=
  ∀ (m : (ℓ : Loc Cert.AdamwUpReferenceIdeal.nD Cert.AdamwUpReferenceIdeal.τ Cert.AdamwUpReferenceIdeal.sig) → Buf (Elt Ideal) ℓ) (g : Dev Cert.AdamwUpReferenceIdeal.nD → PrngReg), Pre_AdamwUpReferenceIdeal m →
    θ_run (Cert.AdamwUpReferenceIdeal.defs (F := Ideal)) (onTc (τ := Cert.AdamwUpReferenceIdeal.τ) (Cert.AdamwUpReferenceIdeal.main (F := Ideal))) ⟨m, fun _ => 0, g⟩ (fun r => (∀ c : Dev Cert.AdamwUpReferenceIdeal.nD,
      r.2.mem ((c.tc : Thread Cert.AdamwUpReferenceIdeal.nD Cert.AdamwUpReferenceIdeal.τ).loc Cert.AdamwUpReferenceIdeal.main_arg0) = m ((c.tc : Thread Cert.AdamwUpReferenceIdeal.nD Cert.AdamwUpReferenceIdeal.τ).loc Cert.AdamwUpReferenceIdeal.main_arg0)
      ∧ r.2.mem ((c.tc : Thread Cert.AdamwUpReferenceIdeal.nD Cert.AdamwUpReferenceIdeal.τ).loc Cert.AdamwUpReferenceIdeal.main_arg1) = m ((c.tc : Thread Cert.AdamwUpReferenceIdeal.nD Cert.AdamwUpReferenceIdeal.τ).loc Cert.AdamwUpReferenceIdeal.main_arg1)
      ∧ r.2.mem ((c.tc : Thread Cert.AdamwUpReferenceIdeal.nD Cert.AdamwUpReferenceIdeal.τ).loc Cert.AdamwUpReferenceIdeal.main_arg2) = m ((c.tc : Thread Cert.AdamwUpReferenceIdeal.nD Cert.AdamwUpReferenceIdeal.τ).loc Cert.AdamwUpReferenceIdeal.main_arg2)
      ∧ r.2.mem ((c.tc : Thread Cert.AdamwUpReferenceIdeal.nD Cert.AdamwUpReferenceIdeal.τ).loc Cert.AdamwUpReferenceIdeal.main_arg3) = m ((c.tc : Thread Cert.AdamwUpReferenceIdeal.nD Cert.AdamwUpReferenceIdeal.τ).loc Cert.AdamwUpReferenceIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownReferenceIdeal [hAdamwDownReferenceIdeal : Cert.AdamwDownReferenceIdeal.Facts] : Prop :=
  ∀ (m : (ℓ : Loc Cert.AdamwDownReferenceIdeal.nD Cert.AdamwDownReferenceIdeal.τ Cert.AdamwDownReferenceIdeal.sig) → Buf (Elt Ideal) ℓ) (g : Dev Cert.AdamwDownReferenceIdeal.nD → PrngReg), Pre_AdamwDownReferenceIdeal m →
    θ_run (Cert.AdamwDownReferenceIdeal.defs (F := Ideal)) (onTc (τ := Cert.AdamwDownReferenceIdeal.τ) (Cert.AdamwDownReferenceIdeal.main (F := Ideal))) ⟨m, fun _ => 0, g⟩ (fun r => (∀ c : Dev Cert.AdamwDownReferenceIdeal.nD,
      r.2.mem ((c.tc : Thread Cert.AdamwDownReferenceIdeal.nD Cert.AdamwDownReferenceIdeal.τ).loc Cert.AdamwDownReferenceIdeal.main_arg0) = m ((c.tc : Thread Cert.AdamwDownReferenceIdeal.nD Cert.AdamwDownReferenceIdeal.τ).loc Cert.AdamwDownReferenceIdeal.main_arg0)
      ∧ r.2.mem ((c.tc : Thread Cert.AdamwDownReferenceIdeal.nD Cert.AdamwDownReferenceIdeal.τ).loc Cert.AdamwDownReferenceIdeal.main_arg1) = m ((c.tc : Thread Cert.AdamwDownReferenceIdeal.nD Cert.AdamwDownReferenceIdeal.τ).loc Cert.AdamwDownReferenceIdeal.main_arg1)
      ∧ r.2.mem ((c.tc : Thread Cert.AdamwDownReferenceIdeal.nD Cert.AdamwDownReferenceIdeal.τ).loc Cert.AdamwDownReferenceIdeal.main_arg2) = m ((c.tc : Thread Cert.AdamwDownReferenceIdeal.nD Cert.AdamwDownReferenceIdeal.τ).loc Cert.AdamwDownReferenceIdeal.main_arg2)
      ∧ r.2.mem ((c.tc : Thread Cert.AdamwDownReferenceIdeal.nD Cert.AdamwDownReferenceIdeal.τ).loc Cert.AdamwDownReferenceIdeal.main_arg3) = m ((c.tc : Thread Cert.AdamwDownReferenceIdeal.nD Cert.AdamwDownReferenceIdeal.τ).loc Cert.AdamwDownReferenceIdeal.main_arg3))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_AdamwConvReferenceIdeal [hAdamwConvReferenceIdeal : Cert.AdamwConvReferenceIdeal.Facts] : Prop :=
  ∀ (m : (ℓ : Loc Cert.AdamwConvReferenceIdeal.nD Cert.AdamwConvReferenceIdeal.τ Cert.AdamwConvReferenceIdeal.sig) → Buf (Elt Ideal) ℓ) (g : Dev Cert.AdamwConvReferenceIdeal.nD → PrngReg), Pre_AdamwConvReferenceIdeal m →
    θ_run (Cert.AdamwConvReferenceIdeal.defs (F := Ideal)) (onTc (τ := Cert.AdamwConvReferenceIdeal.τ) (Cert.AdamwConvReferenceIdeal.main (F := Ideal))) ⟨m, fun _ => 0, g⟩ (fun r => (∀ c : Dev Cert.AdamwConvReferenceIdeal.nD,
      r.2.mem ((c.tc : Thread Cert.AdamwConvReferenceIdeal.nD Cert.AdamwConvReferenceIdeal.τ).loc Cert.AdamwConvReferenceIdeal.main_arg0) = m ((c.tc : Thread Cert.AdamwConvReferenceIdeal.nD Cert.AdamwConvReferenceIdeal.τ).loc Cert.AdamwConvReferenceIdeal.main_arg0)
      ∧ r.2.mem ((c.tc : Thread Cert.AdamwConvReferenceIdeal.nD Cert.AdamwConvReferenceIdeal.τ).loc Cert.AdamwConvReferenceIdeal.main_arg1) = m ((c.tc : Thread Cert.AdamwConvReferenceIdeal.nD Cert.AdamwConvReferenceIdeal.τ).loc Cert.AdamwConvReferenceIdeal.main_arg1)
      ∧ r.2.mem ((c.tc : Thread Cert.AdamwConvReferenceIdeal.nD Cert.AdamwConvReferenceIdeal.τ).loc Cert.AdamwConvReferenceIdeal.main_arg2) = m ((c.tc : Thread Cert.AdamwConvReferenceIdeal.nD Cert.AdamwConvReferenceIdeal.τ).loc Cert.AdamwConvReferenceIdeal.main_arg2)
      ∧ r.2.mem ((c.tc : Thread Cert.AdamwConvReferenceIdeal.nD Cert.AdamwConvReferenceIdeal.τ).loc Cert.AdamwConvReferenceIdeal.main_arg3) = m ((c.tc : Thread Cert.AdamwConvReferenceIdeal.nD Cert.AdamwConvReferenceIdeal.τ).loc Cert.AdamwConvReferenceIdeal.main_arg3))
      ∧ r.2.sem = fun _ => 0)

def quiescent_AdamwFfnConv [hAdamwFfnConv : Cert.AdamwFfnConv.Facts] : Prop :=
  ∀ (m : (ℓ : Loc Cert.AdamwFfnConv.nD Cert.AdamwFfnConv.τ Cert.AdamwFfnConv.sig) → Buf (Elt Bits) ℓ) (g : Dev Cert.AdamwFfnConv.nD → PrngReg), Pre_AdamwFfnConv m →
    θ_run (Cert.AdamwFfnConv.defs (F := Bits)) (onTc (τ := Cert.AdamwFfnConv.τ) (Cert.AdamwFfnConv.main (F := Bits))) ⟨m, fun _ => 0, g⟩ (fun r => (∀ c : Dev Cert.AdamwFfnConv.nD,
      r.2.mem ((c.tc : Thread Cert.AdamwFfnConv.nD Cert.AdamwFfnConv.τ).loc Cert.AdamwFfnConv.main_arg0) = m ((c.tc : Thread Cert.AdamwFfnConv.nD Cert.AdamwFfnConv.τ).loc Cert.AdamwFfnConv.main_arg0)
      ∧ r.2.mem ((c.tc : Thread Cert.AdamwFfnConv.nD Cert.AdamwFfnConv.τ).loc Cert.AdamwFfnConv.main_arg1) = m ((c.tc : Thread Cert.AdamwFfnConv.nD Cert.AdamwFfnConv.τ).loc Cert.AdamwFfnConv.main_arg1)
      ∧ r.2.mem ((c.tc : Thread Cert.AdamwFfnConv.nD Cert.AdamwFfnConv.τ).loc Cert.AdamwFfnConv.main_arg2) = m ((c.tc : Thread Cert.AdamwFfnConv.nD Cert.AdamwFfnConv.τ).loc Cert.AdamwFfnConv.main_arg2)
      ∧ r.2.mem ((c.tc : Thread Cert.AdamwFfnConv.nD Cert.AdamwFfnConv.τ).loc Cert.AdamwFfnConv.main_arg3) = m ((c.tc : Thread Cert.AdamwFfnConv.nD Cert.AdamwFfnConv.τ).loc Cert.AdamwFfnConv.main_arg3))
      ∧ r.2.sem = fun _ => 0)

def quiescent_AdamwFfnConvIdeal [hAdamwFfnConvIdeal : Cert.AdamwFfnConvIdeal.Facts] : Prop :=
  ∀ (m : (ℓ : Loc Cert.AdamwFfnConvIdeal.nD Cert.AdamwFfnConvIdeal.τ Cert.AdamwFfnConvIdeal.sig) → Buf (Elt Ideal) ℓ) (g : Dev Cert.AdamwFfnConvIdeal.nD → PrngReg), Pre_AdamwFfnConvIdeal m →
    θ_run (Cert.AdamwFfnConvIdeal.defs (F := Ideal)) (onTc (τ := Cert.AdamwFfnConvIdeal.τ) (Cert.AdamwFfnConvIdeal.main (F := Ideal))) ⟨m, fun _ => 0, g⟩ (fun r => (∀ c : Dev Cert.AdamwFfnConvIdeal.nD,
      r.2.mem ((c.tc : Thread Cert.AdamwFfnConvIdeal.nD Cert.AdamwFfnConvIdeal.τ).loc Cert.AdamwFfnConvIdeal.main_arg0) = m ((c.tc : Thread Cert.AdamwFfnConvIdeal.nD Cert.AdamwFfnConvIdeal.τ).loc Cert.AdamwFfnConvIdeal.main_arg0)
      ∧ r.2.mem ((c.tc : Thread Cert.AdamwFfnConvIdeal.nD Cert.AdamwFfnConvIdeal.τ).loc Cert.AdamwFfnConvIdeal.main_arg1) = m ((c.tc : Thread Cert.AdamwFfnConvIdeal.nD Cert.AdamwFfnConvIdeal.τ).loc Cert.AdamwFfnConvIdeal.main_arg1)
      ∧ r.2.mem ((c.tc : Thread Cert.AdamwFfnConvIdeal.nD Cert.AdamwFfnConvIdeal.τ).loc Cert.AdamwFfnConvIdeal.main_arg2) = m ((c.tc : Thread Cert.AdamwFfnConvIdeal.nD Cert.AdamwFfnConvIdeal.τ).loc Cert.AdamwFfnConvIdeal.main_arg2)
      ∧ r.2.mem ((c.tc : Thread Cert.AdamwFfnConvIdeal.nD Cert.AdamwFfnConvIdeal.τ).loc Cert.AdamwFfnConvIdeal.main_arg3) = m ((c.tc : Thread Cert.AdamwFfnConvIdeal.nD Cert.AdamwFfnConvIdeal.τ).loc Cert.AdamwFfnConvIdeal.main_arg3))
      ∧ r.2.sem = fun _ => 0)

def quiescent_AdamwFfnConvReferenceIdeal [hAdamwFfnConvReferenceIdeal : Cert.AdamwFfnConvReferenceIdeal.Facts] : Prop :=
  ∀ (m : (ℓ : Loc Cert.AdamwFfnConvReferenceIdeal.nD Cert.AdamwFfnConvReferenceIdeal.τ Cert.AdamwFfnConvReferenceIdeal.sig) → Buf (Elt Ideal) ℓ) (g : Dev Cert.AdamwFfnConvReferenceIdeal.nD → PrngReg), Pre_AdamwFfnConvReferenceIdeal m →
    θ_run (Cert.AdamwFfnConvReferenceIdeal.defs (F := Ideal)) (onTc (τ := Cert.AdamwFfnConvReferenceIdeal.τ) (Cert.AdamwFfnConvReferenceIdeal.main (F := Ideal))) ⟨m, fun _ => 0, g⟩ (fun r => (∀ c : Dev Cert.AdamwFfnConvReferenceIdeal.nD,
      r.2.mem ((c.tc : Thread Cert.AdamwFfnConvReferenceIdeal.nD Cert.AdamwFfnConvReferenceIdeal.τ).loc Cert.AdamwFfnConvReferenceIdeal.main_arg0) = m ((c.tc : Thread Cert.AdamwFfnConvReferenceIdeal.nD Cert.AdamwFfnConvReferenceIdeal.τ).loc Cert.AdamwFfnConvReferenceIdeal.main_arg0)
      ∧ r.2.mem ((c.tc : Thread Cert.AdamwFfnConvReferenceIdeal.nD Cert.AdamwFfnConvReferenceIdeal.τ).loc Cert.AdamwFfnConvReferenceIdeal.main_arg1) = m ((c.tc : Thread Cert.AdamwFfnConvReferenceIdeal.nD Cert.AdamwFfnConvReferenceIdeal.τ).loc Cert.AdamwFfnConvReferenceIdeal.main_arg1)
      ∧ r.2.mem ((c.tc : Thread Cert.AdamwFfnConvReferenceIdeal.nD Cert.AdamwFfnConvReferenceIdeal.τ).loc Cert.AdamwFfnConvReferenceIdeal.main_arg2) = m ((c.tc : Thread Cert.AdamwFfnConvReferenceIdeal.nD Cert.AdamwFfnConvReferenceIdeal.τ).loc Cert.AdamwFfnConvReferenceIdeal.main_arg2)
      ∧ r.2.mem ((c.tc : Thread Cert.AdamwFfnConvReferenceIdeal.nD Cert.AdamwFfnConvReferenceIdeal.τ).loc Cert.AdamwFfnConvReferenceIdeal.main_arg3) = m ((c.tc : Thread Cert.AdamwFfnConvReferenceIdeal.nD Cert.AdamwFfnConvReferenceIdeal.τ).loc Cert.AdamwFfnConvReferenceIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1)
      ∧ r.2.mem ((c.tc : Thread Cert.ProjQkv.nD Cert.ProjQkv.τ).loc Cert.ProjQkv.main_arg2) = m ((c.tc : Thread Cert.ProjQkv.nD Cert.ProjQkv.τ).loc Cert.ProjQkv.main_arg2))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
      ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ r.2.sem = fun _ => 0)

def quiescent_ProjQkvReferenceIdeal [hProjQkvReferenceIdeal : Cert.ProjQkvReferenceIdeal.Facts] : Prop :=
  ∀ (m : (ℓ : Loc Cert.ProjQkvReferenceIdeal.nD Cert.ProjQkvReferenceIdeal.τ Cert.ProjQkvReferenceIdeal.sig) → Buf (Elt Ideal) ℓ) (g : Dev Cert.ProjQkvReferenceIdeal.nD → PrngReg), Pre_ProjQkvReferenceIdeal m →
    θ_run (Cert.ProjQkvReferenceIdeal.defs (F := Ideal)) (onTc (τ := Cert.ProjQkvReferenceIdeal.τ) (Cert.ProjQkvReferenceIdeal.main (F := Ideal))) ⟨m, fun _ => 0, g⟩ (fun r => (∀ c : Dev Cert.ProjQkvReferenceIdeal.nD,
      r.2.mem ((c.tc : Thread Cert.ProjQkvReferenceIdeal.nD Cert.ProjQkvReferenceIdeal.τ).loc Cert.ProjQkvReferenceIdeal.main_arg0) = m ((c.tc : Thread Cert.ProjQkvReferenceIdeal.nD Cert.ProjQkvReferenceIdeal.τ).loc Cert.ProjQkvReferenceIdeal.main_arg0)
      ∧ r.2.mem ((c.tc : Thread Cert.ProjQkvReferenceIdeal.nD Cert.ProjQkvReferenceIdeal.τ).loc Cert.ProjQkvReferenceIdeal.main_arg1) = m ((c.tc : Thread Cert.ProjQkvReferenceIdeal.nD Cert.ProjQkvReferenceIdeal.τ).loc Cert.ProjQkvReferenceIdeal.main_arg1)
      ∧ r.2.mem ((c.tc : Thread Cert.ProjQkvReferenceIdeal.nD Cert.ProjQkvReferenceIdeal.τ).loc Cert.ProjQkvReferenceIdeal.main_arg2) = m ((c.tc : Thread Cert.ProjQkvReferenceIdeal.nD Cert.ProjQkvReferenceIdeal.τ).loc Cert.ProjQkvReferenceIdeal.main_arg2))
      ∧ r.2.sem = fun _ => 0)

def quiescent_ProjAg [hProjAg : Cert.ProjAg.Facts] : Prop :=
  ∀ (m : (ℓ : Loc Cert.ProjAg.nD Cert.ProjAg.τ Cert.ProjAg.sig) → Buf (Elt Bits) ℓ) (g : Dev Cert.ProjAg.nD → PrngReg), Pre_ProjAg m →
    θ_run (Cert.ProjAg.defs (F := Bits)) (onTc (τ := Cert.ProjAg.τ) (Cert.ProjAg.main (F := Bits))) ⟨m, fun _ => 0, g⟩ (fun r => (∀ c : Dev Cert.ProjAg.nD,
      r.2.mem ((c.tc : Thread Cert.ProjAg.nD Cert.ProjAg.τ).loc Cert.ProjAg.main_arg0) = m ((c.tc : Thread Cert.ProjAg.nD Cert.ProjAg.τ).loc Cert.ProjAg.main_arg0)
      ∧ r.2.mem ((c.tc : Thread Cert.ProjAg.nD Cert.ProjAg.τ).loc Cert.ProjAg.main_arg1) = m ((c.tc : Thread Cert.ProjAg.nD Cert.ProjAg.τ).loc Cert.ProjAg.main_arg1)
      ∧ r.2.mem ((c.tc : Thread Cert.ProjAg.nD Cert.ProjAg.τ).loc Cert.ProjAg.main_arg2) = m ((c.tc : Thread Cert.ProjAg.nD Cert.ProjAg.τ).loc Cert.ProjAg.main_arg2))
      ∧ r.2.sem = fun _ => 0)

def quiescent_ProjAgIdeal [hProjAgIdeal : Cert.ProjAgIdeal.Facts] : Prop :=
  ∀ (m : (ℓ : Loc Cert.ProjAgIdeal.nD Cert.ProjAgIdeal.τ Cert.ProjAgIdeal.sig) → Buf (Elt Ideal) ℓ) (g : Dev Cert.ProjAgIdeal.nD → PrngReg), Pre_ProjAgIdeal m →
    θ_run (Cert.ProjAgIdeal.defs (F := Ideal)) (onTc (τ := Cert.ProjAgIdeal.τ) (Cert.ProjAgIdeal.main (F := Ideal))) ⟨m, fun _ => 0, g⟩ (fun r => (∀ c : Dev Cert.ProjAgIdeal.nD,
      r.2.mem ((c.tc : Thread Cert.ProjAgIdeal.nD Cert.ProjAgIdeal.τ).loc Cert.ProjAgIdeal.main_arg0) = m ((c.tc : Thread Cert.ProjAgIdeal.nD Cert.ProjAgIdeal.τ).loc Cert.ProjAgIdeal.main_arg0)
      ∧ r.2.mem ((c.tc : Thread Cert.ProjAgIdeal.nD Cert.ProjAgIdeal.τ).loc Cert.ProjAgIdeal.main_arg1) = m ((c.tc : Thread Cert.ProjAgIdeal.nD Cert.ProjAgIdeal.τ).loc Cert.ProjAgIdeal.main_arg1)
      ∧ r.2.mem ((c.tc : Thread Cert.ProjAgIdeal.nD Cert.ProjAgIdeal.τ).loc Cert.ProjAgIdeal.main_arg2) = m ((c.tc : Thread Cert.ProjAgIdeal.nD Cert.ProjAgIdeal.τ).loc Cert.ProjAgIdeal.main_arg2))
      ∧ r.2.sem = fun _ => 0)

def quiescent_ProjAgReferenceIdeal [hProjAgReferenceIdeal : Cert.ProjAgReferenceIdeal.Facts] : Prop :=
  ∀ (m : (ℓ : Loc Cert.ProjAgReferenceIdeal.nD Cert.ProjAgReferenceIdeal.τ Cert.ProjAgReferenceIdeal.sig) → Buf (Elt Ideal) ℓ) (g : Dev Cert.ProjAgReferenceIdeal.nD → PrngReg), Pre_ProjAgReferenceIdeal m →
    θ_run (Cert.ProjAgReferenceIdeal.defs (F := Ideal)) (onTc (τ := Cert.ProjAgReferenceIdeal.τ) (Cert.ProjAgReferenceIdeal.main (F := Ideal))) ⟨m, fun _ => 0, g⟩ (fun r => (∀ c : Dev Cert.ProjAgReferenceIdeal.nD,
      r.2.mem ((c.tc : Thread Cert.ProjAgReferenceIdeal.nD Cert.ProjAgReferenceIdeal.τ).loc Cert.ProjAgReferenceIdeal.main_arg0) = m ((c.tc : Thread Cert.ProjAgReferenceIdeal.nD Cert.ProjAgReferenceIdeal.τ).loc Cert.ProjAgReferenceIdeal.main_arg0)
      ∧ r.2.mem ((c.tc : Thread Cert.ProjAgReferenceIdeal.nD Cert.ProjAgReferenceIdeal.τ).loc Cert.ProjAgReferenceIdeal.main_arg1) = m ((c.tc : Thread Cert.ProjAgReferenceIdeal.nD Cert.ProjAgReferenceIdeal.τ).loc Cert.ProjAgReferenceIdeal.main_arg1)
      ∧ r.2.mem ((c.tc : Thread Cert.ProjAgReferenceIdeal.nD Cert.ProjAgReferenceIdeal.τ).loc Cert.ProjAgReferenceIdeal.main_arg2) = m ((c.tc : Thread Cert.ProjAgReferenceIdeal.nD Cert.ProjAgReferenceIdeal.τ).loc Cert.ProjAgReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedReferenceIdeal [hDMixedReferenceIdeal : Cert.DMixedReferenceIdeal.Facts] : Prop :=
  ∀ (m : (ℓ : Loc Cert.DMixedReferenceIdeal.nD Cert.DMixedReferenceIdeal.τ Cert.DMixedReferenceIdeal.sig) → Buf (Elt Ideal) ℓ) (g : Dev Cert.DMixedReferenceIdeal.nD → PrngReg), Pre_DMixedReferenceIdeal m →
    θ_run (Cert.DMixedReferenceIdeal.defs (F := Ideal)) (onTc (τ := Cert.DMixedReferenceIdeal.τ) (Cert.DMixedReferenceIdeal.main (F := Ideal))) ⟨m, fun _ => 0, g⟩ (fun r => (∀ c : Dev Cert.DMixedReferenceIdeal.nD,
      r.2.mem ((c.tc : Thread Cert.DMixedReferenceIdeal.nD Cert.DMixedReferenceIdeal.τ).loc Cert.DMixedReferenceIdeal.main_arg0) = m ((c.tc : Thread Cert.DMixedReferenceIdeal.nD Cert.DMixedReferenceIdeal.τ).loc Cert.DMixedReferenceIdeal.main_arg0)
      ∧ r.2.mem ((c.tc : Thread Cert.DMixedReferenceIdeal.nD Cert.DMixedReferenceIdeal.τ).loc Cert.DMixedReferenceIdeal.main_arg1) = m ((c.tc : Thread Cert.DMixedReferenceIdeal.nD Cert.DMixedReferenceIdeal.τ).loc Cert.DMixedReferenceIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpReferenceIdeal [hGradUpReferenceIdeal : Cert.GradUpReferenceIdeal.Facts] : Prop :=
  ∀ (m : (ℓ : Loc Cert.GradUpReferenceIdeal.nD Cert.GradUpReferenceIdeal.τ Cert.GradUpReferenceIdeal.sig) → Buf (Elt Ideal) ℓ) (g : Dev Cert.GradUpReferenceIdeal.nD → PrngReg), Pre_GradUpReferenceIdeal m →
    θ_run (Cert.GradUpReferenceIdeal.defs (F := Ideal)) (onTc (τ := Cert.GradUpReferenceIdeal.τ) (Cert.GradUpReferenceIdeal.main (F := Ideal))) ⟨m, fun _ => 0, g⟩ (fun r => (∀ c : Dev Cert.GradUpReferenceIdeal.nD,
      r.2.mem ((c.tc : Thread Cert.GradUpReferenceIdeal.nD Cert.GradUpReferenceIdeal.τ).loc Cert.GradUpReferenceIdeal.main_arg0) = m ((c.tc : Thread Cert.GradUpReferenceIdeal.nD Cert.GradUpReferenceIdeal.τ).loc Cert.GradUpReferenceIdeal.main_arg0)
      ∧ r.2.mem ((c.tc : Thread Cert.GradUpReferenceIdeal.nD Cert.GradUpReferenceIdeal.τ).loc Cert.GradUpReferenceIdeal.main_arg1) = m ((c.tc : Thread Cert.GradUpReferenceIdeal.nD Cert.GradUpReferenceIdeal.τ).loc Cert.GradUpReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4)
      ∧ r.2.mem ((c.tc : Thread Cert.NormBwdReferenceIdeal.nD Cert.NormBwdReferenceIdeal.τ).loc Cert.NormBwdReferenceIdeal.main_arg5) = m ((c.tc : Thread Cert.NormBwdReferenceIdeal.nD Cert.NormBwdReferenceIdeal.τ).loc Cert.NormBwdReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 704, 1024]⟩ ⟨3, ![64, 704, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![312, 128]⟩ ⟨2, ![2496, 128]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 352, 1024]⟩ ⟨3, ![64, 352, 1024]⟩ 0 8 c v0
          ∧ r.2.mem ((c.tc : Thread Cert.KernelIdeal.nD Cert.KernelIdeal.τ).loc Cert.KernelIdeal.main_v1_1) = Layout.block ⟨3, ![8, 128, 1024]⟩ ⟨3, ![64, 128, 1024]⟩ 0 8 c v1
          ∧ r.2.mem ((c.tc : Thread Cert.KernelIdeal.nD Cert.KernelIdeal.τ).loc Cert.KernelIdeal.main_v1_2) = Layout.block ⟨3, ![8, 704, 1024]⟩ ⟨3, ![64, 704, 1024]⟩ 0 8 c v2
          ∧ r.2.mem ((c.tc : Thread Cert.KernelIdeal.nD Cert.KernelIdeal.τ).loc Cert.KernelIdeal.main_v1_3) = Layout.block ⟨3, ![8, 352, 1024]⟩ ⟨3, ![64, 352, 1024]⟩ 0 8 c v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v12) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 352, 1024]⟩ ⟨3, ![64, 352, 1024]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 128, 1024]⟩ ⟨3, ![64, 128, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 704, 1024]⟩ ⟨3, ![64, 704, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 352, 1024]⟩ ⟨3, ![64, 352, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![312, 128]⟩ ⟨2, ![2496, 128]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v12)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 352, 1024]⟩ ⟨3, ![64, 352, 1024]⟩ 0 8 c v0
          ∧ r.2.mem ((c.tc : Thread Cert.Kernel.nD Cert.Kernel.τ).loc Cert.Kernel.main_v1_1) = Layout.block ⟨3, ![8, 128, 1024]⟩ ⟨3, ![64, 128, 1024]⟩ 0 8 c v1
          ∧ r.2.mem ((c.tc : Thread Cert.Kernel.nD Cert.Kernel.τ).loc Cert.Kernel.main_v1_2) = Layout.block ⟨3, ![8, 704, 1024]⟩ ⟨3, ![64, 704, 1024]⟩ 0 8 c v2
          ∧ r.2.mem ((c.tc : Thread Cert.Kernel.nD Cert.Kernel.τ).loc Cert.Kernel.main_v1_3) = Layout.block ⟨3, ![8, 352, 1024]⟩ ⟨3, ![64, 352, 1024]⟩ 0 8 c v3
          ∧ r.2.mem ((c.tc : Thread Cert.Kernel.nD Cert.Kernel.τ).loc Cert.Kernel.main_v1_4) = v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v12) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![1024, 352]⟩ ⟨2, ![1024, 2816]⟩ 1 8 c (m' (((0 : Dev Cert.WeightsReferenceIdeal.nD).tc : Thread Cert.WeightsReferenceIdeal.nD Cert.WeightsReferenceIdeal.τ).loc Cert.WeightsReferenceIdeal.main_arg0))
      ∧ m ((c.tc : Thread Cert.WeightsIdeal.nD Cert.WeightsIdeal.τ).loc Cert.WeightsIdeal.main_arg1) = Layout.block ⟨2, ![128, 1024]⟩ ⟨2, ![1024, 1024]⟩ 0 8 c (m' (((0 : Dev Cert.WeightsReferenceIdeal.nD).tc : Thread Cert.WeightsReferenceIdeal.nD Cert.WeightsReferenceIdeal.τ).loc Cert.WeightsReferenceIdeal.main_arg1))
      ∧ m ((c.tc : Thread Cert.WeightsIdeal.nD Cert.WeightsIdeal.τ).loc Cert.WeightsIdeal.main_arg2) = Layout.block ⟨2, ![1024, 704]⟩ ⟨2, ![1024, 5632]⟩ 1 8 c (m' (((0 : Dev Cert.WeightsReferenceIdeal.nD).tc : Thread Cert.WeightsReferenceIdeal.nD Cert.WeightsReferenceIdeal.τ).loc Cert.WeightsReferenceIdeal.main_arg2))
      ∧ m ((c.tc : Thread Cert.WeightsIdeal.nD Cert.WeightsIdeal.τ).loc Cert.WeightsIdeal.main_arg3) = Layout.block ⟨2, ![352, 1024]⟩ ⟨2, ![2816, 1024]⟩ 0 8 c (m' (((0 : Dev Cert.WeightsReferenceIdeal.nD).tc : Thread Cert.WeightsReferenceIdeal.nD Cert.WeightsReferenceIdeal.τ).loc Cert.WeightsReferenceIdeal.main_arg3))
      ∧ m ((c.tc : Thread Cert.WeightsIdeal.nD Cert.WeightsIdeal.τ).loc Cert.WeightsIdeal.main_arg4) = Layout.block ⟨2, ![31, 32]⟩ ⟨2, ![31, 256]⟩ 1 8 c (m' (((0 : Dev Cert.WeightsReferenceIdeal.nD).tc : Thread Cert.WeightsReferenceIdeal.nD Cert.WeightsReferenceIdeal.τ).loc Cert.WeightsReferenceIdeal.main_arg4))
      ∧ m ((c.tc : Thread Cert.WeightsIdeal.nD Cert.WeightsIdeal.τ).loc Cert.WeightsIdeal.main_arg5) = Layout.block ⟨2, ![3, 704]⟩ ⟨2, ![3, 5632]⟩ 1 8 c (m' (((0 : Dev Cert.WeightsReferenceIdeal.nD).tc : Thread Cert.WeightsReferenceIdeal.nD Cert.WeightsReferenceIdeal.τ).loc Cert.WeightsReferenceIdeal.main_arg5))) →
    ∃ (v0 : Buf (Elt Ideal) (((0 : Dev Cert.WeightsReferenceIdeal.nD).tc : Thread Cert.WeightsReferenceIdeal.nD Cert.WeightsReferenceIdeal.τ).loc Cert.WeightsReferenceIdeal.main_v1)) (v1 : Buf (Elt Ideal) (((0 : Dev Cert.WeightsReferenceIdeal.nD).tc : Thread Cert.WeightsReferenceIdeal.nD Cert.WeightsReferenceIdeal.τ).loc Cert.WeightsReferenceIdeal.main_v2)) (v2 : Buf (Elt Ideal) (((0 : Dev Cert.WeightsReferenceIdeal.nD).tc : Thread Cert.WeightsReferenceIdeal.nD Cert.WeightsReferenceIdeal.τ).loc Cert.WeightsReferenceIdeal.main_v4)) (v3 : Buf (Elt Ideal) (((0 : Dev Cert.WeightsReferenceIdeal.nD).tc : Thread Cert.WeightsReferenceIdeal.nD Cert.WeightsReferenceIdeal.τ).loc Cert.WeightsReferenceIdeal.main_v5)) (v4 : Buf (Elt Ideal) (((0 : Dev Cert.WeightsReferenceIdeal.nD).tc : Thread Cert.WeightsReferenceIdeal.nD Cert.WeightsReferenceIdeal.τ).loc Cert.WeightsReferenceIdeal.main_v7)) (v5 : Buf (Elt Ideal) (((0 : Dev Cert.WeightsReferenceIdeal.nD).tc : Thread Cert.WeightsReferenceIdeal.nD Cert.WeightsReferenceIdeal.τ).loc Cert.WeightsReferenceIdeal.main_v9)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0
          ∧ r.2.mem ((c.tc : Thread Cert.WeightsIdeal.nD Cert.WeightsIdeal.τ).loc Cert.WeightsIdeal.main_v1_1) = v1
          ∧ r.2.mem ((c.tc : Thread Cert.WeightsIdeal.nD Cert.WeightsIdeal.τ).loc Cert.WeightsIdeal.main_v1_2) = v2
          ∧ r.2.mem ((c.tc : Thread Cert.WeightsIdeal.nD Cert.WeightsIdeal.τ).loc Cert.WeightsIdeal.main_v1_3) = v3
          ∧ r.2.mem ((c.tc : Thread Cert.WeightsIdeal.nD Cert.WeightsIdeal.τ).loc Cert.WeightsIdeal.main_v1_4) = v4
          ∧ r.2.mem ((c.tc : Thread Cert.WeightsIdeal.nD Cert.WeightsIdeal.τ).loc Cert.WeightsIdeal.main_v1_5) = v5
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2)
          ∧ r.2.mem ((c.tc : Thread Cert.WeightsIdeal.nD Cert.WeightsIdeal.τ).loc Cert.WeightsIdeal.main_arg3) = m ((c.tc : Thread Cert.WeightsIdeal.nD Cert.WeightsIdeal.τ).loc Cert.WeightsIdeal.main_arg3)
          ∧ r.2.mem ((c.tc : Thread Cert.WeightsIdeal.nD Cert.WeightsIdeal.τ).loc Cert.WeightsIdeal.main_arg4) = m ((c.tc : Thread Cert.WeightsIdeal.nD Cert.WeightsIdeal.τ).loc Cert.WeightsIdeal.main_arg4)
          ∧ r.2.mem ((c.tc : Thread Cert.WeightsIdeal.nD Cert.WeightsIdeal.τ).loc Cert.WeightsIdeal.main_arg5) = m ((c.tc : Thread Cert.WeightsIdeal.nD Cert.WeightsIdeal.τ).loc Cert.WeightsIdeal.main_arg5))
      ∧ θ_run (Cert.WeightsReferenceIdeal.defs (F := Ideal)) (onTc (τ := Cert.WeightsReferenceIdeal.τ) (Cert.WeightsReferenceIdeal.main (F := Ideal))) ⟨m', fun _ => 0, g'⟩ (fun r =>
          r.2.mem (((0 : Dev Cert.WeightsReferenceIdeal.nD).tc : Thread Cert.WeightsReferenceIdeal.nD Cert.WeightsReferenceIdeal.τ).loc Cert.WeightsReferenceIdeal.main_v1) = v0
          ∧ r.2.mem (((0 : Dev Cert.WeightsReferenceIdeal.nD).tc : Thread Cert.WeightsReferenceIdeal.nD Cert.WeightsReferenceIdeal.τ).loc Cert.WeightsReferenceIdeal.main_v2) = v1
          ∧ r.2.mem (((0 : Dev Cert.WeightsReferenceIdeal.nD).tc : Thread Cert.WeightsReferenceIdeal.nD Cert.WeightsReferenceIdeal.τ).loc Cert.WeightsReferenceIdeal.main_v4) = v2
          ∧ r.2.mem (((0 : Dev Cert.WeightsReferenceIdeal.nD).tc : Thread Cert.WeightsReferenceIdeal.nD Cert.WeightsReferenceIdeal.τ).loc Cert.WeightsReferenceIdeal.main_v5) = v3
          ∧ r.2.mem (((0 : Dev Cert.WeightsReferenceIdeal.nD).tc : Thread Cert.WeightsReferenceIdeal.nD Cert.WeightsReferenceIdeal.τ).loc Cert.WeightsReferenceIdeal.main_v7) = v4
          ∧ r.2.mem (((0 : Dev Cert.WeightsReferenceIdeal.nD).tc : Thread Cert.WeightsReferenceIdeal.nD Cert.WeightsReferenceIdeal.τ).loc Cert.WeightsReferenceIdeal.main_v9) = v5
          ∧ r.2.mem (((0 : Dev Cert.WeightsReferenceIdeal.nD).tc : Thread Cert.WeightsReferenceIdeal.nD Cert.WeightsReferenceIdeal.τ).loc Cert.WeightsReferenceIdeal.main_arg0) = m' (((0 : Dev Cert.WeightsReferenceIdeal.nD).tc : Thread Cert.WeightsReferenceIdeal.nD Cert.WeightsReferenceIdeal.τ).loc Cert.WeightsReferenceIdeal.main_arg0)
          ∧ r.2.mem (((0 : Dev Cert.WeightsReferenceIdeal.nD).tc : Thread Cert.WeightsReferenceIdeal.nD Cert.WeightsReferenceIdeal.τ).loc Cert.WeightsReferenceIdeal.main_arg1) = m' (((0 : Dev Cert.WeightsReferenceIdeal.nD).tc : Thread Cert.WeightsReferenceIdeal.nD Cert.WeightsReferenceIdeal.τ).loc Cert.WeightsReferenceIdeal.main_arg1)
          ∧ r.2.mem (((0 : Dev Cert.WeightsReferenceIdeal.nD).tc : Thread Cert.WeightsReferenceIdeal.nD Cert.WeightsReferenceIdeal.τ).loc Cert.WeightsReferenceIdeal.main_arg2) = m' (((0 : Dev Cert.WeightsReferenceIdeal.nD).tc : Thread Cert.WeightsReferenceIdeal.nD Cert.WeightsReferenceIdeal.τ).loc Cert.WeightsReferenceIdeal.main_arg2)
          ∧ r.2.mem (((0 : Dev Cert.WeightsReferenceIdeal.nD).tc : Thread Cert.WeightsReferenceIdeal.nD Cert.WeightsReferenceIdeal.τ).loc Cert.WeightsReferenceIdeal.main_arg3) = m' (((0 : Dev Cert.WeightsReferenceIdeal.nD).tc : Thread Cert.WeightsReferenceIdeal.nD Cert.WeightsReferenceIdeal.τ).loc Cert.WeightsReferenceIdeal.main_arg3)
          ∧ r.2.mem (((0 : Dev Cert.WeightsReferenceIdeal.nD).tc : Thread Cert.WeightsReferenceIdeal.nD Cert.WeightsReferenceIdeal.τ).loc Cert.WeightsReferenceIdeal.main_arg4) = m' (((0 : Dev Cert.WeightsReferenceIdeal.nD).tc : Thread Cert.WeightsReferenceIdeal.nD Cert.WeightsReferenceIdeal.τ).loc Cert.WeightsReferenceIdeal.main_arg4)
          ∧ r.2.mem (((0 : Dev Cert.WeightsReferenceIdeal.nD).tc : Thread Cert.WeightsReferenceIdeal.nD Cert.WeightsReferenceIdeal.τ).loc Cert.WeightsReferenceIdeal.main_arg5) = m' (((0 : Dev Cert.WeightsReferenceIdeal.nD).tc : Thread Cert.WeightsReferenceIdeal.nD Cert.WeightsReferenceIdeal.τ).loc Cert.WeightsReferenceIdeal.main_arg5))

def bitexact_Weights_WeightsReference [hWeights : Cert.Weights.Facts] [hWeightsReference : Cert.WeightsReference.Facts] : Prop :=
  ∀ (m : (ℓ : Loc Cert.Weights.nD Cert.Weights.τ Cert.Weights.sig) → Buf (Elt Bits) ℓ) (g : Dev Cert.Weights.nD → PrngReg)
    (m' : (ℓ : Loc Cert.WeightsReference.nD Cert.WeightsReference.τ Cert.WeightsReference.sig) → Buf (Elt Bits) ℓ) (g' : Dev Cert.WeightsReference.nD → PrngReg), Pre_Weights m →
    (∀ c : Dev Cert.Weights.nD,
      m ((c.tc : Thread Cert.Weights.nD Cert.Weights.τ).loc Cert.Weights.main_arg0) = Layout.block ⟨2, ![1024, 352]⟩ ⟨2, ![1024, 2816]⟩ 1 8 c (m' (((0 : Dev Cert.WeightsReference.nD).tc : Thread Cert.WeightsReference.nD Cert.WeightsReference.τ).loc Cert.WeightsReference.main_arg0))
      ∧ m ((c.tc : Thread Cert.Weights.nD Cert.Weights.τ).loc Cert.Weights.main_arg1) = Layout.block ⟨2, ![128, 1024]⟩ ⟨2, ![1024, 1024]⟩ 0 8 c (m' (((0 : Dev Cert.WeightsReference.nD).tc : Thread Cert.WeightsReference.nD Cert.WeightsReference.τ).loc Cert.WeightsReference.main_arg1))
      ∧ m ((c.tc : Thread Cert.Weights.nD Cert.Weights.τ).loc Cert.Weights.main_arg2) = Layout.block ⟨2, ![1024, 704]⟩ ⟨2, ![1024, 5632]⟩ 1 8 c (m' (((0 : Dev Cert.WeightsReference.nD).tc : Thread Cert.WeightsReference.nD Cert.WeightsReference.τ).loc Cert.WeightsReference.main_arg2))
      ∧ m ((c.tc : Thread Cert.Weights.nD Cert.Weights.τ).loc Cert.Weights.main_arg3) = Layout.block ⟨2, ![352, 1024]⟩ ⟨2, ![2816, 1024]⟩ 0 8 c (m' (((0 : Dev Cert.WeightsReference.nD).tc : Thread Cert.WeightsReference.nD Cert.WeightsReference.τ).loc Cert.WeightsReference.main_arg3))
      ∧ m ((c.tc : Thread Cert.Weights.nD Cert.Weights.τ).loc Cert.Weights.main_arg4) = Layout.block ⟨2, ![31, 32]⟩ ⟨2, ![31, 256]⟩ 1 8 c (m' (((0 : Dev Cert.WeightsReference.nD).tc : Thread Cert.WeightsReference.nD Cert.WeightsReference.τ).loc Cert.WeightsReference.main_arg4))
      ∧ m ((c.tc : Thread Cert.Weights.nD Cert.Weights.τ).loc Cert.Weights.main_arg5) = Layout.block ⟨2, ![3, 704]⟩ ⟨2, ![3, 5632]⟩ 1 8 c (m' (((0 : Dev Cert.WeightsReference.nD).tc : Thread Cert.WeightsReference.nD Cert.WeightsReference.τ).loc Cert.WeightsReference.main_arg5))) →
    ∃ (v0 : Buf (Elt Bits) (((0 : Dev Cert.WeightsReference.nD).tc : Thread Cert.WeightsReference.nD Cert.WeightsReference.τ).loc Cert.WeightsReference.main_v1)) (v1 : Buf (Elt Bits) (((0 : Dev Cert.WeightsReference.nD).tc : Thread Cert.WeightsReference.nD Cert.WeightsReference.τ).loc Cert.WeightsReference.main_v2)) (v2 : Buf (Elt Bits) (((0 : Dev Cert.WeightsReference.nD).tc : Thread Cert.WeightsReference.nD Cert.WeightsReference.τ).loc Cert.WeightsReference.main_v4)) (v3 : Buf (Elt Bits) (((0 : Dev Cert.WeightsReference.nD).tc : Thread Cert.WeightsReference.nD Cert.WeightsReference.τ).loc Cert.WeightsReference.main_v5)) (v4 : Buf (Elt Bits) (((0 : Dev Cert.WeightsReference.nD).tc : Thread Cert.WeightsReference.nD Cert.WeightsReference.τ).loc Cert.WeightsReference.main_v7)) (v5 : Buf (Elt Bits) (((0 : Dev Cert.WeightsReference.nD).tc : Thread Cert.WeightsReference.nD Cert.WeightsReference.τ).loc Cert.WeightsReference.main_v9)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1_0) = v0
          ∧ r.2.mem ((c.tc : Thread Cert.Weights.nD Cert.Weights.τ).loc Cert.Weights.main_v1_1) = v1
          ∧ r.2.mem ((c.tc : Thread Cert.Weights.nD Cert.Weights.τ).loc Cert.Weights.main_v1_2) = v2
          ∧ r.2.mem ((c.tc : Thread Cert.Weights.nD Cert.Weights.τ).loc Cert.Weights.main_v1_3) = v3
          ∧ r.2.mem ((c.tc : Thread Cert.Weights.nD Cert.Weights.τ).loc Cert.Weights.main_v1_4) = v4
          ∧ r.2.mem ((c.tc : Thread Cert.Weights.nD Cert.Weights.τ).loc Cert.Weights.main_v1_5) = v5
          ∧ r.2.mem ((c.tc : Thread Cert.Weights.nD Cert.Weights.τ).loc Cert.Weights.main_arg0) = m ((c.tc : Thread Cert.Weights.nD Cert.Weights.τ).loc Cert.Weights.main_arg0)
          ∧ r.2.mem ((c.tc : Thread Cert.Weights.nD Cert.Weights.τ).loc Cert.Weights.main_arg1) = m ((c.tc : Thread Cert.Weights.nD Cert.Weights.τ).loc Cert.Weights.main_arg1)
          ∧ r.2.mem ((c.tc : Thread Cert.Weights.nD Cert.Weights.τ).loc Cert.Weights.main_arg2) = m ((c.tc : Thread Cert.Weights.nD Cert.Weights.τ).loc Cert.Weights.main_arg2)
          ∧ r.2.mem ((c.tc : Thread Cert.Weights.nD Cert.Weights.τ).loc Cert.Weights.main_arg3) = m ((c.tc : Thread Cert.Weights.nD Cert.Weights.τ).loc Cert.Weights.main_arg3)
          ∧ r.2.mem ((c.tc : Thread Cert.Weights.nD Cert.Weights.τ).loc Cert.Weights.main_arg4) = m ((c.tc : Thread Cert.Weights.nD Cert.Weights.τ).loc Cert.Weights.main_arg4)
          ∧ r.2.mem ((c.tc : Thread Cert.Weights.nD Cert.Weights.τ).loc Cert.Weights.main_arg5) = m ((c.tc : Thread Cert.Weights.nD Cert.Weights.τ).loc Cert.Weights.main_arg5))
      ∧ θ_run (Cert.WeightsReference.defs (F := Bits)) (onTc (τ := Cert.WeightsReference.τ) (Cert.WeightsReference.main (F := Bits))) ⟨m', fun _ => 0, g'⟩ (fun r =>
          r.2.mem (((0 : Dev Cert.WeightsReference.nD).tc : Thread Cert.WeightsReference.nD Cert.WeightsReference.τ).loc Cert.WeightsReference.main_v1) = v0
          ∧ r.2.mem (((0 : Dev Cert.WeightsReference.nD).tc : Thread Cert.WeightsReference.nD Cert.WeightsReference.τ).loc Cert.WeightsReference.main_v2) = v1
          ∧ r.2.mem (((0 : Dev Cert.WeightsReference.nD).tc : Thread Cert.WeightsReference.nD Cert.WeightsReference.τ).loc Cert.WeightsReference.main_v4) = v2
          ∧ r.2.mem (((0 : Dev Cert.WeightsReference.nD).tc : Thread Cert.WeightsReference.nD Cert.WeightsReference.τ).loc Cert.WeightsReference.main_v5) = v3
          ∧ r.2.mem (((0 : Dev Cert.WeightsReference.nD).tc : Thread Cert.WeightsReference.nD Cert.WeightsReference.τ).loc Cert.WeightsReference.main_v7) = v4
          ∧ r.2.mem (((0 : Dev Cert.WeightsReference.nD).tc : Thread Cert.WeightsReference.nD Cert.WeightsReference.τ).loc Cert.WeightsReference.main_v9) = v5
          ∧ r.2.mem (((0 : Dev Cert.WeightsReference.nD).tc : Thread Cert.WeightsReference.nD Cert.WeightsReference.τ).loc Cert.WeightsReference.main_arg0) = m' (((0 : Dev Cert.WeightsReference.nD).tc : Thread Cert.WeightsReference.nD Cert.WeightsReference.τ).loc Cert.WeightsReference.main_arg0)
          ∧ r.2.mem (((0 : Dev Cert.WeightsReference.nD).tc : Thread Cert.WeightsReference.nD Cert.WeightsReference.τ).loc Cert.WeightsReference.main_arg1) = m' (((0 : Dev Cert.WeightsReference.nD).tc : Thread Cert.WeightsReference.nD Cert.WeightsReference.τ).loc Cert.WeightsReference.main_arg1)
          ∧ r.2.mem (((0 : Dev Cert.WeightsReference.nD).tc : Thread Cert.WeightsReference.nD Cert.WeightsReference.τ).loc Cert.WeightsReference.main_arg2) = m' (((0 : Dev Cert.WeightsReference.nD).tc : Thread Cert.WeightsReference.nD Cert.WeightsReference.τ).loc Cert.WeightsReference.main_arg2)
          ∧ r.2.mem (((0 : Dev Cert.WeightsReference.nD).tc : Thread Cert.WeightsReference.nD Cert.WeightsReference.τ).loc Cert.WeightsReference.main_arg3) = m' (((0 : Dev Cert.WeightsReference.nD).tc : Thread Cert.WeightsReference.nD Cert.WeightsReference.τ).loc Cert.WeightsReference.main_arg3)
          ∧ r.2.mem (((0 : Dev Cert.WeightsReference.nD).tc : Thread Cert.WeightsReference.nD Cert.WeightsReference.τ).loc Cert.WeightsReference.main_arg4) = m' (((0 : Dev Cert.WeightsReference.nD).tc : Thread Cert.WeightsReference.nD Cert.WeightsReference.τ).loc Cert.WeightsReference.main_arg4)
          ∧ r.2.mem (((0 : Dev Cert.WeightsReference.nD).tc : Thread Cert.WeightsReference.nD Cert.WeightsReference.τ).loc Cert.WeightsReference.main_arg5) = m' (((0 : Dev Cert.WeightsReference.nD).tc : Thread Cert.WeightsReference.nD Cert.WeightsReference.τ).loc Cert.WeightsReference.main_arg5))

def preserves_SumIn_SumInIdeal : Prop :=
  True

def algebraic_SumInIdeal_SumInReferenceIdeal [hSumInIdeal : Cert.SumInIdeal.Facts] [hSumInReferenceIdeal : Cert.SumInReferenceIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInReferenceIdeal.nD Cert.SumInReferenceIdeal.τ Cert.SumInReferenceIdeal.sig) → Buf (Elt Ideal) ℓ) (g' : Dev Cert.SumInReferenceIdeal.nD → PrngReg), Pre_SumInIdeal m →
    (∀ c : Dev Cert.SumInIdeal.nD,
      m' ((c.tc : Thread Cert.SumInReferenceIdeal.nD Cert.SumInReferenceIdeal.τ).loc Cert.SumInReferenceIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInReferenceIdeal.defs (F := Ideal)) (onTc (τ := Cert.SumInReferenceIdeal.τ) (Cert.SumInReferenceIdeal.main (F := Ideal))) ⟨m', fun _ => 0, g'⟩ (fun r => ∀ c : Dev Cert.SumInReferenceIdeal.nD,
          r.2.mem ((c.tc : Thread Cert.SumInReferenceIdeal.nD Cert.SumInReferenceIdeal.τ).loc Cert.SumInReferenceIdeal.main_v0) = v0 c
          ∧ r.2.mem ((c.tc : Thread Cert.SumInReferenceIdeal.nD Cert.SumInReferenceIdeal.τ).loc Cert.SumInReferenceIdeal.main_arg0) = m' ((c.tc : Thread Cert.SumInReferenceIdeal.nD Cert.SumInReferenceIdeal.τ).loc Cert.SumInReferenceIdeal.main_arg0))

def preserves_SumOut_SumOutIdeal : Prop :=
  True

def algebraic_SumOutIdeal_SumOutReferenceIdeal [hSumOutIdeal : Cert.SumOutIdeal.Facts] [hSumOutReferenceIdeal : Cert.SumOutReferenceIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutReferenceIdeal.nD Cert.SumOutReferenceIdeal.τ Cert.SumOutReferenceIdeal.sig) → Buf (Elt Ideal) ℓ) (g' : Dev Cert.SumOutReferenceIdeal.nD → PrngReg), Pre_SumOutIdeal m →
    (∀ c : Dev Cert.SumOutIdeal.nD,
      m' ((c.tc : Thread Cert.SumOutReferenceIdeal.nD Cert.SumOutReferenceIdeal.τ).loc Cert.SumOutReferenceIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutReferenceIdeal.defs (F := Ideal)) (onTc (τ := Cert.SumOutReferenceIdeal.τ) (Cert.SumOutReferenceIdeal.main (F := Ideal))) ⟨m', fun _ => 0, g'⟩ (fun r => ∀ c : Dev Cert.SumOutReferenceIdeal.nD,
          r.2.mem ((c.tc : Thread Cert.SumOutReferenceIdeal.nD Cert.SumOutReferenceIdeal.τ).loc Cert.SumOutReferenceIdeal.main_v0) = v0 c
          ∧ r.2.mem ((c.tc : Thread Cert.SumOutReferenceIdeal.nD Cert.SumOutReferenceIdeal.τ).loc Cert.SumOutReferenceIdeal.main_arg0) = m' ((c.tc : Thread Cert.SumOutReferenceIdeal.nD Cert.SumOutReferenceIdeal.τ).loc Cert.SumOutReferenceIdeal.main_arg0))

def preserves_SumUp_SumUpIdeal : Prop :=
  True

def algebraic_SumUpIdeal_SumUpReferenceIdeal [hSumUpIdeal : Cert.SumUpIdeal.Facts] [hSumUpReferenceIdeal : Cert.SumUpReferenceIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpReferenceIdeal.nD Cert.SumUpReferenceIdeal.τ Cert.SumUpReferenceIdeal.sig) → Buf (Elt Ideal) ℓ) (g' : Dev Cert.SumUpReferenceIdeal.nD → PrngReg), Pre_SumUpIdeal m →
    (∀ c : Dev Cert.SumUpIdeal.nD,
      m' ((c.tc : Thread Cert.SumUpReferenceIdeal.nD Cert.SumUpReferenceIdeal.τ).loc Cert.SumUpReferenceIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpReferenceIdeal.defs (F := Ideal)) (onTc (τ := Cert.SumUpReferenceIdeal.τ) (Cert.SumUpReferenceIdeal.main (F := Ideal))) ⟨m', fun _ => 0, g'⟩ (fun r => ∀ c : Dev Cert.SumUpReferenceIdeal.nD,
          r.2.mem ((c.tc : Thread Cert.SumUpReferenceIdeal.nD Cert.SumUpReferenceIdeal.τ).loc Cert.SumUpReferenceIdeal.main_v0) = v0 c
          ∧ r.2.mem ((c.tc : Thread Cert.SumUpReferenceIdeal.nD Cert.SumUpReferenceIdeal.τ).loc Cert.SumUpReferenceIdeal.main_arg0) = m' ((c.tc : Thread Cert.SumUpReferenceIdeal.nD Cert.SumUpReferenceIdeal.τ).loc Cert.SumUpReferenceIdeal.main_arg0))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v23) = v0 c
          ∧ r.2.mem ((c.tc : Thread Cert.AdamwInReferenceIdeal.nD Cert.AdamwInReferenceIdeal.τ).loc Cert.AdamwInReferenceIdeal.main_v4) = v1 c
          ∧ r.2.mem ((c.tc : Thread Cert.AdamwInReferenceIdeal.nD Cert.AdamwInReferenceIdeal.τ).loc Cert.AdamwInReferenceIdeal.main_v10) = v2 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v23) = v0 c
          ∧ r.2.mem ((c.tc : Thread Cert.AdamwOutReferenceIdeal.nD Cert.AdamwOutReferenceIdeal.τ).loc Cert.AdamwOutReferenceIdeal.main_v4) = v1 c
          ∧ r.2.mem ((c.tc : Thread Cert.AdamwOutReferenceIdeal.nD Cert.AdamwOutReferenceIdeal.τ).loc Cert.AdamwOutReferenceIdeal.main_v10) = v2 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwUp_AdamwUpIdeal : Prop :=
  True

def algebraic_AdamwUpIdeal_AdamwUpReferenceIdeal [hAdamwUpIdeal : Cert.AdamwUpIdeal.Facts] [hAdamwUpReferenceIdeal : Cert.AdamwUpReferenceIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpReferenceIdeal.nD Cert.AdamwUpReferenceIdeal.τ Cert.AdamwUpReferenceIdeal.sig) → Buf (Elt Ideal) ℓ) (g' : Dev Cert.AdamwUpReferenceIdeal.nD → PrngReg), Pre_AdamwUpIdeal m →
    (∀ c : Dev Cert.AdamwUpIdeal.nD,
      m' ((c.tc : Thread Cert.AdamwUpReferenceIdeal.nD Cert.AdamwUpReferenceIdeal.τ).loc Cert.AdamwUpReferenceIdeal.main_arg0) = m ((c.tc : Thread Cert.AdamwUpIdeal.nD Cert.AdamwUpIdeal.τ).loc Cert.AdamwUpIdeal.main_arg0)
      ∧ m' ((c.tc : Thread Cert.AdamwUpReferenceIdeal.nD Cert.AdamwUpReferenceIdeal.τ).loc Cert.AdamwUpReferenceIdeal.main_arg1) = m ((c.tc : Thread Cert.AdamwUpIdeal.nD Cert.AdamwUpIdeal.τ).loc Cert.AdamwUpIdeal.main_arg1)
      ∧ m' ((c.tc : Thread Cert.AdamwUpReferenceIdeal.nD Cert.AdamwUpReferenceIdeal.τ).loc Cert.AdamwUpReferenceIdeal.main_arg2) = m ((c.tc : Thread Cert.AdamwUpIdeal.nD Cert.AdamwUpIdeal.τ).loc Cert.AdamwUpIdeal.main_arg2)
      ∧ m' ((c.tc : Thread Cert.AdamwUpReferenceIdeal.nD Cert.AdamwUpReferenceIdeal.τ).loc Cert.AdamwUpReferenceIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpReferenceIdeal.defs (F := Ideal)) (onTc (τ := Cert.AdamwUpReferenceIdeal.τ) (Cert.AdamwUpReferenceIdeal.main (F := Ideal))) ⟨m', fun _ => 0, g'⟩ (fun r => ∀ c : Dev Cert.AdamwUpReferenceIdeal.nD,
          r.2.mem ((c.tc : Thread Cert.AdamwUpReferenceIdeal.nD Cert.AdamwUpReferenceIdeal.τ).loc Cert.AdamwUpReferenceIdeal.main_v23) = v0 c
          ∧ r.2.mem ((c.tc : Thread Cert.AdamwUpReferenceIdeal.nD Cert.AdamwUpReferenceIdeal.τ).loc Cert.AdamwUpReferenceIdeal.main_v4) = v1 c
          ∧ r.2.mem ((c.tc : Thread Cert.AdamwUpReferenceIdeal.nD Cert.AdamwUpReferenceIdeal.τ).loc Cert.AdamwUpReferenceIdeal.main_v10) = v2 c
          ∧ r.2.mem ((c.tc : Thread Cert.AdamwUpReferenceIdeal.nD Cert.AdamwUpReferenceIdeal.τ).loc Cert.AdamwUpReferenceIdeal.main_arg0) = m' ((c.tc : Thread Cert.AdamwUpReferenceIdeal.nD Cert.AdamwUpReferenceIdeal.τ).loc Cert.AdamwUpReferenceIdeal.main_arg0)
          ∧ r.2.mem ((c.tc : Thread Cert.AdamwUpReferenceIdeal.nD Cert.AdamwUpReferenceIdeal.τ).loc Cert.AdamwUpReferenceIdeal.main_arg1) = m' ((c.tc : Thread Cert.AdamwUpReferenceIdeal.nD Cert.AdamwUpReferenceIdeal.τ).loc Cert.AdamwUpReferenceIdeal.main_arg1)
          ∧ r.2.mem ((c.tc : Thread Cert.AdamwUpReferenceIdeal.nD Cert.AdamwUpReferenceIdeal.τ).loc Cert.AdamwUpReferenceIdeal.main_arg2) = m' ((c.tc : Thread Cert.AdamwUpReferenceIdeal.nD Cert.AdamwUpReferenceIdeal.τ).loc Cert.AdamwUpReferenceIdeal.main_arg2)
          ∧ r.2.mem ((c.tc : Thread Cert.AdamwUpReferenceIdeal.nD Cert.AdamwUpReferenceIdeal.τ).loc Cert.AdamwUpReferenceIdeal.main_arg3) = m' ((c.tc : Thread Cert.AdamwUpReferenceIdeal.nD Cert.AdamwUpReferenceIdeal.τ).loc Cert.AdamwUpReferenceIdeal.main_arg3))

def preserves_AdamwDown_AdamwDownIdeal : Prop :=
  True

def algebraic_AdamwDownIdeal_AdamwDownReferenceIdeal [hAdamwDownIdeal : Cert.AdamwDownIdeal.Facts] [hAdamwDownReferenceIdeal : Cert.AdamwDownReferenceIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownReferenceIdeal.nD Cert.AdamwDownReferenceIdeal.τ Cert.AdamwDownReferenceIdeal.sig) → Buf (Elt Ideal) ℓ) (g' : Dev Cert.AdamwDownReferenceIdeal.nD → PrngReg), Pre_AdamwDownIdeal m →
    (∀ c : Dev Cert.AdamwDownIdeal.nD,
      m' ((c.tc : Thread Cert.AdamwDownReferenceIdeal.nD Cert.AdamwDownReferenceIdeal.τ).loc Cert.AdamwDownReferenceIdeal.main_arg0) = m ((c.tc : Thread Cert.AdamwDownIdeal.nD Cert.AdamwDownIdeal.τ).loc Cert.AdamwDownIdeal.main_arg0)
      ∧ m' ((c.tc : Thread Cert.AdamwDownReferenceIdeal.nD Cert.AdamwDownReferenceIdeal.τ).loc Cert.AdamwDownReferenceIdeal.main_arg1) = m ((c.tc : Thread Cert.AdamwDownIdeal.nD Cert.AdamwDownIdeal.τ).loc Cert.AdamwDownIdeal.main_arg1)
      ∧ m' ((c.tc : Thread Cert.AdamwDownReferenceIdeal.nD Cert.AdamwDownReferenceIdeal.τ).loc Cert.AdamwDownReferenceIdeal.main_arg2) = m ((c.tc : Thread Cert.AdamwDownIdeal.nD Cert.AdamwDownIdeal.τ).loc Cert.AdamwDownIdeal.main_arg2)
      ∧ m' ((c.tc : Thread Cert.AdamwDownReferenceIdeal.nD Cert.AdamwDownReferenceIdeal.τ).loc Cert.AdamwDownReferenceIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownReferenceIdeal.defs (F := Ideal)) (onTc (τ := Cert.AdamwDownReferenceIdeal.τ) (Cert.AdamwDownReferenceIdeal.main (F := Ideal))) ⟨m', fun _ => 0, g'⟩ (fun r => ∀ c : Dev Cert.AdamwDownReferenceIdeal.nD,
          r.2.mem ((c.tc : Thread Cert.AdamwDownReferenceIdeal.nD Cert.AdamwDownReferenceIdeal.τ).loc Cert.AdamwDownReferenceIdeal.main_v23) = v0 c
          ∧ r.2.mem ((c.tc : Thread Cert.AdamwDownReferenceIdeal.nD Cert.AdamwDownReferenceIdeal.τ).loc Cert.AdamwDownReferenceIdeal.main_v4) = v1 c
          ∧ r.2.mem ((c.tc : Thread Cert.AdamwDownReferenceIdeal.nD Cert.AdamwDownReferenceIdeal.τ).loc Cert.AdamwDownReferenceIdeal.main_v10) = v2 c
          ∧ r.2.mem ((c.tc : Thread Cert.AdamwDownReferenceIdeal.nD Cert.AdamwDownReferenceIdeal.τ).loc Cert.AdamwDownReferenceIdeal.main_arg0) = m' ((c.tc : Thread Cert.AdamwDownReferenceIdeal.nD Cert.AdamwDownReferenceIdeal.τ).loc Cert.AdamwDownReferenceIdeal.main_arg0)
          ∧ r.2.mem ((c.tc : Thread Cert.AdamwDownReferenceIdeal.nD Cert.AdamwDownReferenceIdeal.τ).loc Cert.AdamwDownReferenceIdeal.main_arg1) = m' ((c.tc : Thread Cert.AdamwDownReferenceIdeal.nD Cert.AdamwDownReferenceIdeal.τ).loc Cert.AdamwDownReferenceIdeal.main_arg1)
          ∧ r.2.mem ((c.tc : Thread Cert.AdamwDownReferenceIdeal.nD Cert.AdamwDownReferenceIdeal.τ).loc Cert.AdamwDownReferenceIdeal.main_arg2) = m' ((c.tc : Thread Cert.AdamwDownReferenceIdeal.nD Cert.AdamwDownReferenceIdeal.τ).loc Cert.AdamwDownReferenceIdeal.main_arg2)
          ∧ r.2.mem ((c.tc : Thread Cert.AdamwDownReferenceIdeal.nD Cert.AdamwDownReferenceIdeal.τ).loc Cert.AdamwDownReferenceIdeal.main_arg3) = m' ((c.tc : Thread Cert.AdamwDownReferenceIdeal.nD Cert.AdamwDownReferenceIdeal.τ).loc Cert.AdamwDownReferenceIdeal.main_arg3))

def preserves_AdamwConv_AdamwConvIdeal : Prop :=
  True

def algebraic_AdamwConvIdeal_AdamwConvReferenceIdeal [hAdamwConvIdeal : Cert.AdamwConvIdeal.Facts] [hAdamwConvReferenceIdeal : Cert.AdamwConvReferenceIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvReferenceIdeal.nD Cert.AdamwConvReferenceIdeal.τ Cert.AdamwConvReferenceIdeal.sig) → Buf (Elt Ideal) ℓ) (g' : Dev Cert.AdamwConvReferenceIdeal.nD → PrngReg), Pre_AdamwConvIdeal m →
    (∀ c : Dev Cert.AdamwConvIdeal.nD,
      m' ((c.tc : Thread Cert.AdamwConvReferenceIdeal.nD Cert.AdamwConvReferenceIdeal.τ).loc Cert.AdamwConvReferenceIdeal.main_arg0) = m ((c.tc : Thread Cert.AdamwConvIdeal.nD Cert.AdamwConvIdeal.τ).loc Cert.AdamwConvIdeal.main_arg0)
      ∧ m' ((c.tc : Thread Cert.AdamwConvReferenceIdeal.nD Cert.AdamwConvReferenceIdeal.τ).loc Cert.AdamwConvReferenceIdeal.main_arg1) = m ((c.tc : Thread Cert.AdamwConvIdeal.nD Cert.AdamwConvIdeal.τ).loc Cert.AdamwConvIdeal.main_arg1)
      ∧ m' ((c.tc : Thread Cert.AdamwConvReferenceIdeal.nD Cert.AdamwConvReferenceIdeal.τ).loc Cert.AdamwConvReferenceIdeal.main_arg2) = m ((c.tc : Thread Cert.AdamwConvIdeal.nD Cert.AdamwConvIdeal.τ).loc Cert.AdamwConvIdeal.main_arg2)
      ∧ m' ((c.tc : Thread Cert.AdamwConvReferenceIdeal.nD Cert.AdamwConvReferenceIdeal.τ).loc Cert.AdamwConvReferenceIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v0_0)) (v1 : (c : Dev Cert.AdamwConvIdeal.nD) → Buf (Elt Ideal) ((c.tc : Thread Cert.AdamwConvIdeal.nD Cert.AdamwConvIdeal.τ).loc Cert.AdamwConvIdeal.main_v0_1)) (v2 : (c : Dev Cert.AdamwConvIdeal.nD) → Buf (Elt Ideal) ((c.tc : Thread Cert.AdamwConvIdeal.nD Cert.AdamwConvIdeal.τ).loc Cert.AdamwConvIdeal.main_v0_2)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v0_0) = v0 c
          ∧ r.2.mem ((c.tc : Thread Cert.AdamwConvIdeal.nD Cert.AdamwConvIdeal.τ).loc Cert.AdamwConvIdeal.main_v0_1) = v1 c
          ∧ r.2.mem ((c.tc : Thread Cert.AdamwConvIdeal.nD Cert.AdamwConvIdeal.τ).loc Cert.AdamwConvIdeal.main_v0_2) = v2 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.AdamwConvReferenceIdeal.defs (F := Ideal)) (onTc (τ := Cert.AdamwConvReferenceIdeal.τ) (Cert.AdamwConvReferenceIdeal.main (F := Ideal))) ⟨m', fun _ => 0, g'⟩ (fun r => ∀ c : Dev Cert.AdamwConvReferenceIdeal.nD,
          r.2.mem ((c.tc : Thread Cert.AdamwConvReferenceIdeal.nD Cert.AdamwConvReferenceIdeal.τ).loc Cert.AdamwConvReferenceIdeal.main_v23) = v0 c
          ∧ r.2.mem ((c.tc : Thread Cert.AdamwConvReferenceIdeal.nD Cert.AdamwConvReferenceIdeal.τ).loc Cert.AdamwConvReferenceIdeal.main_v4) = v1 c
          ∧ r.2.mem ((c.tc : Thread Cert.AdamwConvReferenceIdeal.nD Cert.AdamwConvReferenceIdeal.τ).loc Cert.AdamwConvReferenceIdeal.main_v10) = v2 c
          ∧ r.2.mem ((c.tc : Thread Cert.AdamwConvReferenceIdeal.nD Cert.AdamwConvReferenceIdeal.τ).loc Cert.AdamwConvReferenceIdeal.main_arg0) = m' ((c.tc : Thread Cert.AdamwConvReferenceIdeal.nD Cert.AdamwConvReferenceIdeal.τ).loc Cert.AdamwConvReferenceIdeal.main_arg0)
          ∧ r.2.mem ((c.tc : Thread Cert.AdamwConvReferenceIdeal.nD Cert.AdamwConvReferenceIdeal.τ).loc Cert.AdamwConvReferenceIdeal.main_arg1) = m' ((c.tc : Thread Cert.AdamwConvReferenceIdeal.nD Cert.AdamwConvReferenceIdeal.τ).loc Cert.AdamwConvReferenceIdeal.main_arg1)
          ∧ r.2.mem ((c.tc : Thread Cert.AdamwConvReferenceIdeal.nD Cert.AdamwConvReferenceIdeal.τ).loc Cert.AdamwConvReferenceIdeal.main_arg2) = m' ((c.tc : Thread Cert.AdamwConvReferenceIdeal.nD Cert.AdamwConvReferenceIdeal.τ).loc Cert.AdamwConvReferenceIdeal.main_arg2)
          ∧ r.2.mem ((c.tc : Thread Cert.AdamwConvReferenceIdeal.nD Cert.AdamwConvReferenceIdeal.τ).loc Cert.AdamwConvReferenceIdeal.main_arg3) = m' ((c.tc : Thread Cert.AdamwConvReferenceIdeal.nD Cert.AdamwConvReferenceIdeal.τ).loc Cert.AdamwConvReferenceIdeal.main_arg3))

def preserves_AdamwFfnConv_AdamwFfnConvIdeal : Prop :=
  True

def algebraic_AdamwFfnConvIdeal_AdamwFfnConvReferenceIdeal [hAdamwFfnConvIdeal : Cert.AdamwFfnConvIdeal.Facts] [hAdamwFfnConvReferenceIdeal : Cert.AdamwFfnConvReferenceIdeal.Facts] : Prop :=
  ∀ (m : (ℓ : Loc Cert.AdamwFfnConvIdeal.nD Cert.AdamwFfnConvIdeal.τ Cert.AdamwFfnConvIdeal.sig) → Buf (Elt Ideal) ℓ) (g : Dev Cert.AdamwFfnConvIdeal.nD → PrngReg)
    (m' : (ℓ : Loc Cert.AdamwFfnConvReferenceIdeal.nD Cert.AdamwFfnConvReferenceIdeal.τ Cert.AdamwFfnConvReferenceIdeal.sig) → Buf (Elt Ideal) ℓ) (g' : Dev Cert.AdamwFfnConvReferenceIdeal.nD → PrngReg), Pre_AdamwFfnConvIdeal m →
    (∀ c : Dev Cert.AdamwFfnConvIdeal.nD,
      m' ((c.tc : Thread Cert.AdamwFfnConvReferenceIdeal.nD Cert.AdamwFfnConvReferenceIdeal.τ).loc Cert.AdamwFfnConvReferenceIdeal.main_arg0) = m ((c.tc : Thread Cert.AdamwFfnConvIdeal.nD Cert.AdamwFfnConvIdeal.τ).loc Cert.AdamwFfnConvIdeal.main_arg0)
      ∧ m' ((c.tc : Thread Cert.AdamwFfnConvReferenceIdeal.nD Cert.AdamwFfnConvReferenceIdeal.τ).loc Cert.AdamwFfnConvReferenceIdeal.main_arg1) = m ((c.tc : Thread Cert.AdamwFfnConvIdeal.nD Cert.AdamwFfnConvIdeal.τ).loc Cert.AdamwFfnConvIdeal.main_arg1)
      ∧ m' ((c.tc : Thread Cert.AdamwFfnConvReferenceIdeal.nD Cert.AdamwFfnConvReferenceIdeal.τ).loc Cert.AdamwFfnConvReferenceIdeal.main_arg2) = m ((c.tc : Thread Cert.AdamwFfnConvIdeal.nD Cert.AdamwFfnConvIdeal.τ).loc Cert.AdamwFfnConvIdeal.main_arg2)
      ∧ m' ((c.tc : Thread Cert.AdamwFfnConvReferenceIdeal.nD Cert.AdamwFfnConvReferenceIdeal.τ).loc Cert.AdamwFfnConvReferenceIdeal.main_arg3) = m ((c.tc : Thread Cert.AdamwFfnConvIdeal.nD Cert.AdamwFfnConvIdeal.τ).loc Cert.AdamwFfnConvIdeal.main_arg3)) →
    ∃ (v0 : (c : Dev Cert.AdamwFfnConvIdeal.nD) → Buf (Elt Ideal) ((c.tc : Thread Cert.AdamwFfnConvIdeal.nD Cert.AdamwFfnConvIdeal.τ).loc Cert.AdamwFfnConvIdeal.main_v0_0)) (v1 : (c : Dev Cert.AdamwFfnConvIdeal.nD) → Buf (Elt Ideal) ((c.tc : Thread Cert.AdamwFfnConvIdeal.nD Cert.AdamwFfnConvIdeal.τ).loc Cert.AdamwFfnConvIdeal.main_v0_1)) (v2 : (c : Dev Cert.AdamwFfnConvIdeal.nD) → Buf (Elt Ideal) ((c.tc : Thread Cert.AdamwFfnConvIdeal.nD Cert.AdamwFfnConvIdeal.τ).loc Cert.AdamwFfnConvIdeal.main_v0_2)),
      θ_run (Cert.AdamwFfnConvIdeal.defs (F := Ideal)) (onTc (τ := Cert.AdamwFfnConvIdeal.τ) (Cert.AdamwFfnConvIdeal.main (F := Ideal))) ⟨m, fun _ => 0, g⟩ (fun r => ∀ c : Dev Cert.AdamwFfnConvIdeal.nD,
          r.2.mem ((c.tc : Thread Cert.AdamwFfnConvIdeal.nD Cert.AdamwFfnConvIdeal.τ).loc Cert.AdamwFfnConvIdeal.main_v0_0) = v0 c
          ∧ r.2.mem ((c.tc : Thread Cert.AdamwFfnConvIdeal.nD Cert.AdamwFfnConvIdeal.τ).loc Cert.AdamwFfnConvIdeal.main_v0_1) = v1 c
          ∧ r.2.mem ((c.tc : Thread Cert.AdamwFfnConvIdeal.nD Cert.AdamwFfnConvIdeal.τ).loc Cert.AdamwFfnConvIdeal.main_v0_2) = v2 c
          ∧ r.2.mem ((c.tc : Thread Cert.AdamwFfnConvIdeal.nD Cert.AdamwFfnConvIdeal.τ).loc Cert.AdamwFfnConvIdeal.main_arg0) = m ((c.tc : Thread Cert.AdamwFfnConvIdeal.nD Cert.AdamwFfnConvIdeal.τ).loc Cert.AdamwFfnConvIdeal.main_arg0)
          ∧ r.2.mem ((c.tc : Thread Cert.AdamwFfnConvIdeal.nD Cert.AdamwFfnConvIdeal.τ).loc Cert.AdamwFfnConvIdeal.main_arg1) = m ((c.tc : Thread Cert.AdamwFfnConvIdeal.nD Cert.AdamwFfnConvIdeal.τ).loc Cert.AdamwFfnConvIdeal.main_arg1)
          ∧ r.2.mem ((c.tc : Thread Cert.AdamwFfnConvIdeal.nD Cert.AdamwFfnConvIdeal.τ).loc Cert.AdamwFfnConvIdeal.main_arg2) = m ((c.tc : Thread Cert.AdamwFfnConvIdeal.nD Cert.AdamwFfnConvIdeal.τ).loc Cert.AdamwFfnConvIdeal.main_arg2)
          ∧ r.2.mem ((c.tc : Thread Cert.AdamwFfnConvIdeal.nD Cert.AdamwFfnConvIdeal.τ).loc Cert.AdamwFfnConvIdeal.main_arg3) = m ((c.tc : Thread Cert.AdamwFfnConvIdeal.nD Cert.AdamwFfnConvIdeal.τ).loc Cert.AdamwFfnConvIdeal.main_arg3))
      ∧ θ_run (Cert.AdamwFfnConvReferenceIdeal.defs (F := Ideal)) (onTc (τ := Cert.AdamwFfnConvReferenceIdeal.τ) (Cert.AdamwFfnConvReferenceIdeal.main (F := Ideal))) ⟨m', fun _ => 0, g'⟩ (fun r => ∀ c : Dev Cert.AdamwFfnConvReferenceIdeal.nD,
          r.2.mem ((c.tc : Thread Cert.AdamwFfnConvReferenceIdeal.nD Cert.AdamwFfnConvReferenceIdeal.τ).loc Cert.AdamwFfnConvReferenceIdeal.main_v23) = v0 c
          ∧ r.2.mem ((c.tc : Thread Cert.AdamwFfnConvReferenceIdeal.nD Cert.AdamwFfnConvReferenceIdeal.τ).loc Cert.AdamwFfnConvReferenceIdeal.main_v4) = v1 c
          ∧ r.2.mem ((c.tc : Thread Cert.AdamwFfnConvReferenceIdeal.nD Cert.AdamwFfnConvReferenceIdeal.τ).loc Cert.AdamwFfnConvReferenceIdeal.main_v10) = v2 c
          ∧ r.2.mem ((c.tc : Thread Cert.AdamwFfnConvReferenceIdeal.nD Cert.AdamwFfnConvReferenceIdeal.τ).loc Cert.AdamwFfnConvReferenceIdeal.main_arg0) = m' ((c.tc : Thread Cert.AdamwFfnConvReferenceIdeal.nD Cert.AdamwFfnConvReferenceIdeal.τ).loc Cert.AdamwFfnConvReferenceIdeal.main_arg0)
          ∧ r.2.mem ((c.tc : Thread Cert.AdamwFfnConvReferenceIdeal.nD Cert.AdamwFfnConvReferenceIdeal.τ).loc Cert.AdamwFfnConvReferenceIdeal.main_arg1) = m' ((c.tc : Thread Cert.AdamwFfnConvReferenceIdeal.nD Cert.AdamwFfnConvReferenceIdeal.τ).loc Cert.AdamwFfnConvReferenceIdeal.main_arg1)
          ∧ r.2.mem ((c.tc : Thread Cert.AdamwFfnConvReferenceIdeal.nD Cert.AdamwFfnConvReferenceIdeal.τ).loc Cert.AdamwFfnConvReferenceIdeal.main_arg2) = m' ((c.tc : Thread Cert.AdamwFfnConvReferenceIdeal.nD Cert.AdamwFfnConvReferenceIdeal.τ).loc Cert.AdamwFfnConvReferenceIdeal.main_arg2)
          ∧ r.2.mem ((c.tc : Thread Cert.AdamwFfnConvReferenceIdeal.nD Cert.AdamwFfnConvReferenceIdeal.τ).loc Cert.AdamwFfnConvReferenceIdeal.main_arg3) = m' ((c.tc : Thread Cert.AdamwFfnConvReferenceIdeal.nD Cert.AdamwFfnConvReferenceIdeal.τ).loc Cert.AdamwFfnConvReferenceIdeal.main_arg3))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v4) = v1 c
          ∧ r.2.mem ((c.tc : Thread Cert.AdamwSmallReferenceIdeal.nD Cert.AdamwSmallReferenceIdeal.τ).loc Cert.AdamwSmallReferenceIdeal.main_v10) = v2 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v4) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v2) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v2) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)
      ∧ m' ((c.tc : Thread Cert.LossReferenceIdeal.nD Cert.LossReferenceIdeal.τ).loc Cert.LossReferenceIdeal.main_arg5) = m ((c.tc : Thread Cert.LossIdeal.nD Cert.LossIdeal.τ).loc Cert.LossIdeal.main_arg5)
      ∧ m' ((c.tc : Thread Cert.LossReferenceIdeal.nD Cert.LossReferenceIdeal.τ).loc Cert.LossReferenceIdeal.main_arg6) = m ((c.tc : Thread Cert.LossIdeal.nD Cert.LossIdeal.τ).loc Cert.LossIdeal.main_arg6)
      ∧ m' ((c.tc : Thread Cert.LossReferenceIdeal.nD Cert.LossReferenceIdeal.τ).loc Cert.LossReferenceIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v56) = v0 c
          ∧ r.2.mem ((c.tc : Thread Cert.LossReferenceIdeal.nD Cert.LossReferenceIdeal.τ).loc Cert.LossReferenceIdeal.main_v57) = v1 c
          ∧ r.2.mem ((c.tc : Thread Cert.LossReferenceIdeal.nD Cert.LossReferenceIdeal.τ).loc Cert.LossReferenceIdeal.main_v60) = v2 c
          ∧ r.2.mem ((c.tc : Thread Cert.LossReferenceIdeal.nD Cert.LossReferenceIdeal.τ).loc Cert.LossReferenceIdeal.main_v62) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6)
          ∧ r.2.mem ((c.tc : Thread Cert.LossReferenceIdeal.nD Cert.LossReferenceIdeal.τ).loc Cert.LossReferenceIdeal.main_arg7) = m' ((c.tc : Thread Cert.LossReferenceIdeal.nD Cert.LossReferenceIdeal.τ).loc Cert.LossReferenceIdeal.main_arg7))

def preserves_ProjQkv_ProjQkvIdeal : Prop :=
  True

def algebraic_ProjQkvIdeal_ProjQkvReferenceIdeal [hProjQkvIdeal : Cert.ProjQkvIdeal.Facts] [hProjQkvReferenceIdeal : Cert.ProjQkvReferenceIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvReferenceIdeal.nD Cert.ProjQkvReferenceIdeal.τ Cert.ProjQkvReferenceIdeal.sig) → Buf (Elt Ideal) ℓ) (g' : Dev Cert.ProjQkvReferenceIdeal.nD → PrngReg), Pre_ProjQkvIdeal m →
    (∀ c : Dev Cert.ProjQkvIdeal.nD,
      m' ((c.tc : Thread Cert.ProjQkvReferenceIdeal.nD Cert.ProjQkvReferenceIdeal.τ).loc Cert.ProjQkvReferenceIdeal.main_arg0) = m ((c.tc : Thread Cert.ProjQkvIdeal.nD Cert.ProjQkvIdeal.τ).loc Cert.ProjQkvIdeal.main_arg0)
      ∧ m' ((c.tc : Thread Cert.ProjQkvReferenceIdeal.nD Cert.ProjQkvReferenceIdeal.τ).loc Cert.ProjQkvReferenceIdeal.main_arg1) = m ((c.tc : Thread Cert.ProjQkvIdeal.nD Cert.ProjQkvIdeal.τ).loc Cert.ProjQkvIdeal.main_arg1)
      ∧ m' ((c.tc : Thread Cert.ProjQkvReferenceIdeal.nD Cert.ProjQkvReferenceIdeal.τ).loc Cert.ProjQkvReferenceIdeal.main_arg2) = m ((c.tc : Thread Cert.ProjQkvIdeal.nD Cert.ProjQkvIdeal.τ).loc Cert.ProjQkvIdeal.main_arg2)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1)
          ∧ r.2.mem ((c.tc : Thread Cert.ProjQkvIdeal.nD Cert.ProjQkvIdeal.τ).loc Cert.ProjQkvIdeal.main_arg2) = m ((c.tc : Thread Cert.ProjQkvIdeal.nD Cert.ProjQkvIdeal.τ).loc Cert.ProjQkvIdeal.main_arg2))
      ∧ θ_run (Cert.ProjQkvReferenceIdeal.defs (F := Ideal)) (onTc (τ := Cert.ProjQkvReferenceIdeal.τ) (Cert.ProjQkvReferenceIdeal.main (F := Ideal))) ⟨m', fun _ => 0, g'⟩ (fun r => ∀ c : Dev Cert.ProjQkvReferenceIdeal.nD,
          r.2.mem ((c.tc : Thread Cert.ProjQkvReferenceIdeal.nD Cert.ProjQkvReferenceIdeal.τ).loc Cert.ProjQkvReferenceIdeal.main_v5) = v0 c
          ∧ r.2.mem ((c.tc : Thread Cert.ProjQkvReferenceIdeal.nD Cert.ProjQkvReferenceIdeal.τ).loc Cert.ProjQkvReferenceIdeal.main_arg0) = m' ((c.tc : Thread Cert.ProjQkvReferenceIdeal.nD Cert.ProjQkvReferenceIdeal.τ).loc Cert.ProjQkvReferenceIdeal.main_arg0)
          ∧ r.2.mem ((c.tc : Thread Cert.ProjQkvReferenceIdeal.nD Cert.ProjQkvReferenceIdeal.τ).loc Cert.ProjQkvReferenceIdeal.main_arg1) = m' ((c.tc : Thread Cert.ProjQkvReferenceIdeal.nD Cert.ProjQkvReferenceIdeal.τ).loc Cert.ProjQkvReferenceIdeal.main_arg1)
          ∧ r.2.mem ((c.tc : Thread Cert.ProjQkvReferenceIdeal.nD Cert.ProjQkvReferenceIdeal.τ).loc Cert.ProjQkvReferenceIdeal.main_arg2) = m' ((c.tc : Thread Cert.ProjQkvReferenceIdeal.nD Cert.ProjQkvReferenceIdeal.τ).loc Cert.ProjQkvReferenceIdeal.main_arg2))

def preserves_ProjAg_ProjAgIdeal : Prop :=
  True

def algebraic_ProjAgIdeal_ProjAgReferenceIdeal [hProjAgIdeal : Cert.ProjAgIdeal.Facts] [hProjAgReferenceIdeal : Cert.ProjAgReferenceIdeal.Facts] : Prop :=
  ∀ (m : (ℓ : Loc Cert.ProjAgIdeal.nD Cert.ProjAgIdeal.τ Cert.ProjAgIdeal.sig) → Buf (Elt Ideal) ℓ) (g : Dev Cert.ProjAgIdeal.nD → PrngReg)
    (m' : (ℓ : Loc Cert.ProjAgReferenceIdeal.nD Cert.ProjAgReferenceIdeal.τ Cert.ProjAgReferenceIdeal.sig) → Buf (Elt Ideal) ℓ) (g' : Dev Cert.ProjAgReferenceIdeal.nD → PrngReg), Pre_ProjAgIdeal m →
    (∀ c : Dev Cert.ProjAgIdeal.nD,
      m' ((c.tc : Thread Cert.ProjAgReferenceIdeal.nD Cert.ProjAgReferenceIdeal.τ).loc Cert.ProjAgReferenceIdeal.main_arg0) = m ((c.tc : Thread Cert.ProjAgIdeal.nD Cert.ProjAgIdeal.τ).loc Cert.ProjAgIdeal.main_arg0)
      ∧ m' ((c.tc : Thread Cert.ProjAgReferenceIdeal.nD Cert.ProjAgReferenceIdeal.τ).loc Cert.ProjAgReferenceIdeal.main_arg1) = m ((c.tc : Thread Cert.ProjAgIdeal.nD Cert.ProjAgIdeal.τ).loc Cert.ProjAgIdeal.main_arg1)
      ∧ m' ((c.tc : Thread Cert.ProjAgReferenceIdeal.nD Cert.ProjAgReferenceIdeal.τ).loc Cert.ProjAgReferenceIdeal.main_arg2) = m ((c.tc : Thread Cert.ProjAgIdeal.nD Cert.ProjAgIdeal.τ).loc Cert.ProjAgIdeal.main_arg2)) →
    ∃ (v0 : (c : Dev Cert.ProjAgIdeal.nD) → Buf (Elt Ideal) ((c.tc : Thread Cert.ProjAgIdeal.nD Cert.ProjAgIdeal.τ).loc Cert.ProjAgIdeal.main_v0)),
      θ_run (Cert.ProjAgIdeal.defs (F := Ideal)) (onTc (τ := Cert.ProjAgIdeal.τ) (Cert.ProjAgIdeal.main (F := Ideal))) ⟨m, fun _ => 0, g⟩ (fun r => ∀ c : Dev Cert.ProjAgIdeal.nD,
          r.2.mem ((c.tc : Thread Cert.ProjAgIdeal.nD Cert.ProjAgIdeal.τ).loc Cert.ProjAgIdeal.main_v0) = v0 c
          ∧ r.2.mem ((c.tc : Thread Cert.ProjAgIdeal.nD Cert.ProjAgIdeal.τ).loc Cert.ProjAgIdeal.main_arg0) = m ((c.tc : Thread Cert.ProjAgIdeal.nD Cert.ProjAgIdeal.τ).loc Cert.ProjAgIdeal.main_arg0)
          ∧ r.2.mem ((c.tc : Thread Cert.ProjAgIdeal.nD Cert.ProjAgIdeal.τ).loc Cert.ProjAgIdeal.main_arg1) = m ((c.tc : Thread Cert.ProjAgIdeal.nD Cert.ProjAgIdeal.τ).loc Cert.ProjAgIdeal.main_arg1)
          ∧ r.2.mem ((c.tc : Thread Cert.ProjAgIdeal.nD Cert.ProjAgIdeal.τ).loc Cert.ProjAgIdeal.main_arg2) = m ((c.tc : Thread Cert.ProjAgIdeal.nD Cert.ProjAgIdeal.τ).loc Cert.ProjAgIdeal.main_arg2))
      ∧ θ_run (Cert.ProjAgReferenceIdeal.defs (F := Ideal)) (onTc (τ := Cert.ProjAgReferenceIdeal.τ) (Cert.ProjAgReferenceIdeal.main (F := Ideal))) ⟨m', fun _ => 0, g'⟩ (fun r => ∀ c : Dev Cert.ProjAgReferenceIdeal.nD,
          r.2.mem ((c.tc : Thread Cert.ProjAgReferenceIdeal.nD Cert.ProjAgReferenceIdeal.τ).loc Cert.ProjAgReferenceIdeal.main_v4) = v0 c
          ∧ r.2.mem ((c.tc : Thread Cert.ProjAgReferenceIdeal.nD Cert.ProjAgReferenceIdeal.τ).loc Cert.ProjAgReferenceIdeal.main_arg0) = m' ((c.tc : Thread Cert.ProjAgReferenceIdeal.nD Cert.ProjAgReferenceIdeal.τ).loc Cert.ProjAgReferenceIdeal.main_arg0)
          ∧ r.2.mem ((c.tc : Thread Cert.ProjAgReferenceIdeal.nD Cert.ProjAgReferenceIdeal.τ).loc Cert.ProjAgReferenceIdeal.main_arg1) = m' ((c.tc : Thread Cert.ProjAgReferenceIdeal.nD Cert.ProjAgReferenceIdeal.τ).loc Cert.ProjAgReferenceIdeal.main_arg1)
          ∧ r.2.mem ((c.tc : Thread Cert.ProjAgReferenceIdeal.nD Cert.ProjAgReferenceIdeal.τ).loc Cert.ProjAgReferenceIdeal.main_arg2) = m' ((c.tc : Thread Cert.ProjAgReferenceIdeal.nD Cert.ProjAgReferenceIdeal.τ).loc Cert.ProjAgReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v21) = v0 c
          ∧ r.2.mem ((c.tc : Thread Cert.NormReferenceIdeal.nD Cert.NormReferenceIdeal.τ).loc Cert.NormReferenceIdeal.main_v17) = v1 c
          ∧ r.2.mem ((c.tc : Thread Cert.NormReferenceIdeal.nD Cert.NormReferenceIdeal.τ).loc Cert.NormReferenceIdeal.main_v26) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_DMixed_DMixedIdeal : Prop :=
  True

def algebraic_DMixedIdeal_DMixedReferenceIdeal [hDMixedIdeal : Cert.DMixedIdeal.Facts] [hDMixedReferenceIdeal : Cert.DMixedReferenceIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedReferenceIdeal.nD Cert.DMixedReferenceIdeal.τ Cert.DMixedReferenceIdeal.sig) → Buf (Elt Ideal) ℓ) (g' : Dev Cert.DMixedReferenceIdeal.nD → PrngReg), Pre_DMixedIdeal m →
    (∀ c : Dev Cert.DMixedIdeal.nD,
      m' ((c.tc : Thread Cert.DMixedReferenceIdeal.nD Cert.DMixedReferenceIdeal.τ).loc Cert.DMixedReferenceIdeal.main_arg0) = m ((c.tc : Thread Cert.DMixedIdeal.nD Cert.DMixedIdeal.τ).loc Cert.DMixedIdeal.main_arg0)
      ∧ m' ((c.tc : Thread Cert.DMixedReferenceIdeal.nD Cert.DMixedReferenceIdeal.τ).loc Cert.DMixedReferenceIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedReferenceIdeal.defs (F := Ideal)) (onTc (τ := Cert.DMixedReferenceIdeal.τ) (Cert.DMixedReferenceIdeal.main (F := Ideal))) ⟨m', fun _ => 0, g'⟩ (fun r => ∀ c : Dev Cert.DMixedReferenceIdeal.nD,
          r.2.mem ((c.tc : Thread Cert.DMixedReferenceIdeal.nD Cert.DMixedReferenceIdeal.τ).loc Cert.DMixedReferenceIdeal.main_v2) = v0 c
          ∧ r.2.mem ((c.tc : Thread Cert.DMixedReferenceIdeal.nD Cert.DMixedReferenceIdeal.τ).loc Cert.DMixedReferenceIdeal.main_arg0) = m' ((c.tc : Thread Cert.DMixedReferenceIdeal.nD Cert.DMixedReferenceIdeal.τ).loc Cert.DMixedReferenceIdeal.main_arg0)
          ∧ r.2.mem ((c.tc : Thread Cert.DMixedReferenceIdeal.nD Cert.DMixedReferenceIdeal.τ).loc Cert.DMixedReferenceIdeal.main_arg1) = m' ((c.tc : Thread Cert.DMixedReferenceIdeal.nD Cert.DMixedReferenceIdeal.τ).loc Cert.DMixedReferenceIdeal.main_arg1))

def preserves_GradUp_GradUpIdeal : Prop :=
  True

def algebraic_GradUpIdeal_GradUpReferenceIdeal [hGradUpIdeal : Cert.GradUpIdeal.Facts] [hGradUpReferenceIdeal : Cert.GradUpReferenceIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpReferenceIdeal.nD Cert.GradUpReferenceIdeal.τ Cert.GradUpReferenceIdeal.sig) → Buf (Elt Ideal) ℓ) (g' : Dev Cert.GradUpReferenceIdeal.nD → PrngReg), Pre_GradUpIdeal m →
    (∀ c : Dev Cert.GradUpIdeal.nD,
      m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0)
      ∧ m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0_0)) (v1 : (c : Dev Cert.GradUpIdeal.nD) → Buf (Elt Ideal) ((c.tc : Thread Cert.GradUpIdeal.nD Cert.GradUpIdeal.τ).loc Cert.GradUpIdeal.main_v0_1)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0_0) = v0 c
          ∧ r.2.mem ((c.tc : Thread Cert.GradUpIdeal.nD Cert.GradUpIdeal.τ).loc Cert.GradUpIdeal.main_v0_1) = v1 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpReferenceIdeal.defs (F := Ideal)) (onTc (τ := Cert.GradUpReferenceIdeal.τ) (Cert.GradUpReferenceIdeal.main (F := Ideal))) ⟨m', fun _ => 0, g'⟩ (fun r => ∀ c : Dev Cert.GradUpReferenceIdeal.nD,
          r.2.mem ((c.tc : Thread Cert.GradUpReferenceIdeal.nD Cert.GradUpReferenceIdeal.τ).loc Cert.GradUpReferenceIdeal.main_v5) = v0 c
          ∧ r.2.mem ((c.tc : Thread Cert.GradUpReferenceIdeal.nD Cert.GradUpReferenceIdeal.τ).loc Cert.GradUpReferenceIdeal.main_v8) = v1 c
          ∧ r.2.mem ((c.tc : Thread Cert.GradUpReferenceIdeal.nD Cert.GradUpReferenceIdeal.τ).loc Cert.GradUpReferenceIdeal.main_arg0) = m' ((c.tc : Thread Cert.GradUpReferenceIdeal.nD Cert.GradUpReferenceIdeal.τ).loc Cert.GradUpReferenceIdeal.main_arg0)
          ∧ r.2.mem ((c.tc : Thread Cert.GradUpReferenceIdeal.nD Cert.GradUpReferenceIdeal.τ).loc Cert.GradUpReferenceIdeal.main_arg1) = m' ((c.tc : Thread Cert.GradUpReferenceIdeal.nD Cert.GradUpReferenceIdeal.τ).loc Cert.GradUpReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)) (v5 : (c : Dev Cert.MixIdeal.nD) → Buf (Elt Ideal) ((c.tc : Thread Cert.MixIdeal.nD Cert.MixIdeal.τ).loc Cert.MixIdeal.main_v0_5)) (v6 : (c : Dev Cert.MixIdeal.nD) → Buf (Elt Ideal) ((c.tc : Thread Cert.MixIdeal.nD Cert.MixIdeal.τ).loc Cert.MixIdeal.main_v0_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_v0_4) = v4 c
          ∧ r.2.mem ((c.tc : Thread Cert.MixIdeal.nD Cert.MixIdeal.τ).loc Cert.MixIdeal.main_v0_5) = v5 c
          ∧ r.2.mem ((c.tc : Thread Cert.MixIdeal.nD Cert.MixIdeal.τ).loc Cert.MixIdeal.main_v0_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v29) = v0 c
          ∧ r.2.mem ((c.tc : Thread Cert.MixReferenceIdeal.nD Cert.MixReferenceIdeal.τ).loc Cert.MixReferenceIdeal.main_v113) = v1 c
          ∧ r.2.mem ((c.tc : Thread Cert.MixReferenceIdeal.nD Cert.MixReferenceIdeal.τ).loc Cert.MixReferenceIdeal.main_v13) = v2 c
          ∧ r.2.mem ((c.tc : Thread Cert.MixReferenceIdeal.nD Cert.MixReferenceIdeal.τ).loc Cert.MixReferenceIdeal.main_v72) = v3 c
          ∧ r.2.mem ((c.tc : Thread Cert.MixReferenceIdeal.nD Cert.MixReferenceIdeal.τ).loc Cert.MixReferenceIdeal.main_v116) = v4 c
          ∧ r.2.mem ((c.tc : Thread Cert.MixReferenceIdeal.nD Cert.MixReferenceIdeal.τ).loc Cert.MixReferenceIdeal.main_v118) = v5 c
          ∧ r.2.mem ((c.tc : Thread Cert.MixReferenceIdeal.nD Cert.MixReferenceIdeal.τ).loc Cert.MixReferenceIdeal.main_v120) = v6 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)
      ∧ m' ((c.tc : Thread Cert.NormBwdReferenceIdeal.nD Cert.NormBwdReferenceIdeal.τ).loc Cert.NormBwdReferenceIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v34) = v0 c
          ∧ r.2.mem ((c.tc : Thread Cert.NormBwdReferenceIdeal.nD Cert.NormBwdReferenceIdeal.τ).loc Cert.NormBwdReferenceIdeal.main_v37) = v1 c
          ∧ r.2.mem ((c.tc : Thread Cert.NormBwdReferenceIdeal.nD Cert.NormBwdReferenceIdeal.τ).loc Cert.NormBwdReferenceIdeal.main_v39) = v2 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4)
          ∧ r.2.mem ((c.tc : Thread Cert.NormBwdReferenceIdeal.nD Cert.NormBwdReferenceIdeal.τ).loc Cert.NormBwdReferenceIdeal.main_arg5) = m' ((c.tc : Thread Cert.NormBwdReferenceIdeal.nD Cert.NormBwdReferenceIdeal.τ).loc Cert.NormBwdReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hWeights : Cert.Weights.Facts) (hWeightsIdeal : Cert.WeightsIdeal.Facts) (hWeightsReferenceIdeal : Cert.WeightsReferenceIdeal.Facts) (hWeightsReference : Cert.WeightsReference.Facts) (hSumIn : Cert.SumIn.Facts) (hSumInIdeal : Cert.SumInIdeal.Facts) (hSumInReferenceIdeal : Cert.SumInReferenceIdeal.Facts) (hSumOut : Cert.SumOut.Facts) (hSumOutIdeal : Cert.SumOutIdeal.Facts) (hSumOutReferenceIdeal : Cert.SumOutReferenceIdeal.Facts) (hSumUp : Cert.SumUp.Facts) (hSumUpIdeal : Cert.SumUpIdeal.Facts) (hSumUpReferenceIdeal : Cert.SumUpReferenceIdeal.Facts) (hSumSmall : Cert.SumSmall.Facts) (hSumSmallIdeal : Cert.SumSmallIdeal.Facts) (hSumSmallReferenceIdeal : Cert.SumSmallReferenceIdeal.Facts) (hAdamwIn : Cert.AdamwIn.Facts) (hAdamwInIdeal : Cert.AdamwInIdeal.Facts) (hAdamwInReferenceIdeal : Cert.AdamwInReferenceIdeal.Facts) (hAdamwOut : Cert.AdamwOut.Facts) (hAdamwOutIdeal : Cert.AdamwOutIdeal.Facts) (hAdamwOutReferenceIdeal : Cert.AdamwOutReferenceIdeal.Facts) (hAdamwUp : Cert.AdamwUp.Facts) (hAdamwUpIdeal : Cert.AdamwUpIdeal.Facts) (hAdamwUpReferenceIdeal : Cert.AdamwUpReferenceIdeal.Facts) (hAdamwDown : Cert.AdamwDown.Facts) (hAdamwDownIdeal : Cert.AdamwDownIdeal.Facts) (hAdamwDownReferenceIdeal : Cert.AdamwDownReferenceIdeal.Facts) (hAdamwConv : Cert.AdamwConv.Facts) (hAdamwConvIdeal : Cert.AdamwConvIdeal.Facts) (hAdamwConvReferenceIdeal : Cert.AdamwConvReferenceIdeal.Facts) (hAdamwFfnConv : Cert.AdamwFfnConv.Facts) (hAdamwFfnConvIdeal : Cert.AdamwFfnConvIdeal.Facts) (hAdamwFfnConvReferenceIdeal : Cert.AdamwFfnConvReferenceIdeal.Facts) (hAdamwSmall : Cert.AdamwSmall.Facts) (hAdamwSmallIdeal : Cert.AdamwSmallIdeal.Facts) (hAdamwSmallReferenceIdeal : Cert.AdamwSmallReferenceIdeal.Facts) (hGradX : Cert.GradX.Facts) (hGradXIdeal : Cert.GradXIdeal.Facts) (hGradXReferenceIdeal : Cert.GradXReferenceIdeal.Facts) (hGradIn : Cert.GradIn.Facts) (hGradInIdeal : Cert.GradInIdeal.Facts) (hGradInReferenceIdeal : Cert.GradInReferenceIdeal.Facts) (hGradOut : Cert.GradOut.Facts) (hGradOutIdeal : Cert.GradOutIdeal.Facts) (hGradOutReferenceIdeal : Cert.GradOutReferenceIdeal.Facts) (hLoss : Cert.Loss.Facts) (hLossIdeal : Cert.LossIdeal.Facts) (hLossReferenceIdeal : Cert.LossReferenceIdeal.Facts) (hProjQkv : Cert.ProjQkv.Facts) (hProjQkvIdeal : Cert.ProjQkvIdeal.Facts) (hProjQkvReferenceIdeal : Cert.ProjQkvReferenceIdeal.Facts) (hProjAg : Cert.ProjAg.Facts) (hProjAgIdeal : Cert.ProjAgIdeal.Facts) (hProjAgReferenceIdeal : Cert.ProjAgReferenceIdeal.Facts) (hNorm : Cert.Norm.Facts) (hNormIdeal : Cert.NormIdeal.Facts) (hNormReferenceIdeal : Cert.NormReferenceIdeal.Facts) (hDMixed : Cert.DMixed.Facts) (hDMixedIdeal : Cert.DMixedIdeal.Facts) (hDMixedReferenceIdeal : Cert.DMixedReferenceIdeal.Facts) (hGradUp : Cert.GradUp.Facts) (hGradUpIdeal : Cert.GradUpIdeal.Facts) (hGradUpReferenceIdeal : Cert.GradUpReferenceIdeal.Facts) (hMix : Cert.Mix.Facts) (hMixIdeal : Cert.MixIdeal.Facts) (hMixReferenceIdeal : Cert.MixReferenceIdeal.Facts) (hNormBwd : Cert.NormBwd.Facts) (hNormBwdIdeal : Cert.NormBwdIdeal.Facts) (hNormBwdReferenceIdeal : Cert.NormBwdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_WeightsReference (hWeightsReference := hWeightsReference)
    ∧ quiescent_SumIn (hSumIn := hSumIn)
    ∧ quiescent_SumInIdeal (hSumInIdeal := hSumInIdeal)
    ∧ quiescent_SumInReferenceIdeal (hSumInReferenceIdeal := hSumInReferenceIdeal)
    ∧ quiescent_SumOut (hSumOut := hSumOut)
    ∧ quiescent_SumOutIdeal (hSumOutIdeal := hSumOutIdeal)
    ∧ quiescent_SumOutReferenceIdeal (hSumOutReferenceIdeal := hSumOutReferenceIdeal)
    ∧ quiescent_SumUp (hSumUp := hSumUp)
    ∧ quiescent_SumUpIdeal (hSumUpIdeal := hSumUpIdeal)
    ∧ quiescent_SumUpReferenceIdeal (hSumUpReferenceIdeal := hSumUpReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwUp (hAdamwUp := hAdamwUp)
    ∧ quiescent_AdamwUpIdeal (hAdamwUpIdeal := hAdamwUpIdeal)
    ∧ quiescent_AdamwUpReferenceIdeal (hAdamwUpReferenceIdeal := hAdamwUpReferenceIdeal)
    ∧ quiescent_AdamwDown (hAdamwDown := hAdamwDown)
    ∧ quiescent_AdamwDownIdeal (hAdamwDownIdeal := hAdamwDownIdeal)
    ∧ quiescent_AdamwDownReferenceIdeal (hAdamwDownReferenceIdeal := hAdamwDownReferenceIdeal)
    ∧ quiescent_AdamwConv (hAdamwConv := hAdamwConv)
    ∧ quiescent_AdamwConvIdeal (hAdamwConvIdeal := hAdamwConvIdeal)
    ∧ quiescent_AdamwConvReferenceIdeal (hAdamwConvReferenceIdeal := hAdamwConvReferenceIdeal)
    ∧ quiescent_AdamwFfnConv (hAdamwFfnConv := hAdamwFfnConv)
    ∧ quiescent_AdamwFfnConvIdeal (hAdamwFfnConvIdeal := hAdamwFfnConvIdeal)
    ∧ quiescent_AdamwFfnConvReferenceIdeal (hAdamwFfnConvReferenceIdeal := hAdamwFfnConvReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_ProjQkv (hProjQkv := hProjQkv)
    ∧ quiescent_ProjQkvIdeal (hProjQkvIdeal := hProjQkvIdeal)
    ∧ quiescent_ProjQkvReferenceIdeal (hProjQkvReferenceIdeal := hProjQkvReferenceIdeal)
    ∧ quiescent_ProjAg (hProjAg := hProjAg)
    ∧ quiescent_ProjAgIdeal (hProjAgIdeal := hProjAgIdeal)
    ∧ quiescent_ProjAgReferenceIdeal (hProjAgReferenceIdeal := hProjAgReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_DMixed (hDMixed := hDMixed)
    ∧ quiescent_DMixedIdeal (hDMixedIdeal := hDMixedIdeal)
    ∧ quiescent_DMixedReferenceIdeal (hDMixedReferenceIdeal := hDMixedReferenceIdeal)
    ∧ quiescent_GradUp (hGradUp := hGradUp)
    ∧ quiescent_GradUpIdeal (hGradUpIdeal := hGradUpIdeal)
    ∧ quiescent_GradUpReferenceIdeal (hGradUpReferenceIdeal := hGradUpReferenceIdeal)
    ∧ quiescent_Mix (hMix := hMix)
    ∧ quiescent_MixIdeal (hMixIdeal := hMixIdeal)
    ∧ quiescent_MixReferenceIdeal (hMixReferenceIdeal := hMixReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Weights_WeightsIdeal
    ∧ algebraic_WeightsIdeal_WeightsReferenceIdeal (hWeightsIdeal := hWeightsIdeal) (hWeightsReferenceIdeal := hWeightsReferenceIdeal)
    ∧ bitexact_Weights_WeightsReference (hWeights := hWeights) (hWeightsReference := hWeightsReference)
    ∧ preserves_SumIn_SumInIdeal
    ∧ algebraic_SumInIdeal_SumInReferenceIdeal (hSumInIdeal := hSumInIdeal) (hSumInReferenceIdeal := hSumInReferenceIdeal)
    ∧ preserves_SumOut_SumOutIdeal
    ∧ algebraic_SumOutIdeal_SumOutReferenceIdeal (hSumOutIdeal := hSumOutIdeal) (hSumOutReferenceIdeal := hSumOutReferenceIdeal)
    ∧ preserves_SumUp_SumUpIdeal
    ∧ algebraic_SumUpIdeal_SumUpReferenceIdeal (hSumUpIdeal := hSumUpIdeal) (hSumUpReferenceIdeal := hSumUpReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwUp_AdamwUpIdeal
    ∧ algebraic_AdamwUpIdeal_AdamwUpReferenceIdeal (hAdamwUpIdeal := hAdamwUpIdeal) (hAdamwUpReferenceIdeal := hAdamwUpReferenceIdeal)
    ∧ preserves_AdamwDown_AdamwDownIdeal
    ∧ algebraic_AdamwDownIdeal_AdamwDownReferenceIdeal (hAdamwDownIdeal := hAdamwDownIdeal) (hAdamwDownReferenceIdeal := hAdamwDownReferenceIdeal)
    ∧ preserves_AdamwConv_AdamwConvIdeal
    ∧ algebraic_AdamwConvIdeal_AdamwConvReferenceIdeal (hAdamwConvIdeal := hAdamwConvIdeal) (hAdamwConvReferenceIdeal := hAdamwConvReferenceIdeal)
    ∧ preserves_AdamwFfnConv_AdamwFfnConvIdeal
    ∧ algebraic_AdamwFfnConvIdeal_AdamwFfnConvReferenceIdeal (hAdamwFfnConvIdeal := hAdamwFfnConvIdeal) (hAdamwFfnConvReferenceIdeal := hAdamwFfnConvReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_GradX_GradXIdeal
    ∧ algebraic_GradXIdeal_GradXReferenceIdeal (hGradXIdeal := hGradXIdeal) (hGradXReferenceIdeal := hGradXReferenceIdeal)
    ∧ preserves_GradIn_GradInIdeal
    ∧ algebraic_GradInIdeal_GradInReferenceIdeal (hGradInIdeal := hGradInIdeal) (hGradInReferenceIdeal := hGradInReferenceIdeal)
    ∧ preserves_GradOut_GradOutIdeal
    ∧ algebraic_GradOutIdeal_GradOutReferenceIdeal (hGradOutIdeal := hGradOutIdeal) (hGradOutReferenceIdeal := hGradOutReferenceIdeal)
    ∧ preserves_Loss_LossIdeal
    ∧ algebraic_LossIdeal_LossReferenceIdeal (hLossIdeal := hLossIdeal) (hLossReferenceIdeal := hLossReferenceIdeal)
    ∧ preserves_ProjQkv_ProjQkvIdeal
    ∧ algebraic_ProjQkvIdeal_ProjQkvReferenceIdeal (hProjQkvIdeal := hProjQkvIdeal) (hProjQkvReferenceIdeal := hProjQkvReferenceIdeal)
    ∧ preserves_ProjAg_ProjAgIdeal
    ∧ algebraic_ProjAgIdeal_ProjAgReferenceIdeal (hProjAgIdeal := hProjAgIdeal) (hProjAgReferenceIdeal := hProjAgReferenceIdeal)
    ∧ preserves_Norm_NormIdeal
    ∧ algebraic_NormIdeal_NormReferenceIdeal (hNormIdeal := hNormIdeal) (hNormReferenceIdeal := hNormReferenceIdeal)
    ∧ preserves_DMixed_DMixedIdeal
    ∧ algebraic_DMixedIdeal_DMixedReferenceIdeal (hDMixedIdeal := hDMixedIdeal) (hDMixedReferenceIdeal := hDMixedReferenceIdeal)
    ∧ preserves_GradUp_GradUpIdeal
    ∧ algebraic_GradUpIdeal_GradUpReferenceIdeal (hGradUpIdeal := hGradUpIdeal) (hGradUpReferenceIdeal := hGradUpReferenceIdeal)
    ∧ preserves_Mix_MixIdeal
    ∧ algebraic_MixIdeal_MixReferenceIdeal (hMixIdeal := hMixIdeal) (hMixReferenceIdeal := hMixReferenceIdeal)
    ∧ preserves_NormBwd_NormBwdIdeal
    ∧ algebraic_NormBwdIdeal_NormBwdReferenceIdeal (hNormBwdIdeal := hNormBwdIdeal) (hNormBwdReferenceIdeal := hNormBwdReferenceIdeal)
-- ==== Kernel.lean ====
abbrev S8x352x1024 : Shape := ⟨3, ![8, 352, 1024]⟩
abbrev S8x128x1024 : Shape := ⟨3, ![8, 128, 1024]⟩
abbrev S8x704x1024 : Shape := ⟨3, ![8, 704, 1024]⟩
abbrev S312x128 : Shape := ⟨2, ![312, 128]⟩
abbrev S8x312x128 : Shape := ⟨3, ![8, 312, 128]⟩
abbrev S5x7 : Shape := ⟨2, ![5, 7]⟩
abbrev S5 : Shape := ⟨1, ![5]⟩
abbrev S1 : Shape := ⟨1, ![1]⟩
abbrev S_ : Shape := ⟨0, ![]⟩
abbrev S1x352x1024 : Shape := ⟨3, ![1, 352, 1024]⟩
abbrev S352x1024 : Shape := ⟨2, ![352, 1024]⟩
abbrev S1x128x1024 : Shape := ⟨3, ![1, 128, 1024]⟩
abbrev S128x1024 : Shape := ⟨2, ![128, 1024]⟩
abbrev S1x704x1024 : Shape := ⟨3, ![1, 704, 1024]⟩
abbrev S704x1024 : Shape := ⟨2, ![704, 1024]⟩
abbrev S1x312x128 : Shape := ⟨3, ![1, 312, 128]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x128x1024, .f32⟩
  | .hbm, ⟨2, _⟩ => ⟨S8x704x1024, .f32⟩
  | .hbm, ⟨3, _⟩ => ⟨S8x352x1024, .f32⟩
  | .hbm, ⟨4, _⟩ => ⟨S312x128, .f32⟩
  | .hbm, ⟨5, _⟩ => ⟨S8x352x1024, .f32⟩
  | .hbm, ⟨6, _⟩ => ⟨S8x128x1024, .f32⟩
  | .hbm, ⟨7, _⟩ => ⟨S8x704x1024, .f32⟩
  | .hbm, ⟨8, _⟩ => ⟨S8x352x1024, .f32⟩
  | .hbm, ⟨9, _⟩ => ⟨S8x312x128, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off5 (d0 : Dev nD) : Fin 3 → Nat :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c4_i32_27 v2
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.muli c2_i32_28 v5
  let v44 : BitVec 32 := Scalar.addi v42 v43
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let v45 : BitVec 32 := Scalar.addi v44 v41
  let c0_i32_39 : BitVec 32 := 0#32
  let c0_i32_40 : BitVec 32 := 0#32
  ![v45.toNat, 0, 0]
def k0_dev1 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v46 : BitVec 32 := Scalar.muli v2 c4_i32_33
  let v47 : BitVec 32 := Scalar.addi c0_i32_34 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v48 : BitVec 32 := Scalar.muli v5 c2_i32_35
  let v49 : BitVec 32 := Scalar.addi v47 v48
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let c1_i32_36 : BitVec 32 := 1#32
  let v50 : BitVec 32 := Scalar.muli v41 c1_i32_36
  let v51 : BitVec 32 := Scalar.addi v49 v50
  v51.toNat
def k0_off6 (d0 : Dev nD) : Fin 3 → Nat :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c4_i32_27 v2
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.muli c2_i32_28 v5
  let v44 : BitVec 32 := Scalar.addi v42 v43
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let v45 : BitVec 32 := Scalar.addi v44 v41
  let c0_i32_51 : BitVec 32 := 0#32
  let c0_i32_52 : BitVec 32 := 0#32
  ![v45.toNat, 0, 0]
def k0_dev2 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v60 : BitVec 32 := Scalar.muli v2 c4_i32_45
  let v61 : BitVec 32 := Scalar.addi c0_i32_46 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v62 : BitVec 32 := Scalar.muli v5 c2_i32_47
  let v63 : BitVec 32 := Scalar.addi v61 v62
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let c1_i32_48 : BitVec 32 := 1#32
  let v64 : BitVec 32 := Scalar.muli v41 c1_i32_48
  let v65 : BitVec 32 := Scalar.addi v63 v64
  v65.toNat
def k0_off7 (d0 : Dev nD) : Fin 3 → Nat :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c4_i32_27 v2
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.muli c2_i32_28 v5
  let v44 : BitVec 32 := Scalar.addi v42 v43
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let v45 : BitVec 32 := Scalar.addi v44 v41
  let c0_i32_63 : BitVec 32 := 0#32
  let c0_i32_64 : BitVec 32 := 0#32
  ![v45.toNat, 0, 0]
def k0_dev3 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v74 : BitVec 32 := Scalar.muli v2 c4_i32_57
  let v75 : BitVec 32 := Scalar.addi c0_i32_58 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v76 : BitVec 32 := Scalar.muli v5 c2_i32_59
  let v77 : BitVec 32 := Scalar.addi v75 v76
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let c1_i32_60 : BitVec 32 := 1#32
  let v78 : BitVec 32 := Scalar.muli v41 c1_i32_60
  let v79 : BitVec 32 := Scalar.addi v77 v78
  v79.toNat
def k0_dev4 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v88 : BitVec 32 := Scalar.muli v2 c4_i32_69
  let v89 : BitVec 32 := Scalar.addi c0_i32_70 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v90 : BitVec 32 := Scalar.muli v5 c2_i32_71
  let v91 : BitVec 32 := Scalar.addi v89 v90
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let c1_i32_72 : BitVec 32 := 1#32
  let v92 : BitVec 32 := Scalar.muli v41 c1_i32_72
  let v93 : BitVec 32 := Scalar.addi v91 v92
  v93.toNat
def k0_dev5 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v102 : BitVec 32 := Scalar.muli v2 c4_i32_81
  let v103 : BitVec 32 := Scalar.addi c0_i32_82 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v104 : BitVec 32 := Scalar.muli v5 c2_i32_83
  let v105 : BitVec 32 := Scalar.addi v103 v104
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_26 v8
  let c1_i32_84 : BitVec 32 := 1#32
  let v106 : BitVec 32 := Scalar.muli v41 c1_i32_84
  let v107 : BitVec 32 := Scalar.addi v105 v106
  v107.toNat
def k0_off8 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v115 : BitVec 32 := Scalar.muli c4_i32_88 v2
  let c2_i32_89 : BitVec 32 := 2#32
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let v116 : BitVec 32 := Scalar.muli c2_i32_89 v114
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.addi v117 v8
  let c0_i32_100 : BitVec 32 := 0#32
  let c0_i32_101 : BitVec 32 := 0#32
  ![v118.toNat, 0, 0]
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v119 : BitVec 32 := Scalar.muli v2 c4_i32_94
  let v120 : BitVec 32 := Scalar.addi c0_i32_95 v119
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let c2_i32_96 : BitVec 32 := 2#32
  let v121 : BitVec 32 := Scalar.muli v114 c2_i32_96
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v123 : BitVec 32 := Scalar.muli v8 c1_i32_97
  let v124 : BitVec 32 := Scalar.addi v122 v123
  v124.toNat
def k0_off9 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v115 : BitVec 32 := Scalar.muli c4_i32_88 v2
  let c2_i32_89 : BitVec 32 := 2#32
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let v116 : BitVec 32 := Scalar.muli c2_i32_89 v114
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.addi v117 v8
  let c0_i32_112 : BitVec 32 := 0#32
  let c0_i32_113 : BitVec 32 := 0#32
  ![v118.toNat, 0, 0]
def k0_dev7 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v133 : BitVec 32 := Scalar.muli v2 c4_i32_106
  let v134 : BitVec 32 := Scalar.addi c0_i32_107 v133
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let c2_i32_108 : BitVec 32 := 2#32
  let v135 : BitVec 32 := Scalar.muli v114 c2_i32_108
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v137 : BitVec 32 := Scalar.muli v8 c1_i32_109
  let v138 : BitVec 32 := Scalar.addi v136 v137
  v138.toNat
def k0_off10 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v115 : BitVec 32 := Scalar.muli c4_i32_88 v2
  let c2_i32_89 : BitVec 32 := 2#32
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let v116 : BitVec 32 := Scalar.muli c2_i32_89 v114
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.addi v117 v8
  let c0_i32_124 : BitVec 32 := 0#32
  let c0_i32_125 : BitVec 32 := 0#32
  ![v118.toNat, 0, 0]
def k0_dev8 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v147 : BitVec 32 := Scalar.muli v2 c4_i32_118
  let v148 : BitVec 32 := Scalar.addi c0_i32_119 v147
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let c2_i32_120 : BitVec 32 := 2#32
  let v149 : BitVec 32 := Scalar.muli v114 c2_i32_120
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v151 : BitVec 32 := Scalar.muli v8 c1_i32_121
  let v152 : BitVec 32 := Scalar.addi v150 v151
  v152.toNat
def k0_dev9 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v161 : BitVec 32 := Scalar.muli v2 c4_i32_130
  let v162 : BitVec 32 := Scalar.addi c0_i32_131 v161
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let c2_i32_132 : BitVec 32 := 2#32
  let v163 : BitVec 32 := Scalar.muli v114 c2_i32_132
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v165 : BitVec 32 := Scalar.muli v8 c1_i32_133
  let v166 : BitVec 32 := Scalar.addi v164 v165
  v166.toNat
def k0_dev10 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v175 : BitVec 32 := Scalar.muli v2 c4_i32_142
  let v176 : BitVec 32 := Scalar.addi c0_i32_143 v175
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_87 v5
  let c2_i32_144 : BitVec 32 := 2#32
  let v177 : BitVec 32 := Scalar.muli v114 c2_i32_144
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v179 : BitVec 32 := Scalar.muli v8 c1_i32_145
  let v180 : BitVec 32 := Scalar.addi v178 v179
  v180.toNat
def k0_off11 (d0 : Dev nD) : Fin 3 → Nat :=
  let c4_i32_150 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v189 : BitVec 32 := Scalar.muli c4_i32_150 v2
  let c2_i32_151 : BitVec 32 := 2#32
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let v190 : BitVec 32 := Scalar.muli c2_i32_151 v187
  let v191 : BitVec 32 := Scalar.addi v189 v190
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let v192 : BitVec 32 := Scalar.addi v191 v188
  let c0_i32_162 : BitVec 32 := 0#32
  let c0_i32_163 : BitVec 32 := 0#32
  ![v192.toNat, 0, 0]
def k0_dev11 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v193 : BitVec 32 := Scalar.muli v2 c4_i32_156
  let v194 : BitVec 32 := Scalar.addi c0_i32_157 v193
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let c2_i32_158 : BitVec 32 := 2#32
  let v195 : BitVec 32 := Scalar.muli v187 c2_i32_158
  let v196 : BitVec 32 := Scalar.addi v194 v195
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let c1_i32_159 : BitVec 32 := 1#32
  let v197 : BitVec 32 := Scalar.muli v188 c1_i32_159
  let v198 : BitVec 32 := Scalar.addi v196 v197
  v198.toNat
def k0_off12 (d0 : Dev nD) : Fin 3 → Nat :=
  let c4_i32_150 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v189 : BitVec 32 := Scalar.muli c4_i32_150 v2
  let c2_i32_151 : BitVec 32 := 2#32
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let v190 : BitVec 32 := Scalar.muli c2_i32_151 v187
  let v191 : BitVec 32 := Scalar.addi v189 v190
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let v192 : BitVec 32 := Scalar.addi v191 v188
  let c0_i32_174 : BitVec 32 := 0#32
  let c0_i32_175 : BitVec 32 := 0#32
  ![v192.toNat, 0, 0]
def k0_dev12 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v207 : BitVec 32 := Scalar.muli v2 c4_i32_168
  let v208 : BitVec 32 := Scalar.addi c0_i32_169 v207
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let c2_i32_170 : BitVec 32 := 2#32
  let v209 : BitVec 32 := Scalar.muli v187 c2_i32_170
  let v210 : BitVec 32 := Scalar.addi v208 v209
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let c1_i32_171 : BitVec 32 := 1#32
  let v211 : BitVec 32 := Scalar.muli v188 c1_i32_171
  let v212 : BitVec 32 := Scalar.addi v210 v211
  v212.toNat
def k0_off13 (d0 : Dev nD) : Fin 3 → Nat :=
  let c4_i32_150 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v189 : BitVec 32 := Scalar.muli c4_i32_150 v2
  let c2_i32_151 : BitVec 32 := 2#32
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let v190 : BitVec 32 := Scalar.muli c2_i32_151 v187
  let v191 : BitVec 32 := Scalar.addi v189 v190
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let v192 : BitVec 32 := Scalar.addi v191 v188
  let c0_i32_186 : BitVec 32 := 0#32
  let c0_i32_187 : BitVec 32 := 0#32
  ![v192.toNat, 0, 0]
def k0_dev13 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v221 : BitVec 32 := Scalar.muli v2 c4_i32_180
  let v222 : BitVec 32 := Scalar.addi c0_i32_181 v221
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let c2_i32_182 : BitVec 32 := 2#32
  let v223 : BitVec 32 := Scalar.muli v187 c2_i32_182
  let v224 : BitVec 32 := Scalar.addi v222 v223
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let c1_i32_183 : BitVec 32 := 1#32
  let v225 : BitVec 32 := Scalar.muli v188 c1_i32_183
  let v226 : BitVec 32 := Scalar.addi v224 v225
  v226.toNat
def k0_dev14 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v235 : BitVec 32 := Scalar.muli v2 c4_i32_192
  let v236 : BitVec 32 := Scalar.addi c0_i32_193 v235
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let c2_i32_194 : BitVec 32 := 2#32
  let v237 : BitVec 32 := Scalar.muli v187 c2_i32_194
  let v238 : BitVec 32 := Scalar.addi v236 v237
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let c1_i32_195 : BitVec 32 := 1#32
  let v239 : BitVec 32 := Scalar.muli v188 c1_i32_195
  let v240 : BitVec 32 := Scalar.addi v238 v239
  v240.toNat
def k0_dev15 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v249 : BitVec 32 := Scalar.muli v2 c4_i32_204
  let v250 : BitVec 32 := Scalar.addi c0_i32_205 v249
  let c1_i32_148 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.subi c1_i32_148 v5
  let c2_i32_206 : BitVec 32 := 2#32
  let v251 : BitVec 32 := Scalar.muli v187 c2_i32_206
  let v252 : BitVec 32 := Scalar.addi v250 v251
  let c1_i32_149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_149 v8
  let c1_i32_207 : BitVec 32 := 1#32
  let v253 : BitVec 32 := Scalar.muli v188 c1_i32_207
  let v254 : BitVec 32 := Scalar.addi v252 v253
  v254.toNat
def k0_off14 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let v262 : BitVec 32 := Scalar.muli c4_i32_211 v261
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v263 : BitVec 32 := Scalar.muli c2_i32_212 v5
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.addi v264 v8
  let c0_i32_223 : BitVec 32 := 0#32
  let c0_i32_224 : BitVec 32 := 0#32
  ![v265.toNat, 0, 0]
def k0_dev16 (d0 : Dev nD) : Nat :=
  let c0_i32_218 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let c4_i32_217 : BitVec 32 := 4#32
  let v266 : BitVec 32 := Scalar.muli v261 c4_i32_217
  let v267 : BitVec 32 := Scalar.addi c0_i32_218 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v268 : BitVec 32 := Scalar.muli v5 c2_i32_219
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v270 : BitVec 32 := Scalar.muli v8 c1_i32_220
  let v271 : BitVec 32 := Scalar.addi v269 v270
  v271.toNat
def k0_off15 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let v262 : BitVec 32 := Scalar.muli c4_i32_211 v261
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v263 : BitVec 32 := Scalar.muli c2_i32_212 v5
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.addi v264 v8
  let c0_i32_235 : BitVec 32 := 0#32
  let c0_i32_236 : BitVec 32 := 0#32
  ![v265.toNat, 0, 0]
def k0_dev17 (d0 : Dev nD) : Nat :=
  let c0_i32_230 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let c4_i32_229 : BitVec 32 := 4#32
  let v280 : BitVec 32 := Scalar.muli v261 c4_i32_229
  let v281 : BitVec 32 := Scalar.addi c0_i32_230 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v282 : BitVec 32 := Scalar.muli v5 c2_i32_231
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v284 : BitVec 32 := Scalar.muli v8 c1_i32_232
  let v285 : BitVec 32 := Scalar.addi v283 v284
  v285.toNat
def k0_off16 (d0 : Dev nD) : Fin 3 → Nat :=
  let c4_i32_211 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let v262 : BitVec 32 := Scalar.muli c4_i32_211 v261
  let c2_i32_212 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v263 : BitVec 32 := Scalar.muli c2_i32_212 v5
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.addi v264 v8
  let c0_i32_247 : BitVec 32 := 0#32
  let c0_i32_248 : BitVec 32 := 0#32
  ![v265.toNat, 0, 0]
def k0_dev18 (d0 : Dev nD) : Nat :=
  let c0_i32_242 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let c4_i32_241 : BitVec 32 := 4#32
  let v294 : BitVec 32 := Scalar.muli v261 c4_i32_241
  let v295 : BitVec 32 := Scalar.addi c0_i32_242 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v296 : BitVec 32 := Scalar.muli v5 c2_i32_243
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v298 : BitVec 32 := Scalar.muli v8 c1_i32_244
  let v299 : BitVec 32 := Scalar.addi v297 v298
  v299.toNat
def k0_dev19 (d0 : Dev nD) : Nat :=
  let c0_i32_254 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let c4_i32_253 : BitVec 32 := 4#32
  let v308 : BitVec 32 := Scalar.muli v261 c4_i32_253
  let v309 : BitVec 32 := Scalar.addi c0_i32_254 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v310 : BitVec 32 := Scalar.muli v5 c2_i32_255
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v312 : BitVec 32 := Scalar.muli v8 c1_i32_256
  let v313 : BitVec 32 := Scalar.addi v311 v312
  v313.toNat
def k0_dev20 (d0 : Dev nD) : Nat :=
  let c0_i32_266 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v261 : BitVec 32 := Scalar.subi c1_i32_210 v2
  let c4_i32_265 : BitVec 32 := 4#32
  let v322 : BitVec 32 := Scalar.muli v261 c4_i32_265
  let v323 : BitVec 32 := Scalar.addi c0_i32_266 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v324 : BitVec 32 := Scalar.muli v5 c2_i32_267
  let v325 : BitVec 32 := Scalar.addi v323 v324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v326 : BitVec 32 := Scalar.muli v8 c1_i32_268
  let v327 : BitVec 32 := Scalar.addi v325 v326
  v327.toNat
def k0_off17 (d0 : Dev nD) : Fin 3 → Nat :=
  let c4_i32_273 : BitVec 32 := 4#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let v336 : BitVec 32 := Scalar.muli c4_i32_273 v334
  let c2_i32_274 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v337 : BitVec 32 := Scalar.muli c2_i32_274 v5
  let v338 : BitVec 32 := Scalar.addi v336 v337
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let v339 : BitVec 32 := Scalar.addi v338 v335
  let c0_i32_285 : BitVec 32 := 0#32
  let c0_i32_286 : BitVec 32 := 0#32
  ![v339.toNat, 0, 0]
def k0_dev21 (d0 : Dev nD) : Nat :=
  let c0_i32_280 : BitVec 32 := 0#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let c4_i32_279 : BitVec 32 := 4#32
  let v340 : BitVec 32 := Scalar.muli v334 c4_i32_279
  let v341 : BitVec 32 := Scalar.addi c0_i32_280 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v342 : BitVec 32 := Scalar.muli v5 c2_i32_281
  let v343 : BitVec 32 := Scalar.addi v341 v342
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let c1_i32_282 : BitVec 32 := 1#32
  let v344 : BitVec 32 := Scalar.muli v335 c1_i32_282
  let v345 : BitVec 32 := Scalar.addi v343 v344
  v345.toNat
def k0_off18 (d0 : Dev nD) : Fin 3 → Nat :=
  let c4_i32_273 : BitVec 32 := 4#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let v336 : BitVec 32 := Scalar.muli c4_i32_273 v334
  let c2_i32_274 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v337 : BitVec 32 := Scalar.muli c2_i32_274 v5
  let v338 : BitVec 32 := Scalar.addi v336 v337
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let v339 : BitVec 32 := Scalar.addi v338 v335
  let c0_i32_297 : BitVec 32 := 0#32
  let c0_i32_298 : BitVec 32 := 0#32
  ![v339.toNat, 0, 0]
def k0_dev22 (d0 : Dev nD) : Nat :=
  let c0_i32_292 : BitVec 32 := 0#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let c4_i32_291 : BitVec 32 := 4#32
  let v354 : BitVec 32 := Scalar.muli v334 c4_i32_291
  let v355 : BitVec 32 := Scalar.addi c0_i32_292 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v356 : BitVec 32 := Scalar.muli v5 c2_i32_293
  let v357 : BitVec 32 := Scalar.addi v355 v356
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let c1_i32_294 : BitVec 32 := 1#32
  let v358 : BitVec 32 := Scalar.muli v335 c1_i32_294
  let v359 : BitVec 32 := Scalar.addi v357 v358
  v359.toNat
def k0_off19 (d0 : Dev nD) : Fin 3 → Nat :=
  let c4_i32_273 : BitVec 32 := 4#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let v336 : BitVec 32 := Scalar.muli c4_i32_273 v334
  let c2_i32_274 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v337 : BitVec 32 := Scalar.muli c2_i32_274 v5
  let v338 : BitVec 32 := Scalar.addi v336 v337
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let v339 : BitVec 32 := Scalar.addi v338 v335
  let c0_i32_309 : BitVec 32 := 0#32
  let c0_i32_310 : BitVec 32 := 0#32
  ![v339.toNat, 0, 0]
def k0_dev23 (d0 : Dev nD) : Nat :=
  let c0_i32_304 : BitVec 32 := 0#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let c4_i32_303 : BitVec 32 := 4#32
  let v368 : BitVec 32 := Scalar.muli v334 c4_i32_303
  let v369 : BitVec 32 := Scalar.addi c0_i32_304 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_305 : BitVec 32 := 2#32
  let v370 : BitVec 32 := Scalar.muli v5 c2_i32_305
  let v371 : BitVec 32 := Scalar.addi v369 v370
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let c1_i32_306 : BitVec 32 := 1#32
  let v372 : BitVec 32 := Scalar.muli v335 c1_i32_306
  let v373 : BitVec 32 := Scalar.addi v371 v372
  v373.toNat
def k0_dev24 (d0 : Dev nD) : Nat :=
  let c0_i32_316 : BitVec 32 := 0#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let c4_i32_315 : BitVec 32 := 4#32
  let v382 : BitVec 32 := Scalar.muli v334 c4_i32_315
  let v383 : BitVec 32 := Scalar.addi c0_i32_316 v382
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v384 : BitVec 32 := Scalar.muli v5 c2_i32_317
  let v385 : BitVec 32 := Scalar.addi v383 v384
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let c1_i32_318 : BitVec 32 := 1#32
  let v386 : BitVec 32 := Scalar.muli v335 c1_i32_318
  let v387 : BitVec 32 := Scalar.addi v385 v386
  v387.toNat
def k0_dev25 (d0 : Dev nD) : Nat :=
  let c0_i32_328 : BitVec 32 := 0#32
  let c1_i32_271 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v334 : BitVec 32 := Scalar.subi c1_i32_271 v2
  let c4_i32_327 : BitVec 32 := 4#32
  let v396 : BitVec 32 := Scalar.muli v334 c4_i32_327
  let v397 : BitVec 32 := Scalar.addi c0_i32_328 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v398 : BitVec 32 := Scalar.muli v5 c2_i32_329
  let v399 : BitVec 32 := Scalar.addi v397 v398
  let c1_i32_272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v335 : BitVec 32 := Scalar.subi c1_i32_272 v8
  let c1_i32_330 : BitVec 32 := 1#32
  let v400 : BitVec 32 := Scalar.muli v335 c1_i32_330
  let v401 : BitVec 32 := Scalar.addi v399 v400
  v401.toNat
def k0_off20 (d0 : Dev nD) : Fin 3 → Nat :=
  let c4_i32_335 : BitVec 32 := 4#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let v410 : BitVec 32 := Scalar.muli c4_i32_335 v408
  let c2_i32_336 : BitVec 32 := 2#32
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let v411 : BitVec 32 := Scalar.muli c2_i32_336 v409
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v413 : BitVec 32 := Scalar.addi v412 v8
  let c0_i32_346 : BitVec 32 := 0#32
  let c0_i32_347 : BitVec 32 := 0#32
  ![v413.toNat, 0, 0]
def k0_dev26 (d0 : Dev nD) : Nat :=
  let c0_i32_341 : BitVec 32 := 0#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let c4_i32_340 : BitVec 32 := 4#32
  let v414 : BitVec 32 := Scalar.muli v408 c4_i32_340
  let v415 : BitVec 32 := Scalar.addi c0_i32_341 v414
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let c2_i32_342 : BitVec 32 := 2#32
  let v416 : BitVec 32 := Scalar.muli v409 c2_i32_342
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_343 : BitVec 32 := 1#32
  let v418 : BitVec 32 := Scalar.muli v8 c1_i32_343
  let v419 : BitVec 32 := Scalar.addi v417 v418
  v419.toNat
def k0_off21 (d0 : Dev nD) : Fin 3 → Nat :=
  let c4_i32_335 : BitVec 32 := 4#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let v410 : BitVec 32 := Scalar.muli c4_i32_335 v408
  let c2_i32_336 : BitVec 32 := 2#32
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let v411 : BitVec 32 := Scalar.muli c2_i32_336 v409
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v413 : BitVec 32 := Scalar.addi v412 v8
  let c0_i32_358 : BitVec 32 := 0#32
  let c0_i32_359 : BitVec 32 := 0#32
  ![v413.toNat, 0, 0]
def k0_dev27 (d0 : Dev nD) : Nat :=
  let c0_i32_353 : BitVec 32 := 0#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let c4_i32_352 : BitVec 32 := 4#32
  let v428 : BitVec 32 := Scalar.muli v408 c4_i32_352
  let v429 : BitVec 32 := Scalar.addi c0_i32_353 v428
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let c2_i32_354 : BitVec 32 := 2#32
  let v430 : BitVec 32 := Scalar.muli v409 c2_i32_354
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_355 : BitVec 32 := 1#32
  let v432 : BitVec 32 := Scalar.muli v8 c1_i32_355
  let v433 : BitVec 32 := Scalar.addi v431 v432
  v433.toNat
def k0_off22 (d0 : Dev nD) : Fin 3 → Nat :=
  let c4_i32_335 : BitVec 32 := 4#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let v410 : BitVec 32 := Scalar.muli c4_i32_335 v408
  let c2_i32_336 : BitVec 32 := 2#32
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let v411 : BitVec 32 := Scalar.muli c2_i32_336 v409
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v413 : BitVec 32 := Scalar.addi v412 v8
  let c0_i32_370 : BitVec 32 := 0#32
  let c0_i32_371 : BitVec 32 := 0#32
  ![v413.toNat, 0, 0]
def k0_dev28 (d0 : Dev nD) : Nat :=
  let c0_i32_365 : BitVec 32 := 0#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let c4_i32_364 : BitVec 32 := 4#32
  let v442 : BitVec 32 := Scalar.muli v408 c4_i32_364
  let v443 : BitVec 32 := Scalar.addi c0_i32_365 v442
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let c2_i32_366 : BitVec 32 := 2#32
  let v444 : BitVec 32 := Scalar.muli v409 c2_i32_366
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v446 : BitVec 32 := Scalar.muli v8 c1_i32_367
  let v447 : BitVec 32 := Scalar.addi v445 v446
  v447.toNat
def k0_dev29 (d0 : Dev nD) : Nat :=
  let c0_i32_377 : BitVec 32 := 0#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let c4_i32_376 : BitVec 32 := 4#32
  let v456 : BitVec 32 := Scalar.muli v408 c4_i32_376
  let v457 : BitVec 32 := Scalar.addi c0_i32_377 v456
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let c2_i32_378 : BitVec 32 := 2#32
  let v458 : BitVec 32 := Scalar.muli v409 c2_i32_378
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_379 : BitVec 32 := 1#32
  let v460 : BitVec 32 := Scalar.muli v8 c1_i32_379
  let v461 : BitVec 32 := Scalar.addi v459 v460
  v461.toNat
def k0_dev30 (d0 : Dev nD) : Nat :=
  let c0_i32_389 : BitVec 32 := 0#32
  let c1_i32_333 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v408 : BitVec 32 := Scalar.subi c1_i32_333 v2
  let c4_i32_388 : BitVec 32 := 4#32
  let v470 : BitVec 32 := Scalar.muli v408 c4_i32_388
  let v471 : BitVec 32 := Scalar.addi c0_i32_389 v470
  let c1_i32_334 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v409 : BitVec 32 := Scalar.subi c1_i32_334 v5
  let c2_i32_390 : BitVec 32 := 2#32
  let v472 : BitVec 32 := Scalar.muli v409 c2_i32_390
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v474 : BitVec 32 := Scalar.muli v8 c1_i32_391
  let v475 : BitVec 32 := Scalar.addi v473 v474
  v475.toNat
def k0_off23 (d0 : Dev nD) : Fin 3 → Nat :=
  let c4_i32_397 : BitVec 32 := 4#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let v485 : BitVec 32 := Scalar.muli c4_i32_397 v482
  let c2_i32_398 : BitVec 32 := 2#32
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let v486 : BitVec 32 := Scalar.muli c2_i32_398 v483
  let v487 : BitVec 32 := Scalar.addi v485 v486
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let v488 : BitVec 32 := Scalar.addi v487 v484
  let c0_i32_408 : BitVec 32 := 0#32
  let c0_i32_409 : BitVec 32 := 0#32
  ![v488.toNat, 0, 0]
def k0_dev31 (d0 : Dev nD) : Nat :=
  let c0_i32_403 : BitVec 32 := 0#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let c4_i32_402 : BitVec 32 := 4#32
  let v489 : BitVec 32 := Scalar.muli v482 c4_i32_402
  let v490 : BitVec 32 := Scalar.addi c0_i32_403 v489
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let c2_i32_404 : BitVec 32 := 2#32
  let v491 : BitVec 32 := Scalar.muli v483 c2_i32_404
  let v492 : BitVec 32 := Scalar.addi v490 v491
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let c1_i32_405 : BitVec 32 := 1#32
  let v493 : BitVec 32 := Scalar.muli v484 c1_i32_405
  let v494 : BitVec 32 := Scalar.addi v492 v493
  v494.toNat
def k0_off24 (d0 : Dev nD) : Fin 3 → Nat :=
  let c4_i32_397 : BitVec 32 := 4#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let v485 : BitVec 32 := Scalar.muli c4_i32_397 v482
  let c2_i32_398 : BitVec 32 := 2#32
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let v486 : BitVec 32 := Scalar.muli c2_i32_398 v483
  let v487 : BitVec 32 := Scalar.addi v485 v486
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let v488 : BitVec 32 := Scalar.addi v487 v484
  let c0_i32_420 : BitVec 32 := 0#32
  let c0_i32_421 : BitVec 32 := 0#32
  ![v488.toNat, 0, 0]
def k0_dev32 (d0 : Dev nD) : Nat :=
  let c0_i32_415 : BitVec 32 := 0#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let c4_i32_414 : BitVec 32 := 4#32
  let v503 : BitVec 32 := Scalar.muli v482 c4_i32_414
  let v504 : BitVec 32 := Scalar.addi c0_i32_415 v503
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let c2_i32_416 : BitVec 32 := 2#32
  let v505 : BitVec 32 := Scalar.muli v483 c2_i32_416
  let v506 : BitVec 32 := Scalar.addi v504 v505
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let c1_i32_417 : BitVec 32 := 1#32
  let v507 : BitVec 32 := Scalar.muli v484 c1_i32_417
  let v508 : BitVec 32 := Scalar.addi v506 v507
  v508.toNat
def k0_off25 (d0 : Dev nD) : Fin 3 → Nat :=
  let c4_i32_397 : BitVec 32 := 4#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let v485 : BitVec 32 := Scalar.muli c4_i32_397 v482
  let c2_i32_398 : BitVec 32 := 2#32
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let v486 : BitVec 32 := Scalar.muli c2_i32_398 v483
  let v487 : BitVec 32 := Scalar.addi v485 v486
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let v488 : BitVec 32 := Scalar.addi v487 v484
  let c0_i32_432 : BitVec 32 := 0#32
  let c0_i32_433 : BitVec 32 := 0#32
  ![v488.toNat, 0, 0]
def k0_dev33 (d0 : Dev nD) : Nat :=
  let c0_i32_427 : BitVec 32 := 0#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let c4_i32_426 : BitVec 32 := 4#32
  let v517 : BitVec 32 := Scalar.muli v482 c4_i32_426
  let v518 : BitVec 32 := Scalar.addi c0_i32_427 v517
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let c2_i32_428 : BitVec 32 := 2#32
  let v519 : BitVec 32 := Scalar.muli v483 c2_i32_428
  let v520 : BitVec 32 := Scalar.addi v518 v519
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let c1_i32_429 : BitVec 32 := 1#32
  let v521 : BitVec 32 := Scalar.muli v484 c1_i32_429
  let v522 : BitVec 32 := Scalar.addi v520 v521
  v522.toNat
def k0_dev34 (d0 : Dev nD) : Nat :=
  let c0_i32_439 : BitVec 32 := 0#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let c4_i32_438 : BitVec 32 := 4#32
  let v531 : BitVec 32 := Scalar.muli v482 c4_i32_438
  let v532 : BitVec 32 := Scalar.addi c0_i32_439 v531
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let c2_i32_440 : BitVec 32 := 2#32
  let v533 : BitVec 32 := Scalar.muli v483 c2_i32_440
  let v534 : BitVec 32 := Scalar.addi v532 v533
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let c1_i32_441 : BitVec 32 := 1#32
  let v535 : BitVec 32 := Scalar.muli v484 c1_i32_441
  let v536 : BitVec 32 := Scalar.addi v534 v535
  v536.toNat
def k0_dev35 (d0 : Dev nD) : Nat :=
  let c0_i32_451 : BitVec 32 := 0#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_394 v2
  let c4_i32_450 : BitVec 32 := 4#32
  let v545 : BitVec 32 := Scalar.muli v482 c4_i32_450
  let v546 : BitVec 32 := Scalar.addi c0_i32_451 v545
  let c1_i32_395 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_395 v5
  let c2_i32_452 : BitVec 32 := 2#32
  let v547 : BitVec 32 := Scalar.muli v483 c2_i32_452
  let v548 : BitVec 32 := Scalar.addi v546 v547
  let c1_i32_396 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_396 v8
  let c1_i32_453 : BitVec 32 := 1#32
  let v549 : BitVec 32 := Scalar.muli v484 c1_i32_453
  let v550 : BitVec 32 := Scalar.addi v548 v549
  v550.toNat
def k0_off26 (d0 : Dev nD) : Fin 3 → Nat :=
  let c4_i32_457 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v558 : BitVec 32 := Scalar.muli c4_i32_457 v2
  let c2_i32_458 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v559 : BitVec 32 := Scalar.muli c2_i32_458 v5
  let v560 : BitVec 32 := Scalar.addi v558 v559
  let c1_i32_456 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v557 : BitVec 32 := Scalar.subi c1_i32_456 v8
  let v561 : BitVec 32 := Scalar.addi v560 v557
  let c0_i32_515 : BitVec 32 := 0#32
  let c0_i32_516 : BitVec 32 := 0#32
  ![v561.toNat, 0, 0]
def k0_off27 (d0 : Dev nD) : Fin 3 → Nat :=
  let c4_i32_518 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v621 : BitVec 32 := Scalar.muli c4_i32_518 v2
  let c2_i32_519 : BitVec 32 := 2#32
  let c1_i32_517 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v620 : BitVec 32 := Scalar.subi c1_i32_517 v5
  let v622 : BitVec 32 := Scalar.muli c2_i32_519 v620
  let v623 : BitVec 32 := Scalar.addi v621 v622
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v624 : BitVec 32 := Scalar.addi v623 v8
  let c0_i32_576 : BitVec 32 := 0#32
  let c0_i32_577 : BitVec 32 := 0#32
  ![v624.toNat, 0, 0]
def k0_off28 (d0 : Dev nD) : Fin 3 → Nat :=
  let c4_i32_580 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v685 : BitVec 32 := Scalar.muli c4_i32_580 v2
  let c2_i32_581 : BitVec 32 := 2#32
  let c1_i32_578 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.subi c1_i32_578 v5
  let v686 : BitVec 32 := Scalar.muli c2_i32_581 v683
  let v687 : BitVec 32 := Scalar.addi v685 v686
  let c1_i32_579 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.subi c1_i32_579 v8
  let v688 : BitVec 32 := Scalar.addi v687 v684
  let c0_i32_638 : BitVec 32 := 0#32
  let c0_i32_639 : BitVec 32 := 0#32
  ![v688.toNat, 0, 0]
def k0_off29 (d0 : Dev nD) : Fin 3 → Nat :=
  let c4_i32_641 : BitVec 32 := 4#32
  let c1_i32_640 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v747 : BitVec 32 := Scalar.subi c1_i32_640 v2
  let v748 : BitVec 32 := Scalar.muli c4_i32_641 v747
  let c2_i32_642 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v749 : BitVec 32 := Scalar.muli c2_i32_642 v5
  let v750 : BitVec 32 := Scalar.addi v748 v749
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v751 : BitVec 32 := Scalar.addi v750 v8
  let c0_i32_699 : BitVec 32 := 0#32
  let c0_i32_700 : BitVec 32 := 0#32
  ![v751.toNat, 0, 0]
def k0_off30 (d0 : Dev nD) : Fin 3 → Nat :=
  let c4_i32_703 : BitVec 32 := 4#32
  let c1_i32_701 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v810 : BitVec 32 := Scalar.subi c1_i32_701 v2
  let v812 : BitVec 32 := Scalar.muli c4_i32_703 v810
  let c2_i32_704 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v813 : BitVec 32 := Scalar.muli c2_i32_704 v5
  let v814 : BitVec 32 := Scalar.addi v812 v813
  let c1_i32_702 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v811 : BitVec 32 := Scalar.subi c1_i32_702 v8
  let v815 : BitVec 32 := Scalar.addi v814 v811
  let c0_i32_761 : BitVec 32 := 0#32
  let c0_i32_762 : BitVec 32 := 0#32
  ![v815.toNat, 0, 0]
def k0_off31 (d0 : Dev nD) : Fin 3 → Nat :=
  let c4_i32_765 : BitVec 32 := 4#32
  let c1_i32_763 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v874 : BitVec 32 := Scalar.subi c1_i32_763 v2
  let v876 : BitVec 32 := Scalar.muli c4_i32_765 v874
  let c2_i32_766 : BitVec 32 := 2#32
  let c1_i32_764 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v875 : BitVec 32 := Scalar.subi c1_i32_764 v5
  let v877 : BitVec 32 := Scalar.muli c2_i32_766 v875
  let v878 : BitVec 32 := Scalar.addi v876 v877
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v879 : BitVec 32 := Scalar.addi v878 v8
  let c0_i32_823 : BitVec 32 := 0#32
  let c0_i32_824 : BitVec 32 := 0#32
  ![v879.toNat, 0, 0]
def k0_off32 (d0 : Dev nD) : Fin 3 → Nat :=
  let c4_i32_828 : BitVec 32 := 4#32
  let c1_i32_825 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v938 : BitVec 32 := Scalar.subi c1_i32_825 v2
  let v941 : BitVec 32 := Scalar.muli c4_i32_828 v938
  let c2_i32_829 : BitVec 32 := 2#32
  let c1_i32_826 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v939 : BitVec 32 := Scalar.subi c1_i32_826 v5
  let v942 : BitVec 32 := Scalar.muli c2_i32_829 v939
  let v943 : BitVec 32 := Scalar.addi v941 v942
  let c1_i32_827 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v940 : BitVec 32 := Scalar.subi c1_i32_827 v8
  let v944 : BitVec 32 := Scalar.addi v943 v940
  let c0_i32_886 : BitVec 32 := 0#32
  let c0_i32_887 : BitVec 32 := 0#32
  ![v944.toNat, 0, 0]
-- ==== Reference.lean ====
abbrev S64x352x1024 : Shape := ⟨3, ![64, 352, 1024]⟩
abbrev S64x128x1024 : Shape := ⟨3, ![64, 128, 1024]⟩
abbrev S64x704x1024 : Shape := ⟨3, ![64, 704, 1024]⟩
abbrev S2496x128 : Shape := ⟨2, ![2496, 128]⟩
abbrev S8x8x352x1024 : Shape := ⟨4, ![8, 8, 352, 1024]⟩
abbrev S8x8x128x1024 : Shape := ⟨4, ![8, 8, 128, 1024]⟩
abbrev S8x8x704x1024 : Shape := ⟨4, ![8, 8, 704, 1024]⟩
abbrev S8x312x128 : Shape := ⟨3, ![8, 312, 128]⟩

abbrev nBuf : Space → Nat
  | .hbm => 18
  | .vmem => 0
  | .smem => 0
  | _ => 0

abbrev bufTy : (tb : Table) → Fin (tcTables nBuf tb) → BufTy
  | .hbm, ⟨0, _⟩ => ⟨S64x352x1024, .f32⟩
  | .hbm, ⟨1, _⟩ => ⟨S64x128x1024, .f32⟩
  | .hbm, ⟨2, _⟩ => ⟨S64x704x1024, .f32⟩
  | .hbm, ⟨3, _⟩ => ⟨S64x352x1024, .f32⟩
  | .hbm, ⟨4, _⟩ => ⟨S2496x128, .f32⟩
  | .hbm, ⟨5, _⟩ => ⟨S8x8x352x1024, .f32⟩
  | .hbm, ⟨6, _⟩ => ⟨S8x8x352x1024, .f32⟩
  | .hbm, ⟨7, _⟩ => ⟨S64x352x1024, .f32⟩
  | .hbm, ⟨8, _⟩ => ⟨S8x8x128x1024, .f32⟩
  | .hbm, ⟨9, _⟩ => ⟨S8x8x128x1024, .f32⟩
  | .hbm, ⟨10, _⟩ => ⟨S64x128x1024, .f32⟩
  | .hbm, ⟨11, _⟩ => ⟨S8x8x704x1024, .f32⟩
  | .hbm, ⟨12, _⟩ => ⟨S8x8x704x1024, .f32⟩
  | .hbm, ⟨13, _⟩ => ⟨S64x704x1024, .f32⟩
  | .hbm, ⟨14, _⟩ => ⟨S8x8x352x1024, .f32⟩
  | .hbm, ⟨15, _⟩ => ⟨S8x8x352x1024, .f32⟩
  | .hbm, ⟨16, _⟩ => ⟨S64x352x1024, .f32⟩
  | .hbm, ⟨17, _⟩ => ⟨S8x312x128, .f32⟩
  | _, _ => ⟨S64x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Weights.lean ====
abbrev S1024x352 : Shape := ⟨2, ![1024, 352]⟩
abbrev S128x1024 : Shape := ⟨2, ![128, 1024]⟩
abbrev S1024x704 : Shape := ⟨2, ![1024, 704]⟩
abbrev S352x1024 : Shape := ⟨2, ![352, 1024]⟩
abbrev S31x32 : Shape := ⟨2, ![31, 32]⟩
abbrev S3x704 : Shape := ⟨2, ![3, 704]⟩
abbrev S8x1024x352 : Shape := ⟨3, ![8, 1024, 352]⟩
abbrev S8x128x1024 : Shape := ⟨3, ![8, 128, 1024]⟩
abbrev S8x1024x704 : Shape := ⟨3, ![8, 1024, 704]⟩
abbrev S8x352x1024 : Shape := ⟨3, ![8, 352, 1024]⟩
abbrev S8x31x32 : Shape := ⟨3, ![8, 31, 32]⟩
abbrev S8x3x704 : Shape := ⟨3, ![8, 3, 704]⟩
abbrev S6x7 : Shape := ⟨2, ![6, 7]⟩
abbrev S6 : Shape := ⟨1, ![6]⟩
abbrev S1 : Shape := ⟨1, ![1]⟩
abbrev S_ : Shape := ⟨0, ![]⟩
abbrev S1x1024x352 : Shape := ⟨3, ![1, 1024, 352]⟩
abbrev S1x128x1024 : Shape := ⟨3, ![1, 128, 1024]⟩
abbrev S1x1024x704 : Shape := ⟨3, ![1, 1024, 704]⟩
abbrev S1x352x1024 : Shape := ⟨3, ![1, 352, 1024]⟩
abbrev S1x31x32 : Shape := ⟨3, ![1, 31, 32]⟩
abbrev S1x3x704 : Shape := ⟨3, ![1, 3, 704]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x352, .bf16⟩
  | .hbm, ⟨1, _⟩ => ⟨S128x1024, .bf16⟩
  | .hbm, ⟨2, _⟩ => ⟨S1024x704, .bf16⟩
  | .hbm, ⟨3, _⟩ => ⟨S352x1024, .bf16⟩
  | .hbm, ⟨4, _⟩ => ⟨S31x32, .f32⟩
  | .hbm, ⟨5, _⟩ => ⟨S3x704, .f32⟩
  | .hbm, ⟨6, _⟩ => ⟨S8x1024x352, .bf16⟩
  | .hbm, ⟨7, _⟩ => ⟨S8x128x1024, .bf16⟩
  | .hbm, ⟨8, _⟩ => ⟨S8x1024x704, .bf16⟩
  | .hbm, ⟨9, _⟩ => ⟨S8x352x1024, .bf16⟩
  | .hbm, ⟨10, _⟩ => ⟨S8x31x32, .f32⟩
  | .hbm, ⟨11, _⟩ => ⟨S8x3x704, .f32⟩
  | _, _ => ⟨S1024x352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_11 : BitVec 32 := 0#32
  let c0_i32_12 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_13 : BitVec 32 := 0#32
  let c0_i32_14 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_16 : BitVec 32 := 0#32
  let c0_i32_17 : BitVec 32 := 0#32
  ![v12.toNat, 0, 0]
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_18 : BitVec 32 := 0#32
  let c0_i32_19 : BitVec 32 := 0#32
  ![v12.toNat, 0, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v38 : BitVec 32 := Scalar.muli v2 c4_i32_25
  let v39 : BitVec 32 := Scalar.addi c0_i32_26 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v40 : BitVec 32 := Scalar.muli v5 c2_i32_27
  let v41 : BitVec 32 := Scalar.addi v39 v40
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_28 : BitVec 32 := 1#32
  let v42 : BitVec 32 := Scalar.muli v37 c1_i32_28
  let v43 : BitVec 32 := Scalar.addi v41 v42
  v43.toNat
def k0_dev2 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v50 : BitVec 32 := Scalar.muli v2 c4_i32_35
  let v51 : BitVec 32 := Scalar.addi c0_i32_36 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v52 : BitVec 32 := Scalar.muli v5 c2_i32_37
  let v53 : BitVec 32 := Scalar.addi v51 v52
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_38 : BitVec 32 := 1#32
  let v54 : BitVec 32 := Scalar.muli v37 c1_i32_38
  let v55 : BitVec 32 := Scalar.addi v53 v54
  v55.toNat
def k0_dev3 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v62 : BitVec 32 := Scalar.muli v2 c4_i32_45
  let v63 : BitVec 32 := Scalar.addi c0_i32_46 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v64 : BitVec 32 := Scalar.muli v5 c2_i32_47
  let v65 : BitVec 32 := Scalar.addi v63 v64
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_48 : BitVec 32 := 1#32
  let v66 : BitVec 32 := Scalar.muli v37 c1_i32_48
  let v67 : BitVec 32 := Scalar.addi v65 v66
  v67.toNat
def k0_dev4 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v74 : BitVec 32 := Scalar.muli v2 c4_i32_55
  let v75 : BitVec 32 := Scalar.addi c0_i32_56 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v76 : BitVec 32 := Scalar.muli v5 c2_i32_57
  let v77 : BitVec 32 := Scalar.addi v75 v76
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_58 : BitVec 32 := 1#32
  let v78 : BitVec 32 := Scalar.muli v37 c1_i32_58
  let v79 : BitVec 32 := Scalar.addi v77 v78
  v79.toNat
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v86 : BitVec 32 := Scalar.muli v2 c4_i32_65
  let v87 : BitVec 32 := Scalar.addi c0_i32_66 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v88 : BitVec 32 := Scalar.muli v5 c2_i32_67
  let v89 : BitVec 32 := Scalar.addi v87 v88
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_68 : BitVec 32 := 1#32
  let v90 : BitVec 32 := Scalar.muli v37 c1_i32_68
  let v91 : BitVec 32 := Scalar.addi v89 v90
  v91.toNat
def k0_dev6 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v98 : BitVec 32 := Scalar.muli v2 c4_i32_75
  let v99 : BitVec 32 := Scalar.addi c0_i32_76 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v100 : BitVec 32 := Scalar.muli v5 c2_i32_77
  let v101 : BitVec 32 := Scalar.addi v99 v100
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_20 v8
  let c1_i32_78 : BitVec 32 := 1#32
  let v102 : BitVec 32 := Scalar.muli v37 c1_i32_78
  let v103 : BitVec 32 := Scalar.addi v101 v102
  v103.toNat
def k0_dev7 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v111 : BitVec 32 := Scalar.muli v2 c4_i32_86
  let v112 : BitVec 32 := Scalar.addi c0_i32_87 v111
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.subi c1_i32_81 v5
  let c2_i32_88 : BitVec 32 := 2#32
  let v113 : BitVec 32 := Scalar.muli v110 c2_i32_88
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v115 : BitVec 32 := Scalar.muli v8 c1_i32_89
  let v116 : BitVec 32 := Scalar.addi v114 v115
  v116.toNat
def k0_dev8 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v123 : BitVec 32 := Scalar.muli v2 c4_i32_96
  let v124 : BitVec 32 := Scalar.addi c0_i32_97 v123
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.subi c1_i32_81 v5
  let c2_i32_98 : BitVec 32 := 2#32
  let v125 : BitVec 32 := Scalar.muli v110 c2_i32_98
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v127 : BitVec 32 := Scalar.muli v8 c1_i32_99
  let v128 : BitVec 32 := Scalar.addi v126 v127
  v128.toNat
def k0_dev9 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v135 : BitVec 32 := Scalar.muli v2 c4_i32_106
  let v136 : BitVec 32 := Scalar.addi c0_i32_107 v135
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.subi c1_i32_81 v5
  let c2_i32_108 : BitVec 32 := 2#32
  let v137 : BitVec 32 := Scalar.muli v110 c2_i32_108
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v139 : BitVec 32 := Scalar.muli v8 c1_i32_109
  let v140 : BitVec 32 := Scalar.addi v138 v139
  v140.toNat
def k0_dev10 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v147 : BitVec 32 := Scalar.muli v2 c4_i32_116
  let v148 : BitVec 32 := Scalar.addi c0_i32_117 v147
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.subi c1_i32_81 v5
  let c2_i32_118 : BitVec 32 := 2#32
  let v149 : BitVec 32 := Scalar.muli v110 c2_i32_118
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v151 : BitVec 32 := Scalar.muli v8 c1_i32_119
  let v152 : BitVec 32 := Scalar.addi v150 v151
  v152.toNat
def k0_dev11 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v159 : BitVec 32 := Scalar.muli v2 c4_i32_126
  let v160 : BitVec 32 := Scalar.addi c0_i32_127 v159
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.subi c1_i32_81 v5
  let c2_i32_128 : BitVec 32 := 2#32
  let v161 : BitVec 32 := Scalar.muli v110 c2_i32_128
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v163 : BitVec 32 := Scalar.muli v8 c1_i32_129
  let v164 : BitVec 32 := Scalar.addi v162 v163
  v164.toNat
def k0_dev12 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v171 : BitVec 32 := Scalar.muli v2 c4_i32_136
  let v172 : BitVec 32 := Scalar.addi c0_i32_137 v171
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.subi c1_i32_81 v5
  let c2_i32_138 : BitVec 32 := 2#32
  let v173 : BitVec 32 := Scalar.muli v110 c2_i32_138
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v175 : BitVec 32 := Scalar.muli v8 c1_i32_139
  let v176 : BitVec 32 := Scalar.addi v174 v175
  v176.toNat
def k0_dev13 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v185 : BitVec 32 := Scalar.muli v2 c4_i32_148
  let v186 : BitVec 32 := Scalar.addi c0_i32_149 v185
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_142 v5
  let c2_i32_150 : BitVec 32 := 2#32
  let v187 : BitVec 32 := Scalar.muli v183 c2_i32_150
  let v188 : BitVec 32 := Scalar.addi v186 v187
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_143 v8
  let c1_i32_151 : BitVec 32 := 1#32
  let v189 : BitVec 32 := Scalar.muli v184 c1_i32_151
  let v190 : BitVec 32 := Scalar.addi v188 v189
  v190.toNat
def k0_dev14 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v197 : BitVec 32 := Scalar.muli v2 c4_i32_158
  let v198 : BitVec 32 := Scalar.addi c0_i32_159 v197
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_142 v5
  let c2_i32_160 : BitVec 32 := 2#32
  let v199 : BitVec 32 := Scalar.muli v183 c2_i32_160
  let v200 : BitVec 32 := Scalar.addi v198 v199
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_143 v8
  let c1_i32_161 : BitVec 32 := 1#32
  let v201 : BitVec 32 := Scalar.muli v184 c1_i32_161
  let v202 : BitVec 32 := Scalar.addi v200 v201
  v202.toNat
def k0_dev15 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v209 : BitVec 32 := Scalar.muli v2 c4_i32_168
  let v210 : BitVec 32 := Scalar.addi c0_i32_169 v209
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_142 v5
  let c2_i32_170 : BitVec 32 := 2#32
  let v211 : BitVec 32 := Scalar.muli v183 c2_i32_170
  let v212 : BitVec 32 := Scalar.addi v210 v211
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_143 v8
  let c1_i32_171 : BitVec 32 := 1#32
  let v213 : BitVec 32 := Scalar.muli v184 c1_i32_171
  let v214 : BitVec 32 := Scalar.addi v212 v213
  v214.toNat
def k0_dev16 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v221 : BitVec 32 := Scalar.muli v2 c4_i32_178
  let v222 : BitVec 32 := Scalar.addi c0_i32_179 v221
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_142 v5
  let c2_i32_180 : BitVec 32 := 2#32
  let v223 : BitVec 32 := Scalar.muli v183 c2_i32_180
  let v224 : BitVec 32 := Scalar.addi v222 v223
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_143 v8
  let c1_i32_181 : BitVec 32 := 1#32
  let v225 : BitVec 32 := Scalar.muli v184 c1_i32_181
  let v226 : BitVec 32 := Scalar.addi v224 v225
  v226.toNat
def k0_dev17 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v233 : BitVec 32 := Scalar.muli v2 c4_i32_188
  let v234 : BitVec 32 := Scalar.addi c0_i32_189 v233
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_142 v5
  let c2_i32_190 : BitVec 32 := 2#32
  let v235 : BitVec 32 := Scalar.muli v183 c2_i32_190
  let v236 : BitVec 32 := Scalar.addi v234 v235
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_143 v8
  let c1_i32_191 : BitVec 32 := 1#32
  let v237 : BitVec 32 := Scalar.muli v184 c1_i32_191
  let v238 : BitVec 32 := Scalar.addi v236 v237
  v238.toNat
def k0_dev18 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v245 : BitVec 32 := Scalar.muli v2 c4_i32_198
  let v246 : BitVec 32 := Scalar.addi c0_i32_199 v245
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_142 v5
  let c2_i32_200 : BitVec 32 := 2#32
  let v247 : BitVec 32 := Scalar.muli v183 c2_i32_200
  let v248 : BitVec 32 := Scalar.addi v246 v247
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v184 : BitVec 32 := Scalar.subi c1_i32_143 v8
  let c1_i32_201 : BitVec 32 := 1#32
  let v249 : BitVec 32 := Scalar.muli v184 c1_i32_201
  let v250 : BitVec 32 := Scalar.addi v248 v249
  v250.toNat
def k0_dev19 (d0 : Dev nD) : Nat :=
  let c0_i32_210 : BitVec 32 := 0#32
  let c1_i32_204 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.subi c1_i32_204 v2
  let c4_i32_209 : BitVec 32 := 4#32
  let v258 : BitVec 32 := Scalar.muli v257 c4_i32_209
  let v259 : BitVec 32 := Scalar.addi c0_i32_210 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v260 : BitVec 32 := Scalar.muli v5 c2_i32_211
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v262 : BitVec 32 := Scalar.muli v8 c1_i32_212
  let v263 : BitVec 32 := Scalar.addi v261 v262
  v263.toNat
def k0_dev20 (d0 : Dev nD) : Nat :=
  let c0_i32_220 : BitVec 32 := 0#32
  let c1_i32_204 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.subi c1_i32_204 v2
  let c4_i32_219 : BitVec 32 := 4#32
  let v270 : BitVec 32 := Scalar.muli v257 c4_i32_219
  let v271 : BitVec 32 := Scalar.addi c0_i32_220 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v272 : BitVec 32 := Scalar.muli v5 c2_i32_221
  let v273 : BitVec 32 := Scalar.addi v271 v272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v274 : BitVec 32 := Scalar.muli v8 c1_i32_222
  let v275 : BitVec 32 := Scalar.addi v273 v274
  v275.toNat
def k0_dev21 (d0 : Dev nD) : Nat :=
  let c0_i32_230 : BitVec 32 := 0#32
  let c1_i32_204 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.subi c1_i32_204 v2
  let c4_i32_229 : BitVec 32 := 4#32
  let v282 : BitVec 32 := Scalar.muli v257 c4_i32_229
  let v283 : BitVec 32 := Scalar.addi c0_i32_230 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v284 : BitVec 32 := Scalar.muli v5 c2_i32_231
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v286 : BitVec 32 := Scalar.muli v8 c1_i32_232
  let v287 : BitVec 32 := Scalar.addi v285 v286
  v287.toNat
def k0_dev22 (d0 : Dev nD) : Nat :=
  let c0_i32_240 : BitVec 32 := 0#32
  let c1_i32_204 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.subi c1_i32_204 v2
  let c4_i32_239 : BitVec 32 := 4#32
  let v294 : BitVec 32 := Scalar.muli v257 c4_i32_239
  let v295 : BitVec 32 := Scalar.addi c0_i32_240 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v296 : BitVec 32 := Scalar.muli v5 c2_i32_241
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v298 : BitVec 32 := Scalar.muli v8 c1_i32_242
  let v299 : BitVec 32 := Scalar.addi v297 v298
  v299.toNat
def k0_dev23 (d0 : Dev nD) : Nat :=
  let c0_i32_250 : BitVec 32 := 0#32
  let c1_i32_204 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.subi c1_i32_204 v2
  let c4_i32_249 : BitVec 32 := 4#32
  let v306 : BitVec 32 := Scalar.muli v257 c4_i32_249
  let v307 : BitVec 32 := Scalar.addi c0_i32_250 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v308 : BitVec 32 := Scalar.muli v5 c2_i32_251
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v310 : BitVec 32 := Scalar.muli v8 c1_i32_252
  let v311 : BitVec 32 := Scalar.addi v309 v310
  v311.toNat
def k0_dev24 (d0 : Dev nD) : Nat :=
  let c0_i32_260 : BitVec 32 := 0#32
  let c1_i32_204 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.subi c1_i32_204 v2
  let c4_i32_259 : BitVec 32 := 4#32
  let v318 : BitVec 32 := Scalar.muli v257 c4_i32_259
  let v319 : BitVec 32 := Scalar.addi c0_i32_260 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v320 : BitVec 32 := Scalar.muli v5 c2_i32_261
  let v321 : BitVec 32 := Scalar.addi v319 v320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v322 : BitVec 32 := Scalar.muli v8 c1_i32_262
  let v323 : BitVec 32 := Scalar.addi v321 v322
  v323.toNat
def k0_dev25 (d0 : Dev nD) : Nat :=
  let c0_i32_272 : BitVec 32 := 0#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v330 : BitVec 32 := Scalar.subi c1_i32_265 v2
  let c4_i32_271 : BitVec 32 := 4#32
  let v332 : BitVec 32 := Scalar.muli v330 c4_i32_271
  let v333 : BitVec 32 := Scalar.addi c0_i32_272 v332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v334 : BitVec 32 := Scalar.muli v5 c2_i32_273
  let v335 : BitVec 32 := Scalar.addi v333 v334
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.subi c1_i32_266 v8
  let c1_i32_274 : BitVec 32 := 1#32
  let v336 : BitVec 32 := Scalar.muli v331 c1_i32_274
  let v337 : BitVec 32 := Scalar.addi v335 v336
  v337.toNat
def k0_dev26 (d0 : Dev nD) : Nat :=
  let c0_i32_282 : BitVec 32 := 0#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v330 : BitVec 32 := Scalar.subi c1_i32_265 v2
  let c4_i32_281 : BitVec 32 := 4#32
  let v344 : BitVec 32 := Scalar.muli v330 c4_i32_281
  let v345 : BitVec 32 := Scalar.addi c0_i32_282 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v346 : BitVec 32 := Scalar.muli v5 c2_i32_283
  let v347 : BitVec 32 := Scalar.addi v345 v346
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.subi c1_i32_266 v8
  let c1_i32_284 : BitVec 32 := 1#32
  let v348 : BitVec 32 := Scalar.muli v331 c1_i32_284
  let v349 : BitVec 32 := Scalar.addi v347 v348
  v349.toNat
def k0_dev27 (d0 : Dev nD) : Nat :=
  let c0_i32_292 : BitVec 32 := 0#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v330 : BitVec 32 := Scalar.subi c1_i32_265 v2
  let c4_i32_291 : BitVec 32 := 4#32
  let v356 : BitVec 32 := Scalar.muli v330 c4_i32_291
  let v357 : BitVec 32 := Scalar.addi c0_i32_292 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v358 : BitVec 32 := Scalar.muli v5 c2_i32_293
  let v359 : BitVec 32 := Scalar.addi v357 v358
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.subi c1_i32_266 v8
  let c1_i32_294 : BitVec 32 := 1#32
  let v360 : BitVec 32 := Scalar.muli v331 c1_i32_294
  let v361 : BitVec 32 := Scalar.addi v359 v360
  v361.toNat
def k0_dev28 (d0 : Dev nD) : Nat :=
  let c0_i32_302 : BitVec 32 := 0#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v330 : BitVec 32 := Scalar.subi c1_i32_265 v2
  let c4_i32_301 : BitVec 32 := 4#32
  let v368 : BitVec 32 := Scalar.muli v330 c4_i32_301
  let v369 : BitVec 32 := Scalar.addi c0_i32_302 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_303 : BitVec 32 := 2#32
  let v370 : BitVec 32 := Scalar.muli v5 c2_i32_303
  let v371 : BitVec 32 := Scalar.addi v369 v370
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.subi c1_i32_266 v8
  let c1_i32_304 : BitVec 32 := 1#32
  let v372 : BitVec 32 := Scalar.muli v331 c1_i32_304
  let v373 : BitVec 32 := Scalar.addi v371 v372
  v373.toNat
def k0_dev29 (d0 : Dev nD) : Nat :=
  let c0_i32_312 : BitVec 32 := 0#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v330 : BitVec 32 := Scalar.subi c1_i32_265 v2
  let c4_i32_311 : BitVec 32 := 4#32
  let v380 : BitVec 32 := Scalar.muli v330 c4_i32_311
  let v381 : BitVec 32 := Scalar.addi c0_i32_312 v380
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v382 : BitVec 32 := Scalar.muli v5 c2_i32_313
  let v383 : BitVec 32 := Scalar.addi v381 v382
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.subi c1_i32_266 v8
  let c1_i32_314 : BitVec 32 := 1#32
  let v384 : BitVec 32 := Scalar.muli v331 c1_i32_314
  let v385 : BitVec 32 := Scalar.addi v383 v384
  v385.toNat
def k0_dev30 (d0 : Dev nD) : Nat :=
  let c0_i32_322 : BitVec 32 := 0#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v330 : BitVec 32 := Scalar.subi c1_i32_265 v2
  let c4_i32_321 : BitVec 32 := 4#32
  let v392 : BitVec 32 := Scalar.muli v330 c4_i32_321
  let v393 : BitVec 32 := Scalar.addi c0_i32_322 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v394 : BitVec 32 := Scalar.muli v5 c2_i32_323
  let v395 : BitVec 32 := Scalar.addi v393 v394
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v331 : BitVec 32 := Scalar.subi c1_i32_266 v8
  let c1_i32_324 : BitVec 32 := 1#32
  let v396 : BitVec 32 := Scalar.muli v331 c1_i32_324
  let v397 : BitVec 32 := Scalar.addi v395 v396
  v397.toNat
def k0_dev31 (d0 : Dev nD) : Nat :=
  let c0_i32_334 : BitVec 32 := 0#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_327 v2
  let c4_i32_333 : BitVec 32 := 4#32
  let v406 : BitVec 32 := Scalar.muli v404 c4_i32_333
  let v407 : BitVec 32 := Scalar.addi c0_i32_334 v406
  let c1_i32_328 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_328 v5
  let c2_i32_335 : BitVec 32 := 2#32
  let v408 : BitVec 32 := Scalar.muli v405 c2_i32_335
  let v409 : BitVec 32 := Scalar.addi v407 v408
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_336 : BitVec 32 := 1#32
  let v410 : BitVec 32 := Scalar.muli v8 c1_i32_336
  let v411 : BitVec 32 := Scalar.addi v409 v410
  v411.toNat
def k0_dev32 (d0 : Dev nD) : Nat :=
  let c0_i32_344 : BitVec 32 := 0#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_327 v2
  let c4_i32_343 : BitVec 32 := 4#32
  let v418 : BitVec 32 := Scalar.muli v404 c4_i32_343
  let v419 : BitVec 32 := Scalar.addi c0_i32_344 v418
  let c1_i32_328 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_328 v5
  let c2_i32_345 : BitVec 32 := 2#32
  let v420 : BitVec 32 := Scalar.muli v405 c2_i32_345
  let v421 : BitVec 32 := Scalar.addi v419 v420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v422 : BitVec 32 := Scalar.muli v8 c1_i32_346
  let v423 : BitVec 32 := Scalar.addi v421 v422
  v423.toNat
def k0_dev33 (d0 : Dev nD) : Nat :=
  let c0_i32_354 : BitVec 32 := 0#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_327 v2
  let c4_i32_353 : BitVec 32 := 4#32
  let v430 : BitVec 32 := Scalar.muli v404 c4_i32_353
  let v431 : BitVec 32 := Scalar.addi c0_i32_354 v430
  let c1_i32_328 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_328 v5
  let c2_i32_355 : BitVec 32 := 2#32
  let v432 : BitVec 32 := Scalar.muli v405 c2_i32_355
  let v433 : BitVec 32 := Scalar.addi v431 v432
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_356 : BitVec 32 := 1#32
  let v434 : BitVec 32 := Scalar.muli v8 c1_i32_356
  let v435 : BitVec 32 := Scalar.addi v433 v434
  v435.toNat
def k0_dev34 (d0 : Dev nD) : Nat :=
  let c0_i32_364 : BitVec 32 := 0#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_327 v2
  let c4_i32_363 : BitVec 32 := 4#32
  let v442 : BitVec 32 := Scalar.muli v404 c4_i32_363
  let v443 : BitVec 32 := Scalar.addi c0_i32_364 v442
  let c1_i32_328 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_328 v5
  let c2_i32_365 : BitVec 32 := 2#32
  let v444 : BitVec 32 := Scalar.muli v405 c2_i32_365
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_366 : BitVec 32 := 1#32
  let v446 : BitVec 32 := Scalar.muli v8 c1_i32_366
  let v447 : BitVec 32 := Scalar.addi v445 v446
  v447.toNat
def k0_dev35 (d0 : Dev nD) : Nat :=
  let c0_i32_374 : BitVec 32 := 0#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_327 v2
  let c4_i32_373 : BitVec 32 := 4#32
  let v454 : BitVec 32 := Scalar.muli v404 c4_i32_373
  let v455 : BitVec 32 := Scalar.addi c0_i32_374 v454
  let c1_i32_328 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_328 v5
  let c2_i32_375 : BitVec 32 := 2#32
  let v456 : BitVec 32 := Scalar.muli v405 c2_i32_375
  let v457 : BitVec 32 := Scalar.addi v455 v456
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v458 : BitVec 32 := Scalar.muli v8 c1_i32_376
  let v459 : BitVec 32 := Scalar.addi v457 v458
  v459.toNat
def k0_dev36 (d0 : Dev nD) : Nat :=
  let c0_i32_384 : BitVec 32 := 0#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_327 v2
  let c4_i32_383 : BitVec 32 := 4#32
  let v466 : BitVec 32 := Scalar.muli v404 c4_i32_383
  let v467 : BitVec 32 := Scalar.addi c0_i32_384 v466
  let c1_i32_328 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_328 v5
  let c2_i32_385 : BitVec 32 := 2#32
  let v468 : BitVec 32 := Scalar.muli v405 c2_i32_385
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_386 : BitVec 32 := 1#32
  let v470 : BitVec 32 := Scalar.muli v8 c1_i32_386
  let v471 : BitVec 32 := Scalar.addi v469 v470
  v471.toNat
def k0_dev37 (d0 : Dev nD) : Nat :=
  let c0_i32_396 : BitVec 32 := 0#32
  let c1_i32_389 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.subi c1_i32_389 v2
  let c4_i32_395 : BitVec 32 := 4#32
  let v481 : BitVec 32 := Scalar.muli v478 c4_i32_395
  let v482 : BitVec 32 := Scalar.addi c0_i32_396 v481
  let c1_i32_390 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v479 : BitVec 32 := Scalar.subi c1_i32_390 v5
  let c2_i32_397 : BitVec 32 := 2#32
  let v483 : BitVec 32 := Scalar.muli v479 c2_i32_397
  let v484 : BitVec 32 := Scalar.addi v482 v483
  let c1_i32_391 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.subi c1_i32_391 v8
  let c1_i32_398 : BitVec 32 := 1#32
  let v485 : BitVec 32 := Scalar.muli v480 c1_i32_398
  let v486 : BitVec 32 := Scalar.addi v484 v485
  v486.toNat
def k0_dev38 (d0 : Dev nD) : Nat :=
  let c0_i32_406 : BitVec 32 := 0#32
  let c1_i32_389 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.subi c1_i32_389 v2
  let c4_i32_405 : BitVec 32 := 4#32
  let v493 : BitVec 32 := Scalar.muli v478 c4_i32_405
  let v494 : BitVec 32 := Scalar.addi c0_i32_406 v493
  let c1_i32_390 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v479 : BitVec 32 := Scalar.subi c1_i32_390 v5
  let c2_i32_407 : BitVec 32 := 2#32
  let v495 : BitVec 32 := Scalar.muli v479 c2_i32_407
  let v496 : BitVec 32 := Scalar.addi v494 v495
  let c1_i32_391 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.subi c1_i32_391 v8
  let c1_i32_408 : BitVec 32 := 1#32
  let v497 : BitVec 32 := Scalar.muli v480 c1_i32_408
  let v498 : BitVec 32 := Scalar.addi v496 v497
  v498.toNat
def k0_dev39 (d0 : Dev nD) : Nat :=
  let c0_i32_416 : BitVec 32 := 0#32
  let c1_i32_389 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.subi c1_i32_389 v2
  let c4_i32_415 : BitVec 32 := 4#32
  let v505 : BitVec 32 := Scalar.muli v478 c4_i32_415
  let v506 : BitVec 32 := Scalar.addi c0_i32_416 v505
  let c1_i32_390 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v479 : BitVec 32 := Scalar.subi c1_i32_390 v5
  let c2_i32_417 : BitVec 32 := 2#32
  let v507 : BitVec 32 := Scalar.muli v479 c2_i32_417
  let v508 : BitVec 32 := Scalar.addi v506 v507
  let c1_i32_391 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.subi c1_i32_391 v8
  let c1_i32_418 : BitVec 32 := 1#32
  let v509 : BitVec 32 := Scalar.muli v480 c1_i32_418
  let v510 : BitVec 32 := Scalar.addi v508 v509
  v510.toNat
def k0_dev40 (d0 : Dev nD) : Nat :=
  let c0_i32_426 : BitVec 32 := 0#32
  let c1_i32_389 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.subi c1_i32_389 v2
  let c4_i32_425 : BitVec 32 := 4#32
  let v517 : BitVec 32 := Scalar.muli v478 c4_i32_425
  let v518 : BitVec 32 := Scalar.addi c0_i32_426 v517
  let c1_i32_390 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v479 : BitVec 32 := Scalar.subi c1_i32_390 v5
  let c2_i32_427 : BitVec 32 := 2#32
  let v519 : BitVec 32 := Scalar.muli v479 c2_i32_427
  let v520 : BitVec 32 := Scalar.addi v518 v519
  let c1_i32_391 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.subi c1_i32_391 v8
  let c1_i32_428 : BitVec 32 := 1#32
  let v521 : BitVec 32 := Scalar.muli v480 c1_i32_428
  let v522 : BitVec 32 := Scalar.addi v520 v521
  v522.toNat
def k0_dev41 (d0 : Dev nD) : Nat :=
  let c0_i32_436 : BitVec 32 := 0#32
  let c1_i32_389 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.subi c1_i32_389 v2
  let c4_i32_435 : BitVec 32 := 4#32
  let v529 : BitVec 32 := Scalar.muli v478 c4_i32_435
  let v530 : BitVec 32 := Scalar.addi c0_i32_436 v529
  let c1_i32_390 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v479 : BitVec 32 := Scalar.subi c1_i32_390 v5
  let c2_i32_437 : BitVec 32 := 2#32
  let v531 : BitVec 32 := Scalar.muli v479 c2_i32_437
  let v532 : BitVec 32 := Scalar.addi v530 v531
  let c1_i32_391 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.subi c1_i32_391 v8
  let c1_i32_438 : BitVec 32 := 1#32
  let v533 : BitVec 32 := Scalar.muli v480 c1_i32_438
  let v534 : BitVec 32 := Scalar.addi v532 v533
  v534.toNat
def k0_dev42 (d0 : Dev nD) : Nat :=
  let c0_i32_446 : BitVec 32 := 0#32
  let c1_i32_389 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.subi c1_i32_389 v2
  let c4_i32_445 : BitVec 32 := 4#32
  let v541 : BitVec 32 := Scalar.muli v478 c4_i32_445
  let v542 : BitVec 32 := Scalar.addi c0_i32_446 v541
  let c1_i32_390 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v479 : BitVec 32 := Scalar.subi c1_i32_390 v5
  let c2_i32_447 : BitVec 32 := 2#32
  let v543 : BitVec 32 := Scalar.muli v479 c2_i32_447
  let v544 : BitVec 32 := Scalar.addi v542 v543
  let c1_i32_391 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v480 : BitVec 32 := Scalar.subi c1_i32_391 v8
  let c1_i32_448 : BitVec 32 := 1#32
  let v545 : BitVec 32 := Scalar.muli v480 c1_i32_448
  let v546 : BitVec 32 := Scalar.addi v544 v545
  v546.toNat
def k0_off7 (d0 : Dev nD) : Fin 3 → Nat :=
  let c4_i32_452 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.muli c4_i32_452 v2
  let c2_i32_453 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v555 : BitVec 32 := Scalar.muli c2_i32_453 v5
  let v556 : BitVec 32 := Scalar.addi v554 v555
  let c1_i32_451 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.subi c1_i32_451 v8
  let v557 : BitVec 32 := Scalar.addi v556 v553
  let c0_i32_462 : BitVec 32 := 0#32
  let c0_i32_463 : BitVec 32 := 0#32
  ![v557.toNat, 0, 0]
def k0_off8 (d0 : Dev nD) : Fin 3 → Nat :=
  let c4_i32_452 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.muli c4_i32_452 v2
  let c2_i32_453 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v555 : BitVec 32 := Scalar.muli c2_i32_453 v5
  let v556 : BitVec 32 := Scalar.addi v554 v555
  let c1_i32_451 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.subi c1_i32_451 v8
  let v557 : BitVec 32 := Scalar.addi v556 v553
  let c0_i32_472 : BitVec 32 := 0#32
  let c0_i32_473 : BitVec 32 := 0#32
  ![v557.toNat, 0, 0]
def k0_off9 (d0 : Dev nD) : Fin 3 → Nat :=
  let c4_i32_452 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.muli c4_i32_452 v2
  let c2_i32_453 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v555 : BitVec 32 := Scalar.muli c2_i32_453 v5
  let v556 : BitVec 32 := Scalar.addi v554 v555
  let c1_i32_451 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.subi c1_i32_451 v8
  let v557 : BitVec 32 := Scalar.addi v556 v553
  let c0_i32_482 : BitVec 32 := 0#32
  let c0_i32_483 : BitVec 32 := 0#32
  ![v557.toNat, 0, 0]
def k0_off10 (d0 : Dev nD) : Fin 3 → Nat :=
  let c4_i32_452 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.muli c4_i32_452 v2
  let c2_i32_453 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v555 : BitVec 32 := Scalar.muli c2_i32_453 v5
  let v556 : BitVec 32 := Scalar.addi v554 v555
  let c1_i32_451 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.subi c1_i32_451 v8
  let v557 : BitVec 32 := Scalar.addi v556 v553
  let c0_i32_492 : BitVec 32 := 0#32
  let c0_i32_493 : BitVec 32 := 0#32
  ![v557.toNat, 0, 0]
def k0_off11 (d0 : Dev nD) : Fin 3 → Nat :=
  let c4_i32_452 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.muli c4_i32_452 v2
  let c2_i32_453 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v555 : BitVec 32 := Scalar.muli c2_i32_453 v5
  let v556 : BitVec 32 := Scalar.addi v554 v555
  let c1_i32_451 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.subi c1_i32_451 v8
  let v557 : BitVec 32 := Scalar.addi v556 v553
  let c0_i32_502 : BitVec 32 := 0#32
  let c0_i32_503 : BitVec 32 := 0#32
  ![v557.toNat, 0, 0]
def k0_off12 (d0 : Dev nD) : Fin 3 → Nat :=
  let c4_i32_452 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v554 : BitVec 32 := Scalar.muli c4_i32_452 v2
  let c2_i32_453 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v555 : BitVec 32 := Scalar.muli c2_i32_453 v5
  let v556 : BitVec 32 := Scalar.addi v554 v555
  let c1_i32_451 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.subi c1_i32_451 v8
  let v557 : BitVec 32 := Scalar.addi v556 v553
  let c0_i32_512 : BitVec 32 := 0#32
  let c0_i32_513 : BitVec 32 := 0#32
  ![v557.toNat, 0, 0]
def k0_off13 (d0 : Dev nD) : Fin 3 → Nat :=
  let c4_i32_515 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c4_i32_515 v2
  let c2_i32_516 : BitVec 32 := 2#32
  let c1_i32_514 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v618 : BitVec 32 := Scalar.subi c1_i32_514 v5
  let v620 : BitVec 32 := Scalar.muli c2_i32_516 v618
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v622 : BitVec 32 := Scalar.addi v621 v8
  let c0_i32_525 : BitVec 32 := 0#32
  let c0_i32_526 : BitVec 32 := 0#32
  ![v622.toNat, 0, 0]
def k0_off14 (d0 : Dev nD) : Fin 3 → Nat :=
  let c4_i32_515 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c4_i32_515 v2
  let c2_i32_516 : BitVec 32 := 2#32
  let c1_i32_514 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v618 : BitVec 32 := Scalar.subi c1_i32_514 v5
  let v620 : BitVec 32 := Scalar.muli c2_i32_516 v618
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v622 : BitVec 32 := Scalar.addi v621 v8
  let c0_i32_535 : BitVec 32 := 0#32
  let c0_i32_536 : BitVec 32 := 0#32
  ![v622.toNat, 0, 0]
def k0_off15 (d0 : Dev nD) : Fin 3 → Nat :=
  let c4_i32_515 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c4_i32_515 v2
  let c2_i32_516 : BitVec 32 := 2#32
  let c1_i32_514 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v618 : BitVec 32 := Scalar.subi c1_i32_514 v5
  let v620 : BitVec 32 := Scalar.muli c2_i32_516 v618
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v622 : BitVec 32 := Scalar.addi v621 v8
  let c0_i32_545 : BitVec 32 := 0#32
  let c0_i32_546 : BitVec 32 := 0#32
  ![v622.toNat, 0, 0]
def k0_off16 (d0 : Dev nD) : Fin 3 → Nat :=
  let c4_i32_515 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c4_i32_515 v2
  let c2_i32_516 : BitVec 32 := 2#32
  let c1_i32_514 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v618 : BitVec 32 := Scalar.subi c1_i32_514 v5
  let v620 : BitVec 32 := Scalar.muli c2_i32_516 v618
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v622 : BitVec 32 := Scalar.addi v621 v8
  let c0_i32_555 : BitVec 32 := 0#32
  let c0_i32_556 : BitVec 32 := 0#32
  ![v622.toNat, 0, 0]
def k0_off17 (d0 : Dev nD) : Fin 3 → Nat :=
  let c4_i32_515 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c4_i32_515 v2
  let c2_i32_516 : BitVec 32 := 2#32
  let c1_i32_514 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v618 : BitVec 32 := Scalar.subi c1_i32_514 v5
  let v620 : BitVec 32 := Scalar.muli c2_i32_516 v618
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v622 : BitVec 32 := Scalar.addi v621 v8
  let c0_i32_565 : BitVec 32 := 0#32
  let c0_i32_566 : BitVec 32 := 0#32
  ![v622.toNat, 0, 0]
def k0_off18 (d0 : Dev nD) : Fin 3 → Nat :=
  let c4_i32_515 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v619 : BitVec 32 := Scalar.muli c4_i32_515 v2
  let c2_i32_516 : BitVec 32 := 2#32
  let c1_i32_514 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v618 : BitVec 32 := Scalar.subi c1_i32_514 v5
  let v620 : BitVec 32 := Scalar.muli c2_i32_516 v618
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v622 : BitVec 32 := Scalar.addi v621 v8
  let c0_i32_575 : BitVec 32 := 0#32
  let c0_i32_576 : BitVec 32 := 0#32
  ![v622.toNat, 0, 0]
def k0_off19 (d0 : Dev nD) : Fin 3 → Nat :=
  let c4_i32_579 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v685 : BitVec 32 := Scalar.muli c4_i32_579 v2
  let c2_i32_580 : BitVec 32 := 2#32
  let c1_i32_577 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.subi c1_i32_577 v5
  let v686 : BitVec 32 := Scalar.muli c2_i32_580 v683
  let v687 : BitVec 32 := Scalar.addi v685 v686
  let c1_i32_578 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.subi c1_i32_578 v8
  let v688 : BitVec 32 := Scalar.addi v687 v684
  let c0_i32_589 : BitVec 32 := 0#32
  let c0_i32_590 : BitVec 32 := 0#32
  ![v688.toNat, 0, 0]
def k0_off20 (d0 : Dev nD) : Fin 3 → Nat :=
  let c4_i32_579 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v685 : BitVec 32 := Scalar.muli c4_i32_579 v2
  let c2_i32_580 : BitVec 32 := 2#32
  let c1_i32_577 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.subi c1_i32_577 v5
  let v686 : BitVec 32 := Scalar.muli c2_i32_580 v683
  let v687 : BitVec 32 := Scalar.addi v685 v686
  let c1_i32_578 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.subi c1_i32_578 v8
  let v688 : BitVec 32 := Scalar.addi v687 v684
  let c0_i32_599 : BitVec 32 := 0#32
  let c0_i32_600 : BitVec 32 := 0#32
  ![v688.toNat, 0, 0]
def k0_off21 (d0 : Dev nD) : Fin 3 → Nat :=
  let c4_i32_579 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v685 : BitVec 32 := Scalar.muli c4_i32_579 v2
  let c2_i32_580 : BitVec 32 := 2#32
  let c1_i32_577 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.subi c1_i32_577 v5
  let v686 : BitVec 32 := Scalar.muli c2_i32_580 v683
  let v687 : BitVec 32 := Scalar.addi v685 v686
  let c1_i32_578 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.subi c1_i32_578 v8
  let v688 : BitVec 32 := Scalar.addi v687 v684
  let c0_i32_609 : BitVec 32 := 0#32
  let c0_i32_610 : BitVec 32 := 0#32
  ![v688.toNat, 0, 0]
def k0_off22 (d0 : Dev nD) : Fin 3 → Nat :=
  let c4_i32_579 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v685 : BitVec 32 := Scalar.muli c4_i32_579 v2
  let c2_i32_580 : BitVec 32 := 2#32
  let c1_i32_577 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.subi c1_i32_577 v5
  let v686 : BitVec 32 := Scalar.muli c2_i32_580 v683
  let v687 : BitVec 32 := Scalar.addi v685 v686
  let c1_i32_578 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.subi c1_i32_578 v8
  let v688 : BitVec 32 := Scalar.addi v687 v684
  let c0_i32_619 : BitVec 32 := 0#32
  let c0_i32_620 : BitVec 32 := 0#32
  ![v688.toNat, 0, 0]
def k0_off23 (d0 : Dev nD) : Fin 3 → Nat :=
  let c4_i32_579 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v685 : BitVec 32 := Scalar.muli c4_i32_579 v2
  let c2_i32_580 : BitVec 32 := 2#32
  let c1_i32_577 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.subi c1_i32_577 v5
  let v686 : BitVec 32 := Scalar.muli c2_i32_580 v683
  let v687 : BitVec 32 := Scalar.addi v685 v686
  let c1_i32_578 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.subi c1_i32_578 v8
  let v688 : BitVec 32 := Scalar.addi v687 v684
  let c0_i32_629 : BitVec 32 := 0#32
  let c0_i32_630 : BitVec 32 := 0#32
  ![v688.toNat, 0, 0]
def k0_off24 (d0 : Dev nD) : Fin 3 → Nat :=
  let c4_i32_579 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v685 : BitVec 32 := Scalar.muli c4_i32_579 v2
  let c2_i32_580 : BitVec 32 := 2#32
  let c1_i32_577 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v683 : BitVec 32 := Scalar.subi c1_i32_577 v5
  let v686 : BitVec 32 := Scalar.muli c2_i32_580 v683
  let v687 : BitVec 32 := Scalar.addi v685 v686
  let c1_i32_578 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v684 : BitVec 32 := Scalar.subi c1_i32_578 v8
  let v688 : BitVec 32 := Scalar.addi v687 v684
  let c0_i32_639 : BitVec 32 := 0#32
  let c0_i32_640 : BitVec 32 := 0#32
  ![v688.toNat, 0, 0]
def k0_off25 (d0 : Dev nD) : Fin 3 → Nat :=
  let c4_i32_642 : BitVec 32 := 4#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v749 : BitVec 32 := Scalar.subi c1_i32_641 v2
  let v750 : BitVec 32 := Scalar.muli c4_i32_642 v749
  let c2_i32_643 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v751 : BitVec 32 := Scalar.muli c2_i32_643 v5
  let v752 : BitVec 32 := Scalar.addi v750 v751
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v753 : BitVec 32 := Scalar.addi v752 v8
  let c0_i32_652 : BitVec 32 := 0#32
  let c0_i32_653 : BitVec 32 := 0#32
  ![v753.toNat, 0, 0]
def k0_off26 (d0 : Dev nD) : Fin 3 → Nat :=
  let c4_i32_642 : BitVec 32 := 4#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v749 : BitVec 32 := Scalar.subi c1_i32_641 v2
  let v750 : BitVec 32 := Scalar.muli c4_i32_642 v749
  let c2_i32_643 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v751 : BitVec 32 := Scalar.muli c2_i32_643 v5
  let v752 : BitVec 32 := Scalar.addi v750 v751
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v753 : BitVec 32 := Scalar.addi v752 v8
  let c0_i32_662 : BitVec 32 := 0#32
  let c0_i32_663 : BitVec 32 := 0#32
  ![v753.toNat, 0, 0]
def k0_off27 (d0 : Dev nD) : Fin 3 → Nat :=
  let c4_i32_642 : BitVec 32 := 4#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v749 : BitVec 32 := Scalar.subi c1_i32_641 v2
  let v750 : BitVec 32 := Scalar.muli c4_i32_642 v749
  let c2_i32_643 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v751 : BitVec 32 := Scalar.muli c2_i32_643 v5
  let v752 : BitVec 32 := Scalar.addi v750 v751
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v753 : BitVec 32 := Scalar.addi v752 v8
  let c0_i32_672 : BitVec 32 := 0#32
  let c0_i32_673 : BitVec 32 := 0#32
  ![v753.toNat, 0, 0]
def k0_off28 (d0 : Dev nD) : Fin 3 → Nat :=
  let c4_i32_642 : BitVec 32 := 4#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v749 : BitVec 32 := Scalar.subi c1_i32_641 v2
  let v750 : BitVec 32 := Scalar.muli c4_i32_642 v749
  let c2_i32_643 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v751 : BitVec 32 := Scalar.muli c2_i32_643 v5
  let v752 : BitVec 32 := Scalar.addi v750 v751
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v753 : BitVec 32 := Scalar.addi v752 v8
  let c0_i32_682 : BitVec 32 := 0#32
  let c0_i32_683 : BitVec 32 := 0#32
  ![v753.toNat, 0, 0]
def k0_off29 (d0 : Dev nD) : Fin 3 → Nat :=
  let c4_i32_642 : BitVec 32 := 4#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v749 : BitVec 32 := Scalar.subi c1_i32_641 v2
  let v750 : BitVec 32 := Scalar.muli c4_i32_642 v749
  let c2_i32_643 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v751 : BitVec 32 := Scalar.muli c2_i32_643 v5
  let v752 : BitVec 32 := Scalar.addi v750 v751
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v753 : BitVec 32 := Scalar.addi v752 v8
  let c0_i32_692 : BitVec 32 := 0#32
  let c0_i32_693 : BitVec 32 := 0#32
  ![v753.toNat, 0, 0]
def k0_off30 (d0 : Dev nD) : Fin 3 → Nat :=
  let c4_i32_642 : BitVec 32 := 4#32
  let c1_i32_641 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v749 : BitVec 32 := Scalar.subi c1_i32_641 v2
  let v750 : BitVec 32 := Scalar.muli c4_i32_642 v749
  let c2_i32_643 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v751 : BitVec 32 := Scalar.muli c2_i32_643 v5
  let v752 : BitVec 32 := Scalar.addi v750 v751
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v753 : BitVec 32 := Scalar.addi v752 v8
  let c0_i32_702 : BitVec 32 := 0#32
  let c0_i32_703 : BitVec 32 := 0#32
  ![v753.toNat, 0, 0]
def k0_off31 (d0 : Dev nD) : Fin 3 → Nat :=
  let c4_i32_706 : BitVec 32 := 4#32
  let c1_i32_704 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.subi c1_i32_704 v2
  let v816 : BitVec 32 := Scalar.muli c4_i32_706 v814
  let c2_i32_707 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.muli c2_i32_707 v5
  let v818 : BitVec 32 := Scalar.addi v816 v817
  let c1_i32_705 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v815 : BitVec 32 := Scalar.subi c1_i32_705 v8
  let v819 : BitVec 32 := Scalar.addi v818 v815
  let c0_i32_716 : BitVec 32 := 0#32
  let c0_i32_717 : BitVec 32 := 0#32
  ![v819.toNat, 0, 0]
def k0_off32 (d0 : Dev nD) : Fin 3 → Nat :=
  let c4_i32_706 : BitVec 32 := 4#32
  let c1_i32_704 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.subi c1_i32_704 v2
  let v816 : BitVec 32 := Scalar.muli c4_i32_706 v814
  let c2_i32_707 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.muli c2_i32_707 v5
  let v818 : BitVec 32 := Scalar.addi v816 v817
  let c1_i32_705 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v815 : BitVec 32 := Scalar.subi c1_i32_705 v8
  let v819 : BitVec 32 := Scalar.addi v818 v815
  let c0_i32_726 : BitVec 32 := 0#32
  let c0_i32_727 : BitVec 32 := 0#32
  ![v819.toNat, 0, 0]
def k0_off33 (d0 : Dev nD) : Fin 3 → Nat :=
  let c4_i32_706 : BitVec 32 := 4#32
  let c1_i32_704 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.subi c1_i32_704 v2
  let v816 : BitVec 32 := Scalar.muli c4_i32_706 v814
  let c2_i32_707 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.muli c2_i32_707 v5
  let v818 : BitVec 32 := Scalar.addi v816 v817
  let c1_i32_705 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v815 : BitVec 32 := Scalar.subi c1_i32_705 v8
  let v819 : BitVec 32 := Scalar.addi v818 v815
  let c0_i32_736 : BitVec 32 := 0#32
  let c0_i32_737 : BitVec 32 := 0#32
  ![v819.toNat, 0, 0]
def k0_off34 (d0 : Dev nD) : Fin 3 → Nat :=
  let c4_i32_706 : BitVec 32 := 4#32
  let c1_i32_704 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.subi c1_i32_704 v2
  let v816 : BitVec 32 := Scalar.muli c4_i32_706 v814
  let c2_i32_707 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.muli c2_i32_707 v5
  let v818 : BitVec 32 := Scalar.addi v816 v817
  let c1_i32_705 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v815 : BitVec 32 := Scalar.subi c1_i32_705 v8
  let v819 : BitVec 32 := Scalar.addi v818 v815
  let c0_i32_746 : BitVec 32 := 0#32
  let c0_i32_747 : BitVec 32 := 0#32
  ![v819.toNat, 0, 0]
def k0_off35 (d0 : Dev nD) : Fin 3 → Nat :=
  let c4_i32_706 : BitVec 32 := 4#32
  let c1_i32_704 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.subi c1_i32_704 v2
  let v816 : BitVec 32 := Scalar.muli c4_i32_706 v814
  let c2_i32_707 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.muli c2_i32_707 v5
  let v818 : BitVec 32 := Scalar.addi v816 v817
  let c1_i32_705 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v815 : BitVec 32 := Scalar.subi c1_i32_705 v8
  let v819 : BitVec 32 := Scalar.addi v818 v815
  let c0_i32_756 : BitVec 32 := 0#32
  let c0_i32_757 : BitVec 32 := 0#32
  ![v819.toNat, 0, 0]
def k0_off36 (d0 : Dev nD) : Fin 3 → Nat :=
  let c4_i32_706 : BitVec 32 := 4#32
  let c1_i32_704 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v814 : BitVec 32 := Scalar.subi c1_i32_704 v2
  let v816 : BitVec 32 := Scalar.muli c4_i32_706 v814
  let c2_i32_707 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v817 : BitVec 32 := Scalar.muli c2_i32_707 v5
  let v818 : BitVec 32 := Scalar.addi v816 v817
  let c1_i32_705 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v815 : BitVec 32 := Scalar.subi c1_i32_705 v8
  let v819 : BitVec 32 := Scalar.addi v818 v815
  let c0_i32_766 : BitVec 32 := 0#32
  let c0_i32_767 : BitVec 32 := 0#32
  ![v819.toNat, 0, 0]
def k0_off37 (d0 : Dev nD) : Fin 3 → Nat :=
  let c4_i32_770 : BitVec 32 := 4#32
  let c1_i32_768 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v880 : BitVec 32 := Scalar.subi c1_i32_768 v2
  let v882 : BitVec 32 := Scalar.muli c4_i32_770 v880
  let c2_i32_771 : BitVec 32 := 2#32
  let c1_i32_769 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.subi c1_i32_769 v5
  let v883 : BitVec 32 := Scalar.muli c2_i32_771 v881
  let v884 : BitVec 32 := Scalar.addi v882 v883
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v885 : BitVec 32 := Scalar.addi v884 v8
  let c0_i32_780 : BitVec 32 := 0#32
  let c0_i32_781 : BitVec 32 := 0#32
  ![v885.toNat, 0, 0]
def k0_off38 (d0 : Dev nD) : Fin 3 → Nat :=
  let c4_i32_770 : BitVec 32 := 4#32
  let c1_i32_768 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v880 : BitVec 32 := Scalar.subi c1_i32_768 v2
  let v882 : BitVec 32 := Scalar.muli c4_i32_770 v880
  let c2_i32_771 : BitVec 32 := 2#32
  let c1_i32_769 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.subi c1_i32_769 v5
  let v883 : BitVec 32 := Scalar.muli c2_i32_771 v881
  let v884 : BitVec 32 := Scalar.addi v882 v883
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v885 : BitVec 32 := Scalar.addi v884 v8
  let c0_i32_790 : BitVec 32 := 0#32
  let c0_i32_791 : BitVec 32 := 0#32
  ![v885.toNat, 0, 0]
def k0_off39 (d0 : Dev nD) : Fin 3 → Nat :=
  let c4_i32_770 : BitVec 32 := 4#32
  let c1_i32_768 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v880 : BitVec 32 := Scalar.subi c1_i32_768 v2
  let v882 : BitVec 32 := Scalar.muli c4_i32_770 v880
  let c2_i32_771 : BitVec 32 := 2#32
  let c1_i32_769 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.subi c1_i32_769 v5
  let v883 : BitVec 32 := Scalar.muli c2_i32_771 v881
  let v884 : BitVec 32 := Scalar.addi v882 v883
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v885 : BitVec 32 := Scalar.addi v884 v8
  let c0_i32_800 : BitVec 32 := 0#32
  let c0_i32_801 : BitVec 32 := 0#32
  ![v885.toNat, 0, 0]
def k0_off40 (d0 : Dev nD) : Fin 3 → Nat :=
  let c4_i32_770 : BitVec 32 := 4#32
  let c1_i32_768 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v880 : BitVec 32 := Scalar.subi c1_i32_768 v2
  let v882 : BitVec 32 := Scalar.muli c4_i32_770 v880
  let c2_i32_771 : BitVec 32 := 2#32
  let c1_i32_769 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.subi c1_i32_769 v5
  let v883 : BitVec 32 := Scalar.muli c2_i32_771 v881
  let v884 : BitVec 32 := Scalar.addi v882 v883
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v885 : BitVec 32 := Scalar.addi v884 v8
  let c0_i32_810 : BitVec 32 := 0#32
  let c0_i32_811 : BitVec 32 := 0#32
  ![v885.toNat, 0, 0]
def k0_off41 (d0 : Dev nD) : Fin 3 → Nat :=
  let c4_i32_770 : BitVec 32 := 4#32
  let c1_i32_768 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v880 : BitVec 32 := Scalar.subi c1_i32_768 v2
  let v882 : BitVec 32 := Scalar.muli c4_i32_770 v880
  let c2_i32_771 : BitVec 32 := 2#32
  let c1_i32_769 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.subi c1_i32_769 v5
  let v883 : BitVec 32 := Scalar.muli c2_i32_771 v881
  let v884 : BitVec 32 := Scalar.addi v882 v883
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v885 : BitVec 32 := Scalar.addi v884 v8
  let c0_i32_820 : BitVec 32 := 0#32
  let c0_i32_821 : BitVec 32 := 0#32
  ![v885.toNat, 0, 0]
def k0_off42 (d0 : Dev nD) : Fin 3 → Nat :=
  let c4_i32_770 : BitVec 32 := 4#32
  let c1_i32_768 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v880 : BitVec 32 := Scalar.subi c1_i32_768 v2
  let v882 : BitVec 32 := Scalar.muli c4_i32_770 v880
  let c2_i32_771 : BitVec 32 := 2#32
  let c1_i32_769 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v881 : BitVec 32 := Scalar.subi c1_i32_769 v5
  let v883 : BitVec 32 := Scalar.muli c2_i32_771 v881
  let v884 : BitVec 32 := Scalar.addi v882 v883
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v885 : BitVec 32 := Scalar.addi v884 v8
  let c0_i32_830 : BitVec 32 := 0#32
  let c0_i32_831 : BitVec 32 := 0#32
  ![v885.toNat, 0, 0]
def k0_off43 (d0 : Dev nD) : Fin 3 → Nat :=
  let c4_i32_835 : BitVec 32 := 4#32
  let c1_i32_832 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v946 : BitVec 32 := Scalar.subi c1_i32_832 v2
  let v949 : BitVec 32 := Scalar.muli c4_i32_835 v946
  let c2_i32_836 : BitVec 32 := 2#32
  let c1_i32_833 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v947 : BitVec 32 := Scalar.subi c1_i32_833 v5
  let v950 : BitVec 32 := Scalar.muli c2_i32_836 v947
  let v951 : BitVec 32 := Scalar.addi v949 v950
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v948 : BitVec 32 := Scalar.subi c1_i32_834 v8
  let v952 : BitVec 32 := Scalar.addi v951 v948
  let c0_i32_845 : BitVec 32 := 0#32
  let c0_i32_846 : BitVec 32 := 0#32
  ![v952.toNat, 0, 0]
def k0_off44 (d0 : Dev nD) : Fin 3 → Nat :=
  let c4_i32_835 : BitVec 32 := 4#32
  let c1_i32_832 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v946 : BitVec 32 := Scalar.subi c1_i32_832 v2
  let v949 : BitVec 32 := Scalar.muli c4_i32_835 v946
  let c2_i32_836 : BitVec 32 := 2#32
  let c1_i32_833 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v947 : BitVec 32 := Scalar.subi c1_i32_833 v5
  let v950 : BitVec 32 := Scalar.muli c2_i32_836 v947
  let v951 : BitVec 32 := Scalar.addi v949 v950
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v948 : BitVec 32 := Scalar.subi c1_i32_834 v8
  let v952 : BitVec 32 := Scalar.addi v951 v948
  let c0_i32_855 : BitVec 32 := 0#32
  let c0_i32_856 : BitVec 32 := 0#32
  ![v952.toNat, 0, 0]
def k0_off45 (d0 : Dev nD) : Fin 3 → Nat :=
  let c4_i32_835 : BitVec 32 := 4#32
  let c1_i32_832 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v946 : BitVec 32 := Scalar.subi c1_i32_832 v2
  let v949 : BitVec 32 := Scalar.muli c4_i32_835 v946
  let c2_i32_836 : BitVec 32 := 2#32
  let c1_i32_833 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v947 : BitVec 32 := Scalar.subi c1_i32_833 v5
  let v950 : BitVec 32 := Scalar.muli c2_i32_836 v947
  let v951 : BitVec 32 := Scalar.addi v949 v950
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v948 : BitVec 32 := Scalar.subi c1_i32_834 v8
  let v952 : BitVec 32 := Scalar.addi v951 v948
  let c0_i32_865 : BitVec 32 := 0#32
  let c0_i32_866 : BitVec 32 := 0#32
  ![v952.toNat, 0, 0]
def k0_off46 (d0 : Dev nD) : Fin 3 → Nat :=
  let c4_i32_835 : BitVec 32 := 4#32
  let c1_i32_832 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v946 : BitVec 32 := Scalar.subi c1_i32_832 v2
  let v949 : BitVec 32 := Scalar.muli c4_i32_835 v946
  let c2_i32_836 : BitVec 32 := 2#32
  let c1_i32_833 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v947 : BitVec 32 := Scalar.subi c1_i32_833 v5
  let v950 : BitVec 32 := Scalar.muli c2_i32_836 v947
  let v951 : BitVec 32 := Scalar.addi v949 v950
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v948 : BitVec 32 := Scalar.subi c1_i32_834 v8
  let v952 : BitVec 32 := Scalar.addi v951 v948
  let c0_i32_875 : BitVec 32 := 0#32
  let c0_i32_876 : BitVec 32 := 0#32
  ![v952.toNat, 0, 0]
def k0_off47 (d0 : Dev nD) : Fin 3 → Nat :=
  let c4_i32_835 : BitVec 32 := 4#32
  let c1_i32_832 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v946 : BitVec 32 := Scalar.subi c1_i32_832 v2
  let v949 : BitVec 32 := Scalar.muli c4_i32_835 v946
  let c2_i32_836 : BitVec 32 := 2#32
  let c1_i32_833 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v947 : BitVec 32 := Scalar.subi c1_i32_833 v5
  let v950 : BitVec 32 := Scalar.muli c2_i32_836 v947
  let v951 : BitVec 32 := Scalar.addi v949 v950
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v948 : BitVec 32 := Scalar.subi c1_i32_834 v8
  let v952 : BitVec 32 := Scalar.addi v951 v948
  let c0_i32_885 : BitVec 32 := 0#32
  let c0_i32_886 : BitVec 32 := 0#32
  ![v952.toNat, 0, 0]
def k0_off48 (d0 : Dev nD) : Fin 3 → Nat :=
  let c4_i32_835 : BitVec 32 := 4#32
  let c1_i32_832 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v946 : BitVec 32 := Scalar.subi c1_i32_832 v2
  let v949 : BitVec 32 := Scalar.muli c4_i32_835 v946
  let c2_i32_836 : BitVec 32 := 2#32
  let c1_i32_833 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v947 : BitVec 32 := Scalar.subi c1_i32_833 v5
  let v950 : BitVec 32 := Scalar.muli c2_i32_836 v947
  let v951 : BitVec 32 := Scalar.addi v949 v950
  let c1_i32_834 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v948 : BitVec 32 := Scalar.subi c1_i32_834 v8
  let v952 : BitVec 32 := Scalar.addi v951 v948
  let c0_i32_895 : BitVec 32 := 0#32
  let c0_i32_896 : BitVec 32 := 0#32
  ![v952.toNat, 0, 0]
-- ==== WeightsReference.lean ====
abbrev S1024x2816 : Shape := ⟨2, ![1024, 2816]⟩
abbrev S1024x1024 : Shape := ⟨2, ![1024, 1024]⟩
abbrev S1024x5632 : Shape := ⟨2, ![1024, 5632]⟩
abbrev S2816x1024 : Shape := ⟨2, ![2816, 1024]⟩
abbrev S31x256 : Shape := ⟨2, ![31, 256]⟩
abbrev S3x5632 : Shape := ⟨2, ![3, 5632]⟩
abbrev S1024x8x352 : Shape := ⟨3, ![1024, 8, 352]⟩
abbrev S8x1024x352 : Shape := ⟨3, ![8, 1024, 352]⟩
abbrev S8x128x1024 : Shape := ⟨3, ![8, 128, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S31x8x32 : Shape := ⟨3, ![31, 8, 32]⟩
abbrev S8x31x32 : Shape := ⟨3, ![8, 31, 32]⟩
abbrev S3x8x704 : Shape := ⟨3, ![3, 8, 704]⟩
abbrev S8x3x704 : Shape := ⟨3, ![8, 3, 704]⟩

abbrev nBuf : Space → Nat
  | .hbm => 16
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S1024x1024, .bf16⟩
  | .hbm, ⟨2, _⟩ => ⟨S1024x5632, .bf16⟩
  | .hbm, ⟨3, _⟩ => ⟨S2816x1024, .bf16⟩
  | .hbm, ⟨4, _⟩ => ⟨S31x256, .f32⟩
  | .hbm, ⟨5, _⟩ => ⟨S3x5632, .f32⟩
  | .hbm, ⟨6, _⟩ => ⟨S1024x8x352, .bf16⟩
  | .hbm, ⟨7, _⟩ => ⟨S8x1024x352, .bf16⟩
  | .hbm, ⟨8, _⟩ => ⟨S8x128x1024, .bf16⟩
  | .hbm, ⟨9, _⟩ => ⟨S1024x8x704, .bf16⟩
  | .hbm, ⟨10, _⟩ => ⟨S8x1024x704, .bf16⟩
  | .hbm, ⟨11, _⟩ => ⟨S8x352x1024, .bf16⟩
  | .hbm, ⟨12, _⟩ => ⟨S31x8x32, .f32⟩
  | .hbm, ⟨13, _⟩ => ⟨S8x31x32, .f32⟩
  | .hbm, ⟨14, _⟩ => ⟨S3x8x704, .f32⟩
  | .hbm, ⟨15, _⟩ => ⟨S8x3x704, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== SumIn.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInReferenceIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S_, .f32⟩
  | .hbm, ⟨2, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .local _ .vmem, ⟨0, _⟩ => ⟨S8x128x1024, .f32⟩
  | .local _ .vmem, ⟨1, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutReferenceIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S_, .f32⟩
  | .hbm, ⟨2, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumUp.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .f32⟩
  | .hbm, ⟨1, _⟩ => ⟨S704x1024, .f32⟩
  | .local _ .vmem, ⟨0, _⟩ => ⟨S8x176x1024, .f32⟩
  | .local _ .vmem, ⟨1, _⟩ => ⟨S8x176x1024, .f32⟩
  | .local _ .vmem, ⟨2, _⟩ => ⟨S176x1024, .f32⟩
  | .local _ .vmem, ⟨3, _⟩ => ⟨S176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpReferenceIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S_, .f32⟩
  | .hbm, ⟨2, _⟩ => ⟨S704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSmall.lean ====
abbrev S8x312x128 : Shape := ⟨3, ![8, 312, 128]⟩
abbrev S312x128 : Shape := ⟨2, ![312, 128]⟩
abbrev S1x312x128 : Shape := ⟨3, ![1, 312, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x312x128, .f32⟩
  | .hbm, ⟨1, _⟩ => ⟨S312x128, .f32⟩
  | .local _ .vmem, ⟨0, _⟩ => ⟨S8x312x128, .f32⟩
  | .local _ .vmem, ⟨1, _⟩ => ⟨S312x128, .f32⟩
  | _, _ => ⟨S8x312x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x312x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S312x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallReferenceIdeal.lean ====
abbrev S8x312x128 : Shape := ⟨3, ![8, 312, 128]⟩
abbrev S_ : Shape := ⟨0, ![]⟩
abbrev S312x128 : Shape := ⟨2, ![312, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x312x128, .f32⟩
  | .hbm, ⟨1, _⟩ => ⟨S_, .f32⟩
  | .hbm, ⟨2, _⟩ => ⟨S312x128, .f32⟩
  | _, _ => ⟨S8x312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwIn.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInReferenceIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutReferenceIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwUp.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwUpReferenceIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwDown.lean ====
abbrev S352x1024 : Shape := ⟨2, ![352, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownReferenceIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwConv.lean ====
abbrev S31x32 : Shape := ⟨2, ![31, 32]⟩

abbrev nBuf : Space → Nat
  | .hbm => 7
  | .vmem => 7
  | .smem => 0
  | _ => 0

abbrev bufTy : (tb : Table) → Fin (tcTables nBuf tb) → BufTy
  | .hbm, ⟨0, _⟩ => ⟨S31x32, .f32⟩
  | .hbm, ⟨1, _⟩ => ⟨S31x32, .f32⟩
  | .hbm, ⟨2, _⟩ => ⟨S31x32, .f32⟩
  | .hbm, ⟨3, _⟩ => ⟨S31x32, .f32⟩
  | .hbm, ⟨4, _⟩ => ⟨S31x32, .f32⟩
  | .hbm, ⟨5, _⟩ => ⟨S31x32, .f32⟩
  | .hbm, ⟨6, _⟩ => ⟨S31x32, .f32⟩
  | .local _ .vmem, ⟨0, _⟩ => ⟨S31x32, .f32⟩
  | .local _ .vmem, ⟨1, _⟩ => ⟨S31x32, .f32⟩
  | .local _ .vmem, ⟨2, _⟩ => ⟨S31x32, .f32⟩
  | .local _ .vmem, ⟨3, _⟩ => ⟨S31x32, .f32⟩
  | .local _ .vmem, ⟨4, _⟩ => ⟨S31x32, .f32⟩
  | .local _ .vmem, ⟨5, _⟩ => ⟨S31x32, .f32⟩
  | .local _ .vmem, ⟨6, _⟩ => ⟨S31x32, .f32⟩
  | _, _ => ⟨S31x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvReferenceIdeal.lean ====
abbrev S31x32 : Shape := ⟨2, ![31, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x32, .f32⟩
  | .hbm, ⟨1, _⟩ => ⟨S31x32, .f32⟩
  | .hbm, ⟨2, _⟩ => ⟨S31x32, .f32⟩
  | .hbm, ⟨3, _⟩ => ⟨S31x32, .f32⟩
  | .hbm, ⟨4, _⟩ => ⟨S_, .f32⟩
  | .hbm, ⟨5, _⟩ => ⟨S31x32, .f32⟩
  | .hbm, ⟨6, _⟩ => ⟨S31x32, .f32⟩
  | .hbm, ⟨7, _⟩ => ⟨S_, .f32⟩
  | .hbm, ⟨8, _⟩ => ⟨S31x32, .f32⟩
  | .hbm, ⟨9, _⟩ => ⟨S31x32, .f32⟩
  | .hbm, ⟨10, _⟩ => ⟨S31x32, .f32⟩
  | .hbm, ⟨11, _⟩ => ⟨S_, .f32⟩
  | .hbm, ⟨12, _⟩ => ⟨S31x32, .f32⟩
  | .hbm, ⟨13, _⟩ => ⟨S31x32, .f32⟩
  | .hbm, ⟨14, _⟩ => ⟨S31x32, .f32⟩
  | .hbm, ⟨15, _⟩ => ⟨S_, .f32⟩
  | .hbm, ⟨16, _⟩ => ⟨S31x32, .f32⟩
  | .hbm, ⟨17, _⟩ => ⟨S31x32, .f32⟩
  | .hbm, ⟨18, _⟩ => ⟨S31x32, .f32⟩
  | .hbm, ⟨19, _⟩ => ⟨S_, .f32⟩
  | .hbm, ⟨20, _⟩ => ⟨S31x32, .f32⟩
  | .hbm, ⟨21, _⟩ => ⟨S31x32, .f32⟩
  | .hbm, ⟨22, _⟩ => ⟨S_, .f32⟩
  | .hbm, ⟨23, _⟩ => ⟨S31x32, .f32⟩
  | .hbm, ⟨24, _⟩ => ⟨S31x32, .f32⟩
  | .hbm, ⟨25, _⟩ => ⟨S31x32, .f32⟩
  | .hbm, ⟨26, _⟩ => ⟨S_, .f32⟩
  | .hbm, ⟨27, _⟩ => ⟨S31x32, .f32⟩
  | .hbm, ⟨28, _⟩ => ⟨S31x32, .f32⟩
  | .hbm, ⟨29, _⟩ => ⟨S31x32, .f32⟩
  | .hbm, ⟨30, _⟩ => ⟨S_, .f32⟩
  | .hbm, ⟨31, _⟩ => ⟨S31x32, .f32⟩
  | .hbm, ⟨32, _⟩ => ⟨S31x32, .f32⟩
  | .hbm, ⟨33, _⟩ => ⟨S31x32, .f32⟩
  | .hbm, ⟨34, _⟩ => ⟨S_, .f32⟩
  | .hbm, ⟨35, _⟩ => ⟨S31x32, .f32⟩
  | .hbm, ⟨36, _⟩ => ⟨S31x32, .f32⟩
  | _, _ => ⟨S31x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFfnConv.lean ====
abbrev S3x704 : Shape := ⟨2, ![3, 704]⟩

abbrev nBuf : Space → Nat
  | .hbm => 7
  | .vmem => 7
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .local _ .vmem, ⟨0, _⟩ => ⟨S3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwFfnConvReferenceIdeal.lean ====
abbrev S3x704 : Shape := ⟨2, ![3, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S3x704, .f32⟩
  | .hbm, ⟨7, _⟩ => ⟨S_, .f32⟩
  | .hbm, ⟨8, _⟩ => ⟨S3x704, .f32⟩
  | .hbm, ⟨9, _⟩ => ⟨S3x704, .f32⟩
  | .hbm, ⟨10, _⟩ => ⟨S3x704, .f32⟩
  | .hbm, ⟨11, _⟩ => ⟨S_, .f32⟩
  | .hbm, ⟨12, _⟩ => ⟨S3x704, .f32⟩
  | .hbm, ⟨13, _⟩ => ⟨S3x704, .f32⟩
  | .hbm, ⟨14, _⟩ => ⟨S3x704, .f32⟩
  | .hbm, ⟨15, _⟩ => ⟨S_, .f32⟩
  | .hbm, ⟨16, _⟩ => ⟨S3x704, .f32⟩
  | .hbm, ⟨17, _⟩ => ⟨S3x704, .f32⟩
  | .hbm, ⟨18, _⟩ => ⟨S3x704, .f32⟩
  | .hbm, ⟨19, _⟩ => ⟨S_, .f32⟩
  | .hbm, ⟨20, _⟩ => ⟨S3x704, .f32⟩
  | .hbm, ⟨21, _⟩ => ⟨S3x704, .f32⟩
  | .hbm, ⟨22, _⟩ => ⟨S_, .f32⟩
  | .hbm, ⟨23, _⟩ => ⟨S3x704, .f32⟩
  | .hbm, ⟨24, _⟩ => ⟨S3x704, .f32⟩
  | .hbm, ⟨25, _⟩ => ⟨S3x704, .f32⟩
  | .hbm, ⟨26, _⟩ => ⟨S_, .f32⟩
  | .hbm, ⟨27, _⟩ => ⟨S3x704, .f32⟩
  | .hbm, ⟨28, _⟩ => ⟨S3x704, .f32⟩
  | .hbm, ⟨29, _⟩ => ⟨S3x704, .f32⟩
  | .hbm, ⟨30, _⟩ => ⟨S_, .f32⟩
  | .hbm, ⟨31, _⟩ => ⟨S3x704, .f32⟩
  | .hbm, ⟨32, _⟩ => ⟨S3x704, .f32⟩
  | .hbm, ⟨33, _⟩ => ⟨S3x704, .f32⟩
  | .hbm, ⟨34, _⟩ => ⟨S_, .f32⟩
  | .hbm, ⟨35, _⟩ => ⟨S3x704, .f32⟩
  | .hbm, ⟨36, _⟩ => ⟨S3x704, .f32⟩
  | _, _ => ⟨S3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S120x128 : Shape := ⟨2, ![120, 128]⟩

abbrev nBuf : Space → Nat
  | .hbm => 7
  | .vmem => 7
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .local _ .vmem, ⟨0, _⟩ => ⟨S120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | _, _ => ⟨S120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallReferenceIdeal.lean ====
abbrev S120x128 : Shape := ⟨2, ![120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S120x128, .f32⟩
  | .hbm, ⟨6, _⟩ => ⟨S120x128, .f32⟩
  | .hbm, ⟨7, _⟩ => ⟨S_, .f32⟩
  | .hbm, ⟨8, _⟩ => ⟨S120x128, .f32⟩
  | .hbm, ⟨9, _⟩ => ⟨S120x128, .f32⟩
  | .hbm, ⟨10, _⟩ => ⟨S120x128, .f32⟩
  | .hbm, ⟨11, _⟩ => ⟨S_, .f32⟩
  | .hbm, ⟨12, _⟩ => ⟨S120x128, .f32⟩
  | .hbm, ⟨13, _⟩ => ⟨S120x128, .f32⟩
  | .hbm, ⟨14, _⟩ => ⟨S120x128, .f32⟩
  | .hbm, ⟨15, _⟩ => ⟨S_, .f32⟩
  | .hbm, ⟨16, _⟩ => ⟨S120x128, .f32⟩
  | .hbm, ⟨17, _⟩ => ⟨S120x128, .f32⟩
  | .hbm, ⟨18, _⟩ => ⟨S120x128, .f32⟩
  | .hbm, ⟨19, _⟩ => ⟨S_, .f32⟩
  | .hbm, ⟨20, _⟩ => ⟨S120x128, .f32⟩
  | .hbm, ⟨21, _⟩ => ⟨S120x128, .f32⟩
  | .hbm, ⟨22, _⟩ => ⟨S_, .f32⟩
  | .hbm, ⟨23, _⟩ => ⟨S120x128, .f32⟩
  | .hbm, ⟨24, _⟩ => ⟨S120x128, .f32⟩
  | .hbm, ⟨25, _⟩ => ⟨S120x128, .f32⟩
  | .hbm, ⟨26, _⟩ => ⟨S_, .f32⟩
  | .hbm, ⟨27, _⟩ => ⟨S120x128, .f32⟩
  | .hbm, ⟨28, _⟩ => ⟨S120x128, .f32⟩
  | .hbm, ⟨29, _⟩ => ⟨S120x128, .f32⟩
  | .hbm, ⟨30, _⟩ => ⟨S_, .f32⟩
  | .hbm, ⟨31, _⟩ => ⟨S120x128, .f32⟩
  | .hbm, ⟨32, _⟩ => ⟨S120x128, .f32⟩
  | .hbm, ⟨33, _⟩ => ⟨S120x128, .f32⟩
  | .hbm, ⟨34, _⟩ => ⟨S_, .f32⟩
  | .hbm, ⟨35, _⟩ => ⟨S120x128, .f32⟩
  | .hbm, ⟨36, _⟩ => ⟨S120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S4096x2816 : Shape := ⟨2, ![4096, 2816]⟩
abbrev S1024x2816 : Shape := ⟨2, ![1024, 2816]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GradXReferenceIdeal.lean ====
abbrev S4096x2816 : Shape := ⟨2, ![4096, 2816]⟩
abbrev S1024x2816 : Shape := ⟨2, ![1024, 2816]⟩
abbrev S4096x1024 : Shape := ⟨2, ![4096, 1024]⟩
abbrev S2816x1024 : Shape := ⟨2, ![2816, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GradIn.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .f32⟩
  | .local _ .vmem, ⟨3, _⟩ => ⟨S512x1024, .f32⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInReferenceIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutReferenceIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1, .f32⟩
  | .hbm, ⟨10, _⟩ => ⟨S1x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1, .f32⟩
  | .local _ .vmem, ⟨14, _⟩ => ⟨S1x1024, .f32⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S1x1, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== ProjQkv.lean ====
abbrev S4096x1024 : Shape := ⟨2, ![4096, 1024]⟩
abbrev S1024x2816 : Shape := ⟨2, ![1024, 2816]⟩
abbrev S1x2816 : Shape := ⟨2, ![1, 2816]⟩
abbrev S4096x2304 : Shape := ⟨2, ![4096, 2304]⟩
abbrev S512x1024 : Shape := ⟨2, ![512, 1024]⟩
abbrev S1024x768 : Shape := ⟨2, ![1024, 768]⟩
abbrev S1x768 : Shape := ⟨2, ![1, 768]⟩
abbrev S512x768 : Shape := ⟨2, ![512, 768]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2816, .bf16⟩
  | .hbm, ⟨2, _⟩ => ⟨S1x2816, .f32⟩
  | .hbm, ⟨3, _⟩ => ⟨S4096x2304, .bf16⟩
  | .local _ .vmem, ⟨0, _⟩ => ⟨S512x1024, .f32⟩
  | .local _ .vmem, ⟨1, _⟩ => ⟨S512x1024, .f32⟩
  | .local _ .vmem, ⟨2, _⟩ => ⟨S1024x768, .bf16⟩
  | .local _ .vmem, ⟨3, _⟩ => ⟨S1024x768, .bf16⟩
  | .local _ .vmem, ⟨4, _⟩ => ⟨S1x768, .f32⟩
  | .local _ .vmem, ⟨5, _⟩ => ⟨S1x768, .f32⟩
  | .local _ .vmem, ⟨6, _⟩ => ⟨S512x768, .bf16⟩
  | .local _ .vmem, ⟨7, _⟩ => ⟨S512x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQkvReferenceIdeal.lean ====
abbrev S4096x1024 : Shape := ⟨2, ![4096, 1024]⟩
abbrev S1024x2816 : Shape := ⟨2, ![1024, 2816]⟩
abbrev S1x2816 : Shape := ⟨2, ![1, 2816]⟩
abbrev S4096x2816 : Shape := ⟨2, ![4096, 2816]⟩
abbrev S4096x2304 : Shape := ⟨2, ![4096, 2304]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .bf16⟩
  | .hbm, ⟨2, _⟩ => ⟨S1x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2304, .f32⟩
  | .hbm, ⟨8, _⟩ => ⟨S4096x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjAg.lean ====
abbrev S4096x1024 : Shape := ⟨2, ![4096, 1024]⟩
abbrev S1024x2816 : Shape := ⟨2, ![1024, 2816]⟩
abbrev S1x2816 : Shape := ⟨2, ![1, 2816]⟩
abbrev S4096x512 : Shape := ⟨2, ![4096, 512]⟩
abbrev S512x1024 : Shape := ⟨2, ![512, 1024]⟩
abbrev S1024x256 : Shape := ⟨2, ![1024, 256]⟩
abbrev S1x256 : Shape := ⟨2, ![1, 256]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2816, .bf16⟩
  | .hbm, ⟨2, _⟩ => ⟨S1x2816, .f32⟩
  | .hbm, ⟨3, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S1024x256, .bf16⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjAgReferenceIdeal.lean ====
abbrev S4096x1024 : Shape := ⟨2, ![4096, 1024]⟩
abbrev S1024x2816 : Shape := ⟨2, ![1024, 2816]⟩
abbrev S1x2816 : Shape := ⟨2, ![1, 2816]⟩
abbrev S4096x2816 : Shape := ⟨2, ![4096, 2816]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .bf16⟩
  | .hbm, ⟨2, _⟩ => ⟨S1x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S4096x1024 : Shape := ⟨2, ![4096, 1024]⟩
abbrev S1024x1024 : Shape := ⟨2, ![1024, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormReferenceIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== DMixed.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DMixedReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradUp.lean ====
abbrev S4096x5632 : Shape := ⟨2, ![4096, 5632]⟩
abbrev S4096x1024 : Shape := ⟨2, ![4096, 1024]⟩
abbrev S2816x1024 : Shape := ⟨2, ![2816, 1024]⟩
abbrev S1024x512 : Shape := ⟨2, ![1024, 512]⟩
abbrev S1024x1024 : Shape := ⟨2, ![1024, 1024]⟩
abbrev S256x1024 : Shape := ⟨2, ![256, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S2816x1024, .f32⟩
  | .hbm, ⟨3, _⟩ => ⟨S2816x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradUpReferenceIdeal.lean ====
abbrev S4096x5632 : Shape := ⟨2, ![4096, 5632]⟩
abbrev S4096x1024 : Shape := ⟨2, ![4096, 1024]⟩
abbrev S5632x4096 : Shape := ⟨2, ![5632, 4096]⟩
abbrev S5632x1024 : Shape := ⟨2, ![5632, 1024]⟩
abbrev S11x2x256x1024 : Shape := ⟨4, ![11, 2, 256, 1024]⟩
abbrev S11x1x256x1024 : Shape := ⟨4, ![11, 1, 256, 1024]⟩
abbrev S11x256x1024 : Shape := ⟨3, ![11, 256, 1024]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x4096, .bf16⟩
  | .hbm, ⟨3, _⟩ => ⟨S5632x1024, .f32⟩
  | .hbm, ⟨4, _⟩ => ⟨S11x2x256x1024, .f32⟩
  | .hbm, ⟨5, _⟩ => ⟨S11x1x256x1024, .f32⟩
  | .hbm, ⟨6, _⟩ => ⟨S11x256x1024, .f32⟩
  | .hbm, ⟨7, _⟩ => ⟨S2816x1024, .f32⟩
  | .hbm, ⟨8, _⟩ => ⟨S11x1x256x1024, .f32⟩
  | .hbm, ⟨9, _⟩ => ⟨S11x256x1024, .f32⟩
  | .hbm, ⟨10, _⟩ => ⟨S2816x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Mix.lean ====
abbrev S4096x1024 : Shape := ⟨2, ![4096, 1024]⟩
abbrev S4096x768 : Shape := ⟨2, ![4096, 768]⟩
abbrev S4096x256 : Shape := ⟨2, ![4096, 256]⟩
abbrev S1x768 : Shape := ⟨2, ![1, 768]⟩
abbrev S1x256 : Shape := ⟨2, ![1, 256]⟩
abbrev S512x1024 : Shape := ⟨2, ![512, 1024]⟩
abbrev S512x768 : Shape := ⟨2, ![512, 768]⟩
abbrev S512x256 : Shape := ⟨2, ![512, 256]⟩
abbrev S512 : Shape := ⟨1, ![512]⟩
abbrev S512x1 : Shape := ⟨2, ![512, 1]⟩
abbrev S768 : Shape := ⟨1, ![768]⟩
abbrev S256 : Shape := ⟨1, ![256]⟩

abbrev nBuf : Space → Nat
  | .hbm => 14
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S4096x256, .f32⟩
  | .hbm, ⟨3, _⟩ => ⟨S1x768, .f32⟩
  | .hbm, ⟨4, _⟩ => ⟨S1x256, .f32⟩
  | .hbm, ⟨5, _⟩ => ⟨S1x256, .f32⟩
  | .hbm, ⟨6, _⟩ => ⟨S1x256, .f32⟩
  | .hbm, ⟨7, _⟩ => ⟨S4096x768, .f32⟩
  | .hbm, ⟨8, _⟩ => ⟨S4096x256, .f32⟩
  | .hbm, ⟨9, _⟩ => ⟨S1x768, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S512x768, .f32⟩
  | .local _ .vmem, ⟨3, _⟩ => ⟨S512x768, .f32⟩
  | .local _ .vmem, ⟨4, _⟩ => ⟨S512x256, .f32⟩
  | .local _ .vmem, ⟨5, _⟩ => ⟨S512x256, .f32⟩
  | .local _ .vmem, ⟨6, _⟩ => ⟨S1x768, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x768, .f32⟩
  | .local _ .vmem, ⟨11, _⟩ => ⟨S512x768, .f32⟩
  | .local _ .vmem, ⟨12, _⟩ => ⟨S512x256, .f32⟩
  | .local _ .vmem, ⟨13, _⟩ => ⟨S512x256, .f32⟩
  | .local _ .vmem, ⟨14, _⟩ => ⟨S1x768, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixReferenceIdeal.lean ====
abbrev S4096x1024 : Shape := ⟨2, ![4096, 1024]⟩
abbrev S4096x768 : Shape := ⟨2, ![4096, 768]⟩
abbrev S4096x256 : Shape := ⟨2, ![4096, 256]⟩
abbrev S1x768 : Shape := ⟨2, ![1, 768]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S768 : Shape := ⟨1, ![768]⟩
abbrev S256 : Shape := ⟨1, ![256]⟩

abbrev nBuf : Space → Nat
  | .hbm => 156
  | .vmem => 0
  | .smem => 0
  | _ => 0

abbrev hbmTy0_0 (i : Nat) : BufTy := match i % 128 with
  | 0 => ⟨S4096x1024, .f32⟩
  | 1 => ⟨S4096x768, .f32⟩
  | 2 => ⟨S4096x256, .f32⟩
  | 3 => ⟨S1x768, .f32⟩
  | 4 => ⟨S1x256, .f32⟩
  | 5 => ⟨S1x256, .f32⟩
  | 6 => ⟨S1x256, .f32⟩
  | 7 => ⟨S4096x768, .f32⟩
  | 8 => ⟨S4096x768, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x768, .f32⟩
  | 20 => ⟨S4096x768, .f32⟩
  | 21 => ⟨S4096x768, .f32⟩
  | 22 => ⟨S_, .f32⟩
  | 23 => ⟨S768, .f32⟩
  | 24 => ⟨S1x768, .f32⟩
  | 25 => ⟨S4096x768, .f32⟩
  | 26 => ⟨S4096x768, .f32⟩
  | 27 => ⟨S4096x768, .f32⟩
  | 28 => ⟨S4096x768, .f32⟩
  | 29 => ⟨S4096x1, .f32⟩
  | 30 => ⟨S4096x1, .f32⟩
  | 31 => ⟨S4096x768, .f32⟩
  | 32 => ⟨S4096x768, .f32⟩
  | 33 => ⟨S4096x768, .f32⟩
  | 34 => ⟨S_, .f32⟩
  | 35 => ⟨S4096, .f32⟩
  | 36 => ⟨S4096x1, .f32⟩
  | 37 => ⟨S_, .f32⟩
  | 38 => ⟨S4096x1, .f32⟩
  | 39 => ⟨S4096x1, .f32⟩
  | 40 => ⟨S4096x768, .f32⟩
  | 41 => ⟨S4096x768, .f32⟩
  | 42 => ⟨S4096x768, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x256, .f32⟩
  | 50 => ⟨S4096x256, .f32⟩
  | 51 => ⟨S4096x256, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x256, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S4096x256, .f32⟩
  | 69 => ⟨S4096x256, .f32⟩
  | 70 => ⟨S4096x256, .f32⟩
  | 71 => ⟨S4096x256, .f32⟩
  | 72 => ⟨S_, .f32⟩
  | 73 => ⟨S4096x256, .f32⟩
  | 74 => ⟨S4096x256, .f32⟩
  | 75 => ⟨S_, .f32⟩
  | 76 => ⟨S4096x256, .f32⟩
  | 77 => ⟨S4096x256, .f32⟩
  | 78 => ⟨S4096x256, .f32⟩
  | 79 => ⟨S4096x256, .f32⟩
  | 80 => ⟨S4096x256, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1, .f32⟩
  | 91 => ⟨S4096x256, .f32⟩
  | 92 => ⟨S4096x256, .f32⟩
  | 93 => ⟨S4096x256, .f32⟩
  | 94 => ⟨S_, .f32⟩
  | 95 => ⟨S256, .f32⟩
  | 96 => ⟨S1x256, .f32⟩
  | 97 => ⟨S4096x256, .f32⟩
  | 98 => ⟨S4096x256, .f32⟩
  | 99 => ⟨S4096x256, .f32⟩
  | 100 => ⟨S4096x256, .f32⟩
  | 101 => ⟨S4096x1, .f32⟩
  | 102 => ⟨S4096x1, .f32⟩
  | 103 => ⟨S4096x256, .f32⟩
  | 104 => ⟨S4096x256, .f32⟩
  | 105 => ⟨S4096x256, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S4096x256, .f32⟩
  | 113 => ⟨S4096x256, .f32⟩
  | 114 => ⟨S4096x256, .f32⟩
  | 115 => ⟨S4096x256, .f32⟩
  | 116 => ⟨S_, .f32⟩
  | 117 => ⟨S4096x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S4096x256, .f32⟩
  | 124 => ⟨S4096x256, .f32⟩
  | 125 => ⟨S4096x256, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x256, .f32⟩
  | 5 => ⟨S4096x256, .f32⟩
  | 6 => ⟨S4096x256, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x256, .f32⟩
  | 14 => ⟨S4096x256, .f32⟩
  | 15 => ⟨S4096x256, .f32⟩
  | 16 => ⟨S4096x256, .f32⟩
  | 17 => ⟨S4096x256, .f32⟩
  | 18 => ⟨S4096x256, .f32⟩
  | 19 => ⟨S_, .f32⟩
  | 20 => ⟨S256, .f32⟩
  | 21 => ⟨S1x256, .f32⟩
  | 22 => ⟨S_, .f32⟩
  | 23 => ⟨S256, .f32⟩
  | 24 => ⟨S1x256, .f32⟩
  | 25 => ⟨S_, .f32⟩
  | 26 => ⟨S256, .f32⟩
  | 27 => ⟨S1x256, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_19 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_20 : Ref sig .tc := ⟨.hbm, 126, rfl⟩
abbrev main_v98 : Ref sig .tc := ⟨.hbm, 127, rfl⟩
abbrev main_v99 : Ref sig .tc := ⟨.hbm, 128, rfl⟩
abbrev main_cst_21 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_22 : Ref sig .tc := ⟨.hbm, 135, rfl⟩
abbrev main_v105 : Ref sig .tc := ⟨.hbm, 136, rfl⟩
abbrev main_v106 : Ref sig .tc := ⟨.hbm, 137, rfl⟩
abbrev main_cst_23 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_24 : Ref sig .tc := ⟨.hbm, 147, rfl⟩
abbrev main_v115 : Ref sig .tc := ⟨.hbm, 148, rfl⟩
abbrev main_v116 : Ref sig .tc := ⟨.hbm, 149, rfl⟩
abbrev main_cst_25 : Ref sig .tc := ⟨.hbm, 150, rfl⟩
abbrev main_v117 : Ref sig .tc := ⟨.hbm, 151, rfl⟩
abbrev main_v118 : Ref sig .tc := ⟨.hbm, 152, rfl⟩
abbrev main_cst_26 : Ref sig .tc := ⟨.hbm, 153, rfl⟩
abbrev main_v119 : Ref sig .tc := ⟨.hbm, 154, rfl⟩
abbrev main_v120 : Ref sig .tc := ⟨.hbm, 155, rfl⟩

abbrev nD : Nat := 1
abbrev τ : Topo := Topo.v7x

variable {F : FTy → Type} [FloatOps F]
-- ==== NormBwd.lean ====
abbrev S4096x5632 : Shape := ⟨2, ![4096, 5632]⟩
abbrev S1024x5632 : Shape := ⟨2, ![1024, 5632]⟩
abbrev S4096x1024 : Shape := ⟨2, ![4096, 1024]⟩
abbrev S4096x1 : Shape := ⟨2, ![4096, 1]⟩
abbrev S1x1024 : Shape := ⟨2, ![1, 1024]⟩
abbrev S512x512 : Shape := ⟨2, ![512, 512]⟩
abbrev S1024x256 : Shape := ⟨2, ![1024, 256]⟩
abbrev S512x1024 : Shape := ⟨2, ![512, 1024]⟩
abbrev S512x1 : Shape := ⟨2, ![512, 1]⟩
abbrev S512x256 : Shape := ⟨2, ![512, 256]⟩
abbrev S1024 : Shape := ⟨1, ![1024]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S4096x1, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v15 : BitVec 1 := Scalar.cmpi .eq arg1 c10_i32
  let v16 : BitVec 32 := Scalar.extui v15
  let c0_i32_12 : BitVec 32 := 0#32
  let v17 : BitVec 1 := Scalar.cmpi .ne v16 c0_i32_12
  v17

def k0_cond3 (i : grid0.Coords) : BitVec 1 :=
  let arg0 : BitVec 32 := BitVec.ofNat 32 (i 0).val
  let c0_i32_13 : BitVec 32 := 0#32
  let v18 : BitVec 1 := Scalar.cmpi .eq arg0 c0_i32_13
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== NormBwdReferenceIdeal.lean ====
abbrev S4096x5632 : Shape := ⟨2, ![4096, 5632]⟩
abbrev S1024x5632 : Shape := ⟨2, ![1024, 5632]⟩
abbrev S4096x1024 : Shape := ⟨2, ![4096, 1024]⟩
abbrev S4096x1 : Shape := ⟨2, ![4096, 1]⟩
abbrev S1x1024 : Shape := ⟨2, ![1, 1024]⟩
abbrev S4096x11x2x256 : Shape := ⟨4, ![4096, 11, 2, 256]⟩
abbrev S4096x11x1x256 : Shape := ⟨4, ![4096, 11, 1, 256]⟩
abbrev S4096x11x256 : Shape := ⟨3, ![4096, 11, 256]⟩
abbrev S4096x2816 : Shape := ⟨2, ![4096, 2816]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S4096x1, .f32⟩
  | .hbm, ⟨5, _⟩ => ⟨S1x1024, .f32⟩
  | .hbm, ⟨6, _⟩ => ⟨S4096x11x2x256, .bf16⟩
  | .hbm, ⟨7, _⟩ => ⟨S4096x11x1x256, .bf16⟩
  | .hbm, ⟨8, _⟩ => ⟨S4096x11x256, .bf16⟩
  | .hbm, ⟨9, _⟩ => ⟨S4096x2816, .bf16⟩
  | .hbm, ⟨10, _⟩ => ⟨S1024x2816, .bf16⟩
  | .hbm, ⟨11, _⟩ => ⟨S2816x1024, .bf16⟩
  | .hbm, ⟨12, _⟩ => ⟨S4096x1024, .f32⟩
  | .hbm, ⟨13, _⟩ => ⟨S4096x11x1x256, .bf16⟩
  | .hbm, ⟨14, _⟩ => ⟨S4096x11x256, .bf16⟩
  | .hbm, ⟨15, _⟩ => ⟨S4096x2816, .bf16⟩
  | .hbm, ⟨16, _⟩ => ⟨S1024x2816, .bf16⟩
  | .hbm, ⟨17, _⟩ => ⟨S2816x1024, .bf16⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Wires.lean ====
/- The all-to-all exchange as one program over a table of wires: for every item a block to send to each device and a
   slot to receive from each device, and for every pair of an item and a peer a send and a receive semaphore. -/
module

public import Idealize.ShloMosaic.Lib.Pipeline
public import Idealize.ShloMosaic.Lib.Rounds

@[expose] public section

noncomputable section

namespace Exchange

open Idealize.ShloMosaic Idealize.ShloMosaic.TcCoe
open Idealize.SL.Sem

/-- The wires of an exchange of `n` items: an item's shape and element type, its three kinds of semaphores. -/
structure Wires (sig : RefSig) (n : ℕ) where
  sh : Fin n → Shape
  el : Fin n → EltTy
  loc : Fin n → DmaSem sig
  snd : Fin n → Fin 7 → DmaSem sig
  rcv : Fin n → Fin 7 → DmaSem sig

/-- A block of every item. -/
abbrev Blocks {sig : RefSig} {n : ℕ} (w : Wires sig n) := (i : Fin n) → Memref sig .tc .hbm (w.sh i) (w.el i)

/-- No block splits a word. -/
abbrev Blocks.Exact {sig : RefSig} {n : ℕ} {w : Wires sig n} (b : Blocks w) : Prop := ∀ i, (b i).view.WordExact

section

variable {nD : ℕ} {τ : Topo} {sig : RefSig} {Val : EltTy → Type} {Λ : Labels} {n : ℕ}

/-- `f` on the elements of a list in turn. -/
def each {E : Type → Type} {α : Type} (f : α → Prog E PUnit) : List α → Prog E PUnit
  | [] => pure ⟨⟩
  | x :: l => do f x; each f l

/-- `f` on the elements of a list in turn, then a result. -/
def eachThen {E : Type → Type} {α β : Type} (f : α → Prog E PUnit) (b : β) : List α → Prog E β
  | [] => pure b
  | x :: l => do f x; eachThen f b l

/-- A program runs `f` on the elements of a list in turn, and nothing else. -/
def Does {E : Type → Type} {α β : Type} (f : α → Prog E PUnit) (p : Prog E β) (l : List α) : Prop := ∃ b, p = eachThen f b l

theorem eachThen_bind {E : Type → Type} {α β γ : Type} (f : α → Prog E PUnit) (b : β) (k : β → Prog E γ) (l l' : List α) (c : γ)
    (h : k b = eachThen f c l') : eachThen f b l >>= k = eachThen f c (l ++ l') := by
  induction l with
  | nil => exact h
  | cons x l ih => simp only [eachThen, List.cons_append, bind_assoc, ih]

/-- A program that begins with a part: the part does the first steps of the list, what follows does the others. -/
theorem Does.part {E : Type → Type} {α β γ : Type} {f : α → Prog E PUnit} (l₁ : List α) {p : Prog E β} {k : β → Prog E γ} {l : List α}
    (hp : Does f p l₁) (hk : ∀ b, Does f (k b) l) : Does f (p >>= k) (l₁ ++ l) := by
  obtain ⟨b, rfl⟩ := hp
  obtain ⟨c, hc⟩ := hk b
  exact ⟨c, eachThen_bind f b k _ _ c hc⟩

/-- A program that begins with one operation, the first of the list. -/
theorem Does.op {E : Type → Type} {α γ : Type} {f : α → Prog E PUnit} {x : α} {l : List α} {p : Prog E PUnit} {k : PUnit → Prog E γ}
    (hp : p = f x) (hk : ∀ b, Does f (k b) l) : Does f (p >>= k) (x :: l) := by
  subst hp
  obtain ⟨c, hc⟩ := hk ⟨⟩
  exact ⟨c, congrArg _ (funext fun _ => hc)⟩

theorem Does.eq {E : Type → Type} {α : Type} {f : α → Prog E PUnit} {p : Prog E PUnit} {l : List α} (h : Does f p l) : p = each f l := by
  obtain ⟨b, rfl⟩ := h
  induction l with
  | nil => rfl
  | cons x l ih => simp only [eachThen, each]; exact congrArg _ (funext fun _ => ih)

variable (w : Wires sig n)

/-- What a device does with item `i`: copy its own block, send a block to a peer, await the peer's, await the leave of
    its own to the peer, await its copy. -/
inductive Step (n : ℕ) where
  | keep (i : Fin n)
  | send (k : Fin 7) (i : Fin n)
  | recv (k : Fin 7) (i : Fin n)
  | sent (k : Fin 7) (i : Fin n)
  | kept (i : Fin n)
deriving DecidableEq

/-- One step of a device, told which blocks it copies and where to, and the devices of its peers. -/
def step {own slot : Blocks w} {out : Fin 7 → Blocks w} (inn : Fin 7 → Blocks w) (dev : Fin 7 → Fin n → Dev nD)
    (hown : own.Exact) (hslot : slot.Exact) (hout : ∀ k, (out k).Exact) : Step n → Prog (TpuEff nD τ sig Val Λ .tc) PUnit
  | .keep i => Prog.lift (.enqueueDma (own i) (.here (slot i)) (.dma (w.loc i)) (hown i) (hslot i) ⟨Or.inl rfl, trivial⟩)
  | .send k i => Prog.lift (.enqueueDma (out k i) (.remote (Dev.tc (dev k i)) (slot i) (.dma (w.snd i k))) (.dma (w.rcv i k)) (hout k i) (hslot i)
      ⟨⟨rfl, Or.inl rfl⟩, trivial⟩)
  | .recv k i => Prog.lift (.waitDma (w.rcv i k) (inn k i).view.ref (w.sh i) (w.el i) (.inr (inn k i).hasMemref))
  | .sent k i => Prog.lift (.waitDma (w.snd i k) (out k i).view.ref (w.sh i) (w.el i) (.inr (out k i).hasMemref))
  | .kept i => Prog.lift (.waitDma (w.loc i) (slot i).view.ref (w.sh i) (w.el i) (.inr (slot i).hasMemref))

/-- A step for every peer and item. -/
def peerwise (f : Fin 7 → Fin n → Step n) : List (Step n) := (List.finRange 7).flatMap fun k => (List.finRange n).map (f k)

/-- The steps of an exchange: everything is issued before the first wait. -/
def steps (n : ℕ) : List (Step n) :=
  (List.finRange n).map .keep ++ (peerwise .send ++ (peerwise .recv ++ (peerwise .sent ++ (List.finRange n).map .kept)))

end

/-! ## The slots of an array of blocks -/

section

variable {sig : RefSig} {e : EltTy} {R C : ℕ}

/-- An array of eight blocks of `R` rows of `C`. -/
abbrev Eight (R C : ℕ) : Shape := ⟨3, ![8, R, C]⟩
/-- One of them, still with its leading axis. -/
abbrev One (R C : ℕ) : Shape := ⟨3, ![1, R, C]⟩
/-- A block. -/
abbrev Block (R C : ℕ) : Shape := ⟨2, ![R, C]⟩

/-- The block of `A` at the offsets `off`. -/
def blockAt (A : Memref sig .tc .hbm (Eight R C) e) (hq : (One R C).Squeezes (Block R C)) (off : Fin 3 → ℕ)
    (h : ∀ a, off a + (One R C).size a ≤ (Eight R C).size a) : Memref sig .tc .hbm (Block R C) e :=
  (A.slice (Rect.unit (s := Eight R C) off (One R C).size h) (fun _ => rfl)).squeeze (Block R C) hq

theorem at_inb (d : Dev 8) : ∀ a, (![d.val, 0, 0] : Fin 3 → ℕ) a + (One R C).size a ≤ (Eight R C).size a := by
  intro a; have := d.isLt
  match a with
  | 0 => show d.val + 1 ≤ 8; omega
  | 1 => show 0 + R ≤ R; omega
  | 2 => show 0 + C ≤ C; omega

/-- The `d`-th block of `A`. -/
abbrev blockOf (A : Memref sig .tc .hbm (Eight R C) e) (hq : (One R C).Squeezes (Block R C)) (d : Dev 8) : Memref sig .tc .hbm (Block R C) e :=
  blockAt A hq ![d.val, 0, 0] (at_inb d)

theorem blockAt_eq (A : Memref sig .tc .hbm (Eight R C) e) (hq : (One R C).Squeezes (Block R C)) {off off' : Fin 3 → ℕ}
    (h : ∀ a, off a + (One R C).size a ≤ (Eight R C).size a) (h' : ∀ a, off' a + (One R C).size a ≤ (Eight R C).size a) (e : off = off') :
    blockAt A hq off h = blockAt A hq off' h' := by subst e; rfl

end

end Exchange

end
-- ==== Proof.Launch.lean ====
/- The launch of a program that is one kernel call without pipelined windows, whose cores may owe each other signals
   when they start: what each core needs for its body is made from all the cores' semaphores, arrays and credits. -/
module

public import Idealize.ShloMosaic.Lib.Pipeline.RegionArrays
public import Idealize.ShloMosaic.Lib.Rounds

@[expose] public section

noncomputable section

namespace Exchange

open Idealize.ShloMosaic Idealize.ShloMosaic.TcCoe Idealize.ShloMosaic.Pipeline Idealize.ShloMosaic.Rounds
open Idealize.SL Idealize.SL.RA
open Idealize.SL.BI (sProp bigSep bigSep_mono bigSep_sep' bigSep_empty)
open scoped Idealize.SL.BI
open Idealize.SL.BI.BIBase Idealize.SL.BI.Laws Idealize.SL.ProofMode Idealize.SL.Sem

set_option Elab.async false

variable {nD : ℕ} {τ : Topo} {sig : RefSig} {Val : EltTy → Type} {Λ₀ : Labels} {K : Type} [Fintype K]
variable {U : Type} [URA U]

local notation "𝕄" => MT nD τ sig Unit Val ℕ U ℕ

/-- Nothing to hold over windows that do not exist. -/
theorem over_none {W : ℕ} (h : W = 0) (Φ : Fin W → sProp 𝕄) : bigSep Finset.univ Φ = BI.emp := by
  subst h
  exact bigSep_empty

variable (cfgs : K → Cfg sig Λ₀) (hinj : Function.Injective (cellOf (nD := nD) (τ := τ) cfgs)) (p : K)
  (hW : (cfgs p).W = 0) (hN : (cfgs p).N = 1)
  (defs₀ : Defs nD τ sig Val Λ₀) (𝒱₀ : Variants)

/-- A region without windows at one point: before the body `before`, after it `after`, owing `O` and then nothing. -/
def bare (c : Dev nD) (q : K) (before after : sProp 𝕄) (O : CellTallies nD τ sig Unit) [∀ e, Nonempty (Val e)] :
    Dat τ Val Unit ℕ U ℕ (cfgs q) c where
  A _ := fun _ => Classical.arbitrary _
  after _ _ := fun _ => Classical.arbitrary _
  Φ t := if t.val = 0 then before else after
  q _ := fullShare
  owed t := if t.val = 0 then O else 0

include hinj hW hN in
/-- The call runs its body, the scoped arrays kept aside. -/
theorem wp_region (E : Emb (URounds (GSem nD τ sig) Unit) 𝕄) [∀ e, Nonempty (Val e)] (A B : Dev nD → sProp 𝕄) (O : Dev nD → CellTallies nD τ sig Unit)
    (hbody : ∀ (c : Dev nD) (t : Fin (cfgs p).N) (W : Finset (SemLoc sig × Unit)),
      iprop(A c ∗ owes (c.tc : Thread nD τ) (O c) W)
        ⊢ wp frame (wpE defs₀ 𝒱₀ (c.tc : Thread nD τ) none) Set.univ
            (defs₀ .tc (cfgs p).body ((cfgs p).bodyArgs t ((cfgs p).slots t)))
            fun _ => iprop((B c ∗ scopedSems0 (c.tc : Thread nD τ)) ∗ ∃ W', owes (c.tc : Thread nD τ) 0 W'))
    (c : Dev nD) {α : Type} {k : PUnit → Prog (TpuEff nD τ sig Val (Sig Λ₀ K fun q => ((fun q => Cfg.toPCfg (Val := Val) (cfgs q)) q).Adm) Proc.tc) α} {Q : α → sProp 𝕄} :
    iprop(A c ∗ owes (c.tc : Thread nD τ) (O c) ∅ ∗ scopedBufs (c.tc : Thread nD τ))
      ⊢ iprop(((B c ∗ scopedSems0 (c.tc : Thread nD τ) ∗ ∃ W', owes (c.tc : Thread nD τ) 0 W')
            -∗ wp frame (wpE (Pipeline.defs (fun q => Cfg.toPCfg (Val := Val) (cfgs q)) defs₀) (Variants.lift 𝒱₀) (c.tc : Thread nD τ) none) Set.univ (k ⟨⟩) Q)
          -∗ wp frame (wpE (Pipeline.defs (fun q => Cfg.toPCfg (Val := Val) (cfgs q)) defs₀) (Variants.lift 𝒱₀) (c.tc : Thread nD τ) none) Set.univ (.op (.customCall (entry p) ()) k) Q) := by
  let dats : (q : K) → (d : Dev nD) → Dat τ Val Unit ℕ U ℕ (cfgs q) d := fun q d =>
    bare cfgs d q iprop(A d ∗ scopedBufs (d.tc : Thread nD τ)) iprop((B d ∗ scopedSems0 (d.tc : Thread nD τ)) ∗ scopedBufs (d.tc : Thread nD τ)) (O d)
  have h0 (d : Dev nD) (t : Fin (cfgs p).N) : (dats p d).Φ t.castSucc = iprop(A d ∗ scopedBufs (d.tc : Thread nD τ)) :=
    by
    dsimp only [dats, bare]; exact if_pos (by rw [Fin.val_castSucc]; have := t.isLt; omega)
  have h1 (d : Dev nD) (t : Fin (cfgs p).N) :
      (dats p d).Φ t.succ = iprop((B d ∗ scopedSems0 (d.tc : Thread nD τ)) ∗ scopedBufs (d.tc : Thread nD τ)) :=
    by
    dsimp only [dats, bare]; exact if_neg (Nat.succ_ne_zero _)
  have hl (d : Dev nD) : (dats p d).Φ (Fin.last (cfgs p).N) = iprop((B d ∗ scopedSems0 (d.tc : Thread nD τ)) ∗ scopedBufs (d.tc : Thread nD τ)) :=
    by
    dsimp only [dats, bare]; exact if_neg (by rw [Fin.val_last, hN]; exact one_ne_zero)
  have o0 (d : Dev nD) (t : Fin (cfgs p).N) : (dats p d).owed t.castSucc = O d :=
    by
    dsimp only [dats, bare]; exact if_pos (by rw [Fin.val_castSucc]; have := t.isLt; omega)
  have o1 (d : Dev nD) (t : Fin (cfgs p).N) : (dats p d).owed t.succ = 0 := by
    dsimp only [dats, bare]; exact if_neg (Nat.succ_ne_zero _)
  have ol (d : Dev nD) : (dats p d).owed (Fin.last (cfgs p).N) = 0 := by
    dsimp only [dats, bare]; exact if_neg (by rw [Fin.val_last, hN]; exact one_ne_zero)
  have hloose : BodyObligationLoose (dats p c) defs₀ 𝒱₀ () Set.univ := by
    intro t
    unfold Dat.owesAt owesWithin
    rw [h0, h1, o0, o1, over_none hW]
    iintro ⟨⟨HA, Hs⟩, ⟨%W, -, HW⟩, -⟩
    iapply (wp_wand frame (wpE defs₀ 𝒱₀ (c.tc : Thread nD τ) none) Set.univ) $$ [HA HW]
    · iapply (hbody c t W); isplitl [HA] <;> iassumption
    iintro %_ ⟨HB, ⟨%W', HW⟩⟩
    isplitl [HB Hs]; · isplitl [HB] <;> iassumption
    isplitl [HW]
    · iexists W'; isplitr; · ipureintro; exact fun _ _ => Or.inl trivial
      iexact HW
    rw [over_none hW]; iempintro
  have hout : iprop((dats p c).Φ (Fin.last (cfgs p).N) ∗ cellsSems0 (pin (fun q => Cfg.toPCfg (Val := Val) (cfgs q)) fun q => (cfgs q).toPCfg_adm) p c
        ∗ Dat.staging (cfgs p) c ∗ BI.emp)
      ⊢ iprop(B c ∗ scopedSems0 (c.tc : Thread nD τ) ∗ scopedBufs (c.tc : Thread nD τ)) := by
    rw [hl]
    iintro ⟨⟨⟨HB, HS⟩, Hs⟩, -⟩
    isplitl [HB]; · iexact HB
    isplitl [HS] <;> iassumption
  have hbufs : (scopedBufs (c.tc : Thread nD τ) : sProp 𝕄) ⊢ iprop(Dat.staging (cfgs p) c ∗ scopedBufs (c.tc : Thread nD τ)) := by
    unfold Dat.staging
    rw [over_none hW]
    iintro H; isplitr; · iempintro
    iexact H
  have hin : iprop(A c ∗ prefHeld ((fun q => Cfg.toPCfg (Val := Val) (cfgs q)) p).pre c (fun k => k.elim0) ((cfgs p).toPCfg_adm (Val := Val)).1 ∗ scopedBufs (c.tc : Thread nD τ))
      ⊢ (dats p c).Φ 0 := by
    rw [show (dats p c).Φ 0 = iprop(A c ∗ scopedBufs (c.tc : Thread nD τ)) from rfl]
    iintro ⟨HA, -, Hs⟩
    isplitl [HA] <;> iassumption
  iintro ⟨HA, HO, Hs⟩ Hk
  iapply (wp_customCall_entry_frame (fun q => Cfg.toPCfg (Val := Val) (cfgs q)) (fun q => (cfgs q).toPCfg_adm) dats () E (fun _ => 0) hinj p defs₀ 𝒱₀ (fun k => k.elim0)
      c Set.univ (fun _ _ => Set.mem_univ _) hloose (fun w => (Nat.not_lt_zero _ (w.isLt.trans_eq hW)).elim) none (fun u h => nomatch h)
      hbufs hin hout) $$ [HA HO Hs]
  · isplitl [HO]
    · unfold EntryPre PerCore.EntryPre Dat.arrays PerCore.cellsWaits PerCore.cellsInit PerCore.toksInit PerCore.RDat.cellsWaits PerCore.RDat.cellsInit Dat.owesAt owesWithin
      rw [over_none hW, over_none hW, over_none hW, over_none hW]
      isplitr; · iempintro
      isplitl [HO]
      · iexists ∅; isplitr; · ipureintro; rw [Finset.coe_empty]; exact Set.empty_subset _
        iexact HO
      isplitr; · iempintro
      isplitr <;> iempintro
    isplitr; · rw [prefHeld_of_none _ rfl]; iempintro
    isplitl [HA]; · iexact HA
    isplitr; · iempintro
    iexact Hs
  unfold EntryPost PerCore.EntryPost Dat.owesAt owesWithin
  rw [ol]
  iintro ⟨⟨-, ⟨%W, -, HW⟩⟩, HB, HS, -⟩
  iapply Hk
  isplitl [HB]; · iexact HB
  isplitl [HS]; · iexact HS
  iexists W; iexact HW

include hinj hW hN in
/-- From all the cores' semaphores, arrays and credits, through every core's body, to a memory read off what the
    cores end with. -/
theorem launch (E : Emb (URounds (GSem nD τ sig) Unit) 𝕄) [∀ e, Nonempty (Val e)] (m : (ℓ : Loc nD τ sig) → Buf Val ℓ) (g : Dev nD → PrngReg)
    (main : Dev nD → Prog (TpuEff nD τ sig Val (Sig Λ₀ K fun q => ((fun q => Cfg.toPCfg (Val := Val) (cfgs q)) q).Adm) Proc.tc) PUnit)
    (hmain : ∀ c, main c = .op (.customCall (entry p) ()) fun _ => .ret ⟨⟩)
    (A B : Dev nD → sProp 𝕄) (O : Dev nD → CellTallies nD τ sig Unit) (u₀ : U)
    (hstart : iprop((bigSep Finset.univ fun c : Dev nD => scopedSems0 (c.tc : Thread nD τ))
        ∗ (bigSep Finset.univ fun c : Dev nD => unscopedBufs c fun b => m ((c.tc : Thread nD τ).loc b))
        ∗ (bigSep Finset.univ fun c : Dev nD => launchCred O c) ∗ ownU u₀)
      ⊢ |={Set.univ}=> bigSep Finset.univ A)
    (hbody : ∀ (c : Dev nD) (t : Fin (cfgs p).N) (W : Finset (SemLoc sig × Unit)),
      iprop(A c ∗ owes (c.tc : Thread nD τ) (O c) W)
        ⊢ wp frame (wpE defs₀ 𝒱₀ (c.tc : Thread nD τ) none) Set.univ
            (defs₀ .tc (cfgs p).body ((cfgs p).bodyArgs t ((cfgs p).slots t)))
            fun _ => iprop((B c ∗ scopedSems0 (c.tc : Thread nD τ)) ∗ ∃ W', owes (c.tc : Thread nD τ) 0 W'))
    (R : Dev nD → MemSt nD τ sig Val → Prop)
    (hread : ∀ c (s : Phys nD τ sig Val), iprop(B c ∗ SI s) ⊢ |={Set.univ}=> iprop(⌜R c s.mem⌝ ∗ SI s))
    {Q : PUnit × MemSt nD τ sig Val → Prop}
    (hQ : ∀ s : MemSt nD τ sig Val, (∀ c, R c s) →
      (∀ g' : GSem nD τ sig, (g'.1.2 ≠ .tc ∨ g'.2.isScoped .tc = true) → s.sem g' = 0) → Q (⟨⟩, s)) :
    θ_run (Pipeline.defs (fun q => Cfg.toPCfg (Val := Val) (cfgs q)) defs₀) (onTc main) ⟨m, fun _ => 0, g⟩ Q := by
  classical
  let pre : Dev nD → sProp 𝕄 := fun c => iprop(A c ∗ owes (c.tc : Thread nD τ) (O c) ∅ ∗ scopedBufs (c.tc : Thread nD τ))
  let fin : Dev nD → sProp 𝕄 := fun c => iprop(B c ∗ scopedSems0 (c.tc : Thread nD τ))
  refine (θ_run (Pipeline.defs (fun q => Cfg.toPCfg (Val := Val) (cfgs q)) defs₀) _ _).mono (Q := fun r => (∀ c : Dev nD, R c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs (fun q => Cfg.toPCfg (Val := Val) (cfgs q)) defs₀) _ _ _
    (reflect_intro_fupd_tc_sems (X := Unit) (Variants.lift 𝒱₀) (owing O) 0 (noBookings fun _ => le_rfl) (owing_of_ne O) u₀ (fun _ => pre) (fun _ => fin)
      (fun _ => iprop(emp)) Set.univ ?_ (fun _ c => ?_) fun _ => ?_))
  · have hcore (c : Dev nD) :
        coreInit (Ix := Unit) (Name := ℕ) (U := U) (Lvl := ℕ) (owing O) 0 (⟨m, fun _ => 0, g⟩ : MemSt nD τ sig Val) (c.tc : Thread nD τ)
          ⊢ iprop((scopedSems0 (c.tc : Thread nD τ) ∗ unscopedBufs c (fun b => m ((c.tc : Thread nD τ).loc b)) ∗ launchCred O c)
              ∗ owes (c.tc : Thread nD τ) (O c) ∅ ∗ scopedBufs (c.tc : Thread nD τ)) :=
      (coreInit_boundary_owing O m g c).trans (by
        unfold boundary
        iintro ⟨⟨Hs, Hsem, -⟩, Hub, -, HO, -, -, Hcr⟩
        isplitl [Hsem Hub Hcr]
        · isplitl [Hsem]; · iexact Hsem
          isplitl [Hub] <;> iassumption
        isplitl [HO] <;> iassumption)
    have hcores : (bigSep Finset.univ fun d : Dev nD =>
          coreInit (Ix := Unit) (Name := ℕ) (U := U) (Lvl := ℕ) (owing O) 0 (⟨m, fun _ => 0, g⟩ : MemSt nD τ sig Val) (d.tc : Thread nD τ))
        ⊢ iprop(((bigSep Finset.univ fun c : Dev nD => scopedSems0 (c.tc : Thread nD τ))
            ∗ (bigSep Finset.univ fun c : Dev nD => unscopedBufs c fun b => m ((c.tc : Thread nD τ).loc b))
            ∗ (bigSep Finset.univ fun c : Dev nD => launchCred O c))
          ∗ (bigSep Finset.univ fun c : Dev nD => owes (c.tc : Thread nD τ) (O c) ∅)
          ∗ (bigSep Finset.univ fun c : Dev nD => scopedBufs (c.tc : Thread nD τ)) : sProp 𝕄) := by
      refine (bigSep_mono fun c _ => hcore c).trans ?_
      simp only [bigSep_sep']
      exact BI.Entails.refl _
    iintro ⟨Hc, Hu⟩
    ihave H := hcores $$ Hc
    icases H with ⟨⟨Hsem, Hub, Hcr⟩, HO, Hs⟩
    imod hstart $$ [Hsem Hub Hcr Hu] with HA
    · isplitl [Hsem]; · iexact Hsem
      isplitl [Hub]; · iexact Hub
      isplitl [Hcr] <;> iassumption
    imodintro
    iexists ()
    isplitr []
    · simp only [pre, bigSep_sep']
      isplitl [HA]; · iexact HA
      isplitl [HO] <;> iassumption
    · iempintro
  · rw [hmain c]
    simp only [pre]
    iintro H
    iapply (wp_region cfgs hinj p hW hN defs₀ 𝒱₀ E A B O hbody c) $$ H
    iintro ⟨HB, HS, HW⟩
    rw [wp_ret]; imodintro
    unfold post; simp only [liftTc_tc, fin]
    isplitr [HW]
    · isplitl [HB] <;> iassumption
    · iexact HW
  · have hcore (c : Dev nD) (s : Phys nD τ sig Val) : iprop(fin c ∗ SI s) ⊢ |={Set.univ}=>
        iprop(⌜R c s.mem ∧ ∀ sm : SemLoc sig, sm.isScoped .tc = true → s.mem.sem ((c.tc : Thread nD τ), sm) = 0⌝ ∗ SI s) := by
      simp only [fin]
      iintro ⟨⟨HB, HS⟩, HSI⟩
      ihave %hz := (tcScoped_read_pers c s) $$ [HS HSI]
      · isplitl [HS] <;> iassumption
      imod (hread c s) $$ [HB HSI] with ⟨%h, HSI⟩
      · isplitl [HB] <;> iassumption
      imodintro
      isplitr
      · ipureintro; exact ⟨h, hz⟩
      · iexact HSI
    iintro ⟨H, -, Hsc⟩ %s HSI
    ihave %hsc := (scSems_read_zero m g s) $$ [Hsc HSI]
    · isplitl [Hsc] <;> iassumption
    imod (posts_fupd Finset.univ hcore s) $$ [H HSI] with %h
    · isplitl [H] <;> iassumption
    imodintro
    ipureintro
    exact ⟨fun c => h c (Finset.mem_univ c), hsc⟩

end Exchange
-- ==== Proof.Cells.lean ====
/- The semaphores of an exchange as cells of one round each: what the wait on each of them gives. -/
module

public import proofs.«01_k».proof.Proof.Wires
public import proofs.«01_k».proof.Proof.Launch

@[expose] public section

noncomputable section

namespace Exchange

open Idealize.ShloMosaic Idealize.ShloMosaic.TcCoe Idealize.ShloMosaic.Rounds
open Idealize.SL Idealize.SL.RA
open Idealize.SL.BI (sProp bigSep bigSep_mono bigSep_congr)
open scoped Idealize.SL.BI
open Idealize.SL.BI.BIBase Idealize.SL.BI.Laws Idealize.SL.ProofMode Idealize.SL.Sem

set_option Elab.async false

/-! ## Peers -/

/-- The peer at distance `k + 1`: the device whose number differs in the bits of `k + 1`. -/
def peer (k : Fin 7) (d : Dev 8) : Dev 8 := ⟨(k.val + 1) ^^^ d.val, Nat.xor_lt_two_pow (n := 3) (by omega) d.isLt⟩

theorem peer_peer : ∀ (k : Fin 7) (d : Dev 8), peer k (peer k d) = d := by decide

/-- A device and its peers. -/
def party (d : Dev 8) : Option (Fin 7) → Dev 8
  | none => d
  | some k => peer k d

theorem party_bijective : ∀ d, Function.Bijective (party d) := by
  have h : ∀ d, Function.Injective (party d) := by unfold Function.Injective; decide
  exact fun d => (Fintype.bijective_iff_injective_and_card _).mpr ⟨h d, rfl⟩

theorem bigSep_party {M : Type} [URA M] (d : Dev 8) (Φ : Dev 8 → sProp M) :
    bigSep Finset.univ Φ = iprop(Φ d ∗ bigSep Finset.univ fun k => Φ (peer k d)) := by
  rw [BI.bigSep_univ_equiv (Equiv.ofBijective _ (party_bijective d)) Φ, BI.bigSep_univ_equiv (Equiv.optionEquivSumPUnit.{0} (Fin 7)).symm,
    BI.bigSep_univ_sum, BI.bigSep_univ_of_subsingleton PUnit.unit]
  exact BI.equiv_iff.mp ⟨BI.sep_comm, BI.sep_comm⟩

/-! ## Wires -/

/-- The wires of `n` items: one for each local copy, and for each peer and item one that tells the sender and one
    that tells the receiver. -/
abbrev Wire (n : ℕ) := Fin n ⊕ ((Fin 7 × Fin n) ⊕ (Fin 7 × Fin n))

/-- The item of a wire. -/
def Wire.item {n : ℕ} : Wire n → Fin n
  | .inl i => i
  | .inr (.inl p) => p.2
  | .inr (.inr p) => p.2

variable {sig : RefSig} {n : ℕ} {τ : Topo} {Val : EltTy → Type}

/-- The semaphore of a wire. -/
def Wires.sem (w : Wires sig n) : Wire n → DmaSem sig
  | .inl i => w.loc i
  | .inr (.inl p) => w.snd p.2 p.1
  | .inr (.inr p) => w.rcv p.2 p.1

/-- The cell of a wire of a device. -/
def cell (w : Wires sig n) (c : Dev 8) (v : Wire n) : GSem 8 τ sig := ((c.tc : Thread 8 τ), .dma (w.sem v))

theorem cell_injective {w : Wires sig n} (h : Function.Injective w.sem) :
    Function.Injective fun p : Dev 8 × Wire n => (cell w p.1 p.2 : GSem 8 τ sig) := by
  rintro ⟨c, v⟩ ⟨c', v'⟩ e
  obtain ⟨h1, h2⟩ := Prod.mk.inj e
  exact Prod.ext (Prod.mk.inj h1).1 (h (SemLoc.dma.inj h2))

/-- The wire a cell belongs to. -/
def owner (w : Wires sig n) : GSem 8 τ sig → Option (Dev 8 × Wire n) :=
  Function.partialInv fun p : Dev 8 × Wire n => cell w p.1 p.2

theorem owner_cell {w : Wires sig n} (h : Function.Injective w.sem) (c : Dev 8) (v : Wire n) :
    owner w (cell w c v : GSem 8 τ sig) = some (c, v) :=
  Function.partialInv_left (cell_injective h) (c, v)

/-- The blocks an exchange copies and their credits. -/
structure Tables (w : Wires sig n) where
  /-- The block for a device. -/
  give : Dev 8 → Blocks w
  /-- The slot for a device's block. -/
  take : Dev 8 → Blocks w
  give_exact : ∀ t, (give t).Exact
  take_exact : ∀ s, (take s).Exact
  /-- The units a copy of an item's block counts. -/
  amt : Fin n → ℕ
  amt_pos : ∀ i, 0 < amt i
  give_amt : ∀ t i, (give t i).view.dmaCredit = amt i
  take_amt : ∀ s i, (take s i).view.dmaCredit = amt i
  /-- The share of a block that its copy reads. -/
  share : Fin n → Dev 8 → PosShare TreeShare
  sem_injective : Function.Injective w.sem

variable {w : Wires sig n} (T : Tables w)

/-- What the arrays of an exchange hold: each block read, each slot before and after. -/
structure Contents (τ : Topo) (Val : EltTy → Type) where
  X : (c : Dev 8) → (i : Fin n) → (t : Dev 8) → Buf Val ((T.give t i).view.loc (c.tc : Thread 8 τ))
  old : (c : Dev 8) → (i : Fin n) → (s : Dev 8) → Buf Val ((T.take s i).view.loc (c.tc : Thread 8 τ))
  new : (c : Dev 8) → (i : Fin n) → (s : Dev 8) → Buf Val ((T.take s i).view.loc (c.tc : Thread 8 τ))
  lands : ∀ (s d : Dev 8) (i : Fin n), ∀ j ∈ (T.take s i).view.set,
    (T.take s i).view.write Val (old d i s) ((T.give d i).view.read Val (X s i d)) Finset.univ j = new d i s j

/-- The ghost state: the rounds of the cells. -/
abbrev Ghost (τ : Topo) (sig : RefSig) : Type := URounds (GSem 8 τ sig) Unit

local notation "𝕄" => MT 8 τ sig Unit Val ℕ (Ghost τ sig) ℕ

/-- The rounds' place in it. -/
abbrev place : Emb (Ghost τ sig) 𝕄 :=
  (uEmb (nD := 8) (τ := τ) (sig := sig) (Ix := Unit) (Val := Val) (Name := ℕ) (U := Ghost τ sig) (Lvl := ℕ)).toEmb

variable {T} (C : Contents T τ Val)

/-- The block of item `i` for device `t`, on device `c`. -/
def block (c : Dev 8) (i : Fin n) (t : Dev 8) : sProp 𝕄 :=
  (T.give t i).view.loc (c.tc : Thread 8 τ) ↦[(T.give t i).view.set]{T.share i t} C.X c i t
/-- The slot of item `i` for device `s`, on device `c`, before. -/
def empty (c : Dev 8) (i : Fin n) (s : Dev 8) : sProp 𝕄 :=
  (T.take s i).view.loc (c.tc : Thread 8 τ) ↦[(T.take s i).view.set]{fullShare} C.old c i s
/-- And after. -/
def full (c : Dev 8) (i : Fin n) (s : Dev 8) : sProp 𝕄 :=
  (T.take s i).view.loc (c.tc : Thread 8 τ) ↦[(T.take s i).view.set]{fullShare} C.new c i s

/-- What a wait on a wire gives. -/
def deal (c : Dev 8) : Wire n → sProp 𝕄
  | .inl i => iprop(full C c i c ∗ block C c i c)
  | .inr (.inl p) => block C c p.2 (peer p.1 c)
  | .inr (.inr p) => full C c p.2 (peer p.1 c)

instance (c : Dev 8) (v : Wire n) : BI.Storable (upEmb : UEmb _ 𝕄) (deal C c v) := by
  rcases v with i | p | p <;> (unfold deal; try unfold block; try unfold full) <;> infer_instance

/-- Every cell's schedule: one round, of one duty. -/
def sched : Schedule (GSem 8 τ sig) Unit 𝕄 where
  duties g r := if r = 0 ∧ (owner w g).isSome then {()} else ∅
  amount g _ _ := (owner w g).elim 1 fun p => T.amt p.2.item
  payload g _ _ := (owner w g).elim BI.emp fun p => deal C p.1 p.2
  amount_pos g r d _ := by
    cases owner w g with
    | none => exact one_pos
    | some p => exact T.amt_pos _

instance (g : GSem 8 τ sig) (r : ℕ) (d : Unit) : BI.Storable (upEmb : UEmb _ 𝕄) ((sched C).payload g r d) := by
  show BI.Storable (upEmb : UEmb _ 𝕄) ((owner w g).elim BI.emp fun p => deal C p.1 p.2)
  cases owner w g with
  | none => exact (inferInstance : BI.Storable (upEmb : UEmb _ 𝕄) (iprop(emp) : sProp 𝕄))
  | some p => exact (inferInstance : BI.Storable (upEmb : UEmb _ 𝕄) (deal C p.1 p.2))

theorem duties_cell (c : Dev 8) (v : Wire n) : (sched C).duties (cell w c v) 0 = {()} := by
  show (if 0 = 0 ∧ (owner w (cell w c v : GSem 8 τ sig)).isSome then ({()} : Finset Unit) else ∅) = _
  rw [owner_cell T.sem_injective]; rfl

theorem duties_later (g : GSem 8 τ sig) (r : ℕ) (h : 1 ≤ r) : (sched C).duties g r = ∅ :=
  if_neg fun e => by omega

theorem amount_cell (c : Dev 8) (v : Wire n) : (sched C).amount (cell w c v) 0 () = T.amt v.item := by
  show (owner w (cell w c v : GSem 8 τ sig)).elim 1 (fun p => T.amt p.2.item) = _
  rw [owner_cell T.sem_injective]; rfl

theorem payload_cell (c : Dev 8) (v : Wire n) : (sched C).payload (cell w c v) 0 () = deal C c v := by
  show (owner w (cell w c v : GSem 8 τ sig)).elim BI.emp (fun p => deal C p.1 p.2) = _
  rw [owner_cell T.sem_injective]; rfl

theorem expect_cell (c : Dev 8) (v : Wire n) : (sched C).expect (cell w c v) 0 = T.amt v.item := by
  unfold Schedule.expect Schedule.amountOf
  rw [duties_cell, Finset.sum_singleton, amount_cell]

end Exchange

end
-- ==== Proof.Run.lean ====
/- One device's run of an exchange. -/
module

public import proofs.«01_k».proof.Proof.Cells

@[expose] public section

noncomputable section

namespace Exchange

open Idealize.ShloMosaic Idealize.ShloMosaic.TcCoe Idealize.ShloMosaic.Rounds
open Idealize.SL Idealize.SL.RA
open Idealize.SL.BI (sProp bigSep bigSep_mono bigSep_congr)
open scoped Idealize.SL.BI
open Idealize.SL.BI.BIBase Idealize.SL.BI.Laws Idealize.SL.ProofMode Idealize.SL.Sem

set_option Elab.async false

/-! ## Assertions over lists, and programs over them -/

/-- An assertion of every element of a list. -/
def all {M : Type} [URA M] {α : Type} (A : α → sProp M) : List α → sProp M
  | [] => BI.emp
  | x :: l => iprop(A x ∗ all A l)

theorem all_eq_bigSep {M : Type} [URA M] {α : Type} [Fintype α] [DecidableEq α] (A : α → sProp M) (l : List α) (hn : l.Nodup) (hm : ∀ x, x ∈ l) :
    all A l = bigSep Finset.univ A := by
  rw [show (Finset.univ : Finset α) = l.toFinset from (Finset.eq_univ_of_forall fun x => List.mem_toFinset.mpr (hm x)).symm]
  clear hm
  induction l with
  | nil => exact BI.bigSep_empty.symm
  | cons x l ih =>
    rw [List.toFinset_cons, BI.bigSep_insert fun h => (List.nodup_cons.mp hn).1 (List.mem_toFinset.mp h), ← ih (List.nodup_cons.mp hn).2]
    rfl

variable {sig : RefSig} {n : ℕ} {τ : Topo} {Val : EltTy → Type} {Λ : Labels}

theorem each_append {E : Type → Type} {α : Type} (f : α → Prog E PUnit) (l l' : List α) :
    each f (l ++ l') = each f l >>= fun _ => each f l' := by
  induction l with
  | nil => rfl
  | cons x l ih => simp only [List.cons_append, each, ih, bind_assoc]

theorem each_map {E : Type → Type} {α β : Type} (f : α → Prog E PUnit) (g : β → α) (l : List β) :
    each f (l.map g) = each (fun x => f (g x)) l := by
  induction l with
  | nil => rfl
  | cons x l ih => simp only [List.map_cons, each, ih]

/-- Every pair of a peer and an item. -/
def pairs (n : ℕ) : List (Fin 7 × Fin n) := (List.finRange 7).flatMap fun k => (List.finRange n).map fun i => (k, i)

theorem peerwise_eq (f : Fin 7 → Fin n → Step n) : peerwise f = (pairs n).map fun p => f p.1 p.2 := by
  simp only [peerwise, pairs, List.map_flatMap, List.map_map]; rfl

theorem mem_pairs (p : Fin 7 × Fin n) : p ∈ pairs n := by simp [pairs]

theorem nodup_pairs : (pairs n).Nodup := by
  refine List.nodup_flatMap.mpr ⟨fun k _ => (List.nodup_finRange n).map fun a b h => (Prod.mk.inj h).2, ?_⟩
  refine (List.nodup_finRange 7).imp fun {a b} hab x ha hb => hab ?_
  obtain ⟨i, -, rfl⟩ := List.mem_map.mp ha
  obtain ⟨j, -, hj⟩ := List.mem_map.mp hb
  exact (Prod.mk.inj hj).1.symm

local notation "𝕄" => MT 8 τ sig Unit Val ℕ (Ghost τ sig) ℕ

variable (defs : Defs 8 τ sig Val Λ) (𝒱 : Variants)

/-- A program over a list, from what each element needs, beside `I` which stays and `R` which the elements use up. -/
theorem wp_each {α : Type} (c : Dev 8) (I : sProp 𝕄) [BI.Persistent I] (A B : α → sProp 𝕄) (R : List α → sProp 𝕄)
    (f : α → Prog (TpuEff 8 τ sig Val Λ .tc) PUnit)
    (h : ∀ x l, iprop(I ∗ A x ∗ R (x :: l)) ⊢ wp frame (wpE defs 𝒱 (c.tc : Thread 8 τ) none) Set.univ (f x) fun _ => iprop(B x ∗ R l)) :
    ∀ l, iprop(I ∗ all A l ∗ R l) ⊢ wp frame (wpE defs 𝒱 (c.tc : Thread 8 τ) none) Set.univ (each f l) fun _ => iprop(all B l ∗ R []) := by
  intro l
  induction l with
  | nil =>
    rw [show each f [] = .ret ⟨⟩ from rfl, wp_ret]
    iintro ⟨-, HA, HR⟩
    imodintro
    isplitl [HA]; · iexact HA
    iexact HR
  | cons x l ih =>
    unfold each all
    rw [wp_bind]
    iintro ⟨#HI, ⟨HA, HAs⟩, HR⟩
    iapply (wp_wand frame (wpE defs 𝒱 (c.tc : Thread 8 τ) none) Set.univ) $$ [HA HR]
    · iapply (h x l)
      isplitr; · iexact HI
      isplitl [HA] <;> iassumption
    iintro %_ ⟨HB, HR⟩
    iapply (wp_wand frame (wpE defs 𝒱 (c.tc : Thread 8 τ) none) Set.univ) $$ [HAs HR]
    · iapply ih
      isplitr; · iexact HI
      isplitl [HAs] <;> iassumption
    iintro %_ ⟨HBs, HR⟩
    isplitr [HR]
    · isplitl [HB] <;> iassumption
    · iexact HR

/-! ## The steps -/

variable {w : Wires sig n} {T : Tables w} (C : Contents T τ Val)

/-- A step of the exchange on device `d`. -/
def act (T : Tables w) (d : Dev 8) : Step n → Prog (TpuEff 8 τ sig Val Λ .tc) PUnit :=
  step w (fun k => T.take (peer k d)) (fun k _ => peer k d) (T.give_exact d) (T.take_exact d) fun k => T.give_exact (peer k d)

/-- Every cell's invariant, and its first round open. -/
def invs (κ : GSem 8 τ sig → ℕ) : sProp 𝕄 :=
  bigSep Finset.univ fun p : Dev 8 × Wire n => iprop(cellInv place (sched C) (κ ((cell (τ := τ) w) p.1 p.2)) ((cell (τ := τ) w) p.1 p.2) ∗ reached place ((cell (τ := τ) w) p.1 p.2) 0)

instance (κ : GSem 8 τ sig → ℕ) : BI.Persistent (invs C κ) := by unfold invs; infer_instance

theorem invs_at (κ : GSem 8 τ sig → ℕ) (c : Dev 8) (v : Wire n) :
    invs C κ ⊢ iprop(cellInv place (sched C) (κ ((cell (τ := τ) w) c v)) ((cell (τ := τ) w) c v) ∗ reached place ((cell (τ := τ) w) c v) 0) := by
  classical
  exact BI.bigSep_elim (Finset.mem_univ (c, v))

/-- The right to wait on a wire: its credit and its place. -/
def await (C : Contents T τ Val) (c : Dev 8) (v : Wire n) : sProp 𝕄 :=
  iprop(cred (tallyAt ((cell (τ := τ) w) c v) () (T.amt v.item)) ∗ atPos place ((cell (τ := τ) w) c v) 0 ∅ 0)
/-- What is left of it. -/
def done (C : Contents T τ Val) (c : Dev 8) (v : Wire n) : sProp 𝕄 :=
  iprop(deal C c v ∗ atPos place ((cell (τ := τ) w) c v) 1 ∅ 0)
/-- A core that owes nothing. -/
def clear (c : Dev 8) : sProp 𝕄 := iprop(∃ W, owes (c.tc : Thread 8 τ) 0 W)

theorem wp_await (κ : GSem 8 τ sig → ℕ) (c : Dev 8) (v : Wire n) (b : Ref sig .tc) (sh : Shape) (e : EltTy) (hb)
    (hamt : b.dmaCredit sh e = T.amt v.item) :
    iprop(invs C κ ∗ await C c v ∗ clear c) ⊢ wp frame (wpE defs 𝒱 (c.tc : Thread 8 τ) none) Set.univ
      (Prog.lift (.waitDma (w.sem v) b sh e hb)) fun _ => iprop(done C c v ∗ clear c) := by
  unfold await done clear
  iintro ⟨#HI, ⟨Hcr, Hat⟩, ⟨%W, HW⟩⟩
  iapply (wp_wait_rest_token (c := (c.tc : Thread 8 τ)) 𝒱 place (sched C) none (κ := κ ((cell (τ := τ) w) c v)) (sm := .dma (w.sem v)) (k' := T.amt v.item)
      (fun K => (wpE_waitDma_eq 𝒱 (c.tc : Thread 8 τ) none Set.univ K).trans (by rw [hamt])) (Set.mem_univ _) () (R := 0) (m := 0) (T := ∅)
      (by rw [Nat.zero_add]; exact (expect_cell C c v).symm)) $$ [Hcr Hat HW]
  · isplitr; · ihave H := (invs_at C κ c v) $$ HI; icases H with ⟨H, -⟩; iexact H
    isplitl [Hcr]; · iexact Hcr
    isplitl [HW]; · iexact HW
    isplitr; · rw [MayWait_zero]; iempintro
    iexact Hat
  iintro ⟨HW, Hat, -, Hp⟩
  rw [wp_ret]; imodintro
  isplitl [Hp Hat]
  · isplitl [Hp]
    · ihave H := (Entails.of_eq (show bigSep ((sched C).duties ((c.tc : Thread 8 τ), .dma (w.sem v)) 0 \ ∅)
          (fun d => (sched C).payload ((c.tc : Thread 8 τ), .dma (w.sem v)) 0 d) = deal C c v by
        rw [show ((c.tc : Thread 8 τ), SemLoc.dma (w.sem v)) = (cell (τ := τ) w) c v from rfl, duties_cell, Finset.sdiff_empty, BI.bigSep_singleton, payload_cell])) $$ Hp
      iexact H
    · iexact Hat
  · iexists _; iexact HW

/-- What a local copy takes. -/
def keeping (C : Contents T τ Val) (c : Dev 8) (i : Fin n) : sProp 𝕄 :=
  iprop(block C c i c ∗ empty C c i c ∗ dutyTok place ((cell (τ := τ) w) c (.inl i)) 0 ())

theorem wp_keep (κ : GSem 8 τ sig → ℕ) (c : Dev 8) (i : Fin n) (R : sProp 𝕄) :
    iprop(invs C κ ∗ keeping C c i ∗ R) ⊢ wp frame (wpE defs 𝒱 (c.tc : Thread 8 τ) none) Set.univ
      (act T c (.keep i)) fun _ => iprop(cred (tallyAt ((cell (τ := τ) w) c (.inl i)) () (T.amt i)) ∗ R) := by
  unfold keeping block empty
  iintro ⟨#HI, ⟨Hb, He, Ht⟩, HR⟩
  iapply (wp_copy_pointsTo (c := (c.tc : Thread 8 τ)) 𝒱 place (sched C) none (κ := κ ((cell (τ := τ) w) c (.inl i))) (sem := .dma (w.loc i)) (r := 0) (d := ())
      (by rw [show ((c.tc : Thread 8 τ), SemLoc.dma (w.loc i)) = (cell (τ := τ) w) c (.inl i) from rfl, duties_cell]; exact Finset.mem_singleton_self _) ()
      (T.amt i) (T.take_amt c i) (amount_cell C c (.inl i)) (fs := C.X c i c) (fd := C.old c i c) (q := T.share i c) ?_) $$ [Hb He Ht]
  · refine BI.Entails.trans ?_ (Entails.of_eq (payload_cell C c (.inl i)).symm)
    rw [pointsTo_congr (C.lands c c i)]
    exact BI.Entails.refl _
  · ihave H := (invs_at C κ c (.inl i)) $$ HI; icases H with ⟨H1, H2⟩
    isplitl [H1]; · iexact H1
    isplitl [Hb]; · iexact Hb
    isplitl [He]; · iexact He
    isplitl [Ht]; · iexact Ht
    iexact H2
  iintro Hc
  rw [wp_ret]; imodintro
  isplitl [Hc]; · iexact Hc
  iexact HR

/-- What a send owes to its peer. -/
def due (T : Tables w) (c : Dev 8) (p : Fin 7 × Fin n) : CellTallies 8 τ sig Unit := tallyAt ((cell (τ := τ) w) (peer p.1 c) (.inr (.inr p))) () (T.amt p.2)

/-- A core that owes the sends of a list. -/
def owing (T : Tables w) (c : Dev 8) (l : List (Fin 7 × Fin n)) : sProp 𝕄 := iprop(∃ W, owes (c.tc : Thread 8 τ) (l.map (due T c)).sum W)

theorem deal_rcv (c : Dev 8) (p : Fin 7 × Fin n) : deal C (peer p.1 c) (.inr (.inr p)) = full C (peer p.1 c) p.2 c := by
  show full C (peer p.1 c) p.2 (peer p.1 (peer p.1 c)) = _
  rw [peer_peer]

/-- What a send takes. -/
def sending (C : Contents T τ Val) (c : Dev 8) (p : Fin 7 × Fin n) : sProp 𝕄 :=
  iprop(block C c p.2 (peer p.1 c) ∗ empty C (peer p.1 c) p.2 c
    ∗ dutyTok place ((cell (τ := τ) w) c (.inr (.inl p))) 0 () ∗ dutyTok place ((cell (τ := τ) w) (peer p.1 c) (.inr (.inr p))) 0 ())

theorem wp_sending (κ : GSem 8 τ sig → ℕ) (c : Dev 8) (p : Fin 7 × Fin n) (l : List (Fin 7 × Fin n)) :
    iprop(invs C κ ∗ sending C c p ∗ owing T c (p :: l)) ⊢ wp frame (wpE defs 𝒱 (c.tc : Thread 8 τ) none) Set.univ
      (act T c (.send p.1 p.2)) fun _ => iprop(cred (tallyAt ((cell (τ := τ) w) c (.inr (.inl p))) () (T.amt p.2)) ∗ owing T c l) := by
  unfold sending owing block empty
  iintro ⟨#HI, ⟨Hb, He, Ht, Ht'⟩, ⟨%W, HW⟩⟩
  iapply (wp_send_pointsTo (c := (c.tc : Thread 8 τ)) (c' := ((peer p.1 c).tc : Thread 8 τ)) 𝒱 place (sched C) none
      (κ₁ := κ ((cell (τ := τ) w) c (.inr (.inl p)))) (κ₂ := κ ((cell (τ := τ) w) (peer p.1 c) (.inr (.inr p))))
      (sS := .dma (w.snd p.2 p.1)) (sem := .dma (w.rcv p.2 p.1)) (r₁ := 0) (r₂ := 0) (d₁ := ()) (d₂ := ())
      (by rw [show ((c.tc : Thread 8 τ), SemLoc.dma (w.snd p.2 p.1)) = (cell (τ := τ) w) c (.inr (.inl p)) from rfl, duties_cell]; exact Finset.mem_singleton_self _)
      (by rw [show (((peer p.1 c).tc : Thread 8 τ), SemLoc.dma (w.rcv p.2 p.1)) = (cell (τ := τ) w) (peer p.1 c) (.inr (.inr p)) from rfl, duties_cell]
          exact Finset.mem_singleton_self _) () ()
      (T.amt p.2) (T.take_amt c p.2) (amount_cell C c (.inr (.inl p))) (amount_cell C (peer p.1 c) (.inr (.inr p)))
      (O₀ := ((p :: l).map (due T c)).sum) (l.map (due T c)).sum (by rw [List.map_cons, List.sum_cons, add_comm]; rfl)
      (fs := C.X c p.2 (peer p.1 c)) (fd := C.old (peer p.1 c) p.2 c) (q := T.share p.2 (peer p.1 c)) ?_ ?_ (Topo.routes_tc _ _)) $$ [Hb He Ht Ht' HW]
  · exact Entails.of_eq (payload_cell C c (.inr (.inl p))).symm
  · refine BI.Entails.trans ?_ (Entails.of_eq (payload_cell C (peer p.1 c) (.inr (.inr p))).symm)
    rw [pointsTo_congr (C.lands c (peer p.1 c) p.2)]
    exact Entails.of_eq (deal_rcv C c p).symm
  · ihave H := (invs_at C κ c (.inr (.inl p))) $$ HI; icases H with ⟨H1, H2⟩
    ihave H := (invs_at C κ (peer p.1 c) (.inr (.inr p))) $$ HI; icases H with ⟨H3, H4⟩
    isplitl [H1]; · iexact H1
    isplitl [H3]; · iexact H3
    isplitl [Hb]; · iexact Hb
    isplitl [He]; · iexact He
    isplitl [HW]; · iexact HW
    isplitl [Ht]; · iexact Ht
    isplitl [H2]; · iexact H2
    isplitl [Ht']; · iexact Ht'
    iexact H4
  iintro ⟨Hc, HW⟩
  rw [wp_ret]; imodintro
  isplitl [Hc]; · iexact Hc
  iexists _; iexact HW

end Exchange

end
-- ==== Proof.Exchange.lean ====
/- An exchange on all devices: one device's run from start to end, and every device's start made at the launch. -/
module

public import proofs.«01_k».proof.Proof.Run

@[expose] public section

noncomputable section

namespace Exchange

open Idealize.ShloMosaic Idealize.ShloMosaic.TcCoe Idealize.ShloMosaic.Rounds Idealize.ShloMosaic.Pipeline
open Idealize.SL Idealize.SL.RA
open Idealize.SL.BI (sProp bigSep bigSep_mono bigSep_congr bigSep_sep' bigSep_univ_prod bigSep_univ_equiv)
open scoped Idealize.SL.BI
open Idealize.SL.BI.BIBase Idealize.SL.BI.Laws Idealize.SL.ProofMode Idealize.SL.Sem

set_option Elab.async false

/-! ## Regrouping over devices, items and peers -/

section

variable {M : Type} [URA M] {n : ℕ}

/-- Over all devices: a device itself and its peers. -/
theorem bigSep_items (c : Dev 8) (Φ : Fin n → Dev 8 → sProp M) :
    (bigSep Finset.univ fun i => bigSep Finset.univ fun t => Φ i t)
      = iprop((bigSep Finset.univ fun i => Φ i c) ∗ bigSep Finset.univ fun p : Fin 7 × Fin n => Φ p.2 (peer p.1 c)) := by
  rw [bigSep_congr fun i _ => bigSep_party c (Φ i), bigSep_sep', BI.bigSep_univ_comm (fun i k => Φ i (peer k c)),
    bigSep_univ_prod fun p : Fin 7 × Fin n => Φ p.2 (peer p.1 c)]

/-- What every device has for every device, and what every device gets from every device. -/
theorem bigSep_swap (Φ : Dev 8 → Fin n → Dev 8 → sProp M) :
    (bigSep Finset.univ fun c => bigSep Finset.univ fun i => bigSep Finset.univ fun t => Φ c i t)
      = bigSep Finset.univ fun c => bigSep Finset.univ fun i => bigSep Finset.univ fun t => Φ t i c := by
  rw [BI.bigSep_univ_comm, bigSep_congr fun i _ => BI.bigSep_univ_comm fun c t => Φ c i t, BI.bigSep_univ_comm]

/-- What every device has for each peer is what every device gets from each peer. -/
theorem bigSep_peers (Φ : Dev 8 → Fin 7 × Fin n → sProp M) :
    (bigSep Finset.univ fun c => bigSep Finset.univ fun p => Φ c p)
      = bigSep Finset.univ fun c => bigSep Finset.univ fun p => Φ (peer p.1 c) p := by
  rw [BI.bigSep_univ_comm, bigSep_congr fun (p : Fin 7 × Fin n) _ => bigSep_univ_equiv (Function.Involutive.toPerm (peer p.1) (peer_peer p.1)) fun c => Φ c p,
    BI.bigSep_univ_comm]
  rfl

/-- Over all wires: the local copies, the sends and the receives. -/
theorem bigSep_wires (Φ : Wire n → sProp M) :
    bigSep Finset.univ Φ = iprop((bigSep Finset.univ fun i => Φ (.inl i)) ∗ (bigSep Finset.univ fun p => Φ (.inr (.inl p)))
      ∗ bigSep Finset.univ fun p => Φ (.inr (.inr p))) :=
  (BI.bigSep_univ_sum Φ).trans (congrArg _ (BI.bigSep_univ_sum _))

end

variable {sig : RefSig} {n : ℕ} {τ : Topo} {Val : EltTy → Type} {Λ : Labels}

local notation "𝕄" => MT 8 τ sig Unit Val ℕ (Ghost τ sig) ℕ

variable {w : Wires sig n} {T : Tables w} (C : Contents T τ Val)

/-- What a device's run takes, the names of the cells given. -/
def start (κ : GSem 8 τ sig → ℕ) (c : Dev 8) : sProp 𝕄 :=
  iprop(invs C κ ∗ (bigSep Finset.univ fun i => keeping C c i) ∗ (bigSep Finset.univ fun p => sending C c p)
    ∗ (bigSep Finset.univ fun p : Fin 7 × Fin n => cred (tallyAt ((cell (τ := τ) w) c (.inr (.inr p))) () (T.amt p.2)))
    ∗ bigSep Finset.univ fun v => atPos place ((cell (τ := τ) w) c v) 0 ∅ 0)

/-- What it gives: every block back, every slot filled. -/
def finish (c : Dev 8) : sProp 𝕄 :=
  iprop((bigSep Finset.univ fun i => bigSep Finset.univ fun t => block C c i t)
    ∗ bigSep Finset.univ fun i => bigSep Finset.univ fun t => full C c i t)

/-- What a device owes when it starts: every send. -/
def owed (T : Tables w) (c : Dev 8) : CellTallies 8 τ sig Unit := ∑ p : Fin 7 × Fin n, due T c p

theorem owed_eq (c : Dev 8) : (owed T c : CellTallies 8 τ sig Unit) = ((pairs n).map (due T c)).sum := by
  rw [owed, ← List.sum_toFinset _ nodup_pairs, show (pairs n).toFinset = Finset.univ from
    Finset.eq_univ_of_forall fun p => List.mem_toFinset.mpr (mem_pairs p)]

theorem all_pairs (A : Fin 7 × Fin n → sProp 𝕄) : all A (pairs n) = bigSep Finset.univ A := all_eq_bigSep A _ nodup_pairs mem_pairs
theorem all_items (A : Fin n → sProp 𝕄) : all A (List.finRange n) = bigSep Finset.univ A :=
  all_eq_bigSep A _ (List.nodup_finRange n) List.mem_finRange

variable (defs : Defs 8 τ sig Val Λ) (𝒱 : Variants)

/-- A device's run of the exchange. -/
theorem wp_exchange (κ : GSem 8 τ sig → ℕ) (c : Dev 8) (W : Waits sig Unit) :
    iprop(start C κ c ∗ owes (c.tc : Thread 8 τ) (owed T c) W)
      ⊢ wp frame (wpE defs 𝒱 (c.tc : Thread 8 τ) none) Set.univ (each (act T c) (steps n)) fun _ =>
        iprop((finish C c ∗ bigSep Finset.univ fun v => semVal ((cell (τ := τ) w) c v) 0) ∗ clear c) := by
  have keeps := wp_each defs 𝒱 c (invs C κ) (keeping C c) (fun i => cred (tallyAt ((cell (τ := τ) w) c (.inl i)) () (T.amt i)))
    (fun _ => owing T c (pairs n)) (fun i => act T c (.keep i)) (fun i _ => wp_keep defs 𝒱 C κ c i _) (List.finRange n)
  have sends := wp_each defs 𝒱 c (invs C κ) (sending C c) (fun p => cred (tallyAt ((cell (τ := τ) w) c (.inr (.inl p))) () (T.amt p.2)))
    (owing T c) (fun p => act T c (.send p.1 p.2)) (fun p l => wp_sending defs 𝒱 C κ c p l) (pairs n)
  have recvs := wp_each defs 𝒱 c (invs C κ) (fun p => await C c (.inr (.inr p))) (fun p => done C c (.inr (.inr p)))
    (fun _ => clear c) (fun p => act T c (.recv p.1 p.2))
    (fun p _ => wp_await defs 𝒱 C κ c (.inr (.inr p)) _ _ _ _ (T.take_amt (peer p.1 c) p.2)) (pairs n)
  have sents := wp_each defs 𝒱 c (invs C κ) (fun p => await C c (.inr (.inl p))) (fun p => done C c (.inr (.inl p)))
    (fun _ => clear c) (fun p => act T c (.sent p.1 p.2))
    (fun p _ => wp_await defs 𝒱 C κ c (.inr (.inl p)) _ _ _ _ (T.give_amt (peer p.1 c) p.2)) (pairs n)
  have kepts := wp_each defs 𝒱 c (invs C κ) (fun i => await C c (.inl i)) (fun i => done C c (.inl i))
    (fun _ => clear c) (fun i => act T c (.kept i))
    (fun i _ => wp_await defs 𝒱 C κ c (.inl i) _ _ _ _ (T.take_amt c i)) (List.finRange n)
  simp only [all_pairs, all_items] at keeps sends recvs sents kepts
  unfold steps
  rw [peerwise_eq, peerwise_eq, peerwise_eq, each_append, each_append, each_append, each_append, each_map, each_map, each_map, each_map, each_map,
    wp_bind, wp_bind, wp_bind, wp_bind, owed_eq]
  unfold start
  rw [bigSep_wires]
  iintro ⟨⟨#HI, Hk, Hs, Hcr, Hp1, Hp2, Hp3⟩, HW⟩
  iapply (wp_wand frame (wpE defs 𝒱 (c.tc : Thread 8 τ) none) Set.univ) $$ [Hk HW]
  · iapply keeps
    isplitr; · iexact HI
    isplitl [Hk]; · iexact Hk
    unfold owing; iexists W; iexact HW
  iintro %_ ⟨Hck, HW⟩
  iapply (wp_wand frame (wpE defs 𝒱 (c.tc : Thread 8 τ) none) Set.univ) $$ [Hs HW]
  · iapply sends
    isplitr; · iexact HI
    isplitl [Hs]; · iexact Hs
    iexact HW
  iintro %_ ⟨Hcs, HW⟩
  iapply (wp_wand frame (wpE defs 𝒱 (c.tc : Thread 8 τ) none) Set.univ) $$ [Hcr Hp3 HW]
  · iapply recvs
    isplitr; · iexact HI
    isplitl [Hcr Hp3]
    · unfold await; rw [bigSep_sep']; isplitl [Hcr]; · iexact Hcr
      iexact Hp3
    unfold owing clear; iexact HW
  iintro %_ ⟨Hr, HW⟩
  iapply (wp_wand frame (wpE defs 𝒱 (c.tc : Thread 8 τ) none) Set.univ) $$ [Hcs Hp2 HW]
  · iapply sents
    isplitr; · iexact HI
    isplitl [Hcs Hp2]
    · unfold await; rw [bigSep_sep']; isplitl [Hcs]; · iexact Hcs
      iexact Hp2
    iexact HW
  iintro %_ ⟨Ht, HW⟩
  iapply (wp_fupd frame (wpE defs 𝒱 (c.tc : Thread 8 τ) none) Set.univ)
  iapply (wp_wand frame (wpE defs 𝒱 (c.tc : Thread 8 τ) none) Set.univ) $$ [Hck Hp1 HW]
  · iapply kepts
    isplitr; · iexact HI
    isplitl [Hck Hp1]
    · unfold await; rw [bigSep_sep']; isplitl [Hck]; · iexact Hck
      iexact Hp1
    iexact HW
  iintro %_ ⟨Hq, HW⟩
  have close (v : Wire n) : iprop(invs C κ ∗ atPos place ((cell (τ := τ) w) c v) 1 ∅ 0) ⊢ |={Set.univ}=> semVal ((cell (τ := τ) w) c v) 0 := by
    iintro ⟨HI, Hat⟩
    ihave H := (invs_at C κ c v) $$ HI
    icases H with ⟨H, -⟩
    iapply (cell_close place (sched C) (κ := κ ((cell (τ := τ) w) c v)) (Set.mem_univ _) id (R := 1) (fun r h => duties_later C _ r h))
    isplitl [H] <;> iassumption
  have closes : iprop(invs C κ ∗ bigSep Finset.univ fun v => atPos place ((cell (τ := τ) w) c v) 1 ∅ 0)
      ⊢ |={Set.univ}=> bigSep Finset.univ fun v => semVal ((cell (τ := τ) w) c v) 0 := by
    refine BI.Entails.trans ?_ (BI.bigSep_fupd _ _)
    refine BI.Entails.trans ?_ (bigSep_mono fun v _ => close v)
    rw [bigSep_sep']
    show _ ⊢ iprop((bigSep Finset.univ fun _ => invs C κ) ∗ _)
    iintro ⟨#HI, H⟩
    isplitr
    · iapply (BI.bigSep_intro_persistent (S := Finset.univ) fun (v : Wire n) _ => BI.Entails.refl (invs C κ)); iexact HI
    · iexact H
  have dones {I : Type} (f : I → Wire n) (S : Finset I) : (bigSep S fun p => done C c (f p))
      ⊢ iprop((bigSep S fun p => deal C c (f p)) ∗ bigSep S fun p => atPos place ((cell (τ := τ) w) c (f p)) 1 ∅ 0) := by
    unfold done; rw [bigSep_sep']
  ihave Hr := (dones (fun p => .inr (.inr p)) Finset.univ) $$ Hr
  icases Hr with ⟨Hr, Hp3⟩
  ihave Ht := (dones (fun p => .inr (.inl p)) Finset.univ) $$ Ht
  icases Ht with ⟨Ht, Hp2⟩
  ihave Hq := (dones .inl Finset.univ) $$ Hq
  icases Hq with ⟨Hq, Hp1⟩
  imod closes $$ [Hp1 Hp2 Hp3] with Hsem
  · isplitr; · iexact HI
    rw [bigSep_wires]
    isplitl [Hp1]; · iexact Hp1
    isplitl [Hp2]; · iexact Hp2
    iexact Hp3
  imodintro
  isplitr [HW]
  · isplitr [Hsem]
    · unfold finish
      rw [bigSep_items c, bigSep_items c]
      ihave Hq := (Entails.of_eq (show (bigSep Finset.univ fun i => deal C c (.inl i))
          = iprop((bigSep Finset.univ fun i => full C c i c) ∗ bigSep Finset.univ fun i => block C c i c) from bigSep_sep' ..)) $$ Hq
      icases Hq with ⟨Hf, Hb⟩
      isplitl [Hb Ht]
      · isplitl [Hb]; · iexact Hb
        iexact Ht
      · isplitl [Hf]; · iexact Hf
        iexact Hr
    · iexact Hsem
  · iexact HW

/-! ## The launch -/

/-- The cells of all wires. -/
def cells (T : Tables w) : Finset (GSem 8 τ sig) := Finset.univ.map ⟨fun p : Dev 8 × Wire n => (cell (τ := τ) w) p.1 p.2, cell_injective T.sem_injective⟩

/-- Their duties. -/
def duties (T : Tables w) : Finset (GSem 8 τ sig × ℕ × Unit) :=
  Finset.univ.map ⟨fun p : Dev 8 × Wire n => ((cell (τ := τ) w) p.1 p.2, 0, ()), fun _ _ h => cell_injective T.sem_injective (Prod.mk.inj h).1⟩

/-- The ghost state at the launch. -/
def ghost (T : Tables w) : Ghost τ sig := launchOf (cells T) ∅ (duties T)

theorem launch_credit (c : Dev 8) :
    (launchCred (owed T) c : sProp 𝕄) ⊢ bigSep Finset.univ fun p : Fin 7 × Fin n => cred (tallyAt ((cell (τ := τ) w) c (.inr (.inr p))) () (T.amt p.2)) := by
  classical
  unfold owed
  rw [launchCred_sum]
  exact bigSep_mono fun p _ => launchCred_tallyAt (.dma (w.rcv p.2 p.1)) (peer p.1) (peer p.1) (peer_peer p.1) (peer_peer p.1) () (T.amt p.2) c

theorem blocks_dealt : (bigSep Finset.univ fun c : Dev 8 => bigSep Finset.univ fun i => bigSep Finset.univ fun t => block C c i t)
    = iprop((bigSep Finset.univ fun c => bigSep Finset.univ fun i => block C c i c)
      ∗ bigSep Finset.univ fun c => bigSep Finset.univ fun p : Fin 7 × Fin n => block C c p.2 (peer p.1 c)) := by
  rw [bigSep_congr fun c _ => bigSep_items c fun i t => block C c i t, bigSep_sep']

theorem empties_dealt : (bigSep Finset.univ fun c : Dev 8 => bigSep Finset.univ fun i => bigSep Finset.univ fun s => empty C c i s)
    = iprop((bigSep Finset.univ fun c => bigSep Finset.univ fun i => empty C c i c)
      ∗ bigSep Finset.univ fun c => bigSep Finset.univ fun p : Fin 7 × Fin n => empty C (peer p.1 c) p.2 c) := by
  rw [bigSep_swap (fun c i s => empty C c i s), bigSep_congr fun c _ => bigSep_items c fun i t => empty C t i c, bigSep_sep']

theorem tokens_dealt (w : Wires sig n) :
    (bigSep Finset.univ fun c : Dev 8 => bigSep Finset.univ fun v => (dutyTok place (cell w c v) 0 () : sProp 𝕄))
    = iprop((bigSep Finset.univ fun c => bigSep Finset.univ fun i => dutyTok place (cell w c (.inl i)) 0 ())
      ∗ (bigSep Finset.univ fun c => bigSep Finset.univ fun p => dutyTok place (cell w c (.inr (.inl p))) 0 ())
      ∗ bigSep Finset.univ fun c => bigSep Finset.univ fun p : Fin 7 × Fin n => dutyTok place (cell w (peer p.1 c) (.inr (.inr p))) 0 ()) := by
  rw [bigSep_congr fun c _ => bigSep_wires fun v => dutyTok place (cell w c v) 0 (), bigSep_sep', bigSep_sep',
    bigSep_peers fun c p => dutyTok place (cell w c (.inr (.inr p))) 0 ()]

/-- Every device's start, from all the devices' semaphores, blocks, empty slots and credits. -/
theorem starts :
    iprop((bigSep Finset.univ fun c : Dev 8 => bigSep Finset.univ fun v => semVal ((cell (τ := τ) w) c v) 0)
        ∗ (bigSep Finset.univ fun c : Dev 8 => bigSep Finset.univ fun i => bigSep Finset.univ fun t => block C c i t)
        ∗ (bigSep Finset.univ fun c : Dev 8 => bigSep Finset.univ fun i => bigSep Finset.univ fun t => empty C c i t)
        ∗ (bigSep Finset.univ fun c : Dev 8 => launchCred (owed T) c) ∗ ownU (ghost (τ := τ) T))
      ⊢ |={Set.univ}=> bigSep Finset.univ fun c : Dev 8 => iprop(∃ κ, start C κ c) := by
  classical
  have hfund := fund_launch (Es := Set.univ) place (sched C) (S := cells T) (Sd := ∅) (Finset.disjoint_empty_right _) (fun g hg => absurd hg (Finset.notMem_empty g)) (duties T)
  rw [Finset.union_empty] at hfund
  unfold cells duties at hfund
  simp only [BI.bigSep_map] at hfund
  iintro ⟨Hsem, Hb, He, Hcr, Hu⟩
  imod hfund $$ [Hsem Hu] with ⟨%κ, -, Hinv, Hre, Hat, -, Htk⟩
  · isplitl [Hsem]
    · ihave H := (Entails.of_eq (bigSep_univ_prod fun p : Dev 8 × Wire n => semVal ((cell (τ := τ) w) p.1 p.2) 0).symm) $$ Hsem
      iexact H
    · unfold ownU ghost cells duties; iexact Hu
  imodintro
  ihave Hat := (Entails.of_eq (bigSep_univ_prod fun p : Dev 8 × Wire n => atPos place ((cell (τ := τ) w) p.1 p.2) 0 ∅ 0)) $$ Hat
  ihave Htk := (Entails.of_eq (bigSep_univ_prod fun p : Dev 8 × Wire n => dutyTok place ((cell (τ := τ) w) p.1 p.2) 0 ())) $$ Htk
  ihave #HI := (Entails.of_eq (bigSep_sep' ..).symm : _ ⊢ invs C κ) $$ [Hinv Hre]
  · isplitl [Hinv]; · iexact Hinv
    iexact Hre
  ihave Hcr := (show (bigSep Finset.univ fun c : Dev 8 => launchCred (owed T) c) ⊢ bigSep Finset.univ fun c : Dev 8 =>
      bigSep Finset.univ fun p : Fin 7 × Fin n => cred (tallyAt ((cell (τ := τ) w) c (.inr (.inr p))) () (T.amt p.2)) from
    bigSep_mono fun c _ => launch_credit c) $$ Hcr
  ihave Hb := (Entails.of_eq (blocks_dealt C)) $$ Hb
  icases Hb with ⟨Hb, Hbs⟩
  ihave He := (Entails.of_eq (empties_dealt C)) $$ He
  icases He with ⟨He, Hes⟩
  ihave Htk := (Entails.of_eq (tokens_dealt (Val := Val) w)) $$ Htk
  icases Htk with ⟨Hl, Hs, Hr⟩
  iapply (show iprop(invs C κ ∗ bigSep Finset.univ fun c => iprop((bigSep Finset.univ fun i => keeping C c i)
      ∗ (bigSep Finset.univ fun p => sending C c p)
      ∗ (bigSep Finset.univ fun p : Fin 7 × Fin n => cred (tallyAt ((cell (τ := τ) w) c (.inr (.inr p))) () (T.amt p.2)))
      ∗ bigSep Finset.univ fun v => atPos place ((cell (τ := τ) w) c v) 0 ∅ 0)) ⊢ bigSep Finset.univ fun c : Dev 8 => iprop(∃ κ, start C κ c) from by
    refine BI.Entails.trans (BI.sep_mono (BI.bigSep_intro_persistent (S := Finset.univ) fun (c : Dev 8) _ => BI.Entails.refl (invs C κ)) (BI.Entails.refl _)) ?_
    refine BI.Entails.trans (Entails.of_eq (bigSep_sep' ..).symm) ?_
    refine bigSep_mono fun c _ => (show start C κ c ⊢ iprop(∃ κ, start C κ c) from ?_)
    iintro H
    iexists κ
    iexact H)
  isplitr; · iexact HI
  unfold keeping sending
  simp only [bigSep_sep']
  isplitl [Hb He Hl]
  · isplitl [Hb]; · iexact Hb
    isplitl [He]; · iexact He
    iexact Hl
  isplitl [Hbs Hes Hs Hr]
  · isplitl [Hbs]; · iexact Hbs
    isplitl [Hes]; · iexact Hes
    isplitl [Hs]; · iexact Hs
    iexact Hr
  isplitl [Hcr]; · iexact Hcr
  iexact Hat

/-! ## The whole program -/

variable {Λ₀ : Labels} {K : Type} [Fintype K] [DecidableEq K]
variable (cfgs : K → Cfg sig Λ₀) (hinj : Function.Injective (cellOf (nD := 8) (τ := τ) cfgs)) (p : K) (hW : (cfgs p).W = 0) (hN : (cfgs p).N = 1)
variable (defs₀ : Defs 8 τ sig Val Λ₀) (𝒱₀ : Variants)

theorem scoped_cells (hcover : ∀ sm : SemLoc sig, sm.isScoped .tc = true ↔ ∃ v, SemLoc.dma (w.sem v) = sm) (hi : Function.Injective w.sem) (c : Dev 8) :
    (scopedSems0 (c.tc : Thread 8 τ) : sProp 𝕄) = bigSep Finset.univ fun v => semVal ((cell (τ := τ) w) c v) 0 := by
  classical
  rw [show (scopedSems0 (c.tc : Thread 8 τ) : sProp 𝕄) = _ from scopedSems0_tc c,
    show (Finset.univ.filter fun sm : SemLoc sig => sm.isScoped .tc = true)
        = Finset.univ.map ⟨fun v => SemLoc.dma (w.sem v), fun _ _ h => hi (SemLoc.dma.inj h)⟩ from
      Finset.ext fun sm => by rw [Finset.mem_filter, hcover, Finset.mem_map]; simp only [Finset.mem_univ, true_and]; rfl, BI.bigSep_map]
  rfl

include hinj hW hN in
/-- A program that is one exchange ends with every block as it was and every slot filled. -/
theorem exchange [∀ e, Nonempty (Val e)] (m : (ℓ : Loc 8 τ sig) → Buf Val ℓ) (g : Dev 8 → PrngReg)
    (main : Dev 8 → Prog (TpuEff 8 τ sig Val (Sig Λ₀ K fun q => ((fun q => Cfg.toPCfg (Val := Val) (cfgs q)) q).Adm) Proc.tc) PUnit)
    (hmain : ∀ c, main c = .op (.customCall (entry p) ()) fun _ => .ret ⟨⟩)
    (hbody : ∀ (c : Dev 8) (t : Fin (cfgs p).N) (Q : sProp 𝕄),
      wp frame (wpE defs₀ 𝒱₀ (c.tc : Thread 8 τ) none) Set.univ (Prog.lift .deviceId >>= fun d => each (act T d) (steps n)) (fun _ => Q)
        ⊢ wp frame (wpE defs₀ 𝒱₀ (c.tc : Thread 8 τ) none) Set.univ (defs₀ .tc (cfgs p).body ((cfgs p).bodyArgs t ((cfgs p).slots t))) fun _ => Q)
    (hcover : ∀ sm : SemLoc sig, sm.isScoped .tc = true ↔ ∃ v, SemLoc.dma (w.sem v) = sm)
    (hgive : ∀ c : Dev 8, (unscopedBufs c (fun b => m ((c.tc : Thread 8 τ).loc b)) : sProp 𝕄)
      ⊢ iprop((bigSep Finset.univ fun i => bigSep Finset.univ fun t => block C c i t)
        ∗ bigSep Finset.univ fun i => bigSep Finset.univ fun s => empty C c i s))
    (R : Dev 8 → MemSt 8 τ sig Val → Prop)
    (hread : ∀ c (s : Phys 8 τ sig Val), iprop(finish C c ∗ SI s) ⊢ |={Set.univ}=> iprop(⌜R c s.mem⌝ ∗ SI s))
    {Q : PUnit × MemSt 8 τ sig Val → Prop}
    (hQ : ∀ s : MemSt 8 τ sig Val, (∀ c, R c s) →
      (∀ g' : GSem 8 τ sig, (g'.1.2 ≠ .tc ∨ g'.2.isScoped .tc = true) → s.sem g' = 0) → Q (⟨⟩, s)) :
    θ_run (Pipeline.defs (fun q => Cfg.toPCfg (Val := Val) (cfgs q)) defs₀) (onTc main) ⟨m, fun _ => 0, g⟩ Q := by
  refine launch cfgs hinj p hW hN defs₀ 𝒱₀ (place (τ := τ) (Val := Val)) m g main hmain (fun c => iprop(∃ κ, start C κ c)) (finish C) (owed T) (ghost T)
    ?_ ?_ R hread hQ
  · refine BI.Entails.trans ?_ (starts C)
    rw [BI.bigSep_congr fun c _ => scoped_cells hcover T.sem_injective c]
    show (_ : sProp 𝕄) ⊢ _
    iintro ⟨Hs, Hb, Hcr, Hu⟩
    ihave Hb := (show (bigSep Finset.univ fun c : Dev 8 => unscopedBufs c (fun b => m ((c.tc : Thread 8 τ).loc b)))
      ⊢ iprop((bigSep Finset.univ fun c : Dev 8 => bigSep Finset.univ fun i => bigSep Finset.univ fun t => block C c i t)
        ∗ bigSep Finset.univ fun c : Dev 8 => bigSep Finset.univ fun i => bigSep Finset.univ fun s => empty C c i s) from
      (bigSep_mono fun c _ => hgive c).trans (Entails.of_eq (bigSep_sep' ..))) $$ Hb
    icases Hb with ⟨Hb, He⟩
    isplitl [Hs]; · iexact Hs
    isplitl [Hb]; · iexact Hb
    isplitl [He]; · iexact He
    isplitl [Hcr] <;> iassumption
  · intro c t W
    rw [scoped_cells hcover T.sem_injective c]
    iintro ⟨⟨%κ, HA⟩, HW⟩
    iapply (hbody c t _)
    iapply (show iprop(start C κ c ∗ owes (c.tc : Thread 8 τ) (owed T c) W) ⊢ wp frame (wpE defs₀ 𝒱₀ (c.tc : Thread 8 τ) none) Set.univ
        (Prog.lift .deviceId >>= fun d => each (act T d) (steps n)) fun _ =>
        iprop((finish C c ∗ bigSep Finset.univ fun v => semVal ((cell (τ := τ) w) c v) 0) ∗ clear c) from
      (wp_exchange C defs₀ 𝒱₀ κ c W).trans BI.fupd_intro)
    isplitl [HA] <;> iassumption

end Exchange

end
-- ==== Proof.Items.lean ====
/- What an exchange does to the memory: each slot of a device reads as its source's block read, and the blocks stay.
   The eight slots of an array, and an array lent to eight copies. -/
module

public import proofs.«01_k».proof.Proof.Exchange
public import Idealize.ShloMosaic.Lib.ValueLayout

@[expose] public section

noncomputable section

namespace Exchange

open Idealize.ShloMosaic Idealize.ShloMosaic.TcCoe Idealize.ShloMosaic.Rounds Idealize.ShloMosaic.Pipeline
open Idealize.SL Idealize.SL.RA
open Idealize.SL.BI (sProp bigSep bigSep_mono bigSep_congr bigSep_sep' bigSep_univ_prod)
open scoped Idealize.SL.BI
open Idealize.SL.BI.BIBase Idealize.SL.BI.Laws Idealize.SL.ProofMode Idealize.SL.Sem

set_option Elab.async false

/-! ## The slots of an array -/

section

variable {sig : RefSig} {e : EltTy} {R C : ℕ}

/-- The element of slot `d` at a place of a block. -/
def put (d : Dev 8) (x : (Block R C).Idx) : (Eight R C).Idx := ValueIdx.ix3 d (x 0) (x 1)

theorem put_surj (y : (Eight R C).Idx) : put (y 0) (ValueIdx.ix2 (y 1) (y 2)) = y := by
  funext a
  match a with
  | 0 | 1 | 2 => rfl

theorem put_fst (d : Dev 8) (x : (Block R C).Idx) : put d x 0 = d := rfl

theorem blockOf_emb (A : Memref sig .tc .hbm (Eight R C) e) (hq : (One R C).Squeezes (Block R C)) (d : Dev 8) (x : (Block R C).Idx) :
    (blockOf A hq d).view.emb x = A.view.emb (put d x) := by
  show A.view.emb ((Rect.unit (s := Eight R C) ![d.val, 0, 0] (One R C).size (at_inb d)).emb (Shape.reshapeEquiv hq.numel_eq x)) = _
  have hx : x = ValueIdx.ix2 (x 0) (x 1) := funext fun a => by match a with | 0 | 1 => rfl
  have hs : Shape.reshapeEquiv hq.numel_eq x = ValueIdx.ix3 (⟨0, Nat.one_pos⟩ : Fin 1) (x 0) (x 1) :=
    (congrArg _ hx).trans (ValueIdx.reshapeEquiv_ix2_1ab _ _ _)
  rw [hs]
  congr 1
  funext a
  apply Fin.ext
  match a with
  | 0 => show d.val + 1 * 0 = d.val; omega
  | 1 => show 0 + 1 * (x 0).val = (x 0).val; omega
  | 2 => show 0 + 1 * (x 1).val = (x 1).val; omega

theorem blockOf_read {Val : EltTy → Type} (A : Memref sig .tc .hbm (Eight R C) e) (hq : (One R C).Squeezes (Block R C)) (d : Dev 8)
    (f : A.view.ty.Contents Val) (x : (Block R C).Idx) : (blockOf A hq d).view.read Val f x = A.view.read Val f (put d x) := by
  show _root_.cast _ (f ((blockOf A hq d).view.emb x)) = _root_.cast _ (f (A.view.emb (put d x)))
  rw [blockOf_emb]

theorem put_mem (A : Memref sig .tc .hbm (Eight R C) e) (hq : (One R C).Squeezes (Block R C)) (d : Dev 8) (x : (Block R C).Idx) :
    A.view.emb (put d x) ∈ (blockOf A hq d).view.set := by
  rw [← blockOf_emb A hq d x]; exact View.emb_mem_set _ _

theorem blockOf_disjoint (A : Memref sig .tc .hbm (Eight R C) e) (hq : (One R C).Squeezes (Block R C)) {d d' : Dev 8} (h : d ≠ d') :
    Disjoint (blockOf A hq d).view.set (blockOf A hq d').view.set := by
  refine Finset.disjoint_left.mpr fun j hj hj' => h ?_
  obtain ⟨x, -, rfl⟩ := Finset.mem_map.mp hj
  obtain ⟨y, -, hy⟩ := Finset.mem_map.mp hj'
  have := A.view.emb.injective ((blockOf_emb A hq d' y).symm.trans (hy.trans (blockOf_emb A hq d x)))
  exact (congrFun this 0).symm

end

/-! ## Splitting an array -/

section

variable {τ : Topo} {sig : RefSig} {Val : EltTy → Type} {U : Type} [URA U]

local notation "𝕄" => MT 8 τ sig Unit Val ℕ U ℕ

/-- The shares taken one after the other off the left. -/
def peel : ℕ → PosShare TreeShare → PosShare TreeShare
  | 0, q => q.left
  | k + 1, q => peel k q.right

theorem split_shares (n : ℕ) (ℓ : Loc 8 τ sig) (I : Finset ℓ.ty.Idx) (f : Buf Val ℓ) :
    ∀ q : PosShare TreeShare, (ℓ ↦[I]{q} f : sProp 𝕄) ⊢ bigSep (Finset.univ : Finset (Fin n)) fun t => ℓ ↦[I]{peel t.val q} f := by
  classical
  induction n with
  | zero => intro q; rw [Finset.univ_eq_empty, BI.bigSep_empty]; iintro -; iempintro
  | succ n ih =>
    intro q
    rw [Fin.univ_succ, Finset.cons_eq_insert, BI.bigSep_insert (by simp), BI.bigSep_map]
    show _ ⊢ iprop((ℓ ↦[I]{q.left} f) ∗ bigSep Finset.univ fun t : Fin n => ℓ ↦[I]{peel t.val q.right} f)
    iintro H
    ihave H := (pointsTo_share (PosShare.mem_left_op_right q)).1 $$ H
    icases H with ⟨Hl, Hr⟩
    isplitl [Hl]; · iexact Hl
    iapply (ih q.right)
    iexact Hr

theorem split_slots {e : EltTy} {R C : ℕ} (A : Memref sig .tc .hbm (Eight R C) e) (hq : (One R C).Squeezes (Block R C)) (c : Dev 8)
    (f : Buf Val (A.view.loc (c.tc : Thread 8 τ))) :
    (A.view.loc (c.tc : Thread 8 τ) ↦{fullShare} f : sProp 𝕄) ⊢ bigSep Finset.univ fun d => (blockOf A hq d).view.loc (c.tc : Thread 8 τ) ↦[(blockOf A hq d).view.set]{fullShare} f := by
  classical
  refine BI.Entails.trans ?_ (Entails.of_eq (pointsTo_biUnion (ℓ := A.view.loc (c.tc : Thread 8 τ)) (q := fullShare) (f := f) Finset.univ
    (fun d => (blockOf A hq d).view.set) fun d _ d' _ h => blockOf_disjoint A hq h))
  show (A.view.loc (c.tc : Thread 8 τ) ↦{fullShare} f : sProp 𝕄) ⊢ _
  iintro H
  ihave H := (pointsTo_split_subset (Finset.subset_univ (Finset.univ.biUnion fun d => (blockOf A hq d).view.set))).1 $$ H
  icases H with ⟨H, -⟩
  iexact H

end

/-! ## The memory at the end -/

/-- What a memory holds in a buffer of a device. -/
abbrev at_ {nD : ℕ} {τ : Topo} {sig : RefSig} {Val : EltTy → Type} (m : (ℓ : Loc nD τ sig) → Buf Val ℓ) (c : Dev nD) (b : Ref sig .tc) :
    Buf Val ((c.tc : Thread nD τ).loc b) := m ((c.tc : Thread nD τ).loc b)

variable {sig : RefSig} {n : ℕ} {τ : Topo} {Val : EltTy → Type}

local notation "𝕄" => MT 8 τ sig Unit Val ℕ (Ghost τ sig) ℕ

variable {w : Wires sig n} (T : Tables w)

/-- An exchange from a memory: each slot is written with its source's block. -/
def moved (m : (ℓ : Loc 8 τ sig) → Buf Val ℓ) : Contents T τ Val where
  X c i t := m ((T.give t i).view.loc (c.tc : Thread 8 τ))
  old c i s := m ((T.take s i).view.loc (c.tc : Thread 8 τ))
  new c i s := (T.take s i).view.write Val (m ((T.take s i).view.loc (c.tc : Thread 8 τ))) ((T.give c i).view.read Val (m ((T.give c i).view.loc (s.tc : Thread 8 τ)))) Finset.univ
  lands _ _ _ _ _ := rfl

/-- What an exchange does to a memory. -/
structure Moves (m m' : (ℓ : Loc 8 τ sig) → Buf Val ℓ) (c : Dev 8) : Prop where
  /-- A slot holds what its source's block held. -/
  fill : ∀ i s, (T.take s i).view.read Val (m' ((T.take s i).view.loc (c.tc : Thread 8 τ)))
    = (T.give c i).view.read Val (m ((T.give c i).view.loc (s.tc : Thread 8 τ)))
  /-- A block holds what it held. -/
  stay : ∀ i t, ∀ j ∈ (T.give t i).view.set, m' ((T.give t i).view.loc (c.tc : Thread 8 τ)) j = m ((T.give t i).view.loc (c.tc : Thread 8 τ)) j

theorem finish_read (m : (ℓ : Loc 8 τ sig) → Buf Val ℓ) (c : Dev 8) (s : Phys 8 τ sig Val) :
    iprop(finish (moved T m) c ∗ SI s) ⊢ |={Set.univ}=> (iprop(⌜Moves T m s.mem.mem c⌝ ∗ SI s) : sProp 𝕄) := by
  have reads {A : Type} [Fintype A] (Φ : A → sProp 𝕄) (P : A → Prop) (h : ∀ a, iprop(Φ a ∗ SI s) ⊢ (⌜P a⌝ : sProp 𝕄)) :
      iprop((bigSep Finset.univ Φ) ∗ SI s) ⊢ (⌜∀ a, P a⌝ : sProp 𝕄) := by
    classical
    show iprop((bigSep Finset.univ Φ) ∗ SI s) ⊢ (⌜∀ a, P a⌝ : sProp 𝕄)
    refine Entails.trans (Q := iprop(∀ a, ⌜P a⌝)) (forall_intro fun a => ?_) pure_forall.2
    exact (show _ ⊢ _ from BI.Entails.trans (BI.sep_mono (BI.bigSep_elim (Finset.mem_univ a)) (BI.Entails.refl _)) (h a))
  have at_points (ℓ : Loc 8 τ sig) (I : Finset ℓ.ty.Idx) (q : PosShare TreeShare) (f : Buf Val ℓ) :
      iprop((ℓ ↦[I]{q} f) ∗ SI s) ⊢ (⌜∀ j ∈ I, s.mem.mem ℓ j = f j⌝ : sProp 𝕄) := sep_comm.1.trans SI_pointsTo_agree
  have fills := reads (fun i => bigSep Finset.univ fun t => full (moved T m) c i t) _ fun i => reads _ _ fun t => at_points _ _ _ _
  have stays := reads (fun i => bigSep Finset.univ fun t => block (moved T m) c i t) _ fun i => reads _ _ fun t => at_points _ _ _ _
  have filled := Entails.trans (P := iprop(finish (moved T m) c ∗ SI s)) (by
    unfold finish
    iintro ⟨⟨-, Hf⟩, Hs⟩
    isplitl [Hf] <;> iassumption) fills
  have stayed := Entails.trans (P := iprop(finish (moved T m) c ∗ SI s)) (by
    unfold finish
    iintro ⟨⟨Hb, -⟩, Hs⟩
    isplitl [Hb] <;> iassumption) stays
  refine pure_elim _ filled fun hf => pure_elim _ stayed fun hs => ?_
  iintro ⟨-, HS⟩
  imodintro
  isplitr; · ipureintro; exact ⟨fun i t => (View.read_congr fun j hj => hf i t j hj).trans (View.read_write_univ _ _), hs⟩
  iexact HS

end Exchange

end
-- ==== Proof.GradBody.lean ====
module

public import proofs.«01_k».proof.Proof.Items
public import proofs.«01_k».proof.Proof.Gen.KernelIdeal
public import proofs.«01_k».proof.Proof.Gen.KernelIdeal.Points

@[expose] public section

set_option maxRecDepth 65536

noncomputable section

namespace Cert.KernelIdeal.Grads

open Idealize.ShloMosaic Idealize.ShloMosaic.TcCoe
open Idealize.SL.Sem
open Cert.KernelIdeal.Gen Exchange

variable {F : FTy → Type} [FloatOps F]

/-- The rows of each item's blocks. -/
abbrev rows : Fin 5 → ℕ := ![352, 128, 704, 352, 312]
/-- Their columns. -/
abbrev cols : Fin 5 → ℕ := ![1024, 1024, 1024, 1024, 128]

theorem squeezes : ∀ i : Fin 5, (One (rows i) (cols i)).Squeezes (Block (rows i) (cols i)) := by decide

/-- The exchange's wires: the send semaphores are the machine's first thirty-five, then the receive semaphores, then
    those of the local copies. -/
def wires : Wires sig 5 where
  sh i := Block (rows i) (cols i)
  el _ := .f32
  loc i := (⟨70 + i.val, by omega⟩ : Fin 75)
  snd i k := (⟨7 * i.val + k.val, by omega⟩ : Fin 75)
  rcv i k := (⟨35 + (7 * i.val + k.val), by omega⟩ : Fin 75)

/-- The array each item is received in. -/
def outs : (i : Fin 5) → Memref sig .tc .hbm (Eight (rows i) (cols i)) .f32
  | 0 => .whole main_v1_0 | 1 => .whole main_v1_1 | 2 => .whole main_v1_2 | 3 => .whole main_v1_3 | 4 => .whole main_v1_4

/-- The offsets of a device's own block, as the kernel computes them. -/
def ownOff (d0 : Dev nD) : Fin 5 → Fin 3 → ℕ := ![k0_off1 d0, k0_off2 d0, k0_off3 d0, k0_off1 d0, k0_off4 d0]
/-- The offsets of the block for the peer at a distance, as the kernel computes them. -/
def peerOff (d0 : Dev nD) (k : Fin 7) : Fin 5 → Fin 3 → ℕ :=
  ![(![k0_off5, k0_off8, k0_off11, k0_off14, k0_off17, k0_off20, k0_off23] : Fin 7 → Dev nD → Fin 3 → ℕ) k d0,
    (![k0_off6, k0_off9, k0_off12, k0_off15, k0_off18, k0_off21, k0_off24] : Fin 7 → Dev nD → Fin 3 → ℕ) k d0,
    (![k0_off7, k0_off10, k0_off13, k0_off16, k0_off19, k0_off22, k0_off25] : Fin 7 → Dev nD → Fin 3 → ℕ) k d0,
    (![k0_off5, k0_off8, k0_off11, k0_off14, k0_off17, k0_off20, k0_off23] : Fin 7 → Dev nD → Fin 3 → ℕ) k d0,
    (![k0_off26, k0_off27, k0_off28, k0_off29, k0_off30, k0_off31, k0_off32] : Fin 7 → Dev nD → Fin 3 → ℕ) k d0]
/-- The device each transfer is addressed to, as the kernel computes it. -/
def target : Fin 7 → Dev nD → Fin 5 → Dev nD
  | 0, d0 => ![⟨k0_dev1 d0, k0_dev1_lt d0⟩, ⟨k0_dev2 d0, k0_dev2_lt d0⟩, ⟨k0_dev3 d0, k0_dev3_lt d0⟩, ⟨k0_dev4 d0, k0_dev4_lt d0⟩, ⟨k0_dev5 d0, k0_dev5_lt d0⟩]
  | 1, d0 => ![⟨k0_dev6 d0, k0_dev6_lt d0⟩, ⟨k0_dev7 d0, k0_dev7_lt d0⟩, ⟨k0_dev8 d0, k0_dev8_lt d0⟩, ⟨k0_dev9 d0, k0_dev9_lt d0⟩, ⟨k0_dev10 d0, k0_dev10_lt d0⟩]
  | 2, d0 => ![⟨k0_dev11 d0, k0_dev11_lt d0⟩, ⟨k0_dev12 d0, k0_dev12_lt d0⟩, ⟨k0_dev13 d0, k0_dev13_lt d0⟩, ⟨k0_dev14 d0, k0_dev14_lt d0⟩, ⟨k0_dev15 d0, k0_dev15_lt d0⟩]
  | 3, d0 => ![⟨k0_dev16 d0, k0_dev16_lt d0⟩, ⟨k0_dev17 d0, k0_dev17_lt d0⟩, ⟨k0_dev18 d0, k0_dev18_lt d0⟩, ⟨k0_dev19 d0, k0_dev19_lt d0⟩, ⟨k0_dev20 d0, k0_dev20_lt d0⟩]
  | 4, d0 => ![⟨k0_dev21 d0, k0_dev21_lt d0⟩, ⟨k0_dev22 d0, k0_dev22_lt d0⟩, ⟨k0_dev23 d0, k0_dev23_lt d0⟩, ⟨k0_dev24 d0, k0_dev24_lt d0⟩, ⟨k0_dev25 d0, k0_dev25_lt d0⟩]
  | 5, d0 => ![⟨k0_dev26 d0, k0_dev26_lt d0⟩, ⟨k0_dev27 d0, k0_dev27_lt d0⟩, ⟨k0_dev28 d0, k0_dev28_lt d0⟩, ⟨k0_dev29 d0, k0_dev29_lt d0⟩, ⟨k0_dev30 d0, k0_dev30_lt d0⟩]
  | 6, d0 => ![⟨k0_dev31 d0, k0_dev31_lt d0⟩, ⟨k0_dev32 d0, k0_dev32_lt d0⟩, ⟨k0_dev33 d0, k0_dev33_lt d0⟩, ⟨k0_dev34 d0, k0_dev34_lt d0⟩, ⟨k0_dev35 d0, k0_dev35_lt d0⟩]

theorem ownOff_eq : ∀ (d : Dev nD) (i : Fin 5), ownOff d i = ![d.val, 0, 0] := by decide
theorem peerOff_eq : ∀ (k : Fin 7) (d : Dev nD) (i : Fin 5), peerOff d k i = ![(peer k d).val, 0, 0] := by decide
theorem target_eq : ∀ (k : Fin 7) (d : Dev nD) (i : Fin 5), target k d i = peer k d := by decide

theorem ownInb (d : Dev nD) (i : Fin 5) : ∀ a, ownOff d i a + (One (rows i) (cols i)).size a ≤ (Eight (rows i) (cols i)).size a := by
  rw [ownOff_eq]; exact at_inb d
theorem peerInb (k : Fin 7) (d : Dev nD) (i : Fin 5) : ∀ a, peerOff d k i a + (One (rows i) (cols i)).size a ≤ (Eight (rows i) (cols i)).size a := by
  rw [peerOff_eq k d i]; exact at_inb _

/-- The block of each item at an offset: an array of blocks is cut there, the last item is one block. -/
def blocks (off : Fin 5 → Fin 3 → ℕ) (h : ∀ i a, off i a + (One (rows i) (cols i)).size a ≤ (Eight (rows i) (cols i)).size a) : Blocks wires
  | 0 => blockAt (.whole main_arg0) (squeezes 0) (off 0) (h 0)
  | 1 => blockAt (.whole main_arg1) (squeezes 1) (off 1) (h 1)
  | 2 => blockAt (.whole main_arg2) (squeezes 2) (off 2) (h 2)
  | 3 => blockAt (.whole main_arg3) (squeezes 3) (off 3) (h 3)
  | 4 => .whole main_arg4

/-- The slot of each item at an offset. -/
def slots (off : Fin 5 → Fin 3 → ℕ) (h : ∀ i a, off i a + (One (rows i) (cols i)).size a ≤ (Eight (rows i) (cols i)).size a) : Blocks wires :=
  fun i => blockAt (outs i) (squeezes i) (off i) (h i)

theorem blocks_exact (off : Fin 5 → Fin 3 → ℕ) (h) : (blocks off h).Exact := by
  intro i
  match i with
  | 0 | 1 | 2 | 3 => exact (View.wordExact_bits rfl).reshape _ _
  | 4 => exact (Memref.isWhole_whole main_arg4).wordExact
theorem slots_exact (off : Fin 5 → Fin 3 → ℕ) (h) : (slots off h).Exact := fun _ => (View.wordExact_bits rfl).reshape _ _

/-- A step of the printed body on device `d`. -/
def run (d : Dev nD) : Step 5 → Prog (TpuEff nD τ sig (Elt F) Λ₀ .tc) PUnit :=
  step wires (fun k => slots (peerOff d k) (peerInb k d)) (fun k => target k d) (blocks_exact (ownOff d) (ownInb d)) (slots_exact (ownOff d) (ownInb d))
      (fun k => blocks_exact (peerOff d k) (peerInb k d))

theorem sevens : List.finRange 7 = [0, 1, 2, 3, 4, 5, 6] := by decide
theorem fives : List.finRange 5 = [0, 1, 2, 3, 4] := by decide

/-- The printed body, as the steps over the wires: the printed parts one by one, each doing some of the steps. -/
theorem body_eq (t : Fin cfg0.N) : bodyAt0 (F := F) t = (Prog.lift .deviceId >>= fun d => each (run d) (steps 5)) := by
  unfold bodyAt0 cc0_exchange_grads k0_part43 k0_part1
  simp only [bind_assoc, pure_bind]
  refine congrArg _ (funext fun d => Does.eq ?_)
  simp only [steps, peerwise, sevens, fives, List.map_cons, List.map_nil, List.flatMap_cons, List.flatMap_nil,
    List.cons_append, List.nil_append, List.append_nil]
  iterate 3 refine Does.op rfl fun _ => ?_
  refine Does.part [_, _, _] ⟨_, rfl⟩ fun _ => ?_
  iterate 3 refine Does.part [_, _] ⟨_, rfl⟩ fun _ => ?_
  refine Does.part [_, _, _] ⟨_, rfl⟩ fun _ => ?_
  iterate 6 refine Does.part [_, _] ⟨_, rfl⟩ fun _ => ?_
  refine Does.part [_, _, _] ⟨_, rfl⟩ fun _ => ?_
  refine Does.part [_] ⟨_, rfl⟩ fun _ => ?_
  refine Does.part [_, _, _] ⟨_, rfl⟩ fun _ => ?_
  iterate 4 refine Does.part [_, _] ⟨_, rfl⟩ fun _ => ?_
  refine Does.part [_, _, _] ⟨_, rfl⟩ fun _ => ?_
  refine Does.part [_, _] ⟨_, rfl⟩ fun _ => ?_
  refine Does.part [_, _, _] ⟨_, rfl⟩ fun _ => ?_
  iterate 3 refine Does.part [_, _] ⟨_, rfl⟩ fun _ => ?_
  refine Does.part [_, _, _] ⟨_, rfl⟩ fun _ => ?_
  iterate 3 refine Does.part [_, _] ⟨_, rfl⟩ fun _ => ?_
  refine Does.part [_, _, _] ⟨_, rfl⟩ fun _ => ?_
  iterate 2 refine Does.part [_, _] ⟨_, rfl⟩ fun _ => ?_
  refine Does.part [_, _, _] ⟨_, rfl⟩ fun _ => ?_
  iterate 5 refine Does.part [_, _, _, _] ⟨_, rfl⟩ fun _ => ?_
  refine Does.part [_, _, _] ⟨_, rfl⟩ fun _ => ?_
  iterate 2 refine Does.part [_, _, _, _] ⟨_, rfl⟩ fun _ => ?_
  refine Does.part [_, _, _, _, _] ⟨_, rfl⟩ fun _ => ?_
  iterate 4 refine Does.op rfl fun _ => ?_
  exact ⟨_, rfl⟩

end Cert.KernelIdeal.Grads

end
-- ==== Proof.GradRun.lean ====
/- The gradients' exchange as an instance: its tables, and what it does to the memory. -/
module

public import proofs.«01_k».proof.Proof.GradBody
public import proofs.«01_k».proof.Proof.Gen.KernelIdeal.Launch

@[expose] public section

set_option maxRecDepth 65536

noncomputable section

namespace Cert.KernelIdeal.Grads

open Idealize.ShloMosaic Idealize.ShloMosaic.TcCoe Idealize.ShloMosaic.Pipeline
open Idealize.SL Idealize.SL.RA
open Idealize.SL.BI (sProp bigSep bigSep_mono bigSep_sep')
open scoped Idealize.SL.BI
open Idealize.SL.BI.BIBase Idealize.SL.BI.Laws Idealize.SL.ProofMode Idealize.SL.Sem
open Cert.KernelIdeal.Gen Exchange

set_option Elab.async false

variable {F : FTy → Type} [FloatOps F]

local notation "𝕄" => MT nD τ sig Unit (Elt F) ℕ (Ghost τ sig) ℕ

theorem sem_injective : Function.Injective wires.sem := by
  rintro (i | ⟨k, i⟩ | ⟨k, i⟩) (j | ⟨l, j⟩ | ⟨l, j⟩) h <;> have h := congrArg Fin.val h <;>
    simp only [wires, Wires.sem] at h
  · have : i = j := Fin.ext (by omega)
    rw [this]
  all_goals first
    | omega
    | (have h1 : k = l := Fin.ext (by omega)
       have h2 : i = j := Fin.ext (by omega)
       rw [h1, h2])

theorem sem_surjective : Function.Surjective wires.sem :=
  ((Fintype.bijective_iff_injective_and_card wires.sem).mpr ⟨sem_injective, rfl⟩).2

theorem all_scoped : ∀ s : Fin 75, (SemLoc.dma s : SemLoc sig).isScoped .tc = true := by decide

theorem scoped_iff (sm : SemLoc sig) : sm.isScoped .tc = true ↔ ∃ v, SemLoc.dma (wires.sem v) = sm := by
  cases sm with
  | reg s => exact s.elim0
  | dma s =>
    obtain ⟨v, rfl⟩ := sem_surjective s
    exact ⟨fun _ => ⟨v, rfl⟩, fun _ => all_scoped _⟩

/-- The blocks of the exchange: what goes to a device is the block of its number, what comes from a device goes to the
    slot of its number; the last item is one block, lent to every copy. -/
def tables : Tables wires where
  give t := blocks (fun _ => ![t.val, 0, 0]) (fun _ => at_inb t)
  take s := slots (fun _ => ![s.val, 0, 0]) (fun _ => at_inb s)
  give_exact t := blocks_exact _ _
  take_exact s := slots_exact _ _
  amt i := (slots (fun _ => ![0, 0, 0]) (fun _ => at_inb 0) i).view.dmaCredit
  amt_pos i := View.dmaCredit_pos _ (by revert i; decide)
  give_amt t i := by
    match i with
    | 0 | 1 | 2 | 3 | 4 => rfl
  take_amt s i := by
    match i with
    | 0 | 1 | 2 | 3 | 4 => rfl
  share i t := if i = 4 then peel t.val fullShare else fullShare
  sem_injective := sem_injective

theorem run_eq (d : Dev nD) : run (F := F) d = act tables d := by
  unfold run act
  have hb (off : Fin 5 → Fin 3 → ℕ) (t : Dev nD) (h) (e : ∀ i, off i = ![t.val, 0, 0]) :
      blocks off h = tables.give t := by
    obtain rfl : off = fun _ => ![t.val, 0, 0] := funext e
    rfl
  have hs (off : Fin 5 → Fin 3 → ℕ) (t : Dev nD) (h) (e : ∀ i, off i = ![t.val, 0, 0]) :
      slots off h = tables.take t := by
    obtain rfl : off = fun _ => ![t.val, 0, 0] := funext e
    rfl
  congr 1
  · exact hb _ _ _ (ownOff_eq d)
  · exact hs _ _ _ (ownOff_eq d)
  · exact funext fun k => hb _ _ _ (peerOff_eq k d)
  · exact funext fun k => hs _ _ _ (peerOff_eq k d)
  · exact funext fun k => funext fun i => target_eq k d i

theorem body_act (t : Fin cfg0.N) : bodyAt0 (F := F) t = (Prog.lift .deviceId >>= fun d => each (act tables d) (steps 5)) := by
  rw [body_eq]; simp only [run_eq]

theorem given (m : (ℓ : Loc nD τ sig) → Buf (Elt F) ℓ) (c : Dev nD) :
    (unscopedBufs c (fun b => m ((c.tc : Thread nD τ).loc b)) : sProp (MT nD τ sig Unit (Elt F) ℕ (Ghost τ sig) ℕ))
      ⊢ iprop((bigSep Finset.univ fun i => bigSep Finset.univ fun t => block (moved tables m) c i t)
        ∗ bigSep Finset.univ fun i => bigSep Finset.univ fun s => empty (moved tables m) c i s) := by
  have g0 : ((c.tc : Thread nD τ).loc main_arg0 ↦{fullShare} m ((c.tc : Thread nD τ).loc main_arg0) : sProp 𝕄)
      ⊢ bigSep Finset.univ fun t => block (moved tables m) c 0 t := split_slots (.whole main_arg0) (squeezes 0) c _
  have g1 : ((c.tc : Thread nD τ).loc main_arg1 ↦{fullShare} m ((c.tc : Thread nD τ).loc main_arg1) : sProp 𝕄)
      ⊢ bigSep Finset.univ fun t => block (moved tables m) c 1 t := split_slots (.whole main_arg1) (squeezes 1) c _
  have g2 : ((c.tc : Thread nD τ).loc main_arg2 ↦{fullShare} m ((c.tc : Thread nD τ).loc main_arg2) : sProp 𝕄)
      ⊢ bigSep Finset.univ fun t => block (moved tables m) c 2 t := split_slots (.whole main_arg2) (squeezes 2) c _
  have g3 : ((c.tc : Thread nD τ).loc main_arg3 ↦{fullShare} m ((c.tc : Thread nD τ).loc main_arg3) : sProp 𝕄)
      ⊢ bigSep Finset.univ fun t => block (moved tables m) c 3 t := split_slots (.whole main_arg3) (squeezes 3) c _
  have g4 : ((c.tc : Thread nD τ).loc main_arg4 ↦{fullShare} m ((c.tc : Thread nD τ).loc main_arg4) : sProp 𝕄)
      ⊢ bigSep Finset.univ fun t => block (moved tables m) c 4 t := by
    refine BI.Entails.trans (split_shares 8 _ _ _ fullShare) ?_
    refine bigSep_mono fun t _ => ?_
    unfold block
    rw [show (tables.give t 4).view.set = Finset.univ from View.set_whole _]
    exact (Entails.of_eq rfl : (_ : sProp 𝕄) ⊢ _)
  have h0 : ((c.tc : Thread nD τ).loc main_v1_0 ↦{fullShare} m ((c.tc : Thread nD τ).loc main_v1_0) : sProp 𝕄)
      ⊢ bigSep Finset.univ fun t => empty (moved tables m) c 0 t := split_slots (outs 0) (squeezes 0) c _
  have h1 : ((c.tc : Thread nD τ).loc main_v1_1 ↦{fullShare} m ((c.tc : Thread nD τ).loc main_v1_1) : sProp 𝕄)
      ⊢ bigSep Finset.univ fun t => empty (moved tables m) c 1 t := split_slots (outs 1) (squeezes 1) c _
  have h2 : ((c.tc : Thread nD τ).loc main_v1_2 ↦{fullShare} m ((c.tc : Thread nD τ).loc main_v1_2) : sProp 𝕄)
      ⊢ bigSep Finset.univ fun t => empty (moved tables m) c 2 t := split_slots (outs 2) (squeezes 2) c _
  have h3 : ((c.tc : Thread nD τ).loc main_v1_3 ↦{fullShare} m ((c.tc : Thread nD τ).loc main_v1_3) : sProp 𝕄)
      ⊢ bigSep Finset.univ fun t => empty (moved tables m) c 3 t := split_slots (outs 3) (squeezes 3) c _
  have h4 : ((c.tc : Thread nD τ).loc main_v1_4 ↦{fullShare} m ((c.tc : Thread nD τ).loc main_v1_4) : sProp 𝕄)
      ⊢ bigSep Finset.univ fun t => empty (moved tables m) c 4 t := split_slots (outs 4) (squeezes 4) c _
  have hl : (unscopedBufs c (fun b => m ((c.tc : Thread nD τ).loc b)) : sProp 𝕄) = _ :=
    Idealize.SL.BI.bigSep_eq_bigSepL_of_eq (S := Finset.univ.filter fun b : Ref sig .tc => ¬ b.isScoped)
      [main_arg0, main_arg1, main_arg2, main_arg3, main_arg4, main_v1_0, main_v1_1, main_v1_2, main_v1_3, main_v1_4]
      (by decide) (by decide) _
  have hf (Φ : Fin 5 → sProp 𝕄) : bigSep Finset.univ Φ = _ :=
    Idealize.SL.BI.bigSep_eq_bigSepL_of_eq [0, 1, 2, 3, 4] (by decide) (by decide) Φ
  rw [hl, hf, hf]
  simp only [Idealize.SL.BI.bigSepL]
  show iprop(_ ∗ _ ∗ _ ∗ _ ∗ _ ∗ _ ∗ _ ∗ _ ∗ _ ∗ _) ⊢ iprop((_ ∗ _ ∗ _ ∗ _ ∗ _) ∗ _ ∗ _ ∗ _ ∗ _ ∗ _)
  iintro ⟨A0, A1, A2, A3, A4, B0, B1, B2, B3, B4⟩
  isplitl [A0 A1 A2 A3 A4]
  · isplitl [A0]; · iapply g0 $$ A0
    isplitl [A1]; · iapply g1 $$ A1
    isplitl [A2]; · iapply g2 $$ A2
    isplitl [A3]; · iapply g3 $$ A3
    iapply g4 $$ A4
  · isplitl [B0]; · iapply h0 $$ B0
    isplitl [B1]; · iapply h1 $$ B1
    isplitl [B2]; · iapply h2 $$ B2
    isplitl [B3]; · iapply h3 $$ B3
    iapply h4 $$ B4

/-- The gradients' exchange, from any memory. -/
theorem run_moves (m : (ℓ : Loc nD τ sig) → Buf (Elt F) ℓ) (g : Dev nD → PrngReg)
    {Q : PUnit × MemSt nD τ sig (Elt F) → Prop}
    (hQ : ∀ s : MemSt nD τ sig (Elt F), (∀ c, Moves tables m s.mem c) → s.sem = (fun _ => 0) → Q (⟨⟩, s)) :
    θ_run (defs (F := F)) (onTc (τ := τ) (main (F := F))) ⟨m, fun _ => 0, g⟩ Q := by
  refine exchange (moved tables m) cfgs cellOf_inj 0 rfl N_0 (defs₀ (F := F)) Variants.none m g main (fun c => rfl) (fun c t Q => ?_) scoped_iff (given m)
    (fun c s => Moves tables m s.mem c) (finish_read tables m) fun s h1 h2 => hQ s h1 (funext fun g' => h2 g' ?_)
  · exact Entails.of_eq (congrArg (fun p => wp frame (wpE (defs₀ (F := F)) Variants.none c.tc none) Set.univ p fun _ => Q) (body_act (F := F) t).symm)
  · cases g'.2 with
    | reg s => exact s.elim0
    | dma s => exact .inr (all_scoped s)

end Cert.KernelIdeal.Grads

end
-- ==== Proof.Collective.lean ====
/- What the exchanges compute, against arrays held whole: eight devices' blocks gathered are the array laid out anew, and
   eight devices' blocks scattered are the array with its two block axes swapped. -/
module

public import proofs.«01_k».proof.Proof.Items
public import Idealize.ShloMosaic.Lib.Layout
public import Idealize.ShloMosaic.Lib.Pipeline.Value

@[expose] public section

noncomputable section

namespace Exchange

open Idealize.ShloMosaic Idealize.ShloMosaic.ValueIdx

variable {α : Type} {R C : ℕ}

/-- The blocks of eight devices. -/
abbrev All (R C : ℕ) : Shape := ⟨3, ![64, R, C]⟩
/-- The same, device by device. -/
abbrev Grid (R C : ℕ) : Shape := ⟨4, ![8, 8, R, C]⟩

/-- An index of a device's blocks, by its block and its place in the block. -/
theorem ext_put {f g : (Eight R C).Idx → α} (h : ∀ s x, f (put s x) = g (put s x)) : f = g :=
  funext fun y => by rw [← put_surj y]; exact h _ _

theorem all_to_all (A : (All R C).Idx → α) (hT : Layout.Tiles (Eight R C) (All R C) 0 8)
    (h1 : (All R C).ShapeCasts (Grid R C)) (h2 : (Grid R C).Transposes [1, 0, 2, 3] (Grid R C)) (h3 : (Grid R C).ShapeCasts (All R C))
    (B : Dev 8 → (Eight R C).Idx → α) (hB : ∀ s, B s = Layout.block (Eight R C) (All R C) 0 8 s A hT)
    (c : Dev 8) (D : (Eight R C).Idx → α) (hD : ∀ s x, D (put s x) = B s (put c x)) :
    D = Layout.block (Eight R C) (All R C) 0 8 c
      (shapeCast (All R C) (transpose (Grid R C) [1, 0, 2, 3] (shapeCast (Grid R C) A h1) h2) h3) hT := by
  refine ext_put fun s x => ?_
  rw [hD, hB, Layout.block_apply, Layout.block_apply]
  refine ((shapeCast_apply _ h3 _ (ix4 c s (x 0) (x 1)) ?_).trans ((transpose_apply _ _ h2 _ (ix4 s c (x 0) (x 1)) ?_).trans
    (shapeCast_apply _ h1 _ _ ?_))).symm
  · rw [Shape.rowMajor_val_four, Shape.rowMajor_val_three]; rfl
  · intro b
    match b with
    | 0 | 1 | 2 | 3 => rfl
  · rw [Shape.rowMajor_val_four, Shape.rowMajor_val_three]; rfl

theorem all_gather {N : ℕ} (A : (⟨2, ![N, C]⟩ : Shape).Idx → α) (hT : Layout.Tiles (Block R C) ⟨2, ![N, C]⟩ 0 8)
    (h : (⟨2, ![N, C]⟩ : Shape).ShapeCasts (Eight R C))
    (B : Dev 8 → (Block R C).Idx → α) (hB : ∀ s, B s = Layout.block (Block R C) ⟨2, ![N, C]⟩ 0 8 s A hT)
    (D : (Eight R C).Idx → α) (hD : ∀ s x, D (put s x) = B s x) : D = shapeCast (Eight R C) A h := by
  refine ext_put fun s x => ?_
  rw [hD, hB, Layout.block_apply]
  refine (shapeCast_apply _ h _ _ ?_).symm
  rw [Shape.rowMajor_val_two, Shape.rowMajor_val_three]; rfl

/-- The same of blocks of columns. -/
theorem all_gather_columns {N : ℕ} (A : (⟨2, ![R, N]⟩ : Shape).Idx → α) (hT : Layout.Tiles (Block R C) ⟨2, ![R, N]⟩ 1 8)
    (h1 : (⟨2, ![R, N]⟩ : Shape).ShapeCasts ⟨3, ![R, 8, C]⟩) (h2 : (⟨3, ![R, 8, C]⟩ : Shape).Transposes [1, 0, 2] (Eight R C))
    (B : Dev 8 → (Block R C).Idx → α) (hB : ∀ s, B s = Layout.block (Block R C) ⟨2, ![R, N]⟩ 1 8 s A hT)
    (D : (Eight R C).Idx → α) (hD : ∀ s x, D (put s x) = B s x) :
    D = transpose (Eight R C) [1, 0, 2] (shapeCast ⟨3, ![R, 8, C]⟩ A h1) h2 := by
  have hN : N = 8 * C := hT.size 1
  refine ext_put fun s x => ?_
  rw [hD, hB, Layout.block_apply]
  refine ((transpose_apply _ _ h2 _ (ix3 (x 0) s (x 1)) ?_).trans (shapeCast_apply _ h1 _ _ ?_)).symm
  · intro b
    match b with
    | 0 | 1 | 2 => rfl
  · rw [Shape.rowMajor_val_two, Shape.rowMajor_val_three]
    show (x 0).val * N + (s.val * C + (x 1).val) = ((x 0).val * 8 + s.val) * C + (x 1).val
    rw [hN, Nat.add_mul, Nat.mul_assoc, Nat.add_assoc]

end Exchange

end
-- ==== Proof.GradValue.lean ====
/- The gradients' exchange, read back: the arguments stay, a result holds in its slot for a device what that device's
   argument held in its block for the result's device. -/
module

public import proofs.«01_k».proof.Proof.GradRun
public import proofs.«01_k».proof.Proof.Collective

@[expose] public section

set_option maxRecDepth 65536

noncomputable section

namespace Cert.KernelIdeal.Grads

open Idealize.ShloMosaic Idealize.ShloMosaic.TcCoe Idealize.SL.Sem
open Cert.KernelIdeal.Gen Exchange

set_option Elab.async false

variable {F : FTy → Type} [FloatOps F]

/-- What the exchange leaves on a device. -/
structure Post (m m' : (ℓ : Loc nD τ sig) → Buf (Elt F) ℓ) (c : Dev nD) : Prop where
  arg0 : m' ((c.tc : Thread nD τ).loc main_arg0) = m ((c.tc : Thread nD τ).loc main_arg0)
  arg1 : m' ((c.tc : Thread nD τ).loc main_arg1) = m ((c.tc : Thread nD τ).loc main_arg1)
  arg2 : m' ((c.tc : Thread nD τ).loc main_arg2) = m ((c.tc : Thread nD τ).loc main_arg2)
  arg3 : m' ((c.tc : Thread nD τ).loc main_arg3) = m ((c.tc : Thread nD τ).loc main_arg3)
  arg4 : m' ((c.tc : Thread nD τ).loc main_arg4) = m ((c.tc : Thread nD τ).loc main_arg4)
  res0 : ∀ s x, m' ((c.tc : Thread nD τ).loc main_v1_0) (put s x) = m ((s.tc : Thread nD τ).loc main_arg0) (put c x)
  res1 : ∀ s x, m' ((c.tc : Thread nD τ).loc main_v1_1) (put s x) = m ((s.tc : Thread nD τ).loc main_arg1) (put c x)
  res2 : ∀ s x, m' ((c.tc : Thread nD τ).loc main_v1_2) (put s x) = m ((s.tc : Thread nD τ).loc main_arg2) (put c x)
  res3 : ∀ s x, m' ((c.tc : Thread nD τ).loc main_v1_3) (put s x) = m ((s.tc : Thread nD τ).loc main_arg3) (put c x)
  res4 : ∀ s x, m' ((c.tc : Thread nD τ).loc main_v1_4) (put s x) = m ((s.tc : Thread nD τ).loc main_arg4) x

theorem post {m m' : (ℓ : Loc nD τ sig) → Buf (Elt F) ℓ} {c : Dev nD} (h : Moves tables m m' c) : Post m m' c where
  arg0 := ext_put fun s x => h.stay 0 s _ (put_mem (.whole main_arg0) (squeezes 0) s x)
  arg1 := ext_put fun s x => h.stay 1 s _ (put_mem (.whole main_arg1) (squeezes 1) s x)
  arg2 := ext_put fun s x => h.stay 2 s _ (put_mem (.whole main_arg2) (squeezes 2) s x)
  arg3 := ext_put fun s x => h.stay 3 s _ (put_mem (.whole main_arg3) (squeezes 3) s x)
  arg4 := funext fun y => h.stay 4 0 y (by rw [show (tables.give 0 4).view.set = Finset.univ from View.set_whole _]; exact Finset.mem_univ _)
  res0 s x := (blockOf_read (outs 0) (squeezes 0) s _ x).symm.trans ((congrFun (h.fill 0 s) x).trans (blockOf_read (.whole main_arg0) (squeezes 0) c _ x))
  res1 s x := (blockOf_read (outs 1) (squeezes 1) s _ x).symm.trans ((congrFun (h.fill 1 s) x).trans (blockOf_read (.whole main_arg1) (squeezes 1) c _ x))
  res2 s x := (blockOf_read (outs 2) (squeezes 2) s _ x).symm.trans ((congrFun (h.fill 2 s) x).trans (blockOf_read (.whole main_arg2) (squeezes 2) c _ x))
  res3 s x := (blockOf_read (outs 3) (squeezes 3) s _ x).symm.trans ((congrFun (h.fill 3 s) x).trans (blockOf_read (.whole main_arg3) (squeezes 3) c _ x))
  res4 s x := (blockOf_read (outs 4) (squeezes 4) s _ x).symm.trans (congrFun (h.fill 4 s) x)

/-- The gradients' exchange, from any memory. -/
theorem run_main (m : (ℓ : Loc nD τ sig) → Buf (Elt F) ℓ) (g : Dev nD → PrngReg) :
    θ_run (defs (F := F)) (onTc (τ := τ) (main (F := F))) ⟨m, fun _ => 0, g⟩
      (fun r => (∀ c, Post m r.2.mem c) ∧ r.2.sem = fun _ => 0) :=
  run_moves m g fun _ h h0 => ⟨fun c => post (h c), h0⟩

end Cert.KernelIdeal.Grads

end
-- ==== Proof.GradClaim.lean ====
/- The gradients' exchange against its reference, over any float values. -/
module

public import proofs.«01_k».proof.Proof.GradValue
public import proofs.«01_k».proof.Proof.Gen.ReferenceIdeal.Run

@[expose] public section

set_option maxRecDepth 65536

noncomputable section

namespace Cert.KernelIdeal.Grads

open Idealize.ShloMosaic Idealize.ShloMosaic.TcCoe Idealize.SL.Sem
open Exchange
open Cert.ReferenceIdeal.Gen (facts)

set_option Elab.async false

variable {F : FTy → Type} [FloatOps F]

/-- The devices' arguments are the blocks of the reference's. -/
def Split (m : (ℓ : Loc nD τ sig) → Buf (Elt F) ℓ)
    (m' : (ℓ : Loc ReferenceIdeal.nD ReferenceIdeal.τ ReferenceIdeal.sig) → Buf (Elt F) ℓ) : Prop :=
  ∀ c : Dev nD,
    at_ m c main_arg0 = Layout.block ⟨3, ![8, 352, 1024]⟩ ⟨3, ![64, 352, 1024]⟩ 0 8 c (at_ m' 0 ReferenceIdeal.main_arg0)
    ∧ at_ m c main_arg1 = Layout.block ⟨3, ![8, 128, 1024]⟩ ⟨3, ![64, 128, 1024]⟩ 0 8 c (at_ m' 0 ReferenceIdeal.main_arg1)
    ∧ at_ m c main_arg2 = Layout.block ⟨3, ![8, 704, 1024]⟩ ⟨3, ![64, 704, 1024]⟩ 0 8 c (at_ m' 0 ReferenceIdeal.main_arg2)
    ∧ at_ m c main_arg3 = Layout.block ⟨3, ![8, 352, 1024]⟩ ⟨3, ![64, 352, 1024]⟩ 0 8 c (at_ m' 0 ReferenceIdeal.main_arg3)
    ∧ at_ m c main_arg4 = Layout.block ⟨2, ![312, 128]⟩ ⟨2, ![2496, 128]⟩ 0 8 c (at_ m' 0 ReferenceIdeal.main_arg4)

/-- Both run: the devices' results are the blocks of the reference's, the last one whole on each; arguments stay. -/
theorem value (m : (ℓ : Loc nD τ sig) → Buf (Elt F) ℓ) (g : Dev nD → PrngReg)
    (m' : (ℓ : Loc ReferenceIdeal.nD ReferenceIdeal.τ ReferenceIdeal.sig) → Buf (Elt F) ℓ) (g' : Dev ReferenceIdeal.nD → PrngReg) (hm : Split m m') :
    ∃ (v0 : Buf (Elt F) (((0 : Dev ReferenceIdeal.nD).tc : Thread ReferenceIdeal.nD ReferenceIdeal.τ).loc ReferenceIdeal.main_v2))
      (v1 : Buf (Elt F) (((0 : Dev ReferenceIdeal.nD).tc : Thread ReferenceIdeal.nD ReferenceIdeal.τ).loc ReferenceIdeal.main_v5))
      (v2 : Buf (Elt F) (((0 : Dev ReferenceIdeal.nD).tc : Thread ReferenceIdeal.nD ReferenceIdeal.τ).loc ReferenceIdeal.main_v8))
      (v3 : Buf (Elt F) (((0 : Dev ReferenceIdeal.nD).tc : Thread ReferenceIdeal.nD ReferenceIdeal.τ).loc ReferenceIdeal.main_v11))
      (v4 : Buf (Elt F) (((0 : Dev ReferenceIdeal.nD).tc : Thread ReferenceIdeal.nD ReferenceIdeal.τ).loc ReferenceIdeal.main_v12)),
      θ_run (defs (F := F)) (onTc (τ := τ) (main (F := F))) ⟨m, fun _ => 0, g⟩ (fun r => ∀ c : Dev nD,
        at_ r.2.mem c main_v1_0 = Layout.block ⟨3, ![8, 352, 1024]⟩ ⟨3, ![64, 352, 1024]⟩ 0 8 c v0
        ∧ at_ r.2.mem c main_v1_1 = Layout.block ⟨3, ![8, 128, 1024]⟩ ⟨3, ![64, 128, 1024]⟩ 0 8 c v1
        ∧ at_ r.2.mem c main_v1_2 = Layout.block ⟨3, ![8, 704, 1024]⟩ ⟨3, ![64, 704, 1024]⟩ 0 8 c v2
        ∧ at_ r.2.mem c main_v1_3 = Layout.block ⟨3, ![8, 352, 1024]⟩ ⟨3, ![64, 352, 1024]⟩ 0 8 c v3
        ∧ at_ r.2.mem c main_v1_4 = v4
        ∧ at_ r.2.mem c main_arg0 = at_ m c main_arg0 ∧ at_ r.2.mem c main_arg1 = at_ m c main_arg1 ∧ at_ r.2.mem c main_arg2 = at_ m c main_arg2
        ∧ at_ r.2.mem c main_arg3 = at_ m c main_arg3 ∧ at_ r.2.mem c main_arg4 = at_ m c main_arg4)
      ∧ θ_run (ReferenceIdeal.defs (F := F)) (onTc (τ := ReferenceIdeal.τ) (ReferenceIdeal.main (F := F))) ⟨m', fun _ => 0, g'⟩ (fun r =>
        at_ r.2.mem 0 ReferenceIdeal.main_v2 = v0 ∧ at_ r.2.mem 0 ReferenceIdeal.main_v5 = v1 ∧ at_ r.2.mem 0 ReferenceIdeal.main_v8 = v2
        ∧ at_ r.2.mem 0 ReferenceIdeal.main_v11 = v3 ∧ at_ r.2.mem 0 ReferenceIdeal.main_v12 = v4
        ∧ at_ r.2.mem 0 ReferenceIdeal.main_arg0 = at_ m' 0 ReferenceIdeal.main_arg0 ∧ at_ r.2.mem 0 ReferenceIdeal.main_arg1 = at_ m' 0 ReferenceIdeal.main_arg1
        ∧ at_ r.2.mem 0 ReferenceIdeal.main_arg2 = at_ m' 0 ReferenceIdeal.main_arg2 ∧ at_ r.2.mem 0 ReferenceIdeal.main_arg3 = at_ m' 0 ReferenceIdeal.main_arg3
        ∧ at_ r.2.mem 0 ReferenceIdeal.main_arg4 = at_ m' 0 ReferenceIdeal.main_arg4) := by
  refine ⟨_, _, _, _, _, (θ_run _ _ _).mono (fun r h c => ?_) (run_main m g), (θ_run _ _ _).mono (fun r h => h 0) (ReferenceIdeal.Value.run m' g')⟩
  have p := h.1 c
  exact ⟨all_to_all _ _ _ _ _ _ (fun s => (hm s).1) c _ p.res0, all_to_all _ _ _ _ _ _ (fun s => (hm s).2.1) c _ p.res1,
    all_to_all _ _ _ _ _ _ (fun s => (hm s).2.2.1) c _ p.res2, all_to_all _ _ _ _ _ _ (fun s => (hm s).2.2.2.1) c _ p.res3,
    all_gather _ _ _ _ (fun s => (hm s).2.2.2.2) _ p.res4, p.arg0, p.arg1, p.arg2, p.arg3, p.arg4⟩

end Cert.KernelIdeal.Grads

end
-- ==== Proof.WeightBody.lean ====
/- The weights' gather as the kernel prints it: its wires, the blocks it cuts, the peers it computes, and its body as the
   steps of an exchange. -/
module

public import proofs.«01_k».proof.Proof.Items
public import proofs.«01_k».proof.Proof.Gen.WeightsIdeal
public import proofs.«01_k».proof.Proof.Gen.WeightsIdeal.Points

@[expose] public section

set_option maxRecDepth 65536

noncomputable section

namespace Cert.WeightsIdeal.Weights

open Idealize.ShloMosaic Idealize.ShloMosaic.TcCoe
open Idealize.SL.Sem
open Cert.WeightsIdeal.Gen Exchange

variable {F : FTy → Type} [FloatOps F]

/-- The rows of each item's block. -/
abbrev rows : Fin 6 → ℕ := ![1024, 128, 1024, 352, 31, 3]
/-- Its columns. -/
abbrev cols : Fin 6 → ℕ := ![352, 1024, 704, 1024, 32, 704]
/-- Its elements. -/
abbrev elts : Fin 6 → EltTy := ![.bf16, .bf16, .bf16, .bf16, .f32, .f32]

theorem squeezes : ∀ i : Fin 6, (One (rows i) (cols i)).Squeezes (Block (rows i) (cols i)) := by decide

/-- The gather's wires: the send semaphores are the machine's first forty-two, then the receive semaphores, then those of
    the local copies. -/
def wires : Wires sig 6 where
  sh i := Block (rows i) (cols i)
  el := elts
  loc i := (⟨84 + i.val, by omega⟩ : Fin 90)
  snd i k := (⟨7 * i.val + k.val, by omega⟩ : Fin 90)
  rcv i k := (⟨42 + (7 * i.val + k.val), by omega⟩ : Fin 90)

/-- The block each item is: one and the same for every device. -/
def blocks : Blocks wires
  | 0 => .whole main_arg0 | 1 => .whole main_arg1 | 2 => .whole main_arg2
  | 3 => .whole main_arg3 | 4 => .whole main_arg4 | 5 => .whole main_arg5

/-- The array each item is gathered in. -/
def outs : (i : Fin 6) → Memref sig .tc .hbm (Eight (rows i) (cols i)) (elts i)
  | 0 => .whole main_v1_0 | 1 => .whole main_v1_1 | 2 => .whole main_v1_2
  | 3 => .whole main_v1_3 | 4 => .whole main_v1_4 | 5 => .whole main_v1_5

/-- The offsets of a device's own slot, as the kernel computes them. -/
def ownOff (d0 : Dev nD) (i : Fin 6) : Fin 3 → ℕ :=
  (![k0_off1, k0_off2, k0_off3, k0_off4, k0_off5, k0_off6] : Fin 6 → Dev nD → Fin 3 → ℕ) i d0
/-- The offsets of the slot of the peer at a distance, as the kernel computes them. -/
def peerOff (d0 : Dev nD) (k : Fin 7) (i : Fin 6) : Fin 3 → ℕ :=
  (![![k0_off7, k0_off8, k0_off9, k0_off10, k0_off11, k0_off12],
    ![k0_off13, k0_off14, k0_off15, k0_off16, k0_off17, k0_off18],
    ![k0_off19, k0_off20, k0_off21, k0_off22, k0_off23, k0_off24],
    ![k0_off25, k0_off26, k0_off27, k0_off28, k0_off29, k0_off30],
    ![k0_off31, k0_off32, k0_off33, k0_off34, k0_off35, k0_off36],
    ![k0_off37, k0_off38, k0_off39, k0_off40, k0_off41, k0_off42],
    ![k0_off43, k0_off44, k0_off45, k0_off46, k0_off47, k0_off48]] :
    Fin 7 → Fin 6 → Dev nD → Fin 3 → ℕ) k i d0
/-- The device each transfer is addressed to, as the kernel computes it. -/
def target : Fin 7 → Dev nD → Fin 6 → Dev nD
  | 0, d0 => ![⟨k0_dev1 d0, k0_dev1_lt d0⟩, ⟨k0_dev2 d0, k0_dev2_lt d0⟩, ⟨k0_dev3 d0, k0_dev3_lt d0⟩, ⟨k0_dev4 d0, k0_dev4_lt d0⟩, ⟨k0_dev5 d0, k0_dev5_lt d0⟩, ⟨k0_dev6 d0, k0_dev6_lt d0⟩]
  | 1, d0 => ![⟨k0_dev7 d0, k0_dev7_lt d0⟩, ⟨k0_dev8 d0, k0_dev8_lt d0⟩, ⟨k0_dev9 d0, k0_dev9_lt d0⟩, ⟨k0_dev10 d0, k0_dev10_lt d0⟩, ⟨k0_dev11 d0, k0_dev11_lt d0⟩, ⟨k0_dev12 d0, k0_dev12_lt d0⟩]
  | 2, d0 => ![⟨k0_dev13 d0, k0_dev13_lt d0⟩, ⟨k0_dev14 d0, k0_dev14_lt d0⟩, ⟨k0_dev15 d0, k0_dev15_lt d0⟩, ⟨k0_dev16 d0, k0_dev16_lt d0⟩, ⟨k0_dev17 d0, k0_dev17_lt d0⟩, ⟨k0_dev18 d0, k0_dev18_lt d0⟩]
  | 3, d0 => ![⟨k0_dev19 d0, k0_dev19_lt d0⟩, ⟨k0_dev20 d0, k0_dev20_lt d0⟩, ⟨k0_dev21 d0, k0_dev21_lt d0⟩, ⟨k0_dev22 d0, k0_dev22_lt d0⟩, ⟨k0_dev23 d0, k0_dev23_lt d0⟩, ⟨k0_dev24 d0, k0_dev24_lt d0⟩]
  | 4, d0 => ![⟨k0_dev25 d0, k0_dev25_lt d0⟩, ⟨k0_dev26 d0, k0_dev26_lt d0⟩, ⟨k0_dev27 d0, k0_dev27_lt d0⟩, ⟨k0_dev28 d0, k0_dev28_lt d0⟩, ⟨k0_dev29 d0, k0_dev29_lt d0⟩, ⟨k0_dev30 d0, k0_dev30_lt d0⟩]
  | 5, d0 => ![⟨k0_dev31 d0, k0_dev31_lt d0⟩, ⟨k0_dev32 d0, k0_dev32_lt d0⟩, ⟨k0_dev33 d0, k0_dev33_lt d0⟩, ⟨k0_dev34 d0, k0_dev34_lt d0⟩, ⟨k0_dev35 d0, k0_dev35_lt d0⟩, ⟨k0_dev36 d0, k0_dev36_lt d0⟩]
  | 6, d0 => ![⟨k0_dev37 d0, k0_dev37_lt d0⟩, ⟨k0_dev38 d0, k0_dev38_lt d0⟩, ⟨k0_dev39 d0, k0_dev39_lt d0⟩, ⟨k0_dev40 d0, k0_dev40_lt d0⟩, ⟨k0_dev41 d0, k0_dev41_lt d0⟩, ⟨k0_dev42 d0, k0_dev42_lt d0⟩]

theorem ownOff_eq : ∀ (d : Dev nD) (i : Fin 6), ownOff d i = ![d.val, 0, 0] := by decide
theorem peerOff_eq : ∀ (k : Fin 7) (d : Dev nD) (i : Fin 6), peerOff d k i = ![(peer k d).val, 0, 0] := by decide
theorem target_eq : ∀ (k : Fin 7) (d : Dev nD) (i : Fin 6), target k d i = peer k d := by decide

theorem ownInb (d : Dev nD) (i : Fin 6) : ∀ a, ownOff d i a + (One (rows i) (cols i)).size a ≤ (Eight (rows i) (cols i)).size a := by
  rw [ownOff_eq]; exact at_inb d
theorem peerInb (k : Fin 7) (d : Dev nD) (i : Fin 6) : ∀ a, peerOff d k i a + (One (rows i) (cols i)).size a ≤ (Eight (rows i) (cols i)).size a := by
  rw [peerOff_eq k d i]; exact at_inb _

/-- The slot of each item at an offset. -/
def slots (off : Fin 6 → Fin 3 → ℕ) (h : ∀ i a, off i a + (One (rows i) (cols i)).size a ≤ (Eight (rows i) (cols i)).size a) : Blocks wires :=
  fun i => blockAt (outs i) (squeezes i) (off i) (h i)

theorem blocks_exact : blocks.Exact
  | 0 => (Memref.isWhole_whole main_arg0).wordExact
  | 1 => (Memref.isWhole_whole main_arg1).wordExact
  | 2 => (Memref.isWhole_whole main_arg2).wordExact
  | 3 => (Memref.isWhole_whole main_arg3).wordExact
  | 4 => (Memref.isWhole_whole main_arg4).wordExact
  | 5 => (Memref.isWhole_whole main_arg5).wordExact

/-- A device's own slots are whole words, the packed items' as well. -/
theorem own_exact (d : Dev nD) : (slots (ownOff d) (ownInb d)).Exact
  | 0 => ((Memref.isWhole_whole main_v1_0).wordExact_slice rfl _ (k0_off1_wordsbf16 d)).reshape _ _
  | 1 => ((Memref.isWhole_whole main_v1_1).wordExact_slice rfl _ (k0_off2_wordsbf16 d)).reshape _ _
  | 2 => ((Memref.isWhole_whole main_v1_2).wordExact_slice rfl _ (k0_off3_wordsbf16 d)).reshape _ _
  | 3 => ((Memref.isWhole_whole main_v1_3).wordExact_slice rfl _ (k0_off4_wordsbf16 d)).reshape _ _
  | 4 => (View.wordExact_bits rfl).reshape _ _
  | 5 => (View.wordExact_bits rfl).reshape _ _

/-- A step of the printed body on device `d`. -/
def run (d : Dev nD) : Step 6 → Prog (TpuEff nD τ sig (Elt F) Λ₀ .tc) PUnit :=
  step wires (fun k => slots (peerOff d k) (peerInb k d)) (fun k => target k d) blocks_exact (own_exact d) (fun _ => blocks_exact)

theorem sevens : List.finRange 7 = [0, 1, 2, 3, 4, 5, 6] := by decide
theorem sixes : List.finRange 6 = [0, 1, 2, 3, 4, 5] := by decide

/-- The printed body, as the steps over the wires: the printed parts one by one, each doing some of the steps. -/
theorem body_eq (t : Fin cfg0.N) : bodyAt0 (F := F) t = (Prog.lift .deviceId >>= fun d => each (run d) (steps 6)) := by
  unfold bodyAt0 cc0_gather_weights k0_part43 k0_part1
  simp only [bind_assoc, pure_bind]
  refine congrArg _ (funext fun d => Does.eq ?_)
  simp only [steps, peerwise, sevens, sixes, List.map_cons, List.map_nil, List.flatMap_cons, List.flatMap_nil,
    List.cons_append, List.nil_append, List.append_nil]
  iterate 4 refine Does.op rfl fun _ => ?_
  refine Does.part [_, _, _, _] ⟨_, rfl⟩ fun _ => ?_
  refine Does.part [_, _] ⟨_, rfl⟩ fun _ => ?_
  refine Does.part [_, _, _] ⟨_, rfl⟩ fun _ => ?_
  refine Does.part [_, _] ⟨_, rfl⟩ fun _ => ?_
  refine Does.part [_, _, _] ⟨_, rfl⟩ fun _ => ?_
  refine Does.part [_, _] ⟨_, rfl⟩ fun _ => ?_
  iterate 2 refine Does.part [_, _, _] ⟨_, rfl⟩ fun _ => ?_
  refine Does.part [_, _] ⟨_, rfl⟩ fun _ => ?_
  refine Does.part [_, _, _] ⟨_, rfl⟩ fun _ => ?_
  refine Does.part [_, _] ⟨_, rfl⟩ fun _ => ?_
  refine Does.part [_, _, _] ⟨_, rfl⟩ fun _ => ?_
  refine Does.part [_, _] ⟨_, rfl⟩ fun _ => ?_
  refine Does.part [_, _, _] ⟨_, rfl⟩ fun _ => ?_
  refine Does.part [_, _] ⟨_, rfl⟩ fun _ => ?_
  refine Does.part [_, _, _] ⟨_, rfl⟩ fun _ => ?_
  refine Does.part [_, _] ⟨_, rfl⟩ fun _ => ?_
  iterate 2 refine Does.part [_, _, _] ⟨_, rfl⟩ fun _ => ?_
  refine Does.part [_, _] ⟨_, rfl⟩ fun _ => ?_
  iterate 2 refine Does.part [_, _, _] ⟨_, rfl⟩ fun _ => ?_
  refine Does.part [_, _] ⟨_, rfl⟩ fun _ => ?_
  iterate 2 refine Does.part [_, _, _] ⟨_, rfl⟩ fun _ => ?_
  refine Does.part [_, _] ⟨_, rfl⟩ fun _ => ?_
  iterate 2 refine Does.part [_, _, _] ⟨_, rfl⟩ fun _ => ?_
  refine Does.part [_, _] ⟨_, rfl⟩ fun _ => ?_
  refine Does.part [_, _, _] ⟨_, rfl⟩ fun _ => ?_
  refine Does.part [_, _] ⟨_, rfl⟩ fun _ => ?_
  refine Does.part [_, _, _] ⟨_, rfl⟩ fun _ => ?_
  refine Does.part [_, _, _, _] ⟨_, rfl⟩ fun _ => ?_
  iterate 7 refine Does.part [_, _, _, _, _] ⟨_, rfl⟩ fun _ => ?_
  refine Does.part [_, _, _, _, _, _] ⟨_, rfl⟩ fun _ => ?_
  iterate 5 refine Does.op rfl fun _ => ?_
  exact ⟨_, rfl⟩

end Cert.WeightsIdeal.Weights

end
-- ==== Proof.WeightRun.lean ====
/- The weights' gather as an instance: its tables, and what it does to the memory. -/
module

public import proofs.«01_k».proof.Proof.WeightBody
public import proofs.«01_k».proof.Proof.Gen.WeightsIdeal.Launch

@[expose] public section

set_option maxRecDepth 65536

noncomputable section

namespace Cert.WeightsIdeal.Weights

open Idealize.ShloMosaic Idealize.ShloMosaic.TcCoe Idealize.ShloMosaic.Pipeline
open Idealize.SL Idealize.SL.RA
open Idealize.SL.BI (sProp bigSep bigSep_mono bigSep_sep')
open scoped Idealize.SL.BI
open Idealize.SL.BI.BIBase Idealize.SL.BI.Laws Idealize.SL.ProofMode Idealize.SL.Sem
open Cert.WeightsIdeal.Gen Exchange

set_option Elab.async false

variable {F : FTy → Type} [FloatOps F]

local notation "𝕄" => MT nD τ sig Unit (Elt F) ℕ (Ghost τ sig) ℕ

theorem sem_injective : Function.Injective wires.sem := by
  rintro (i | ⟨k, i⟩ | ⟨k, i⟩) (j | ⟨l, j⟩ | ⟨l, j⟩) h <;> have h := congrArg Fin.val h <;>
    simp only [wires, Wires.sem] at h
  · have : i = j := Fin.ext (by omega)
    rw [this]
  all_goals first
    | omega
    | (have h1 : k = l := Fin.ext (by omega)
       have h2 : i = j := Fin.ext (by omega)
       rw [h1, h2])

theorem sem_surjective : Function.Surjective wires.sem :=
  ((Fintype.bijective_iff_injective_and_card wires.sem).mpr ⟨sem_injective, rfl⟩).2

theorem all_scoped : ∀ s : Fin 90, (SemLoc.dma s : SemLoc sig).isScoped .tc = true := by decide

theorem scoped_iff (sm : SemLoc sig) : sm.isScoped .tc = true ↔ ∃ v, SemLoc.dma (wires.sem v) = sm := by
  cases sm with
  | reg s => exact s.elim0
  | dma s =>
    obtain ⟨v, rfl⟩ := sem_surjective s
    exact ⟨fun _ => ⟨v, rfl⟩, fun _ => all_scoped _⟩

theorem take_exact (s : Dev nD) : (slots (fun _ => ![s.val, 0, 0]) (fun _ => at_inb s)).Exact := by
  have h : (fun _ => ![s.val, 0, 0]) = ownOff s := funext fun i => (ownOff_eq s i).symm
  have he (off : Fin 6 → Fin 3 → ℕ) (hi) (e : off = ownOff s) : (slots off hi).Exact := by
    subst e; exact own_exact s
  exact he _ _ h

/-- The blocks of the gather: every device gets the whole block, lent to every copy, and what comes from a device goes to
    the slot of its number. -/
def tables : Tables wires where
  give _ := blocks
  take s := slots (fun _ => ![s.val, 0, 0]) (fun _ => at_inb s)
  give_exact _ := blocks_exact
  take_exact := take_exact
  amt i := (slots (fun _ => ![0, 0, 0]) (fun _ => at_inb 0) i).view.dmaCredit
  amt_pos i := View.dmaCredit_pos _ (by revert i; decide)
  give_amt t i := by
    match i with
    | 0 | 1 | 2 | 3 | 4 | 5 => rfl
  take_amt s i := by
    match i with
    | 0 | 1 | 2 | 3 | 4 | 5 => rfl
  share _ t := peel t.val fullShare
  sem_injective := sem_injective

theorem run_eq (d : Dev nD) : run (F := F) d = act tables d := by
  unfold run act
  have hs (off : Fin 6 → Fin 3 → ℕ) (t : Dev nD) (h) (e : ∀ i, off i = ![t.val, 0, 0]) :
      slots off h = tables.take t := by
    obtain rfl : off = fun _ => ![t.val, 0, 0] := funext e
    rfl
  congr 1
  · exact hs _ _ _ (ownOff_eq d)
  · exact funext fun k => hs _ _ _ (peerOff_eq k d)
  · exact funext fun k => funext fun i => target_eq k d i

theorem body_act (t : Fin cfg0.N) : bodyAt0 (F := F) t = (Prog.lift .deviceId >>= fun d => each (act tables d) (steps 6)) := by
  rw [body_eq]; simp only [run_eq]

theorem blocks_set : ∀ i, (blocks i).view.set = Finset.univ
  | 0 | 1 | 2 | 3 | 4 | 5 => View.set_whole _

theorem given (m : (ℓ : Loc nD τ sig) → Buf (Elt F) ℓ) (c : Dev nD) :
    (unscopedBufs c (fun b => m ((c.tc : Thread nD τ).loc b)) : sProp (MT nD τ sig Unit (Elt F) ℕ (Ghost τ sig) ℕ))
      ⊢ iprop((bigSep Finset.univ fun i => bigSep Finset.univ fun t => block (moved tables m) c i t)
        ∗ bigSep Finset.univ fun i => bigSep Finset.univ fun s => empty (moved tables m) c i s) := by
  have g (i : Fin 6) : ((blocks i).view.loc (c.tc : Thread nD τ) ↦[Finset.univ]{fullShare} m ((blocks i).view.loc (c.tc : Thread nD τ)) : sProp 𝕄)
      ⊢ bigSep Finset.univ fun t => block (moved tables m) c i t := by
    rw [← blocks_set i]
    exact split_shares 8 _ _ _ fullShare
  have h (i : Fin 6) : ((outs i).view.loc (c.tc : Thread nD τ) ↦{fullShare} m ((outs i).view.loc (c.tc : Thread nD τ)) : sProp 𝕄)
      ⊢ bigSep Finset.univ fun t => empty (moved tables m) c i t := split_slots (outs i) (squeezes i) c _
  have g0 : ((c.tc : Thread nD τ).loc main_arg0 ↦{fullShare} m ((c.tc : Thread nD τ).loc main_arg0) : sProp 𝕄) ⊢ _ := g 0
  have g1 : ((c.tc : Thread nD τ).loc main_arg1 ↦{fullShare} m ((c.tc : Thread nD τ).loc main_arg1) : sProp 𝕄) ⊢ _ := g 1
  have g2 : ((c.tc : Thread nD τ).loc main_arg2 ↦{fullShare} m ((c.tc : Thread nD τ).loc main_arg2) : sProp 𝕄) ⊢ _ := g 2
  have g3 : ((c.tc : Thread nD τ).loc main_arg3 ↦{fullShare} m ((c.tc : Thread nD τ).loc main_arg3) : sProp 𝕄) ⊢ _ := g 3
  have g4 : ((c.tc : Thread nD τ).loc main_arg4 ↦{fullShare} m ((c.tc : Thread nD τ).loc main_arg4) : sProp 𝕄) ⊢ _ := g 4
  have g5 : ((c.tc : Thread nD τ).loc main_arg5 ↦{fullShare} m ((c.tc : Thread nD τ).loc main_arg5) : sProp 𝕄) ⊢ _ := g 5
  have h0 : ((c.tc : Thread nD τ).loc main_v1_0 ↦{fullShare} m ((c.tc : Thread nD τ).loc main_v1_0) : sProp 𝕄) ⊢ _ := h 0
  have h1 : ((c.tc : Thread nD τ).loc main_v1_1 ↦{fullShare} m ((c.tc : Thread nD τ).loc main_v1_1) : sProp 𝕄) ⊢ _ := h 1
  have h2 : ((c.tc : Thread nD τ).loc main_v1_2 ↦{fullShare} m ((c.tc : Thread nD τ).loc main_v1_2) : sProp 𝕄) ⊢ _ := h 2
  have h3 : ((c.tc : Thread nD τ).loc main_v1_3 ↦{fullShare} m ((c.tc : Thread nD τ).loc main_v1_3) : sProp 𝕄) ⊢ _ := h 3
  have h4 : ((c.tc : Thread nD τ).loc main_v1_4 ↦{fullShare} m ((c.tc : Thread nD τ).loc main_v1_4) : sProp 𝕄) ⊢ _ := h 4
  have h5 : ((c.tc : Thread nD τ).loc main_v1_5 ↦{fullShare} m ((c.tc : Thread nD τ).loc main_v1_5) : sProp 𝕄) ⊢ _ := h 5
  have hl : (unscopedBufs c (fun b => m ((c.tc : Thread nD τ).loc b)) : sProp 𝕄) = _ :=
    Idealize.SL.BI.bigSep_eq_bigSepL_of_eq (S := Finset.univ.filter fun b : Ref sig .tc => ¬ b.isScoped)
      [main_arg0, main_arg1, main_arg2, main_arg3, main_arg4, main_arg5, main_v1_0, main_v1_1, main_v1_2, main_v1_3, main_v1_4, main_v1_5]
      (by decide) (by decide) _
  have hf (Φ : Fin 6 → sProp 𝕄) : bigSep Finset.univ Φ = _ :=
    Idealize.SL.BI.bigSep_eq_bigSepL_of_eq [0, 1, 2, 3, 4, 5] (by decide) (by decide) Φ
  rw [hl, hf, hf]
  simp only [Idealize.SL.BI.bigSepL]
  show iprop(_ ∗ _ ∗ _ ∗ _ ∗ _ ∗ _ ∗ _ ∗ _ ∗ _ ∗ _ ∗ _ ∗ _) ⊢ iprop((_ ∗ _ ∗ _ ∗ _ ∗ _ ∗ _) ∗ _ ∗ _ ∗ _ ∗ _ ∗ _ ∗ _)
  iintro ⟨A0, A1, A2, A3, A4, A5, B0, B1, B2, B3, B4, B5⟩
  isplitl [A0 A1 A2 A3 A4 A5]
  · isplitl [A0]; · iapply g0 $$ A0
    isplitl [A1]; · iapply g1 $$ A1
    isplitl [A2]; · iapply g2 $$ A2
    isplitl [A3]; · iapply g3 $$ A3
    isplitl [A4]; · iapply g4 $$ A4
    iapply g5 $$ A5
  · isplitl [B0]; · iapply h0 $$ B0
    isplitl [B1]; · iapply h1 $$ B1
    isplitl [B2]; · iapply h2 $$ B2
    isplitl [B3]; · iapply h3 $$ B3
    isplitl [B4]; · iapply h4 $$ B4
    iapply h5 $$ B5

set_option maxHeartbeats 4000000 in
/-- The weights' gather, from any memory. -/
theorem run_moves (m : (ℓ : Loc nD τ sig) → Buf (Elt F) ℓ) (g : Dev nD → PrngReg)
    {Q : PUnit × MemSt nD τ sig (Elt F) → Prop}
    (hQ : ∀ s : MemSt nD τ sig (Elt F), (∀ c, Moves tables m s.mem c) → s.sem = (fun _ => 0) → Q (⟨⟩, s)) :
    θ_run (defs (F := F)) (onTc (τ := τ) (main (F := F))) ⟨m, fun _ => 0, g⟩ Q := by
  refine exchange (moved tables m) cfgs cellOf_inj 0 rfl N_0 (defs₀ (F := F)) Variants.none m g main (fun c => rfl) (fun c t Q => ?_) scoped_iff (given m)
    (fun c s => Moves tables m s.mem c) (finish_read tables m) fun s h1 h2 => hQ s h1 (funext fun g' => h2 g' ?_)
  · exact Entails.of_eq (congrArg (fun p => wp frame (wpE (defs₀ (F := F)) Variants.none c.tc none) Set.univ p fun _ => Q) (body_act (F := F) t).symm)
  · cases g'.2 with
    | reg s => exact s.elim0
    | dma s => exact .inr (all_scoped s)

end Cert.WeightsIdeal.Weights

end
-- ==== Proof.WeightValue.lean ====
/- The weights' gather, read back: the arguments stay, a result holds in its slot for a device that device's argument. -/
module

public import proofs.«01_k».proof.Proof.WeightRun
public import proofs.«01_k».proof.Proof.Collective

@[expose] public section

set_option maxRecDepth 65536

noncomputable section

namespace Cert.WeightsIdeal.Weights

open Idealize.ShloMosaic Idealize.ShloMosaic.TcCoe Idealize.SL.Sem
open Cert.WeightsIdeal.Gen Exchange

set_option Elab.async false

variable {F : FTy → Type} [FloatOps F]

theorem post_arg {m m' : (ℓ : Loc nD τ sig) → Buf (Elt F) ℓ} {c : Dev nD} (h : Moves tables m m' c) (i : Fin 6) :
    m' ((blocks i).view.loc (c.tc : Thread nD τ)) = m ((blocks i).view.loc (c.tc : Thread nD τ)) :=
  funext fun y => h.stay i 0 y (by rw [show (tables.give 0 i).view.set = Finset.univ from blocks_set i]; exact Finset.mem_univ _)

theorem post_res {m m' : (ℓ : Loc nD τ sig) → Buf (Elt F) ℓ} {c : Dev nD} (h : Moves tables m m' c) (i : Fin 6) (s : Dev nD)
    (x : (Block (rows i) (cols i)).Idx) :
    (outs i).view.read (Elt F) (m' ((outs i).view.loc (c.tc : Thread nD τ))) (put s x)
      = (blocks i).view.read (Elt F) (m ((blocks i).view.loc (s.tc : Thread nD τ))) x :=
  (blockOf_read (outs i) (squeezes i) s _ x).symm.trans (congrFun (h.fill i s) x)

/-- What the gather leaves on a device. -/
structure Post (m m' : (ℓ : Loc nD τ sig) → Buf (Elt F) ℓ) (c : Dev nD) : Prop where
  arg0 : m' ((c.tc : Thread nD τ).loc main_arg0) = m ((c.tc : Thread nD τ).loc main_arg0)
  arg1 : m' ((c.tc : Thread nD τ).loc main_arg1) = m ((c.tc : Thread nD τ).loc main_arg1)
  arg2 : m' ((c.tc : Thread nD τ).loc main_arg2) = m ((c.tc : Thread nD τ).loc main_arg2)
  arg3 : m' ((c.tc : Thread nD τ).loc main_arg3) = m ((c.tc : Thread nD τ).loc main_arg3)
  arg4 : m' ((c.tc : Thread nD τ).loc main_arg4) = m ((c.tc : Thread nD τ).loc main_arg4)
  arg5 : m' ((c.tc : Thread nD τ).loc main_arg5) = m ((c.tc : Thread nD τ).loc main_arg5)
  res0 : ∀ s x, m' ((c.tc : Thread nD τ).loc main_v1_0) (put s x) = m ((s.tc : Thread nD τ).loc main_arg0) x
  res1 : ∀ s x, m' ((c.tc : Thread nD τ).loc main_v1_1) (put s x) = m ((s.tc : Thread nD τ).loc main_arg1) x
  res2 : ∀ s x, m' ((c.tc : Thread nD τ).loc main_v1_2) (put s x) = m ((s.tc : Thread nD τ).loc main_arg2) x
  res3 : ∀ s x, m' ((c.tc : Thread nD τ).loc main_v1_3) (put s x) = m ((s.tc : Thread nD τ).loc main_arg3) x
  res4 : ∀ s x, m' ((c.tc : Thread nD τ).loc main_v1_4) (put s x) = m ((s.tc : Thread nD τ).loc main_arg4) x
  res5 : ∀ s x, m' ((c.tc : Thread nD τ).loc main_v1_5) (put s x) = m ((s.tc : Thread nD τ).loc main_arg5) x

theorem post {m m' : (ℓ : Loc nD τ sig) → Buf (Elt F) ℓ} {c : Dev nD} (h : Moves tables m m' c) : Post m m' c :=
  ⟨post_arg h 0, post_arg h 1, post_arg h 2, post_arg h 3, post_arg h 4, post_arg h 5,
    post_res h 0, post_res h 1, post_res h 2, post_res h 3, post_res h 4, post_res h 5⟩

/-- The weights' gather, from any memory. -/
theorem run_main (m : (ℓ : Loc nD τ sig) → Buf (Elt F) ℓ) (g : Dev nD → PrngReg) :
    θ_run (defs (F := F)) (onTc (τ := τ) (main (F := F))) ⟨m, fun _ => 0, g⟩
      (fun r => (∀ c, Post m r.2.mem c) ∧ r.2.sem = fun _ => 0) :=
  run_moves m g fun _ h h0 => ⟨fun c => post (h c), h0⟩

end Cert.WeightsIdeal.Weights

end
-- ==== Proof.WeightClaim.lean ====
/- The weights' gather against its reference, over any float values. -/
module

public import proofs.«01_k».proof.Proof.WeightValue
public import proofs.«01_k».proof.Proof.Gen.WeightsReferenceIdeal.Run

@[expose] public section

set_option maxRecDepth 65536

noncomputable section

namespace Cert.WeightsIdeal.Weights

open Idealize.ShloMosaic Idealize.ShloMosaic.TcCoe Idealize.SL.Sem
open Exchange
open Cert.WeightsReferenceIdeal.Gen (facts)

set_option Elab.async false

variable {F : FTy → Type} [FloatOps F]

/-- The devices' arguments are the blocks of the reference's, of rows or of columns. -/
def Split (m : (ℓ : Loc nD τ sig) → Buf (Elt F) ℓ)
    (m' : (ℓ : Loc WeightsReferenceIdeal.nD WeightsReferenceIdeal.τ WeightsReferenceIdeal.sig) → Buf (Elt F) ℓ) : Prop :=
  ∀ c : Dev nD,
    at_ m c main_arg0 = Layout.block ⟨2, ![1024, 352]⟩ ⟨2, ![1024, 2816]⟩ 1 8 c (at_ m' 0 WeightsReferenceIdeal.main_arg0)
    ∧ at_ m c main_arg1 = Layout.block ⟨2, ![128, 1024]⟩ ⟨2, ![1024, 1024]⟩ 0 8 c (at_ m' 0 WeightsReferenceIdeal.main_arg1)
    ∧ at_ m c main_arg2 = Layout.block ⟨2, ![1024, 704]⟩ ⟨2, ![1024, 5632]⟩ 1 8 c (at_ m' 0 WeightsReferenceIdeal.main_arg2)
    ∧ at_ m c main_arg3 = Layout.block ⟨2, ![352, 1024]⟩ ⟨2, ![2816, 1024]⟩ 0 8 c (at_ m' 0 WeightsReferenceIdeal.main_arg3)
    ∧ at_ m c main_arg4 = Layout.block ⟨2, ![31, 32]⟩ ⟨2, ![31, 256]⟩ 1 8 c (at_ m' 0 WeightsReferenceIdeal.main_arg4)
    ∧ at_ m c main_arg5 = Layout.block ⟨2, ![3, 704]⟩ ⟨2, ![3, 5632]⟩ 1 8 c (at_ m' 0 WeightsReferenceIdeal.main_arg5)

/-- Both run: every device's results are the reference's, whole; arguments stay. -/
theorem value (m : (ℓ : Loc nD τ sig) → Buf (Elt F) ℓ) (g : Dev nD → PrngReg)
    (m' : (ℓ : Loc WeightsReferenceIdeal.nD WeightsReferenceIdeal.τ WeightsReferenceIdeal.sig) → Buf (Elt F) ℓ) (g' : Dev WeightsReferenceIdeal.nD → PrngReg) (hm : Split m m') :
    ∃ (v0 : Buf (Elt F) (((0 : Dev WeightsReferenceIdeal.nD).tc : Thread WeightsReferenceIdeal.nD WeightsReferenceIdeal.τ).loc WeightsReferenceIdeal.main_v1))
      (v1 : Buf (Elt F) (((0 : Dev WeightsReferenceIdeal.nD).tc : Thread WeightsReferenceIdeal.nD WeightsReferenceIdeal.τ).loc WeightsReferenceIdeal.main_v2))
      (v2 : Buf (Elt F) (((0 : Dev WeightsReferenceIdeal.nD).tc : Thread WeightsReferenceIdeal.nD WeightsReferenceIdeal.τ).loc WeightsReferenceIdeal.main_v4))
      (v3 : Buf (Elt F) (((0 : Dev WeightsReferenceIdeal.nD).tc : Thread WeightsReferenceIdeal.nD WeightsReferenceIdeal.τ).loc WeightsReferenceIdeal.main_v5))
      (v4 : Buf (Elt F) (((0 : Dev WeightsReferenceIdeal.nD).tc : Thread WeightsReferenceIdeal.nD WeightsReferenceIdeal.τ).loc WeightsReferenceIdeal.main_v7))
      (v5 : Buf (Elt F) (((0 : Dev WeightsReferenceIdeal.nD).tc : Thread WeightsReferenceIdeal.nD WeightsReferenceIdeal.τ).loc WeightsReferenceIdeal.main_v9)),
      θ_run (defs (F := F)) (onTc (τ := τ) (main (F := F))) ⟨m, fun _ => 0, g⟩ (fun r => ∀ c : Dev nD,
        at_ r.2.mem c main_v1_0 = v0 ∧ at_ r.2.mem c main_v1_1 = v1 ∧ at_ r.2.mem c main_v1_2 = v2
        ∧ at_ r.2.mem c main_v1_3 = v3 ∧ at_ r.2.mem c main_v1_4 = v4 ∧ at_ r.2.mem c main_v1_5 = v5
        ∧ at_ r.2.mem c main_arg0 = at_ m c main_arg0 ∧ at_ r.2.mem c main_arg1 = at_ m c main_arg1 ∧ at_ r.2.mem c main_arg2 = at_ m c main_arg2
        ∧ at_ r.2.mem c main_arg3 = at_ m c main_arg3 ∧ at_ r.2.mem c main_arg4 = at_ m c main_arg4 ∧ at_ r.2.mem c main_arg5 = at_ m c main_arg5)
      ∧ θ_run (WeightsReferenceIdeal.defs (F := F)) (onTc (τ := WeightsReferenceIdeal.τ) (WeightsReferenceIdeal.main (F := F))) ⟨m', fun _ => 0, g'⟩ (fun r =>
        at_ r.2.mem 0 WeightsReferenceIdeal.main_v1 = v0 ∧ at_ r.2.mem 0 WeightsReferenceIdeal.main_v2 = v1 ∧ at_ r.2.mem 0 WeightsReferenceIdeal.main_v4 = v2
        ∧ at_ r.2.mem 0 WeightsReferenceIdeal.main_v5 = v3 ∧ at_ r.2.mem 0 WeightsReferenceIdeal.main_v7 = v4 ∧ at_ r.2.mem 0 WeightsReferenceIdeal.main_v9 = v5
        ∧ at_ r.2.mem 0 WeightsReferenceIdeal.main_arg0 = at_ m' 0 WeightsReferenceIdeal.main_arg0
        ∧ at_ r.2.mem 0 WeightsReferenceIdeal.main_arg1 = at_ m' 0 WeightsReferenceIdeal.main_arg1
        ∧ at_ r.2.mem 0 WeightsReferenceIdeal.main_arg2 = at_ m' 0 WeightsReferenceIdeal.main_arg2
        ∧ at_ r.2.mem 0 WeightsReferenceIdeal.main_arg3 = at_ m' 0 WeightsReferenceIdeal.main_arg3
        ∧ at_ r.2.mem 0 WeightsReferenceIdeal.main_arg4 = at_ m' 0 WeightsReferenceIdeal.main_arg4
        ∧ at_ r.2.mem 0 WeightsReferenceIdeal.main_arg5 = at_ m' 0 WeightsReferenceIdeal.main_arg5) := by
  refine ⟨_, _, _, _, _, _, (θ_run _ _ _).mono (fun r h c => ?_) (run_main m g), (θ_run _ _ _).mono (fun r h => h 0) (WeightsReferenceIdeal.Value.run m' g')⟩
  have p := h.1 c
  exact ⟨all_gather_columns _ _ _ _ _ (fun s => (hm s).1) _ p.res0,
    all_gather _ _ _ _ (fun s => (hm s).2.1) _ p.res1,
    all_gather_columns _ _ _ _ _ (fun s => (hm s).2.2.1) _ p.res2,
    all_gather _ _ _ _ (fun s => (hm s).2.2.2.1) _ p.res3,
    all_gather_columns _ _ _ _ _ (fun s => (hm s).2.2.2.2.1) _ p.res4,
    all_gather_columns _ _ _ _ _ (fun s => (hm s).2.2.2.2.2) _ p.res5,
    p.arg0, p.arg1, p.arg2, p.arg3, p.arg4, p.arg5⟩

end Cert.WeightsIdeal.Weights

end
-- ==== Proof.Sums.lean ====
/- THE SUM OF EIGHT SLABS, for any number of rows and columns: what the host's reduction gives, what seven additions in a
   row give, and how the sum of a block of rows is that block of the sum. -/
module

public import Idealize.ShloMosaic.Lib.Pointwise.Reduce
public import Idealize.ShloMosaic.PureOps.Ideal.Laws

@[expose] public section

set_option maxRecDepth 65536

noncomputable section

namespace Cert.Sums

open Idealize.ShloMosaic
open scoped BigOperators

set_option Elab.async false

/-- The sum of the eight slabs. -/
def slabs {R C : ℕ} (A : FVec Ideal ⟨3, ![8, R, C]⟩ .f32) : FVec Ideal ⟨2, ![R, C]⟩ .f32 :=
  fun y => ∑ k : Fin 8, (A (ix3 k (y 0) (y 1)) : EReal)

/-- On the host. -/
theorem host_slabs {R C : ℕ} (A : FVec Ideal ⟨3, ![8, R, C]⟩ .f32)
    (h : (⟨3, ![8, R, C]⟩ : Shape).ReducesTo [0] ⟨2, ![R, C]⟩) (hu : 0 < (⟨0, ![]⟩ : Shape).numel) :
    Host.reduceAdd A (constant ⟨0, ![]⟩ .f32 0x00000000#32) h hu = slabs A := by
  funext y
  refine (Ideal.hostReduceAdd_r3_a0 h A _ y).trans ?_
  show Ideal.ofBits .f32 0x00000000#32 + _ = _
  rw [Ideal.ofBits_zero_f32, zero_add]
  rfl

/-- Added one after another, wherever the eight elements are read. -/
theorem added {R C : ℕ} (A : FVec Ideal ⟨3, ![8, R, C]⟩ .f32) (y : (⟨2, ![R, C]⟩ : Shape).Idx)
    (x : Fin 8 → (⟨3, ![8, R, C]⟩ : Shape).Idx) (hx : ∀ k, (x k 0).val = k.val ∧ (x k 1).val = (y 0).val ∧ (x k 2).val = (y 1).val) :
    FloatOps.addf (FloatOps.addf (FloatOps.addf (FloatOps.addf (FloatOps.addf (FloatOps.addf (FloatOps.addf
      (A (x 0)) (A (x 1))) (A (x 2))) (A (x 3))) (A (x 4))) (A (x 5))) (A (x 6))) (A (x 7)) = slabs A y := by
  have e : ∀ k, x k = ix3 k (y 0) (y 1) := fun k => funext fun a => Fin.ext (match a with
    | ⟨0, _⟩ => (hx k).1 | ⟨1, _⟩ => (hx k).2.1 | ⟨2, _⟩ => (hx k).2.2)
  simp only [e]
  exact (Fin.sum_univ_eight (fun k : Fin 8 => (A (ix3 k (y 0) (y 1)) : EReal))).symm

/-- The sum of a block is the sum of the array where the block lies. -/
theorem moved {R C R' C' : ℕ} (A : FVec Ideal ⟨3, ![8, R, C]⟩ .f32) (B : FVec Ideal ⟨3, ![8, R', C']⟩ .f32) (y : (⟨2, ![R, C]⟩ : Shape).Idx)
    (z : (⟨2, ![R', C']⟩ : Shape).Idx) (h : ∀ k, A (ix3 k (y 0) (y 1)) = B (ix3 k (z 0) (z 1))) : slabs A y = slabs B z :=
  Finset.sum_congr rfl fun k _ => h k

/-- Blocks of `B` whole rows: block `t` of the slabs lies over block `t` of the sum. -/
theorem rows {R C B t : ℕ} {p : Fin 3 → ℕ} {q : Fin 2 → ℕ} (hp : p = ![0, t, 0]) (hq : q = ![t, 0]) (k : Fin 8) (y : (⟨2, ![B, C]⟩ : Shape).Idx)
    (z : (⟨2, ![R, C]⟩ : Shape).Idx) (hz : ∀ a : Fin 2, (z a).val = q a * ![B, C] a + 1 * (y a).val) :
    ∀ a : Fin 3, p a * ![8, B, C] a + 1 * (ix3 k (y 0) (y 1) a).val = (ix3 k (z 0) (z 1) a).val := fun a => by
  subst hp hq
  match a with
  | ⟨0, _⟩ => show 0 * 8 + 1 * k.val = k.val; omega
  | ⟨1, _⟩ => exact (hz 0).symm
  | ⟨2, _⟩ => exact (hz 1).symm

/-- They fill the array. -/
theorem in_rows {R C B : ℕ} (i : (⟨2, ![R, C]⟩ : Shape).Idx) (hB : 0 < B) {q : Fin 2 → ℕ} (hq : q = ![(i 0).val / B, 0]) :
    ∀ a : Fin 2, q a * ![B, C] a ≤ (i a).val ∧ (i a).val < q a * ![B, C] a + ![B, C] a := fun a => by
  subst hq
  match a with
  | ⟨0, _⟩ => exact ⟨Nat.div_mul_le_self _ _, Nat.lt_div_mul_add hB⟩
  | ⟨1, _⟩ =>
    have h : (i 1).val < C := (i 1).isLt
    show 0 * C ≤ (i 1).val ∧ (i 1).val < 0 * C + C
    omega

end Cert.Sums

end
-- ==== Proof.SumClaim.lean ====
/- THE FOUR SHAPES OF `_sum8`: each run leaves the sum of the eight slabs, which is the reference's. -/
module

public import proofs.«01_k».proof.Proof.Sums
public import proofs.«01_k».proof.Defs
public import proofs.«01_k».proof.Proof.Gen.SumIn.Frame
public import proofs.«01_k».proof.Proof.Gen.SumInIdeal.Value
public import proofs.«01_k».proof.Proof.Gen.SumInReferenceIdeal.Run
public import proofs.«01_k».proof.Proof.Gen.SumOut.Frame
public import proofs.«01_k».proof.Proof.Gen.SumOutIdeal.Value
public import proofs.«01_k».proof.Proof.Gen.SumOutReferenceIdeal.Run
public import proofs.«01_k».proof.Proof.Gen.SumUp.Frame
public import proofs.«01_k».proof.Proof.Gen.SumUpIdeal.Value
public import proofs.«01_k».proof.Proof.Gen.SumUpReferenceIdeal.Run
public import proofs.«01_k».proof.Proof.Gen.SumSmall.Frame
public import proofs.«01_k».proof.Proof.Gen.SumSmallIdeal.Value
public import proofs.«01_k».proof.Proof.Gen.SumSmallReferenceIdeal.Run

@[expose] public section

set_option maxRecDepth 65536

noncomputable section

namespace Cert.SumInIdeal.Value

open Cert.SumInIdeal Cert.SumInIdeal.Gen Idealize.ShloMosaic Idealize.ShloMosaic.TcCoe Idealize.SL.Sem
open Cert.Sums

set_option Elab.async false

/-- What the body stores of its block. -/
theorem out_slabs (X : Vec Ideal S8x176x1024 .f32) : out0_1 X = slabs X := by
  funext y
  unfold out0_1
  rw [canon1_eq]
  exact added X y ![r0_0.idx (ix1_0 y), r0_1.idx (ix1_1 y), r0_2.idx (ix1_2 y), r0_3.idx (ix1_3 y), r0_4.idx (ix1_4 y),
    r0_5.idx (ix1_5 y), r0_6.idx (ix1_6 y), r0_7.idx (ix1_7 y)] fun k => by
      fin_cases k <;> exact ⟨rfl, (Nat.zero_add _).trans (Nat.one_mul _), (Nat.zero_add _).trans (Nat.one_mul _)⟩

/-- The array after the run. -/
theorem final_slabs (m : (ℓ : Loc nD τ sig) → Buf (Elt Ideal) ℓ) (c : Dev nD) :
    (dats m 0 c).arrAt 1 cfg0.N = slabs (m ((c : Thread nD τ).loc main_arg0)) := by
  have at0 : ∀ t : Fin cfg0.N, win0_0.index t = ![0, t.val, 0] := (by decide +kernel : ∀ t : Fin grid0.N, _)
  have at1 : ∀ t : Fin cfg0.N, win0_1.index t = ![t.val, 0] := (by decide +kernel : ∀ t : Fin grid0.N, _)
  refine (dats m 0 c).arrAt_eq_of_cover 1 _ (fun t _ => ?_) (fun i => ?_)
  · rw [flushed1, out_slabs]
    funext y
    exact moved _ _ _ (((cfg0.win 1).blk t).view.emb y) fun k => congrArg (m ((c : Thread nD τ).loc main_arg0))
      (funext fun a => Fin.ext (rows (R := 352) (B := 176) (at0 t) (at1 t) k y _ (fun _ => rfl) a))
  · have hi : (i 0).val < 352 := (i 0).isLt
    refine ⟨⟨(i 0).val / 176, by show _ < 2; omega⟩, flush0_1 _, ?_⟩
    exact Eq.mpr (congrArg (i ∈ ·) (View.set_slice_whole main_v0 (win0_1.rect _))) (Rect.mem_set_unit.2 (in_rows i (by decide) (at1 _)))

end Cert.SumInIdeal.Value

namespace Cert.SumUpIdeal.Value

open Cert.SumUpIdeal Cert.SumUpIdeal.Gen Idealize.ShloMosaic Idealize.ShloMosaic.TcCoe Idealize.SL.Sem
open Cert.Sums

set_option Elab.async false

/-- What the body stores of its block. -/
theorem out_slabs (X : Vec Ideal S8x176x1024 .f32) : out0_1 X = slabs X := by
  funext y
  unfold out0_1
  rw [canon1_eq]
  exact added X y ![r0_0.idx (ix1_0 y), r0_1.idx (ix1_1 y), r0_2.idx (ix1_2 y), r0_3.idx (ix1_3 y), r0_4.idx (ix1_4 y),
    r0_5.idx (ix1_5 y), r0_6.idx (ix1_6 y), r0_7.idx (ix1_7 y)] fun k => by
      fin_cases k <;> exact ⟨rfl, (Nat.zero_add _).trans (Nat.one_mul _), (Nat.zero_add _).trans (Nat.one_mul _)⟩

/-- The array after the run. -/
theorem final_slabs (m : (ℓ : Loc nD τ sig) → Buf (Elt Ideal) ℓ) (c : Dev nD) :
    (dats m 0 c).arrAt 1 cfg0.N = slabs (m ((c : Thread nD τ).loc main_arg0)) := by
  have at0 : ∀ t : Fin cfg0.N, win0_0.index t = ![0, t.val, 0] := (by decide +kernel : ∀ t : Fin grid0.N, _)
  have at1 : ∀ t : Fin cfg0.N, win0_1.index t = ![t.val, 0] := (by decide +kernel : ∀ t : Fin grid0.N, _)
  refine (dats m 0 c).arrAt_eq_of_cover 1 _ (fun t _ => ?_) (fun i => ?_)
  · rw [flushed1, out_slabs]
    funext y
    exact moved _ _ _ (((cfg0.win 1).blk t).view.emb y) fun k => congrArg (m ((c : Thread nD τ).loc main_arg0))
      (funext fun a => Fin.ext (rows (R := 704) (B := 176) (at0 t) (at1 t) k y _ (fun _ => rfl) a))
  · have hi : (i 0).val < 704 := (i 0).isLt
    refine ⟨⟨(i 0).val / 176, by show _ < 4; omega⟩, flush0_1 _, ?_⟩
    exact Eq.mpr (congrArg (i ∈ ·) (View.set_slice_whole main_v0 (win0_1.rect _))) (Rect.mem_set_unit.2 (in_rows i (by decide) (at1 _)))

end Cert.SumUpIdeal.Value

namespace Cert.SumOutIdeal.Value

open Cert.SumOutIdeal Cert.SumOutIdeal.Gen Idealize.ShloMosaic Idealize.ShloMosaic.TcCoe Idealize.SL.Sem
open Cert.Sums

set_option Elab.async false

/-- What the body stores of its block. -/
theorem out_slabs (X : Vec Ideal S8x128x1024 .f32) : out0_1 X = slabs X := by
  funext y
  unfold out0_1
  rw [canon1_eq]
  exact added X y ![r0_0.idx (ix1_0 y), r0_1.idx (ix1_1 y), r0_2.idx (ix1_2 y), r0_3.idx (ix1_3 y), r0_4.idx (ix1_4 y),
    r0_5.idx (ix1_5 y), r0_6.idx (ix1_6 y), r0_7.idx (ix1_7 y)] fun k => by
      fin_cases k <;> exact ⟨rfl, (Nat.zero_add _).trans (Nat.one_mul _), (Nat.zero_add _).trans (Nat.one_mul _)⟩

/-- The array after the run. -/
theorem final_slabs (m : (ℓ : Loc nD τ sig) → Buf (Elt Ideal) ℓ) (c : Dev nD) :
    (dats m 0 c).arrAt 1 cfg0.N = slabs (m ((c : Thread nD τ).loc main_arg0)) :=
  (final1 m c).trans ((out1_eq _).symm.trans (out_slabs _))

end Cert.SumOutIdeal.Value

namespace Cert.SumSmallIdeal.Value

open Cert.SumSmallIdeal Cert.SumSmallIdeal.Gen Idealize.ShloMosaic Idealize.ShloMosaic.TcCoe Idealize.SL.Sem
open Cert.Sums

set_option Elab.async false

/-- What the body stores of its block. -/
theorem out_slabs (X : Vec Ideal S8x312x128 .f32) : out0_1 X = slabs X := by
  funext y
  unfold out0_1
  rw [canon1_eq]
  exact added X y ![r0_0.idx (ix1_0 y), r0_1.idx (ix1_1 y), r0_2.idx (ix1_2 y), r0_3.idx (ix1_3 y), r0_4.idx (ix1_4 y),
    r0_5.idx (ix1_5 y), r0_6.idx (ix1_6 y), r0_7.idx (ix1_7 y)] fun k => by
      fin_cases k <;> exact ⟨rfl, (Nat.zero_add _).trans (Nat.one_mul _), (Nat.zero_add _).trans (Nat.one_mul _)⟩

/-- The array after the run. -/
theorem final_slabs (m : (ℓ : Loc nD τ sig) → Buf (Elt Ideal) ℓ) (c : Dev nD) :
    (dats m 0 c).arrAt 1 cfg0.N = slabs (m ((c : Thread nD τ).loc main_arg0)) :=
  (final1 m c).trans ((out1_eq _).symm.trans (out_slabs _))

end Cert.SumSmallIdeal.Value

namespace Cert.Sums

open Idealize.ShloMosaic Idealize.ShloMosaic.TcCoe Idealize.SL.Sem

set_option Elab.async false

theorem sum_in : Cert.algebraic_SumInIdeal_SumInReferenceIdeal (hSumInIdeal := Cert.SumInIdeal.Gen.facts) (hSumInReferenceIdeal := Cert.SumInReferenceIdeal.Gen.facts) :=
  fun m g m' g' _ hm => ⟨_, (θ_run _ _ _).mono (fun _ h c => ⟨(h c).1.trans (Cert.SumInIdeal.Value.final_slabs m c), (h c).2⟩) (Cert.SumInIdeal.Value.run_blocks m g),
    (θ_run _ _ _).mono (fun _ h c => ⟨(h c).1.trans ((host_slabs _ _ _).trans (congrArg slabs (hm c))), (h c).2⟩) (Cert.SumInReferenceIdeal.Value.run m' g')⟩

theorem sum_out : Cert.algebraic_SumOutIdeal_SumOutReferenceIdeal (hSumOutIdeal := Cert.SumOutIdeal.Gen.facts) (hSumOutReferenceIdeal := Cert.SumOutReferenceIdeal.Gen.facts) :=
  fun m g m' g' _ hm => ⟨_, (θ_run _ _ _).mono (fun _ h c => ⟨(h c).1.trans (Cert.SumOutIdeal.Value.final_slabs m c), (h c).2⟩) (Cert.SumOutIdeal.Value.run_blocks m g),
    (θ_run _ _ _).mono (fun _ h c => ⟨(h c).1.trans ((host_slabs _ _ _).trans (congrArg slabs (hm c))), (h c).2⟩) (Cert.SumOutReferenceIdeal.Value.run m' g')⟩

theorem sum_up : Cert.algebraic_SumUpIdeal_SumUpReferenceIdeal (hSumUpIdeal := Cert.SumUpIdeal.Gen.facts) (hSumUpReferenceIdeal := Cert.SumUpReferenceIdeal.Gen.facts) :=
  fun m g m' g' _ hm => ⟨_, (θ_run _ _ _).mono (fun _ h c => ⟨(h c).1.trans (Cert.SumUpIdeal.Value.final_slabs m c), (h c).2⟩) (Cert.SumUpIdeal.Value.run_blocks m g),
    (θ_run _ _ _).mono (fun _ h c => ⟨(h c).1.trans ((host_slabs _ _ _).trans (congrArg slabs (hm c))), (h c).2⟩) (Cert.SumUpReferenceIdeal.Value.run m' g')⟩

theorem sum_small : Cert.algebraic_SumSmallIdeal_SumSmallReferenceIdeal (hSumSmallIdeal := Cert.SumSmallIdeal.Gen.facts) (hSumSmallReferenceIdeal := Cert.SumSmallReferenceIdeal.Gen.facts) :=
  fun m g m' g' _ hm => ⟨_, (θ_run _ _ _).mono (fun _ h c => ⟨(h c).1.trans (Cert.SumSmallIdeal.Value.final_slabs m c), (h c).2⟩) (Cert.SumSmallIdeal.Value.run_blocks m g),
    (θ_run _ _ _).mono (fun _ h c => ⟨(h c).1.trans ((host_slabs _ _ _).trans (congrArg slabs (hm c))), (h c).2⟩) (Cert.SumSmallReferenceIdeal.Value.run m' g')⟩

end Cert.Sums

end
-- ==== Proof.AdamwClaim.lean ====
/- THE SEVEN CALLS OF `_adamw`: each leaves the step of its four arrays, element by element, which is the reference's. -/
module

public import proofs.«01_k».proof.Defs
public import proofs.«01_k».proof.Proof.Gen.AdamwIn.Frame
public import proofs.«01_k».proof.Proof.Gen.AdamwInIdeal.Value
public import proofs.«01_k».proof.Proof.Gen.AdamwInReferenceIdeal.Run
public import proofs.«01_k».proof.Proof.Gen.AdamwOut.Frame
public import proofs.«01_k».proof.Proof.Gen.AdamwOutIdeal.Value
public import proofs.«01_k».proof.Proof.Gen.AdamwOutReferenceIdeal.Run
public import proofs.«01_k».proof.Proof.Gen.AdamwUp.Frame
public import proofs.«01_k».proof.Proof.Gen.AdamwUpIdeal.Value
public import proofs.«01_k».proof.Proof.Gen.AdamwUpReferenceIdeal.Run
public import proofs.«01_k».proof.Proof.Gen.AdamwDown.Frame
public import proofs.«01_k».proof.Proof.Gen.AdamwDownIdeal.Value
public import proofs.«01_k».proof.Proof.Gen.AdamwDownReferenceIdeal.Run
public import proofs.«01_k».proof.Proof.Gen.AdamwConv.Frame
public import proofs.«01_k».proof.Proof.Gen.AdamwConvIdeal.Value
public import proofs.«01_k».proof.Proof.Gen.AdamwConvReferenceIdeal.Run
public import proofs.«01_k».proof.Proof.Gen.AdamwFfnConv.Frame
public import proofs.«01_k».proof.Proof.Gen.AdamwFfnConvIdeal.Value
public import proofs.«01_k».proof.Proof.Gen.AdamwFfnConvReferenceIdeal.Run
public import proofs.«01_k».proof.Proof.Gen.AdamwSmall.Frame
public import proofs.«01_k».proof.Proof.Gen.AdamwSmallIdeal.Value
public import proofs.«01_k».proof.Proof.Gen.AdamwSmallReferenceIdeal.Run

@[expose] public section

set_option maxRecDepth 65536

noncomputable section

namespace Cert.Adamw

open Idealize.ShloMosaic Idealize.ShloMosaic.TcCoe Idealize.SL.Sem

set_option Elab.async false

/-- Both runs end in one tree of operations of the four arrays, at every element. -/
theorem steps :
    Cert.algebraic_AdamwInIdeal_AdamwInReferenceIdeal (hAdamwInIdeal := Cert.AdamwInIdeal.Gen.facts) (hAdamwInReferenceIdeal := Cert.AdamwInReferenceIdeal.Gen.facts)
    ∧ Cert.algebraic_AdamwOutIdeal_AdamwOutReferenceIdeal (hAdamwOutIdeal := Cert.AdamwOutIdeal.Gen.facts) (hAdamwOutReferenceIdeal := Cert.AdamwOutReferenceIdeal.Gen.facts)
    ∧ Cert.algebraic_AdamwUpIdeal_AdamwUpReferenceIdeal (hAdamwUpIdeal := Cert.AdamwUpIdeal.Gen.facts) (hAdamwUpReferenceIdeal := Cert.AdamwUpReferenceIdeal.Gen.facts)
    ∧ Cert.algebraic_AdamwDownIdeal_AdamwDownReferenceIdeal (hAdamwDownIdeal := Cert.AdamwDownIdeal.Gen.facts) (hAdamwDownReferenceIdeal := Cert.AdamwDownReferenceIdeal.Gen.facts)
    ∧ Cert.algebraic_AdamwConvIdeal_AdamwConvReferenceIdeal (hAdamwConvIdeal := Cert.AdamwConvIdeal.Gen.facts) (hAdamwConvReferenceIdeal := Cert.AdamwConvReferenceIdeal.Gen.facts)
    ∧ Cert.algebraic_AdamwFfnConvIdeal_AdamwFfnConvReferenceIdeal (hAdamwFfnConvIdeal := Cert.AdamwFfnConvIdeal.Gen.facts) (hAdamwFfnConvReferenceIdeal := Cert.AdamwFfnConvReferenceIdeal.Gen.facts)
    ∧ Cert.algebraic_AdamwSmallIdeal_AdamwSmallReferenceIdeal (hAdamwSmallIdeal := Cert.AdamwSmallIdeal.Gen.facts) (hAdamwSmallReferenceIdeal := Cert.AdamwSmallReferenceIdeal.Gen.facts) := by
  refine ⟨fun m g m' g' _ hm => ⟨_, _, _, Cert.AdamwInIdeal.Value.run m g, (θ_run _ _ _).mono (fun r h c => ?_) (Cert.AdamwInReferenceIdeal.Value.run m' g')⟩,
    fun m g m' g' _ hm => ⟨_, _, _, Cert.AdamwOutIdeal.Value.run m g, (θ_run _ _ _).mono (fun r h c => ?_) (Cert.AdamwOutReferenceIdeal.Value.run m' g')⟩,
    fun m g m' g' _ hm => ⟨_, _, _, Cert.AdamwUpIdeal.Value.run m g, (θ_run _ _ _).mono (fun r h c => ?_) (Cert.AdamwUpReferenceIdeal.Value.run m' g')⟩,
    fun m g m' g' _ hm => ⟨_, _, _, Cert.AdamwDownIdeal.Value.run m g, (θ_run _ _ _).mono (fun r h c => ?_) (Cert.AdamwDownReferenceIdeal.Value.run m' g')⟩,
    fun m g m' g' _ hm => ⟨_, _, _, Cert.AdamwConvIdeal.Value.run m g, (θ_run _ _ _).mono (fun r h c => ?_) (Cert.AdamwConvReferenceIdeal.Value.run m' g')⟩,
    fun m g m' g' _ hm => ⟨_, _, _, Cert.AdamwFfnConvIdeal.Value.run m g, (θ_run _ _ _).mono (fun r h c => ?_) (Cert.AdamwFfnConvReferenceIdeal.Value.run m' g')⟩,
    fun m g m' g' _ hm => ⟨_, _, _, Cert.AdamwSmallIdeal.Value.run m g, (θ_run _ _ _).mono (fun r h c => ?_) (Cert.AdamwSmallReferenceIdeal.Value.run m' g')⟩⟩
  all_goals
    obtain ⟨h0, h1, h2, h3⟩ := hm c
    obtain ⟨p1, p2, p3, p4⟩ := h c
    refine ⟨p1.trans ?_, p2.trans ?_, p3.trans ?_, p4⟩ <;> simp only [h0, h1, h2, h3] <;> rfl

end Cert.Adamw

end
-- ==== Proof.Products.lean ====
/- PRODUCTS OF MATRICES, for any extents: what the kernel's and the host's products are as sums, how a product of blocks is
   a block of the product, and how a long sum is taken in stretches. -/
module

public import proofs.«01_k».proof.Proof.Sums
public import Idealize.ShloMosaic.Lib.MatmulPlain
public import Idealize.ShloMosaic.Lib.StackMember
public import Idealize.ShloMosaic.Lib.Pipeline.Value
public import Idealize.ShloMosaic.PureOps.Ideal.Laws

@[expose] public section

set_option maxRecDepth 65536

noncomputable section

namespace Cert.Products

open Idealize.ShloMosaic hiding ix2
open Idealize.ShloMosaic.ValueIdx (ix2)
open scoped BigOperators

set_option Elab.async false

/-- An index of a matrix is its two coordinates. -/
theorem pair {R C : ℕ} (y : (⟨2, ![R, C]⟩ : Shape).Idx) : y = ix2 (y 0) (y 1) :=
  funext fun a => match a with | ⟨0, _⟩ => rfl | ⟨1, _⟩ => rfl

/-- A matrix with its axes exchanged. -/
theorem transpose_swap {α : Type} {a b : ℕ} (x : (⟨2, ![a, b]⟩ : Shape).Idx → α) (h : (⟨2, ![a, b]⟩ : Shape).Transposes [1, 0] ⟨2, ![b, a]⟩)
    (j : Fin b) (i : Fin a) : transpose ⟨2, ![b, a]⟩ [1, 0] x h (ix2 j i) = x (ix2 i j) :=
  transpose_apply _ x h _ _ fun c => match c with | ⟨0, _⟩ => rfl | ⟨1, _⟩ => rfl

/-! ## Rows times rows, plus a multiple of a third matrix -/

/-- `A · Bᵀ + α · R`. -/
def rowsPlus {M N K : ℕ} {φ ψ : FTy} (α : EReal) (A : FVec Ideal ⟨2, ![M, K]⟩ φ) (B : FVec Ideal ⟨2, ![N, K]⟩ ψ) (R : FVec Ideal ⟨2, ![M, N]⟩ .f32) :
    FVec Ideal ⟨2, ![M, N]⟩ .f32 :=
  fun y => (∑ k : Fin K, (A (ix2 (y 0) k) * B (ix2 (y 1) k) : EReal)) + α * R y

/-- In the kernel. -/
theorem kernel_rowsPlus {M N K : ℕ} {φ ψ : FTy} (b : BitVec 32) (A : FVec Ideal ⟨2, ![M, K]⟩ φ) (B : FVec Ideal ⟨2, ![N, K]⟩ ψ)
    (R : FVec Ideal ⟨2, ![M, N]⟩ .f32) (d : DotDims ⟨2, ![M, K]⟩ ⟨2, ![N, K]⟩ ⟨2, ![M, N]⟩) (hd : d = DotDims.transposedRhs M K N) :
    addf (matmul d none A B (constant ⟨2, ![M, N]⟩ .f32 0x00000000#32)) (mulf (broadcast ⟨2, ![M, N]⟩ (Scalar.ofBits .f32 b)) R)
      = rowsPlus (Ideal.ofBits .f32 b) A B R := by
  subst hd
  funext y
  obtain ⟨r, c, rfl⟩ : ∃ r c, y = ix2 r c := ⟨y 0, y 1, pair y⟩
  refine (congrArg (· + Ideal.ofBits .f32 b * R (ix2 r c)) (Ideal.matmul_transposedRhs_apply none A B (constant ⟨2, ![M, N]⟩ .f32 0x00000000#32) r c)).trans ?_
  show Ideal.ofBits .f32 0x00000000#32 + _ + _ = _
  rw [Ideal.ofBits_zero_f32, zero_add]
  rfl

/-- On the host. -/
theorem host_rowsPlus {M N K : ℕ} {φ ψ : FTy} (b : BitVec 32) (A : FVec Ideal ⟨2, ![M, K]⟩ φ) (B : FVec Ideal ⟨2, ![N, K]⟩ ψ)
    (R : FVec Ideal ⟨2, ![M, N]⟩ .f32) (d : DotDims ⟨2, ![M, K]⟩ ⟨2, ![K, N]⟩ ⟨2, ![M, N]⟩) (hd : d = DotDims.plain M K N)
    (ht : (⟨2, ![N, K]⟩ : Shape).Transposes [1, 0] ⟨2, ![K, N]⟩) (hb) :
    addf (Host.dotGeneral d none A (transpose ⟨2, ![K, N]⟩ [1, 0] B ht))
      (mulf (broadcastInDim ⟨2, ![M, N]⟩ ![] hb (constant (F := Ideal) ⟨0, ![]⟩ .f32 b)) R)
      = rowsPlus (Ideal.ofBits .f32 b) A B R := by
  subst hd
  funext y
  obtain ⟨r, c, rfl⟩ : ∃ r c, y = ix2 r c := ⟨y 0, y 1, pair y⟩
  exact congrArg (· + Ideal.ofBits .f32 b * R (ix2 r c)) ((StackMember.dotGeneral_plain_apply none A _ r c).trans
    (Finset.sum_congr rfl fun k _ => congrArg (A _ * ·) (transpose_swap B ht k c)))

/-- Read somewhere else, where the same rows and the same element lie. -/
theorem rowsPlus_moved {M N M' N' K : ℕ} {φ ψ : FTy} (α : EReal) (A : FVec Ideal ⟨2, ![M, K]⟩ φ) (A' : FVec Ideal ⟨2, ![M', K]⟩ φ)
    (B : FVec Ideal ⟨2, ![N, K]⟩ ψ) (B' : FVec Ideal ⟨2, ![N', K]⟩ ψ) (R : FVec Ideal ⟨2, ![M, N]⟩ .f32) (R' : FVec Ideal ⟨2, ![M', N']⟩ .f32)
    (y : (⟨2, ![M, N]⟩ : Shape).Idx) (z : (⟨2, ![M', N']⟩ : Shape).Idx) (hA : ∀ k, A (ix2 (y 0) k) = A' (ix2 (z 0) k))
    (hB : ∀ k, B (ix2 (y 1) k) = B' (ix2 (z 1) k)) (hR : R y = R' z) : rowsPlus α A B R y = rowsPlus α A' B' R' z := by
  unfold rowsPlus
  rw [hR]
  exact congrArg (· + α * R' z) (Finset.sum_congr rfl fun k _ => congrArg₂ (· * ·) (hA k) (hB k))

/-- `A · Bᵀ`. -/
def rowsBy {M N K : ℕ} {φ ψ : FTy} (A : FVec Ideal ⟨2, ![M, K]⟩ φ) (B : FVec Ideal ⟨2, ![N, K]⟩ ψ) : FVec Ideal ⟨2, ![M, N]⟩ .f32 :=
  fun y => ∑ k : Fin K, (A (ix2 (y 0) k) * B (ix2 (y 1) k) : EReal)

theorem kernel_rowsBy {M N K : ℕ} {φ ψ : FTy} (A : FVec Ideal ⟨2, ![M, K]⟩ φ) (B : FVec Ideal ⟨2, ![N, K]⟩ ψ)
    (d : DotDims ⟨2, ![M, K]⟩ ⟨2, ![N, K]⟩ ⟨2, ![M, N]⟩) (hd : d = DotDims.transposedRhs M K N) :
    matmul d none A B (constant ⟨2, ![M, N]⟩ .f32 0x00000000#32) = rowsBy A B := by
  subst hd
  funext y
  obtain ⟨r, c, rfl⟩ : ∃ r c, y = ix2 r c := ⟨y 0, y 1, pair y⟩
  refine (Ideal.matmul_transposedRhs_apply none A B (constant ⟨2, ![M, N]⟩ .f32 0x00000000#32) r c).trans ?_
  show Ideal.ofBits .f32 0x00000000#32 + _ = _
  rw [Ideal.ofBits_zero_f32, zero_add]
  rfl

theorem host_rowsBy {M N K : ℕ} {φ ψ : FTy} (A : FVec Ideal ⟨2, ![M, K]⟩ φ) (B : FVec Ideal ⟨2, ![N, K]⟩ ψ)
    (d : DotDims ⟨2, ![M, K]⟩ ⟨2, ![K, N]⟩ ⟨2, ![M, N]⟩) (hd : d = DotDims.plain M K N)
    (ht : (⟨2, ![N, K]⟩ : Shape).Transposes [1, 0] ⟨2, ![K, N]⟩) :
    Host.dotGeneral d none A (transpose ⟨2, ![K, N]⟩ [1, 0] B ht) = rowsBy A B := by
  subst hd
  funext y
  obtain ⟨r, c, rfl⟩ : ∃ r c, y = ix2 r c := ⟨y 0, y 1, pair y⟩
  exact (StackMember.dotGeneral_plain_apply none A _ r c).trans (Finset.sum_congr rfl fun k _ => congrArg (A _ * ·) (transpose_swap B ht k c))

theorem rowsBy_moved {M N M' N' K : ℕ} {φ ψ : FTy} (A : FVec Ideal ⟨2, ![M, K]⟩ φ) (A' : FVec Ideal ⟨2, ![M', K]⟩ φ)
    (B : FVec Ideal ⟨2, ![N, K]⟩ ψ) (B' : FVec Ideal ⟨2, ![N', K]⟩ ψ) (y : (⟨2, ![M, N]⟩ : Shape).Idx) (z : (⟨2, ![M', N']⟩ : Shape).Idx)
    (hA : ∀ k, A (ix2 (y 0) k) = A' (ix2 (z 0) k)) (hB : ∀ k, B (ix2 (y 1) k) = B' (ix2 (z 1) k)) : rowsBy A B y = rowsBy A' B' z :=
  Finset.sum_congr rfl fun k _ => congrArg₂ (· * ·) (hA k) (hB k)

/-- Blocks of `B` whole rows: row `y 0` of block `t` is row `z 0`. -/
theorem row_of {R C K B t : ℕ} {p q : Fin 2 → ℕ} (hp : p = ![t, 0]) (hq : q = ![t, 0]) (k : Fin K) (y : (⟨2, ![B, C]⟩ : Shape).Idx)
    (z : (⟨2, ![R, C]⟩ : Shape).Idx) (hz : ∀ a : Fin 2, (z a).val = q a * ![B, C] a + 1 * (y a).val) :
    ∀ a : Fin 2, p a * ![B, K] a + 1 * (ix2 (y 0) k a).val = (ix2 (z 0) k a).val := fun a => by
  subst hp hq
  match a with
  | ⟨0, _⟩ => exact (hz 0).symm
  | ⟨1, _⟩ => show 0 * K + 1 * k.val = k.val; omega

/-- One block that is the whole matrix: row `y 1` of it is row `z 1`. -/
theorem row_of_whole {R C K B t : ℕ} {p q : Fin 2 → ℕ} (hp : p = ![0, 0]) (hq : q = ![t, 0]) (k : Fin K) (y : (⟨2, ![B, C]⟩ : Shape).Idx)
    (z : (⟨2, ![R, C]⟩ : Shape).Idx) (hz : ∀ a : Fin 2, (z a).val = q a * ![B, C] a + 1 * (y a).val) :
    ∀ a : Fin 2, p a * ![C, K] a + 1 * (ix2 (y 1) k a).val = (ix2 (z 1) k a).val := fun a => by
  subst hp hq
  match a with
  | ⟨0, _⟩ =>
    have h : (z 1).val = 0 * C + 1 * (y 1).val := hz 1
    show 0 * C + 1 * (y 1).val = (z 1).val
    omega
  | ⟨1, _⟩ => show 0 * K + 1 * k.val = k.val; omega

/-! ## A matrix in blocks -/

/-- Element `y` of block `(k, q)` lies in row `r`, column `u`. -/
theorem at_block {R C B D k q : ℕ} {p : Fin 2 → ℕ} (hp : p = ![k, q]) (y : (⟨2, ![B, D]⟩ : Shape).Idx) (r : Fin R) (u : Fin C)
    (h0 : r.val = k * B + (y 0).val) (h1 : u.val = q * D + (y 1).val) (a : Fin 2) : p a * ![B, D] a + 1 * (y a).val = (ix2 r u a).val := by
  subst hp
  match a with
  | ⟨0, _⟩ => show k * B + 1 * (y 0).val = r.val; omega
  | ⟨1, _⟩ => show q * D + 1 * (y 1).val = u.val; omega

/-- The blocks fill the matrix. -/
theorem in_block {R C B D : ℕ} (i : (⟨2, ![R, C]⟩ : Shape).Idx) (hB : 0 < B) (hD : 0 < D) {q : Fin 2 → ℕ} (hq : q = ![(i 0).val / B, (i 1).val / D])
    (a : Fin 2) : q a * ![B, D] a ≤ (i a).val ∧ (i a).val < q a * ![B, D] a + ![B, D] a := by
  subst hq
  match a with
  | ⟨0, _⟩ => exact ⟨Nat.div_mul_le_self _ _, Nat.lt_div_mul_add hB⟩
  | ⟨1, _⟩ => exact ⟨Nat.div_mul_le_self _ _, Nat.lt_div_mul_add hD⟩

/-! ## Columns times columns -/

/-- `Aᵀ · B`. -/
def cols {M N K : ℕ} {φ ψ : FTy} (A : FVec Ideal ⟨2, ![K, M]⟩ φ) (B : FVec Ideal ⟨2, ![K, N]⟩ ψ) : FVec Ideal ⟨2, ![M, N]⟩ .f32 :=
  fun y => ∑ k : Fin K, (A (ix2 k (y 0)) * B (ix2 k (y 1)) : EReal)

/-- The kernel's product of two blocks of `K` rows contracts their first axes. -/
theorem kernel_cols {M N K : ℕ} {φ ψ : FTy} (A : FVec Ideal ⟨2, ![K, M]⟩ φ) (B : FVec Ideal ⟨2, ![K, N]⟩ ψ) (acc : FVec Ideal ⟨2, ![M, N]⟩ .f32)
    (d : DotDims ⟨2, ![K, M]⟩ ⟨2, ![K, N]⟩ ⟨2, ![M, N]⟩) (hl : d.lhsContracting = [0]) (hr : d.rhsContracting = [0])
    (hl' : d.lhsNonContracting = [1]) (hr' : d.rhsNonContracting = [1]) (hl'' : d.lhsBatch = []) (hr'' : d.rhsBatch = [])
    (y : (⟨2, ![M, N]⟩ : Shape).Idx) : matmul d none A B acc y = acc y + cols A B y := by
  obtain ⟨lc, rc, ln, rn, lb, rb, wf⟩ := d
  dsimp only at hl hr hl' hr' hl'' hr''
  subst hl hr hl' hr' hl'' hr''
  refine (Ideal.matmul_apply ..).trans (congrArg (acc y + ·) ?_)
  rw [← Equiv.sum_comp (ValueIdx.contrEquiv1 _ K rfl rfl).symm]
  refine Finset.sum_congr rfl fun k _ => ?_
  have hk := ValueIdx.contrEquiv1_symm_val (⟨[0], [0], [1], [1], [], [], wf⟩ : DotDims ⟨2, ![K, M]⟩ ⟨2, ![K, N]⟩ ⟨2, ![M, N]⟩) K rfl rfl k
  refine congrArg₂ (· * ·) (congrArg A (funext fun a => Fin.ext ?_)) (congrArg B (funext fun a => Fin.ext ?_))
  · match a with
    | ⟨0, _⟩ => exact hk
    | ⟨1, _⟩ => rfl
  · match a with
    | ⟨0, _⟩ => exact hk
    | ⟨1, _⟩ => rfl

/-- On the host. -/
theorem host_cols {M N K : ℕ} {φ : FTy} (A : FVec Ideal ⟨2, ![K, M]⟩ φ) (B : FVec Ideal ⟨2, ![K, N]⟩ .f32)
    (d : DotDims ⟨2, ![M, K]⟩ ⟨2, ![K, N]⟩ ⟨2, ![M, N]⟩) (hd : d = DotDims.plain M K N)
    (ht : (⟨2, ![K, M]⟩ : Shape).Transposes [1, 0] ⟨2, ![M, K]⟩) :
    Host.dotGeneral d none (transpose ⟨2, ![M, K]⟩ [1, 0] A ht) B = cols A B := by
  subst hd
  funext y
  obtain ⟨r, c, rfl⟩ : ∃ r c, y = ix2 r c := ⟨y 0, y 1, pair y⟩
  exact (StackMember.dotGeneral_plain_apply none _ B r c).trans
    (Finset.sum_congr rfl fun k _ => congrArg (· * B _) (transpose_swap A ht r k))

/-- A sum over `J` stretches of `B` terms each. -/
theorem stretches {J B K : ℕ} (hK : B * J = K) (g : Fin K → EReal) (s : ℕ → EReal)
    (hs : ∀ k, k < J → ∃ e : ∀ j : Fin B, B * k + j.val < K, s k = ∑ j : Fin B, g ⟨B * k + j.val, e j⟩) :
    ∑ k ∈ Finset.range J, s k = ∑ i : Fin K, g i := by
  rw [Finset.sum_fin_eq_sum_range]
  generalize hf : (fun i => if h : i < K then g ⟨i, h⟩ else 0) = f
  have hs' : ∀ k, k < J → s k = ∑ j ∈ Finset.range B, f (B * k + j) := fun k hk => by
    obtain ⟨e, he⟩ := hs k hk
    rw [he, Finset.sum_range]
    exact Finset.sum_congr rfl fun j _ => by subst hf; dsimp only; rw [dif_pos (e j)]
  subst hK
  clear hf hs g
  induction J with
  | zero => rfl
  | succ J ih =>
    rw [Finset.sum_range_succ, Nat.mul_succ, Finset.sum_range_add, ih fun k hk => hs' k (Nat.lt_succ_of_lt hk), hs' J (Nat.lt_succ_self J)]

/-- Row `j`, column `l` of block `(k, q)` lies in row `B k + j`, column `u`, where `q` and `l` are `u`'s quotient and rest. -/
theorem place {R C B D k q : ℕ} {p : Fin 2 → ℕ} (hp : p = ![k, q]) (j : Fin B) (h : B * k + j.val < R) (l : Fin D) (u : Fin C)
    (hl : l.val = u.val % D) (hq : q = u.val / D) :
    ∀ a : Fin 2, p a * ![B, D] a + 1 * (ix2 j l a).val = (ix2 (⟨B * k + j.val, h⟩ : Fin R) u a).val := fun a => by
  subst hp
  match a with
  | ⟨0, _⟩ =>
    show k * B + 1 * j.val = B * k + j.val
    rw [Nat.mul_comm k B, Nat.one_mul]
  | ⟨1, _⟩ =>
    show q * D + 1 * l.val = u.val
    rw [hl, hq, Nat.one_mul, Nat.mul_comm]
    exact Nat.div_add_mod _ _

/-- A run of points that adds up the products of `e + 1` blocks of `B` rows leaves the product of the whole matrices. -/
theorem fold_cols {N K M L B M' L' e : ℕ} {φ ψ : FTy} (reset : (n : ℕ) → n < N → FVec Ideal ⟨2, ![M', L']⟩ .f32)
    (step : (n : ℕ) → n < N → FVec Ideal ⟨2, ![M', L']⟩ .f32 → FVec Ideal ⟨2, ![M', L']⟩ .f32)
    (blkA : (n : ℕ) → n < N → FVec Ideal ⟨2, ![B, M']⟩ φ) (blkB : (n : ℕ) → n < N → FVec Ideal ⟨2, ![B, L']⟩ ψ)
    (A : FVec Ideal ⟨2, ![K, M]⟩ φ) (C : FVec Ideal ⟨2, ![K, L]⟩ ψ) (hK : B * (e + 1) = K) (b : ℕ) (hb : b + e < N)
    (hreset : ∀ n h y, reset n h y = cols (blkA n h) (blkB n h) y)
    (hstep : ∀ n h acc y, step n h acc y = acc y + cols (blkA n h) (blkB n h) y)
    (y : (⟨2, ![M', L']⟩ : Shape).Idx) (i : (⟨2, ![M, L]⟩ : Shape).Idx)
    (hA : ∀ k (h : b + k < N) (j : Fin B) (hj : B * k + j.val < K), k ≤ e → blkA (b + k) h (ix2 j (y 0)) = A (ix2 ⟨B * k + j.val, hj⟩ (i 0)))
    (hC : ∀ k (h : b + k < N) (j : Fin B) (hj : B * k + j.val < K), k ≤ e → blkB (b + k) h (ix2 j (y 1)) = C (ix2 ⟨B * k + j.val, hj⟩ (i 1))) :
    Pipeline.accAt reset step b e hb y = cols A C i := by
  refine (Pipeline.accAt_add_apply reset step (fun _ => (0 : EReal))
    (fun n y => if h : n < N then cols (blkA n h) (blkB n h) y else 0) b e (fun h y => ?_) (fun n h acc y _ _ => ?_) e (Nat.le_refl e) hb y).trans ?_
  · rw [dif_pos h, hreset, zero_add]
  · rw [dif_pos h, hstep]
  · rw [zero_add]
    refine stretches hK (fun k => (A (ix2 k (i 0)) * C (ix2 k (i 1)) : EReal)) _ fun k hk => ?_
    have hj : ∀ j : Fin B, B * k + j.val < K := fun j => by
      have := Nat.mul_le_mul_left B hk
      rw [Nat.mul_succ, hK] at this
      have := j.isLt
      omega
    have hlt : b + k < N := by omega
    refine ⟨hj, ?_⟩
    rw [dif_pos hlt]
    exact Finset.sum_congr rfl fun j _ => congrArg₂ (· * ·) (hA k hlt j (hj j) (Nat.le_of_lt_succ hk)) (hC k hlt j (hj j) (Nat.le_of_lt_succ hk))

end Cert.Products

end
-- ==== Proof.ProductClaim.lean ====
/- THE PRODUCTS THAT GIVE GRADIENTS: each run leaves the product of its two arguments, which is the reference's. -/
module

public import proofs.«01_k».proof.Proof.Products
public import proofs.«01_k».proof.Defs
public import proofs.«01_k».proof.Proof.Gen.GradX.Frame
public import proofs.«01_k».proof.Proof.Gen.GradXIdeal.Value
public import proofs.«01_k».proof.Proof.Gen.GradXReferenceIdeal.Run
public import proofs.«01_k».proof.Proof.Gen.DMixed.Frame
public import proofs.«01_k».proof.Proof.Gen.DMixedIdeal.Value
public import proofs.«01_k».proof.Proof.Gen.DMixedReferenceIdeal.Run
public import proofs.«01_k».proof.Proof.Gen.GradIn.Frame
public import proofs.«01_k».proof.Proof.Gen.GradInIdeal.Value
public import proofs.«01_k».proof.Proof.Gen.GradInReferenceIdeal.Run
public import proofs.«01_k».proof.Proof.Gen.GradOut.Frame
public import proofs.«01_k».proof.Proof.Gen.GradOutIdeal.Value
public import proofs.«01_k».proof.Proof.Gen.GradOutReferenceIdeal.Run

@[expose] public section

set_option maxRecDepth 65536

noncomputable section

/-! ## The gradient of the input -/

namespace Cert.GradXIdeal.Value

open Cert.GradXIdeal Cert.GradXIdeal.Gen Idealize.ShloMosaic Idealize.ShloMosaic.TcCoe Idealize.SL.Sem
open Cert.Products

set_option Elab.async false

/-- What the body stores of its blocks. -/
theorem out_rows (A : Vec Ideal S512x2816 .bf16) (B : Vec Ideal S1024x2816 .bf16) (R : Vec Ideal S512x1024 .f32) :
    out0_3 A B R = rowsPlus (φ := .bf16) (ψ := .bf16) (Ideal.ofBits .f32 0x3F9837F0#32) A B R := by
  have hz : (![0, 0] : Fin 2 → ℕ) = fun _ => 0 := funext fun a => by fin_cases a <;> rfl
  unfold out0_3
  rw [View.canon_unit_zero hz]
  rw [View.ld_unit_zero hz, View.ld_unit_zero hz, View.ld_unit_zero hz]
  exact kernel_rowsPlus 0x3F9837F0#32 A B R _ rfl

/-- The array after the run. -/
theorem final_rows (m : (ℓ : Loc nD τ sig) → Buf (Elt Ideal) ℓ) (c : Dev nD) :
    (dats m 0 c).arrAt 3 cfg0.N = rowsPlus (φ := .bf16) (ψ := .bf16) (Ideal.ofBits .f32 0x3F9837F0#32) (m ((c : Thread nD τ).loc main_arg0))
      (m ((c : Thread nD τ).loc main_arg1)) (m ((c : Thread nD τ).loc main_arg2)) := by
  have at0 : ∀ t : Fin cfg0.N, win0_0.index t = ![t.val, 0] := (by decide +kernel : ∀ t : Fin grid0.N, _)
  have at1 : ∀ t : Fin cfg0.N, win0_1.index t = ![0, 0] := (by decide +kernel : ∀ t : Fin grid0.N, _)
  have at2 : ∀ t : Fin cfg0.N, win0_2.index t = ![t.val, 0] := (by decide +kernel : ∀ t : Fin grid0.N, _)
  have at3 : ∀ t : Fin cfg0.N, win0_3.index t = ![t.val, 0] := (by decide +kernel : ∀ t : Fin grid0.N, _)
  refine (dats m 0 c).arrAt_eq_of_cover 3 _ (fun t _ => ?_) (fun i => ?_)
  · rw [flushed3, out_rows]
    funext y
    refine rowsPlus_moved _ _ _ _ _ _ _ _ (((cfg0.win 3).blk t).view.emb y) (fun k => ?_) (fun k => ?_) ?_
    · exact congrArg (m ((c : Thread nD τ).loc main_arg0))
        (funext fun a => Fin.ext (row_of (R := 4096) (C := 1024) (B := 512) (K := 2816) (at0 t) (at3 t) k y _ (fun _ => rfl) a))
    · exact congrArg (m ((c : Thread nD τ).loc main_arg1))
        (funext fun a => Fin.ext (row_of_whole (R := 4096) (C := 1024) (B := 512) (K := 2816) (at1 t) (at3 t) k y _ (fun _ => rfl) a))
    · refine congrArg (m ((c : Thread nD τ).loc main_arg2)) (funext fun a => Fin.ext ?_)
      exact congrArg (fun q : Fin 2 → ℕ => q a * ![512, 1024] a + 1 * (y a).val) ((at2 t).trans (at3 t).symm)
  · have hi : (i 0).val < 4096 := (i 0).isLt
    refine ⟨⟨(i 0).val / 512, by show _ < 8; omega⟩, flush0_3 _, ?_⟩
    exact Eq.mpr (congrArg (i ∈ ·) (View.set_slice_whole main_v0 (win0_3.rect _))) (Rect.mem_set_unit.2 (Sums.in_rows i (by decide) (at3 _)))

end Cert.GradXIdeal.Value

/-! ## The gradient of the mixed channels -/

namespace Cert.DMixedIdeal.Value

open Cert.DMixedIdeal Cert.DMixedIdeal.Gen Idealize.ShloMosaic Idealize.ShloMosaic.TcCoe Idealize.SL.Sem
open Cert.Products

set_option Elab.async false

/-- What the body stores of its blocks. -/
theorem out_rows (A : Vec Ideal S512x1024 .f32) (B : Vec Ideal S1024x1024 .bf16) : out0_2 A B = rowsBy (φ := .f32) (ψ := .bf16) A B := by
  have hz : (![0, 0] : Fin 2 → ℕ) = fun _ => 0 := funext fun a => by fin_cases a <;> rfl
  unfold out0_2
  rw [View.canon_unit_zero hz]
  rw [View.ld_unit_zero hz, View.ld_unit_zero hz]
  exact kernel_rowsBy (φ := .bf16) (ψ := .bf16) A B _ rfl

/-- The array after the run. -/
theorem final_rows (m : (ℓ : Loc nD τ sig) → Buf (Elt Ideal) ℓ) (c : Dev nD) :
    (dats m 0 c).arrAt 2 cfg0.N = rowsBy (φ := .f32) (ψ := .bf16) (m ((c : Thread nD τ).loc main_arg0)) (m ((c : Thread nD τ).loc main_arg1)) := by
  have at0 : ∀ t : Fin cfg0.N, win0_0.index t = ![t.val, 0] := (by decide +kernel : ∀ t : Fin grid0.N, _)
  have at1 : ∀ t : Fin cfg0.N, win0_1.index t = ![0, 0] := (by decide +kernel : ∀ t : Fin grid0.N, _)
  have at2 : ∀ t : Fin cfg0.N, win0_2.index t = ![t.val, 0] := (by decide +kernel : ∀ t : Fin grid0.N, _)
  refine (dats m 0 c).arrAt_eq_of_cover 2 _ (fun t _ => ?_) (fun i => ?_)
  · rw [flushed2, out_rows]
    funext y
    refine rowsBy_moved _ _ _ _ _ (((cfg0.win 2).blk t).view.emb y) (fun k => ?_) (fun k => ?_)
    · exact congrArg (m ((c : Thread nD τ).loc main_arg0))
        (funext fun a => Fin.ext (row_of (R := 4096) (C := 1024) (B := 512) (K := 1024) (at0 t) (at2 t) k y _ (fun _ => rfl) a))
    · exact congrArg (m ((c : Thread nD τ).loc main_arg1))
        (funext fun a => Fin.ext (row_of_whole (R := 4096) (C := 1024) (B := 512) (K := 1024) (at1 t) (at2 t) k y _ (fun _ => rfl) a))
  · have hi : (i 0).val < 4096 := (i 0).isLt
    refine ⟨⟨(i 0).val / 512, by show _ < 8; omega⟩, flush0_2 _, ?_⟩
    exact Eq.mpr (congrArg (i ∈ ·) (View.set_slice_whole main_v0 (win0_2.rect _))) (Rect.mem_set_unit.2 (Sums.in_rows i (by decide) (at2 _)))

end Cert.DMixedIdeal.Value

/-! ## The gradients of the weights -/

namespace Cert.GradInIdeal.Value

open Cert.GradInIdeal Cert.GradInIdeal.Gen Idealize.ShloMosaic Idealize.ShloMosaic.TcCoe Idealize.SL.Sem
open Cert.Products

set_option Elab.async false

/-- One point adds its blocks' product. -/
theorem step_cols (acc : Vec Ideal S1408x1024 .f32) (A : Vec Ideal S512x1408 .bf16) (B : Vec Ideal S512x1024 .f32) (y : S1408x1024.Idx) :
    k0_pay2 acc A B y = acc y + cols (φ := .bf16) (ψ := .f32) A B y := by
  unfold k0_pay2
  rw [shapeCast_self]
  refine congrArg (acc y + ·) ?_
  refine (kernel_cols A B (constant S1408x1024 .f32 0x00000000#32) dot_S512x1408_S512x1024_S1408x1024_0_0_1_1_n_n rfl rfl rfl rfl rfl rfl y).trans ?_
  show Ideal.ofBits .f32 0x00000000#32 + _ = _
  rw [Ideal.ofBits_zero_f32, zero_add]
  rfl

/-- The array after the run. -/
theorem final_cols (m : (ℓ : Loc nD τ sig) → Buf (Elt Ideal) ℓ) (c : Dev nD) :
    G2 m c = cols (φ := .bf16) (ψ := .f32) (m ((c : Thread nD τ).loc main_arg0)) (m ((c : Thread nD τ).loc main_arg1)) := by
  have at0 : ∀ t : Fin cfg0.N, win0_0.index t = ![t.val % 8, t.val / 8] := (by decide +kernel : ∀ t : Fin grid0.N, _)
  have at1 : ∀ t : Fin cfg0.N, win0_1.index t = ![t.val % 8, 0] := (by decide +kernel : ∀ t : Fin grid0.N, _)
  funext i
  have h0 : (i 0).val < 2816 := (i 0).isLt
  have h1 : (i 1).val < 1024 := (i 1).isLt
  have hN : cfg0.N = 16 := N_0
  have hr : run2Of i = (i 0).val / 1408 := by show 1 * ((i 0).val / 1408 - 0) + 1 * ((i 1).val / 1024 - 0) = _; omega
  have hlt : 8 * run2Of i + 7 < cfg0.N := by rw [hr, hN]; omega
  unfold G2
  rw [dif_pos hlt]
  refine fold_cols (φ := .bf16) (ψ := .f32) (reset2 m c) (step2 m c) (fun n h => iblk m c 0 ⟨n, h⟩) (fun n h => iblk m c 1 ⟨n, h⟩) _ _ rfl _ hlt
    (fun n h y => ?_) (fun n h acc y => step_cols _ _ _ y) (loc2Of i) i (fun k h j hj hk => ?_) (fun k h j hj hk => ?_)
  · refine (step_cols _ _ _ y).trans ((congrArg (· + _) Ideal.ofBits_zero_f32).trans (zero_add _))
  · have e := at0 ⟨_, h⟩
    dsimp only at e
    rw [show (8 * run2Of i + k) % 8 = k by omega, show (8 * run2Of i + k) / 8 = (i 0).val / 1408 by omega] at e
    exact congrArg (m ((c : Thread nD τ).loc main_arg0)) (funext fun a => Fin.ext
      (place (R := 4096) (C := 2816) (B := 512) (D := 1408) e j _ (loc2Of i 0) (i 0) rfl rfl a))
  · have e := at1 ⟨_, h⟩
    dsimp only at e
    rw [show (8 * run2Of i + k) % 8 = k by omega] at e
    exact congrArg (m ((c : Thread nD τ).loc main_arg1)) (funext fun a => Fin.ext
      (place (R := 4096) (C := 1024) (B := 512) (D := 1024) e j _ (loc2Of i 1) (i 1) rfl ((Nat.div_eq_of_lt h1).symm) a))

end Cert.GradInIdeal.Value

namespace Cert.GradOutIdeal.Value

open Cert.GradOutIdeal Cert.GradOutIdeal.Gen Idealize.ShloMosaic Idealize.ShloMosaic.TcCoe Idealize.SL.Sem
open Cert.Products

set_option Elab.async false

/-- One point adds its blocks' product. -/
theorem step_cols (acc : Vec Ideal S1024x1024 .f32) (A : Vec Ideal S512x1024 .bf16) (B : Vec Ideal S512x1024 .f32) (y : S1024x1024.Idx) :
    k0_pay2 acc A B y = acc y + cols (φ := .bf16) (ψ := .f32) A B y := by
  unfold k0_pay2
  rw [shapeCast_self]
  refine congrArg (acc y + ·) ?_
  refine (kernel_cols A B (constant S1024x1024 .f32 0x00000000#32) dot_S512x1024_S512x1024_S1024x1024_0_0_1_1_n_n rfl rfl rfl rfl rfl rfl y).trans ?_
  show Ideal.ofBits .f32 0x00000000#32 + _ = _
  rw [Ideal.ofBits_zero_f32, zero_add]
  rfl

/-- The array after the run. -/
theorem final_cols (m : (ℓ : Loc nD τ sig) → Buf (Elt Ideal) ℓ) (c : Dev nD) :
    G2 m c = cols (φ := .bf16) (ψ := .f32) (m ((c : Thread nD τ).loc main_arg0)) (m ((c : Thread nD τ).loc main_arg1)) := by
  have at0 : ∀ t : Fin cfg0.N, win0_0.index t = ![t.val % 8, t.val / 8] := (by decide +kernel : ∀ t : Fin grid0.N, _)
  have at1 : ∀ t : Fin cfg0.N, win0_1.index t = ![t.val % 8, 0] := (by decide +kernel : ∀ t : Fin grid0.N, _)
  funext i
  have h0 : (i 0).val < 1024 := (i 0).isLt
  have h1 : (i 1).val < 1024 := (i 1).isLt
  have hN : cfg0.N = 8 := N_0
  have hr : run2Of i = (i 0).val / 1024 := by show 1 * ((i 0).val / 1024 - 0) + 1 * ((i 1).val / 1024 - 0) = _; omega
  have hlt : 8 * run2Of i + 7 < cfg0.N := by rw [hr, hN]; omega
  unfold G2
  rw [dif_pos hlt]
  refine fold_cols (φ := .bf16) (ψ := .f32) (reset2 m c) (step2 m c) (fun n h => iblk m c 0 ⟨n, h⟩) (fun n h => iblk m c 1 ⟨n, h⟩) _ _ rfl _ hlt
    (fun n h y => ?_) (fun n h acc y => step_cols _ _ _ y) (loc2Of i) i (fun k h j hj hk => ?_) (fun k h j hj hk => ?_)
  · refine (step_cols _ _ _ y).trans ((congrArg (· + _) Ideal.ofBits_zero_f32).trans (zero_add _))
  · have e := at0 ⟨_, h⟩
    dsimp only at e
    rw [show (8 * run2Of i + k) % 8 = k by omega, show (8 * run2Of i + k) / 8 = (i 0).val / 1024 by omega] at e
    exact congrArg (m ((c : Thread nD τ).loc main_arg0)) (funext fun a => Fin.ext
      (place (R := 4096) (C := 1024) (B := 512) (D := 1024) e j _ (loc2Of i 0) (i 0) rfl rfl a))
  · have e := at1 ⟨_, h⟩
    dsimp only at e
    rw [show (8 * run2Of i + k) % 8 = k by omega] at e
    exact congrArg (m ((c : Thread nD τ).loc main_arg1)) (funext fun a => Fin.ext
      (place (R := 4096) (C := 1024) (B := 512) (D := 1024) e j _ (loc2Of i 1) (i 1) rfl ((Nat.div_eq_of_lt h1).symm) a))

end Cert.GradOutIdeal.Value

/-! ## The claims -/

namespace Cert.Products

open Idealize.ShloMosaic Idealize.ShloMosaic.TcCoe Idealize.SL.Sem

set_option Elab.async false

theorem grad_x : Cert.algebraic_GradXIdeal_GradXReferenceIdeal (hGradXIdeal := Cert.GradXIdeal.Gen.facts) (hGradXReferenceIdeal := Cert.GradXReferenceIdeal.Gen.facts) :=
  fun m g m' g' _ hm => ⟨_, (θ_run _ _ _).mono (fun _ h c => ⟨(h c).1.trans (Cert.GradXIdeal.Value.final_rows m c), (h c).2⟩) (Cert.GradXIdeal.Value.run_blocks m g),
    (θ_run _ _ _).mono (fun _ h c => ⟨(h c).1.trans ((host_rowsPlus 0x3F9837F0#32 _ _ _ _ rfl _ _).trans (by
      obtain ⟨h0, h1, h2⟩ := hm c
      rw [h0, h1, h2])), (h c).2⟩) (Cert.GradXReferenceIdeal.Value.run m' g')⟩

theorem d_mixed : Cert.algebraic_DMixedIdeal_DMixedReferenceIdeal (hDMixedIdeal := Cert.DMixedIdeal.Gen.facts) (hDMixedReferenceIdeal := Cert.DMixedReferenceIdeal.Gen.facts) :=
  fun m g m' g' _ hm => ⟨_, (θ_run _ _ _).mono (fun _ h c => ⟨(h c).1.trans (Cert.DMixedIdeal.Value.final_rows m c), (h c).2⟩) (Cert.DMixedIdeal.Value.run_blocks m g),
    (θ_run _ _ _).mono (fun _ h c => ⟨(h c).1.trans ((host_rowsBy (φ := .f32) (ψ := .f32) _ _ _ rfl _).trans (by
      obtain ⟨h0, h1⟩ := hm c
      rw [h0, h1]
      rfl)), (h c).2⟩) (Cert.DMixedReferenceIdeal.Value.run m' g')⟩

theorem grad_in : Cert.algebraic_GradInIdeal_GradInReferenceIdeal (hGradInIdeal := Cert.GradInIdeal.Gen.facts) (hGradInReferenceIdeal := Cert.GradInReferenceIdeal.Gen.facts) :=
  fun m g m' g' _ hm => ⟨_, (θ_run _ _ _).mono (fun _ h c => ⟨(h c).1.trans (Cert.GradInIdeal.Value.final_cols m c), (h c).2⟩) (Cert.GradInIdeal.Value.run m g),
    (θ_run _ _ _).mono (fun _ h c => ⟨(h c).1.trans ((host_cols (φ := .f32) _ _ _ rfl _).trans (by
      obtain ⟨h0, h1⟩ := hm c
      rw [h0, h1]
      rfl)), (h c).2⟩) (Cert.GradInReferenceIdeal.Value.run m' g')⟩

theorem grad_out : Cert.algebraic_GradOutIdeal_GradOutReferenceIdeal (hGradOutIdeal := Cert.GradOutIdeal.Gen.facts) (hGradOutReferenceIdeal := Cert.GradOutReferenceIdeal.Gen.facts) :=
  fun m g m' g' _ hm => ⟨_, (θ_run _ _ _).mono (fun _ h c => ⟨(h c).1.trans (Cert.GradOutIdeal.Value.final_cols m c), (h c).2⟩) (Cert.GradOutIdeal.Value.run m g),
    (θ_run _ _ _).mono (fun _ h c => ⟨(h c).1.trans ((host_cols (φ := .f32) _ _ _ rfl _).trans (by
      obtain ⟨h0, h1⟩ := hm c
      rw [h0, h1]
      rfl)), (h c).2⟩) (Cert.GradOutReferenceIdeal.Value.run m' g')⟩

end Cert.Products

end
-- ==== Proof.Norms.lean ====
/- A LAYER NORM, ITS LOSS AND ITS DERIVATIVE, for any number of rows: what the kernel's and the host's operations compute, and
   that some of the rows can be taken before or after. -/
module

public import proofs.«01_k».proof.Proof.Products
public import Idealize.ShloMosaic.Lib.Pointwise.Reduce

@[expose] public section

set_option maxRecDepth 65536

noncomputable section

namespace Cert.Norms

open Idealize.ShloMosaic hiding ix2 ix1
open Idealize.ShloMosaic.ValueIdx (ix2 ix1)
open Cert.Products (pair)
open scoped BigOperators

set_option Elab.async false

variable {R R' C K : ℕ} {φ ψ : FTy}

/-! ## The parts -/

/-- One row, repeated. -/
def along (g : FVec Ideal ⟨2, ![1, C]⟩ .f32) : FVec Ideal ⟨2, ![R, C]⟩ .f32 := fun y => g (ix2 0 (y 1))

/-- One column, repeated. -/
def across (v : FVec Ideal ⟨2, ![R, 1]⟩ .f32) : FVec Ideal ⟨2, ![R, C]⟩ .f32 := fun y => v (ix2 (y 0) 0)

/-- One number, repeated. -/
def all (b : BitVec 32) : FVec Ideal ⟨2, ![R, C]⟩ .f32 := fun _ => Ideal.ofBits .f32 b

/-- Each row's sum. -/
def rowSum (U : FVec Ideal ⟨2, ![R, C]⟩ .f32) : FVec Ideal ⟨2, ![R, 1]⟩ .f32 := fun y => ∑ k : Fin C, (U (ix2 (y 0) k) : EReal)

/-- Each column's sum. -/
def colSum (U : FVec Ideal ⟨2, ![R, C]⟩ .f32) : FVec Ideal ⟨2, ![1, C]⟩ .f32 := fun y => ∑ r : Fin R, (U (ix2 r (y 1)) : EReal)

/-- Rows times columns. -/
def times (A : FVec Ideal ⟨2, ![R, K]⟩ φ) (W : FVec Ideal ⟨2, ![K, C]⟩ ψ) : FVec Ideal ⟨2, ![R, C]⟩ .f32 :=
  fun y => ∑ k : Fin K, (A (ix2 (y 0) k) * W (ix2 k (y 1)) : EReal)

/-- Rows times columns, and one row added to each. -/
def affine (A : FVec Ideal ⟨2, ![R, K]⟩ φ) (W : FVec Ideal ⟨2, ![K, C]⟩ ψ) (b : FVec Ideal ⟨2, ![1, C]⟩ .f32) : FVec Ideal ⟨2, ![R, C]⟩ .f32 :=
  addf (times A W) (along b)

/-- Each row's mean, the length being 1024. -/
def mean (U : FVec Ideal ⟨2, ![R, C]⟩ .f32) : FVec Ideal ⟨2, ![R, 1]⟩ .f32 := divf (rowSum U) (all 0x44800000#32)

/-! ## The layer -/

/-- What is normed: `α (X g + b) + A W`. -/
def layer (A : FVec Ideal ⟨2, ![R, K]⟩ φ) (W : FVec Ideal ⟨2, ![K, C]⟩ ψ) (X : FVec Ideal ⟨2, ![R, C]⟩ .f32) (g b : FVec Ideal ⟨2, ![1, C]⟩ .f32) :
    FVec Ideal ⟨2, ![R, C]⟩ .f32 :=
  addf (mulf (all 0x3F9837F0#32) (addf (mulf X (along g)) (along b))) (times A W)

/-- What the first norm takes: `α X + A W`. -/
def residual (A : FVec Ideal ⟨2, ![R, K]⟩ φ) (W : FVec Ideal ⟨2, ![K, C]⟩ ψ) (X : FVec Ideal ⟨2, ![R, C]⟩ .f32) : FVec Ideal ⟨2, ![R, C]⟩ .f32 :=
  addf (mulf (all 0x3F9837F0#32) X) (times A W)

/-- Less each row's mean. -/
def centred (Z : FVec Ideal ⟨2, ![R, C]⟩ .f32) : FVec Ideal ⟨2, ![R, C]⟩ .f32 := subf Z (across (mean Z))

/-- One over the root of each row's variance, kept from zero. -/
def scale (Z : FVec Ideal ⟨2, ![R, C]⟩ .f32) : FVec Ideal ⟨2, ![R, 1]⟩ .f32 :=
  rsqrt (addf (mean (mulf (centred Z) (centred Z))) (all 0x3727C5AC#32))

/-- The rows normed. -/
def normed (Z : FVec Ideal ⟨2, ![R, C]⟩ .f32) : FVec Ideal ⟨2, ![R, C]⟩ .f32 := mulf (centred Z) (across (scale Z))

/-- The layer's output. -/
def output (Z : FVec Ideal ⟨2, ![R, C]⟩ .f32) (g b : FVec Ideal ⟨2, ![1, C]⟩ .f32) : FVec Ideal ⟨2, ![R, C]⟩ .f32 :=
  addf (mulf (normed Z) (along g)) (along b)

/-- The layer's output less the target. -/
def miss (Z : FVec Ideal ⟨2, ![R, C]⟩ .f32) (g b : FVec Ideal ⟨2, ![1, C]⟩ .f32) (T : FVec Ideal ⟨2, ![R, C]⟩ .f32) : FVec Ideal ⟨2, ![R, C]⟩ .f32 :=
  subf (addf (mulf (normed Z) (along g)) (along b)) T

/-- Each row's mean square of the miss. -/
def missed (Z : FVec Ideal ⟨2, ![R, C]⟩ .f32) (g b : FVec Ideal ⟨2, ![1, C]⟩ .f32) (T : FVec Ideal ⟨2, ![R, C]⟩ .f32) : FVec Ideal ⟨2, ![R, 1]⟩ .f32 :=
  mean (mulf (miss Z g b T) (miss Z g b T))

/-- The loss's derivative in the layer's output. -/
def slope (Z : FVec Ideal ⟨2, ![R, C]⟩ .f32) (g b : FVec Ideal ⟨2, ![1, C]⟩ .f32) (T : FVec Ideal ⟨2, ![R, C]⟩ .f32) : FVec Ideal ⟨2, ![R, C]⟩ .f32 :=
  mulf (miss Z g b T) (all 0x3A800000#32)

/-- From the derivative in the normed rows to that in the rows. -/
def back (s : FVec Ideal ⟨2, ![R, 1]⟩ .f32) (N H : FVec Ideal ⟨2, ![R, C]⟩ .f32) : FVec Ideal ⟨2, ![R, C]⟩ .f32 :=
  mulf (across s) (subf (subf H (across (mean H))) (mulf N (across (mean (mulf H N)))))

/-- The loss's derivative in what is normed. -/
def steep (Z : FVec Ideal ⟨2, ![R, C]⟩ .f32) (g b : FVec Ideal ⟨2, ![1, C]⟩ .f32) (T : FVec Ideal ⟨2, ![R, C]⟩ .f32) : FVec Ideal ⟨2, ![R, C]⟩ .f32 :=
  back (scale Z) (normed Z) (mulf (slope Z g b T) (along g))

/-! ## Some of the rows -/

/-- The rows that `e` names. -/
def rows (e : Fin R' → Fin R) (U : FVec Ideal ⟨2, ![R, C]⟩ φ) : FVec Ideal ⟨2, ![R', C]⟩ φ := fun y => U (ix2 (e (y 0)) (y 1))

theorem layer_rows (e : Fin R' → Fin R) (A : FVec Ideal ⟨2, ![R, K]⟩ φ) (W : FVec Ideal ⟨2, ![K, C]⟩ ψ) (X : FVec Ideal ⟨2, ![R, C]⟩ .f32)
    (g b : FVec Ideal ⟨2, ![1, C]⟩ .f32) : layer (rows e A) W (rows e X) g b = rows e (layer A W X g b) := rfl

theorem residual_rows (e : Fin R' → Fin R) (A : FVec Ideal ⟨2, ![R, K]⟩ φ) (W : FVec Ideal ⟨2, ![K, C]⟩ ψ) (X : FVec Ideal ⟨2, ![R, C]⟩ .f32) :
    residual (rows e A) W (rows e X) = rows e (residual A W X) := rfl

theorem centred_rows (e : Fin R' → Fin R) (Z : FVec Ideal ⟨2, ![R, C]⟩ .f32) : centred (rows e Z) = rows e (centred Z) := rfl

theorem scale_rows (e : Fin R' → Fin R) (Z : FVec Ideal ⟨2, ![R, C]⟩ .f32) : scale (rows e Z) = rows e (scale Z) := by
  unfold scale
  rw [centred_rows]
  rfl

theorem normed_rows (e : Fin R' → Fin R) (Z : FVec Ideal ⟨2, ![R, C]⟩ .f32) : normed (rows e Z) = rows e (normed Z) := by
  unfold normed
  rw [centred_rows, scale_rows]
  rfl

theorem output_rows (e : Fin R' → Fin R) (Z : FVec Ideal ⟨2, ![R, C]⟩ .f32) (g b : FVec Ideal ⟨2, ![1, C]⟩ .f32) :
    output (rows e Z) g b = rows e (output Z g b) := by
  unfold output
  rw [normed_rows]
  rfl

theorem miss_rows (e : Fin R' → Fin R) (Z : FVec Ideal ⟨2, ![R, C]⟩ .f32) (g b : FVec Ideal ⟨2, ![1, C]⟩ .f32) (T : FVec Ideal ⟨2, ![R, C]⟩ .f32) :
    miss (rows e Z) g b (rows e T) = rows e (miss Z g b T) := by
  unfold miss
  rw [normed_rows]
  rfl

theorem missed_rows (e : Fin R' → Fin R) (Z : FVec Ideal ⟨2, ![R, C]⟩ .f32) (g b : FVec Ideal ⟨2, ![1, C]⟩ .f32) (T : FVec Ideal ⟨2, ![R, C]⟩ .f32) :
    missed (rows e Z) g b (rows e T) = rows e (missed Z g b T) := by
  unfold missed
  rw [miss_rows]
  rfl

theorem slope_rows (e : Fin R' → Fin R) (Z : FVec Ideal ⟨2, ![R, C]⟩ .f32) (g b : FVec Ideal ⟨2, ![1, C]⟩ .f32) (T : FVec Ideal ⟨2, ![R, C]⟩ .f32) :
    slope (rows e Z) g b (rows e T) = rows e (slope Z g b T) := by
  unfold slope
  rw [miss_rows]
  rfl

theorem steep_rows (e : Fin R' → Fin R) (Z : FVec Ideal ⟨2, ![R, C]⟩ .f32) (g b : FVec Ideal ⟨2, ![1, C]⟩ .f32) (T : FVec Ideal ⟨2, ![R, C]⟩ .f32) :
    steep (rows e Z) g b (rows e T) = rows e (steep Z g b T) := by
  unfold steep
  rw [scale_rows, normed_rows, slope_rows]
  rfl

/-! ## Some of the columns -/

/-- The columns from `o` on. -/
def columns (C' o : ℕ) (h : o + C' ≤ C) (U : FVec Ideal ⟨2, ![R, C]⟩ .f32) : FVec Ideal ⟨2, ![R, C']⟩ .f32 :=
  fun y => U (ix2 (y 0) ⟨o + (y 1).val, by have : (y 1).val < C' := (y 1).isLt; omega⟩)

theorem columns_eq {C' o : ℕ} (h : o + C' ≤ C) (U : FVec Ideal ⟨2, ![R, C]⟩ .f32) (hs) :
    extractStridedSlice ⟨2, ![R, C']⟩ ![0, o] U hs = columns C' o h U :=
  funext fun y => extractStridedSlice_apply _ U hs y _ fun a => match a with
    | ⟨0, _⟩ => (Nat.zero_add _).symm
    | ⟨1, _⟩ => rfl

/-- Read somewhere else, where the same row and the same column lie. -/
theorem affine_moved {C' : ℕ} (A : FVec Ideal ⟨2, ![R, K]⟩ φ) (A' : FVec Ideal ⟨2, ![R', K]⟩ φ) (W : FVec Ideal ⟨2, ![K, C]⟩ ψ)
    (W' : FVec Ideal ⟨2, ![K, C']⟩ ψ) (b : FVec Ideal ⟨2, ![1, C]⟩ .f32) (b' : FVec Ideal ⟨2, ![1, C']⟩ .f32) (y : (⟨2, ![R, C]⟩ : Shape).Idx)
    (z : (⟨2, ![R', C']⟩ : Shape).Idx) (hA : ∀ k, A (ix2 (y 0) k) = A' (ix2 (z 0) k)) (hW : ∀ k, W (ix2 k (y 1)) = W' (ix2 k (z 1)))
    (hb : b (ix2 0 (y 1)) = b' (ix2 0 (z 1))) : affine A W b y = affine A' W' b' z :=
  congrArg₂ (fun s t : EReal => s + t) (Finset.sum_congr rfl fun k _ => congrArg₂ (· * ·) (hA k) (hW k)) hb

/-! ## The kernel's operations -/

theorem kernel_along (g : FVec Ideal ⟨2, ![1, C]⟩ .f32) (h) : broadcastTo ⟨2, ![R, C]⟩ g h = along g :=
  funext fun y => broadcastTo_apply g h y (ix2 0 (y 1)) fun a => match a with
    | ⟨0, _⟩ => rfl
    | ⟨1, _⟩ => by
      show (y 1).val = if C = 1 then 0 else (y 1).val
      have h1 : (y 1).val < C := (y 1).isLt
      split <;> omega

theorem kernel_across (v : FVec Ideal ⟨2, ![R, 1]⟩ .f32) (h) : broadcastTo ⟨2, ![R, C]⟩ v h = across v :=
  funext fun y => broadcastTo_apply v h y (ix2 (y 0) 0) fun a => match a with
    | ⟨0, _⟩ => by
      show (y 0).val = if R = 1 then 0 else (y 0).val
      have h0 : (y 0).val < R := (y 0).isLt
      split <;> omega
    | ⟨1, _⟩ => rfl

theorem kernel_all (b : BitVec 32) : broadcast ⟨2, ![R, C]⟩ (Scalar.ofBits (F := Ideal) .f32 b) = all b := rfl

theorem kernel_rowSum (U : FVec Ideal ⟨2, ![R, C]⟩ .f32) (b : BitVec 32) (h : (⟨2, ![R, C]⟩ : Shape).Reduces [1] ⟨1, ![R]⟩) (hφ) (hb) (hs) :
    shapeCast ⟨2, ![R, 1]⟩ (multiReduction .add [1] ⟨1, ![R]⟩ U b h hφ hb) hs = rowSum U :=
  funext fun y => (shapeCast_apply _ hs y (ix1 (y 0)) (by
    have h1 : (y 1).val < 1 := (y 1).isLt
    rw [Shape.rowMajor_val_one, Shape.rowMajor_val_two]
    show (y 0).val = (y 0).val * 1 + (y 1).val
    omega)).trans (Ideal.reduceAdd_r2_a1 h U (ix1 (y 0)))

theorem kernel_colSum (U : FVec Ideal ⟨2, ![R, C]⟩ .f32) (b : BitVec 32) (h : (⟨2, ![R, C]⟩ : Shape).Reduces [0] ⟨1, ![C]⟩) (hφ) (hb) (hs) :
    shapeCast ⟨2, ![1, C]⟩ (multiReduction .add [0] ⟨1, ![C]⟩ U b h hφ hb) hs = colSum U :=
  funext fun y => (shapeCast_apply _ hs y (ix1 (y 1)) (by
    have h0 : (y 0).val < 1 := (y 0).isLt
    rw [Shape.rowMajor_val_one, Shape.rowMajor_val_two]
    show (y 1).val = (y 0).val * C + (y 1).val
    rw [Nat.lt_one_iff.1 h0, Nat.zero_mul, Nat.zero_add])).trans (Ideal.reduceAdd_r2_a0 h U (ix1 (y 1)))

theorem kernel_times (A : FVec Ideal ⟨2, ![R, K]⟩ φ) (W : FVec Ideal ⟨2, ![K, C]⟩ ψ) (d : DotDims ⟨2, ![R, K]⟩ ⟨2, ![K, C]⟩ ⟨2, ![R, C]⟩)
    (hd : d = DotDims.plain R K C) : matmul d none A W (constant ⟨2, ![R, C]⟩ .f32 0x00000000#32) = times A W := by
  subst hd
  funext y
  obtain ⟨r, c, rfl⟩ : ∃ r c, y = ix2 r c := ⟨y 0, y 1, pair y⟩
  refine (Ideal.matmul_plain_apply none A W (constant ⟨2, ![R, C]⟩ .f32 0x00000000#32) r c).trans ?_
  show Ideal.ofBits .f32 0x00000000#32 + _ = _
  rw [Ideal.ofBits_zero_f32, zero_add]
  rfl

/-! ## The host's operations -/

theorem host_along (g : FVec Ideal ⟨2, ![1, C]⟩ .f32) (h) : broadcastInDim ⟨2, ![R, C]⟩ ![0, 1] h g = along g :=
  funext fun y => broadcastInDim_apply ![0, 1] h g y (ix2 0 (y 1)) fun a => match a with
    | ⟨0, _⟩ => rfl
    | ⟨1, _⟩ => by
      show (y 1).val = if C = 1 then 0 else (y 1).val
      have h1 : (y 1).val < C := (y 1).isLt
      split <;> omega

theorem host_across (v : FVec Ideal ⟨2, ![R, 1]⟩ .f32) (h) : broadcastInDim ⟨2, ![R, C]⟩ ![0, 1] h v = across v :=
  funext fun y => broadcastInDim_apply ![0, 1] h v y (ix2 (y 0) 0) fun a => match a with
    | ⟨0, _⟩ => by
      show (y 0).val = if R = 1 then 0 else (y 0).val
      have h0 : (y 0).val < R := (y 0).isLt
      split <;> omega
    | ⟨1, _⟩ => rfl

theorem host_all (b : BitVec 32) (h) : broadcastInDim ⟨2, ![R, C]⟩ ![] h (constant (F := Ideal) ⟨0, ![]⟩ .f32 b) = all b := rfl

/-- A sum from zero, on the host. -/
theorem host_rows (U : FVec Ideal ⟨2, ![R, C]⟩ .f32) (h : (⟨2, ![R, C]⟩ : Shape).ReducesTo [1] ⟨1, ![R]⟩) (hu : 0 < (⟨0, ![]⟩ : Shape).numel) (r : Fin R) :
    Host.reduceAdd U (constant (F := Ideal) ⟨0, ![]⟩ .f32 0x00000000#32) h hu (ix1 r) = ∑ k : Fin C, (U (ix2 r k) : EReal) :=
  (Ideal.hostReduceAdd_r2_a1 h U (Ideal.ofBits .f32 0x00000000#32) (ix1 r)).trans ((congrArg (· + _) Ideal.ofBits_zero_f32).trans (zero_add _))

theorem host_rowSum (U : FVec Ideal ⟨2, ![R, C]⟩ .f32) (h : (⟨2, ![R, C]⟩ : Shape).ReducesTo [1] ⟨1, ![R]⟩) (hu) (hb) :
    broadcastInDim ⟨2, ![R, 1]⟩ ![0] hb (Host.reduceAdd U (constant (F := Ideal) ⟨0, ![]⟩ .f32 0x00000000#32) h hu) = rowSum U :=
  funext fun y => (broadcastInDim_apply ![0] hb _ y (ix1 (y 0)) fun a => match a with
    | ⟨0, _⟩ => by
      show (y 0).val = if R = 1 then 0 else (y 0).val
      have h0 : (y 0).val < R := (y 0).isLt
      split <;> omega).trans (host_rows U h hu (y 0))

theorem host_colSum (U : FVec Ideal ⟨2, ![R, C]⟩ .f32) (h : (⟨2, ![R, C]⟩ : Shape).ReducesTo [0] ⟨1, ![C]⟩) (hu : 0 < (⟨0, ![]⟩ : Shape).numel) (hb) :
    broadcastInDim ⟨2, ![1, C]⟩ ![1] hb (Host.reduceAdd U (constant (F := Ideal) ⟨0, ![]⟩ .f32 0x00000000#32) h hu) = colSum U :=
  funext fun y => (broadcastInDim_apply ![1] hb _ y (ix1 (y 1)) fun a => match a with
    | ⟨0, _⟩ => by
      show (y 1).val = if C = 1 then 0 else (y 1).val
      have h1 : (y 1).val < C := (y 1).isLt
      split <;> omega).trans ((Ideal.hostReduceAdd_r2_a0 h U (Ideal.ofBits .f32 0x00000000#32) (ix1 (y 1))).trans
        ((congrArg (· + _) Ideal.ofBits_zero_f32).trans (zero_add _)))

theorem host_times (A : FVec Ideal ⟨2, ![R, K]⟩ φ) (W : FVec Ideal ⟨2, ![K, C]⟩ ψ) (d : DotDims ⟨2, ![R, K]⟩ ⟨2, ![K, C]⟩ ⟨2, ![R, C]⟩)
    (hd : d = DotDims.plain R K C) : Host.dotGeneral d none A W = times A W := by
  subst hd
  funext y
  obtain ⟨r, c, rfl⟩ : ∃ r c, y = ix2 r c := ⟨y 0, y 1, pair y⟩
  exact StackMember.dotGeneral_plain_apply none A W r c

theorem host_divf (x y : FVec Ideal ⟨2, ![R, C]⟩ .f32) : Host.divf x y = divf x y := rfl

theorem host_rsqrt (x : FVec Ideal ⟨2, ![R, C]⟩ .f32) : Host.rsqrt x = rsqrt x := rfl

/-- Half the sum of the rows' means, as the host takes it. -/
theorem host_half (U : FVec Ideal ⟨2, ![R, C]⟩ .f32) (h : (⟨2, ![R, C]⟩ : Shape).ReducesTo [1] ⟨1, ![R]⟩) (hu hu' : 0 < (⟨0, ![]⟩ : Shape).numel) (hb)
    (h' : (⟨1, ![R]⟩ : Shape).ReducesTo [0] ⟨0, ![]⟩) (hs) :
    shapeCast ⟨2, ![1, 1]⟩ (mulf (constant (F := Ideal) ⟨0, ![]⟩ .f32 0x3F000000#32)
      (Host.reduceAdd (Host.divf (Host.reduceAdd U (constant (F := Ideal) ⟨0, ![]⟩ .f32 0x00000000#32) h hu)
        (broadcastInDim ⟨1, ![R]⟩ ![] hb (constant (F := Ideal) ⟨0, ![]⟩ .f32 0x44800000#32))) (constant (F := Ideal) ⟨0, ![]⟩ .f32 0x00000000#32) h' hu')) hs
      = mulf (all 0x3F000000#32) (colSum (mean U)) := by
  funext y
  refine congrArg (Ideal.ofBits .f32 0x3F000000#32 * ·) ?_
  refine (Ideal.hostReduceAdd_r1_a0 h' _ (Ideal.ofBits .f32 0x00000000#32) _).trans ((congrArg (· + _) Ideal.ofBits_zero_f32).trans ((zero_add _).trans ?_))
  exact Finset.sum_congr rfl fun r _ => congrArg (fun s : EReal => FloatOps.hostDivf (F := Ideal) (φ := .f32) s _) (host_rows U h hu r)

/-! ## A run of points -/

/-- The rows of point `t` of eight. -/
def stretch {N : ℕ} (hN : N = 8) (t : Fin N) (r : Fin 512) : Fin 4096 := ⟨512 * t.val + r.val, by
  have := lt_of_lt_of_eq t.isLt hN
  have := r.isLt
  omega⟩

/-- A block of whole rows. -/
theorem tile {N : ℕ} {hN : N = 8} {t : Fin N} {p : Fin 2 → ℕ} (hp : p = ![t.val, 0]) (y : (⟨2, ![512, C]⟩ : Shape).Idx) (a : Fin 2) :
    p a * ![512, C] a + 1 * (y a).val = (ix2 (stretch hN t (y 0)) (y 1) a).val := by
  subst hp
  match a with
  | ⟨0, _⟩ => show t.val * 512 + 1 * (y 0).val = 512 * t.val + (y 0).val; omega
  | ⟨1, _⟩ => show 0 * C + 1 * (y 1).val = (y 1).val; omega

/-- A block that is the whole array. -/
theorem whole {p : Fin 2 → ℕ} (hp : p = ![0, 0]) (y : (⟨2, ![R, C]⟩ : Shape).Idx) (a : Fin 2) :
    p a * ![R, C] a + 1 * (y a).val = (y a).val := by
  subst hp
  match a with
  | ⟨0, _⟩ => show 0 * R + 1 * (y 0).val = (y 0).val; omega
  | ⟨1, _⟩ => show 0 * C + 1 * (y 1).val = (y 1).val; omega

/-- Every index lies in a block that is the whole array. -/
theorem in_whole (i : (⟨2, ![R, C]⟩ : Shape).Idx) {q : Fin 2 → ℕ} (hq : q = ![0, 0]) (a : Fin 2) :
    q a * ![R, C] a ≤ (i a).val ∧ (i a).val < q a * ![R, C] a + ![R, C] a := by
  subst hq
  match a with
  | ⟨0, _⟩ =>
    have h : (i 0).val < R := (i 0).isLt
    show 0 * R ≤ (i 0).val ∧ (i 0).val < 0 * R + R
    omega
  | ⟨1, _⟩ =>
    have h : (i 1).val < C := (i 1).isLt
    show 0 * C ≤ (i 1).val ∧ (i 1).val < 0 * C + C
    omega

/-- A factor that is not negative and not infinite goes over a sum. -/
theorem factor {J : ℕ} (x : EReal) (h0 : 0 ≤ x) (ht : x ≠ ⊤) (s : ℕ → EReal) : ∑ k ∈ Finset.range J, x * s k = x * ∑ k ∈ Finset.range J, s k := by
  induction J with
  | zero => exact (mul_zero x).symm
  | succ J ih => rw [Finset.sum_range_succ, Finset.sum_range_succ, ih, EReal.left_distrib_of_nonneg_of_ne_top h0 ht]

end Cert.Norms

end
-- ==== Proof.LossTerms.lean ====
/- THE LOSS AND ITS GRADIENTS: the run leaves the layer norm's derivative row block by row block and adds up the loss and the two
   gradients of the norm's own parameters, which is what the reference computes at once. -/
module

public import proofs.«01_k».proof.Proof.Norms
public import proofs.«01_k».proof.Defs
public import proofs.«01_k».proof.Proof.Gen.Loss.Frame
public import proofs.«01_k».proof.Proof.Gen.LossIdeal.Value
public import proofs.«01_k».proof.Proof.Gen.LossReferenceIdeal.Run

@[expose] public section

set_option maxRecDepth 65536

noncomputable section

/-! ## The reference -/

namespace Cert.LossReferenceIdeal.Value

open Cert.LossReferenceIdeal Cert.LossReferenceIdeal.Gen Idealize.ShloMosaic Idealize.ShloMosaic.TcCoe Idealize.SL.Sem
open Cert.Norms

set_option Elab.async false

variable (m : (ℓ : Loc nD τ sig) → Buf (Elt Ideal) ℓ) (c : Dev nD)

/-- What is normed, of the arguments. -/
abbrev z : FVec Ideal ⟨2, ![4096, 1024]⟩ .f32 :=
  layer (φ := .bf16) (ψ := .bf16) (m ((c : Thread nD τ).loc main_arg0)) (m ((c : Thread nD τ).loc main_arg1)) (m ((c : Thread nD τ).loc main_arg2))
    (m ((c : Thread nD τ).loc main_arg3)) (m ((c : Thread nD τ).loc main_arg4))

theorem product (A : FVec Ideal S4096x2816 .bf16) (W : FVec Ideal S2816x1024 .bf16) :
    Host.dotGeneral dot_S4096x2816_S2816x1024_S4096x1024_1_0_0_1_n_n none A W = times A W :=
  host_times A W _ rfl

theorem row_spread (g : FVec Ideal S1x1024 .f32) : broadcastInDim S4096x1024 ![0, 1] bcast_S1x1024_S4096x1024_0_1 g = along g := host_along g _

theorem col_spread (v : FVec Ideal S4096x1 .f32) : broadcastInDim S4096x1024 ![0, 1] bcast_S4096x1_S4096x1024_0_1 v = across v := host_across v _

theorem rows_sum (U : FVec Ideal S4096x1024 .f32) : broadcastInDim S4096x1 ![0] bcast_S4096_S4096x1_0
    (Host.reduceAdd U (constant (F := Ideal) S_ .f32 0x00000000#32) reducesTo_S4096x1024_S4096_d1 h_S_) = rowSum U := host_rowSum U _ _ _

theorem cols_sum (U : FVec Ideal S4096x1024 .f32) : broadcastInDim S1x1024 ![1] bcast_S1024_S1x1024_1
    (Host.reduceAdd U (constant (F := Ideal) S_ .f32 0x00000000#32) reducesTo_S4096x1024_S1024_d0 h_S_) = colSum U := host_colSum U _ _ _

theorem every (b : BitVec 32) : broadcastInDim S4096x1024 ![] bcast_S_S4096x1024 (constant (F := Ideal) S_ .f32 b) = all b := rfl

theorem every_row (b : BitVec 32) : broadcastInDim S4096x1 ![] bcast_S_S4096x1 (constant (F := Ideal) S_ .f32 b) = all b := rfl

theorem steep_eq : res_main_v56 m c = steep (z m c) (m ((c : Thread nD τ).loc main_arg5)) (m ((c : Thread nD τ).loc main_arg6)) (m ((c : Thread nD τ).loc main_arg7)) := by
  unfold res_main_v56
  rw [every, every, row_spread, row_spread, row_spread, row_spread, product, host_divf, host_divf, host_divf, host_divf, rows_sum, rows_sum, rows_sum, rows_sum, every_row, every_row, host_rsqrt, col_spread, col_spread, col_spread, col_spread]
  rfl

theorem half_eq : res_main_v57 m c = mulf (all 0x3F000000#32)
    (colSum (missed (z m c) (m ((c : Thread nD τ).loc main_arg5)) (m ((c : Thread nD τ).loc main_arg6)) (m ((c : Thread nD τ).loc main_arg7)))) := by
  unfold res_main_v57
  refine (host_half _ _ _ _ _ _ _).trans ?_
  rw [every, row_spread, row_spread, row_spread, row_spread, product, host_divf, host_divf, rows_sum, rows_sum, every_row, every_row, host_rsqrt, col_spread, col_spread]
  rfl

theorem scales_eq : res_main_v60 m c = colSum (mulf (slope (z m c) (m ((c : Thread nD τ).loc main_arg5)) (m ((c : Thread nD τ).loc main_arg6))
    (m ((c : Thread nD τ).loc main_arg7))) (normed (z m c))) := by
  unfold res_main_v60
  rw [every, every, row_spread, row_spread, row_spread, row_spread, product, host_divf, host_divf, rows_sum, rows_sum, every_row, every_row, host_rsqrt, col_spread, col_spread, cols_sum]
  rfl

theorem shifts_eq : res_main_v62 m c = colSum (slope (z m c) (m ((c : Thread nD τ).loc main_arg5)) (m ((c : Thread nD τ).loc main_arg6))
    (m ((c : Thread nD τ).loc main_arg7))) := by
  unfold res_main_v62
  rw [every, every, row_spread, row_spread, row_spread, row_spread, product, host_divf, host_divf, rows_sum, rows_sum, every_row, every_row, host_rsqrt, col_spread, col_spread, cols_sum]
  rfl

end Cert.LossReferenceIdeal.Value

/-! ## The kernel -/

namespace Cert.LossIdeal.Value

open Cert.LossIdeal Cert.LossIdeal.Gen Idealize.ShloMosaic Idealize.ShloMosaic.TcCoe Idealize.SL.Sem
open Cert.Norms

set_option Elab.async false

/-! The sums and the product, at the kernel's shapes. -/

theorem rows_sum (U : FVec Ideal S512x1024 .f32) :
    shapeCast S512x1 (multiReduction .add [1] S512 U 0x00000000#32 reduces_S512x1024_S512 (.inl rfl) rfl) shapeCasts_S512_S512x1 = rowSum U :=
  kernel_rowSum U _ _ _ _ _

theorem cols_sum (U : FVec Ideal S512x1024 .f32) :
    shapeCast S1x1024 (multiReduction .add [0] S1024 U 0x00000000#32 reduces_S512x1024_S1024 (.inl rfl) rfl) shapeCasts_S1024_S1x1024 = colSum U :=
  kernel_colSum U _ _ _ _ _

theorem col_sum (U : FVec Ideal S512x1 .f32) :
    shapeCast S1x1 (multiReduction .add [0] S1 U 0x00000000#32 reduces_S512x1_S1 (.inl rfl) rfl) shapeCasts_S1_S1x1 = colSum U :=
  kernel_colSum U _ _ _ _ _

theorem product (A : Vec Ideal S512x2816 .bf16) (W : Vec Ideal S2816x1024 .bf16) :
    matmul (φ₁ := .bf16) (φ₂ := .bf16) dot_S512x2816_S2816x1024_S512x1024_1_0_0_1_n_n none A W (constant S512x1024 .f32 0x00000000#32) = times (φ := .bf16) (ψ := .bf16) A W :=
  kernel_times A W _ rfl

section Point

variable (A : Vec Ideal S512x2816 .bf16) (W : Vec Ideal S2816x1024 .bf16) (X : Vec Ideal S512x1024 .f32) (g b g' b' : Vec Ideal S1x1024 .f32)
  (T : Vec Ideal S512x1024 .f32)

/-- What is normed, of one point's blocks. -/
abbrev z : FVec Ideal ⟨2, ![512, 1024]⟩ .f32 := layer (φ := .bf16) (ψ := .bf16) A W X g b

theorem centred_eq : k0_pay5 X g b A W = centred (z A W X g b) := by
  unfold k0_pay5
  simp only [kernel_along, kernel_across, kernel_all, product]
  rw [rows_sum]
  rfl

theorem scale_eq : k0_pay6 X g b A W = scale (z A W X g b) := by
  unfold k0_pay6
  simp only [centred_eq, kernel_along, kernel_across, kernel_all]
  rw [rows_sum]
  rfl

theorem normed_eq : k0_pay7 X g b A W = normed (z A W X g b) := by
  unfold k0_pay7
  simp only [centred_eq, scale_eq, kernel_along, kernel_across, kernel_all]
  rfl

theorem scaled_eq : k0_pay8 X g b A W g' = mulf (normed (z A W X g b)) (along g') := by
  unfold k0_pay8
  simp only [normed_eq, kernel_along]

theorem miss_eq : k0_pay9 (k0_pay8 X g b A W g') b' T = miss (z A W X g b) g' b' T := by
  unfold k0_pay9
  simp only [scaled_eq, kernel_along]
  rfl

theorem slope_eq : k0_pay11 (k0_pay8 X g b A W g') b' T = slope (z A W X g b) g' b' T := by
  unfold k0_pay11
  simp only [miss_eq, kernel_all]
  rfl

theorem steep_eq : k0_pay1 (k0_pay6 X g b A W) (k0_pay7 X g b A W) (k0_pay11 (k0_pay8 X g b A W g') b' T) g' = steep (z A W X g b) g' b' T := by
  unfold k0_pay1
  simp only [scale_eq, normed_eq, slope_eq, kernel_along, kernel_across, kernel_all]
  rw [rows_sum, rows_sum]
  rfl

theorem half_eq (acc : Vec Ideal S1x1 .f32) : k0_pay10 (k0_pay8 X g b A W g') b' T acc
    = addf (φ := .f32) acc (mulf (all 0x3F000000#32) (colSum (missed (z A W X g b) g' b' T))) := by
  unfold k0_pay10
  simp only [miss_eq, kernel_all, shapeCast_self]
  rw [rows_sum, col_sum]
  rfl

theorem scales_eq (acc : Vec Ideal S1x1024 .f32) : k0_pay12 (k0_pay7 X g b A W) (k0_pay8 X g b A W g') b' T acc
    = addf (φ := .f32) acc (colSum (mulf (slope (z A W X g b) g' b' T) (normed (z A W X g b)))) := by
  unfold k0_pay12
  simp only [normed_eq, slope_eq, shapeCast_self]
  rw [cols_sum]

theorem shifts_eq (acc : Vec Ideal S1x1024 .f32) : k0_pay13 (k0_pay8 X g b A W g') b' T acc
    = addf (φ := .f32) acc (colSum (slope (z A W X g b) g' b' T)) := by
  unfold k0_pay13
  simp only [slope_eq, shapeCast_self]
  rw [cols_sum]

end Point

end Cert.LossIdeal.Value

end
-- ==== Proof.LossClaim.lean ====
/- THE LOSS AND ITS GRADIENTS: the run leaves the layer norm's derivative row block by row block and adds up the loss and the two
   gradients of the norm's own parameters, which is what the reference computes at once. -/
module

public import proofs.«01_k».proof.Proof.LossTerms
public import proofs.«01_k».proof.Proof.Products
public import Idealize.ShloMosaic.Lib.Pipeline.ValueKit

@[expose] public section

set_option maxRecDepth 65536

noncomputable section

namespace Cert.LossIdeal.Value

open Cert.LossIdeal Cert.LossIdeal.Gen Idealize.ShloMosaic Idealize.ShloMosaic.TcCoe Idealize.SL.Sem
open Cert.Norms

set_option Elab.async false

/-! ## What each case of the body stores -/

section Stored

theorem origin : (![0, 0] : Fin 2 → ℕ) = fun _ => 0 := funext fun a => by fin_cases a <;> rfl

variable (c : Dev nD) (i : grid0.Coords)
  (a1 : Memref sig .tc .vmem S512x2816 .bf16) (h1 : a1.IsWhole) (a2 : Memref sig .tc .vmem S2816x1024 .bf16) (h2 : a2.IsWhole)
  (a3 : Memref sig .tc .vmem S512x1024 .f32) (h3 : a3.IsWhole) (a4 : Memref sig .tc .vmem S1x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S512x1024 .f32) (h9 : a9.IsWhole) (a10 : Memref sig .tc .vmem S1x1 .f32) (h10 : a10.IsWhole)
  (a11 : Memref sig .tc .vmem S1x1024 .f32) (h11 : a11.IsWhole) (a12 : Memref sig .tc .vmem S1x1024 .f32) (h12 : a12.IsWhole)
  (A : Vec Ideal S512x2816 .bf16) (W : Vec Ideal S2816x1024 .bf16) (X : Vec Ideal S512x1024 .f32) (g b g' b' : Vec Ideal S1x1024 .f32)
  (T : Vec Ideal S512x1024 .f32)

/-- The first point clears the three sums and then adds to them. -/
theorem first (hc : cond0_0 i) :
    out0_A_8 c i a1 h1 a2 h2 a3 h3 a4 h4 a5 h5 a6 h6 a7 h7 a8 h8 a9 h9 a10 h10 a11 h11 a12 h12 hc A W X g b g' b' T
      = steep (z A W X g b) g' b' T
    ∧ out0_A_9 c i a1 h1 a2 h2 a3 h3 a4 h4 a5 h5 a6 h6 a7 h7 a8 h8 a9 h9 a10 h10 a11 h11 a12 h12 hc A W X g b g' b' T
      = addf (φ := .f32) (k0_pay2 (F := Ideal)) (mulf (all 0x3F000000#32) (colSum (missed (z A W X g b) g' b' T)))
    ∧ out0_A_10 c i a1 h1 a2 h2 a3 h3 a4 h4 a5 h5 a6 h6 a7 h7 a8 h8 a9 h9 a10 h10 a11 h11 a12 h12 hc A W X g b g' b' T
      = addf (φ := .f32) (k0_pay3 (F := Ideal)) (colSum (mulf (slope (z A W X g b) g' b' T) (normed (z A W X g b))))
    ∧ out0_A_11 c i a1 h1 a2 h2 a3 h3 a4 h4 a5 h5 a6 h6 a7 h7 a8 h8 a9 h9 a10 h10 a11 h11 a12 h12 hc A W X g b g' b' T
      = addf (φ := .f32) (k0_pay4 (F := Ideal)) (colSum (slope (z A W X g b) g' b' T)) := by
  refine ⟨(View.read_writes_eq_canon _ _ _ (cover0_A_8 c i a1 h1 a2 h2 a3 h3 a4 h4 a5 h5 a6 h6 a7 h7 a8 h8 a9 h9 a10 h10 a11 h11 a12 h12 hc A W X g b g' b' T)).trans ?_,
    (View.read_writes_eq_canon _ _ _ (cover0_A_9 c i a1 h1 a2 h2 a3 h3 a4 h4 a5 h5 a6 h6 a7 h7 a8 h8 a9 h9 a10 h10 a11 h11 a12 h12 hc A W X g b g' b' T)).trans ?_,
    (View.read_writes_eq_canon _ _ _ (cover0_A_10 c i a1 h1 a2 h2 a3 h3 a4 h4 a5 h5 a6 h6 a7 h7 a8 h8 a9 h9 a10 h10 a11 h11 a12 h12 hc A W X g b g' b' T)).trans ?_,
    (View.read_writes_eq_canon _ _ _ (cover0_A_11 c i a1 h1 a2 h2 a3 h3 a4 h4 a5 h5 a6 h6 a7 h7 a8 h8 a9 h9 a10 h10 a11 h11 a12 h12 hc A W X g b g' b' T)).trans ?_⟩
  all_goals
    unfold kernelRun0_A
    dsimp only
    sl_unfold_words
    first
    | rw [View.canon_unit_zero origin]
    | rw [View.canon_cons_unit_zero (S := S1x1) origin, View.readCov_unit_zero (S := S1x1) _ origin]
    | rw [View.canon_cons_unit_zero (S := S1x1024) origin, View.readCov_unit_zero (S := S1x1024) _ origin]
    simp only [View.readAt_eq_ld, h1.read_unread, h2.read_unread, h3.read_unread, h4.read_unread, h5.read_unread, h6.read_unread, h7.read_unread, h8.read_unread, h9.read_unread, h10.read_unread, h11.read_unread, h12.read_unread,
      View.ld_unit_zero (S := S512x2816) origin, View.ld_unit_zero (S := S2816x1024) origin, View.ld_unit_zero (S := S512x1024) origin,
      View.ld_unit_zero (S := S1x1024) origin, View.ld_unit_zero (S := S1x1) origin, shapeCast_self]
  · exact steep_eq A W X g b g' b' T
  · exact half_eq A W X g b g' b' T _
  · exact scales_eq A W X g b g' b' T _
  · exact shifts_eq A W X g b g' b' T _

/-- Every other point adds to what the point before it left. -/
theorem next (hc : ¬cond0_0 i) (o9 : Vec Ideal S1x1 .f32) (o10 o11 : Vec Ideal S1x1024 .f32) :
    out0_B_8 c i a1 h1 a2 h2 a3 h3 a4 h4 a5 h5 a6 h6 a7 h7 a8 h8 a9 h9 a10 h10 a11 h11 a12 h12 hc A W X g b g' b' T o9 o10 o11
      = steep (z A W X g b) g' b' T
    ∧ out0_B_9 c i a1 h1 a2 h2 a3 h3 a4 h4 a5 h5 a6 h6 a7 h7 a8 h8 a9 h9 a10 h10 a11 h11 a12 h12 hc A W X g b g' b' T o9 o10 o11
      = addf (φ := .f32) o9 (mulf (all 0x3F000000#32) (colSum (missed (z A W X g b) g' b' T)))
    ∧ out0_B_10 c i a1 h1 a2 h2 a3 h3 a4 h4 a5 h5 a6 h6 a7 h7 a8 h8 a9 h9 a10 h10 a11 h11 a12 h12 hc A W X g b g' b' T o9 o10 o11
      = addf (φ := .f32) o10 (colSum (mulf (slope (z A W X g b) g' b' T) (normed (z A W X g b))))
    ∧ out0_B_11 c i a1 h1 a2 h2 a3 h3 a4 h4 a5 h5 a6 h6 a7 h7 a8 h8 a9 h9 a10 h10 a11 h11 a12 h12 hc A W X g b g' b' T o9 o10 o11
      = addf (φ := .f32) o11 (colSum (slope (z A W X g b) g' b' T)) := by
  refine ⟨(View.read_writes_eq_canon _ _ _ (cover0_B_8 c i a1 h1 a2 h2 a3 h3 a4 h4 a5 h5 a6 h6 a7 h7 a8 h8 a9 h9 a10 h10 a11 h11 a12 h12 hc A W X g b g' b' T o9 o10 o11)).trans ?_,
    (View.read_writes_eq_canon _ _ _ (cover0_B_9 c i a1 h1 a2 h2 a3 h3 a4 h4 a5 h5 a6 h6 a7 h7 a8 h8 a9 h9 a10 h10 a11 h11 a12 h12 hc A W X g b g' b' T o9 o10 o11)).trans ?_,
    (View.read_writes_eq_canon _ _ _ (cover0_B_10 c i a1 h1 a2 h2 a3 h3 a4 h4 a5 h5 a6 h6 a7 h7 a8 h8 a9 h9 a10 h10 a11 h11 a12 h12 hc A W X g b g' b' T o9 o10 o11)).trans ?_,
    (View.read_writes_eq_canon _ _ _ (cover0_B_11 c i a1 h1 a2 h2 a3 h3 a4 h4 a5 h5 a6 h6 a7 h7 a8 h8 a9 h9 a10 h10 a11 h11 a12 h12 hc A W X g b g' b' T o9 o10 o11)).trans ?_⟩
  all_goals
    unfold kernelRun0_B
    dsimp only
    sl_unfold_words
    rw [View.canon_unit_zero origin]
    simp only [View.readAt_eq_ld, h1.read_unread, h2.read_unread, h3.read_unread, h4.read_unread, h5.read_unread, h6.read_unread, h7.read_unread, h8.read_unread, h9.read_unread, h10.read_unread, h11.read_unread, h12.read_unread,
      View.ld_unit_zero (S := S512x2816) origin, View.ld_unit_zero (S := S2816x1024) origin, View.ld_unit_zero (S := S512x1024) origin,
      View.ld_unit_zero (S := S1x1024) origin, View.ld_unit_zero (S := S1x1) origin, shapeCast_self]
  · exact steep_eq A W X g b g' b' T
  · exact half_eq A W X g b g' b' T _
  · exact scales_eq A W X g b g' b' T _
  · exact shifts_eq A W X g b g' b' T _

end Stored

/-! ## The blocks a point sees -/

variable (m : (ℓ : Loc nD τ sig) → Buf (Elt Ideal) ℓ) (c : Dev nD)

/-- What is normed. -/
abbrev zAll : FVec Ideal ⟨2, ![4096, 1024]⟩ .f32 :=
  layer (φ := .bf16) (ψ := .bf16) (m ((c : Thread nD τ).loc main_arg0)) (m ((c : Thread nD τ).loc main_arg1)) (m ((c : Thread nD τ).loc main_arg2))
    (m ((c : Thread nD τ).loc main_arg3)) (m ((c : Thread nD τ).loc main_arg4))

/-- The rows of point `t`. -/
abbrev rowAt (t : Fin cfg0.N) : Fin 512 → Fin 4096 := stretch (show cfg0.N = 8 from N_0) t

theorem blocks (t : Fin cfg0.N) :
    (iblk m c 0 t : FVec Ideal ⟨2, ![512, 2816]⟩ .bf16) = rows (φ := .bf16) (rowAt t) (m ((c : Thread nD τ).loc main_arg0))
    ∧ iblk m c 1 t = m ((c : Thread nD τ).loc main_arg1)
    ∧ (iblk m c 2 t : FVec Ideal ⟨2, ![512, 1024]⟩ .f32) = rows (φ := .f32) (rowAt t) (m ((c : Thread nD τ).loc main_arg2))
    ∧ iblk m c 3 t = m ((c : Thread nD τ).loc main_arg3)
    ∧ iblk m c 4 t = m ((c : Thread nD τ).loc main_arg4)
    ∧ iblk m c 5 t = m ((c : Thread nD τ).loc main_arg5)
    ∧ iblk m c 6 t = m ((c : Thread nD τ).loc main_arg6)
    ∧ (iblk m c 7 t : FVec Ideal ⟨2, ![512, 1024]⟩ .f32) = rows (φ := .f32) (rowAt t) (m ((c : Thread nD τ).loc main_arg7)) := by
  have at0 : ∀ t : Fin cfg0.N, win0_0.index t = ![t.val, 0] := (by decide +kernel : ∀ t : Fin grid0.N, _)
  have at1 : ∀ t : Fin cfg0.N, win0_1.index t = ![0, 0] := (by decide +kernel : ∀ t : Fin grid0.N, _)
  have at2 : ∀ t : Fin cfg0.N, win0_2.index t = ![t.val, 0] := (by decide +kernel : ∀ t : Fin grid0.N, _)
  have at3 : ∀ t : Fin cfg0.N, win0_3.index t = ![0, 0] := (by decide +kernel : ∀ t : Fin grid0.N, _)
  have at4 : ∀ t : Fin cfg0.N, win0_4.index t = ![0, 0] := (by decide +kernel : ∀ t : Fin grid0.N, _)
  have at5 : ∀ t : Fin cfg0.N, win0_5.index t = ![0, 0] := (by decide +kernel : ∀ t : Fin grid0.N, _)
  have at6 : ∀ t : Fin cfg0.N, win0_6.index t = ![0, 0] := (by decide +kernel : ∀ t : Fin grid0.N, _)
  have at7 : ∀ t : Fin cfg0.N, win0_7.index t = ![t.val, 0] := (by decide +kernel : ∀ t : Fin grid0.N, _)
  refine ⟨funext fun y => congrArg (m ((c : Thread nD τ).loc main_arg0)) (funext fun a => Fin.ext (tile (C := 2816) (at0 t) y a)),
    funext fun y => congrArg (m ((c : Thread nD τ).loc main_arg1)) (funext fun a => Fin.ext (whole (R := 2816) (C := 1024) (at1 t) y a)),
    funext fun y => congrArg (m ((c : Thread nD τ).loc main_arg2)) (funext fun a => Fin.ext (tile (C := 1024) (at2 t) y a)),
    funext fun y => congrArg (m ((c : Thread nD τ).loc main_arg3)) (funext fun a => Fin.ext (whole (R := 1) (C := 1024) (at3 t) y a)),
    funext fun y => congrArg (m ((c : Thread nD τ).loc main_arg4)) (funext fun a => Fin.ext (whole (R := 1) (C := 1024) (at4 t) y a)),
    funext fun y => congrArg (m ((c : Thread nD τ).loc main_arg5)) (funext fun a => Fin.ext (whole (R := 1) (C := 1024) (at5 t) y a)),
    funext fun y => congrArg (m ((c : Thread nD τ).loc main_arg6)) (funext fun a => Fin.ext (whole (R := 1) (C := 1024) (at6 t) y a)),
    funext fun y => congrArg (m ((c : Thread nD τ).loc main_arg7)) (funext fun a => Fin.ext (tile (C := 1024) (at7 t) y a))⟩

/-! ## What a point leaves, by the rows it sees -/

/-- The derivative of the loss by what is normed. -/
abbrev steepAll : FVec Ideal ⟨2, ![4096, 1024]⟩ .f32 :=
  steep (zAll m c) (m ((c : Thread nD τ).loc main_arg5)) (m ((c : Thread nD τ).loc main_arg6)) (m ((c : Thread nD τ).loc main_arg7))

/-- What the loss adds up. -/
abbrev missedAll : FVec Ideal ⟨2, ![4096, 1]⟩ .f32 :=
  missed (zAll m c) (m ((c : Thread nD τ).loc main_arg5)) (m ((c : Thread nD τ).loc main_arg6)) (m ((c : Thread nD τ).loc main_arg7))

/-- What the gradient of the shifts adds up. -/
abbrev slopeAll : FVec Ideal ⟨2, ![4096, 1024]⟩ .f32 :=
  slope (zAll m c) (m ((c : Thread nD τ).loc main_arg5)) (m ((c : Thread nD τ).loc main_arg6)) (m ((c : Thread nD τ).loc main_arg7))

/-- The four of one point's blocks are rows of the four of the whole arrays. -/
theorem of_blocks (t : Fin cfg0.N) :
    steep (z (iblk m c 0 t) (iblk m c 1 t) (iblk m c 2 t) (iblk m c 3 t) (iblk m c 4 t)) (iblk m c 5 t) (iblk m c 6 t) (iblk m c 7 t)
      = rows (rowAt t) (steepAll m c)
    ∧ missed (z (iblk m c 0 t) (iblk m c 1 t) (iblk m c 2 t) (iblk m c 3 t) (iblk m c 4 t)) (iblk m c 5 t) (iblk m c 6 t) (iblk m c 7 t)
      = rows (rowAt t) (missedAll m c)
    ∧ mulf (slope (z (iblk m c 0 t) (iblk m c 1 t) (iblk m c 2 t) (iblk m c 3 t) (iblk m c 4 t)) (iblk m c 5 t) (iblk m c 6 t) (iblk m c 7 t))
        (normed (z (iblk m c 0 t) (iblk m c 1 t) (iblk m c 2 t) (iblk m c 3 t) (iblk m c 4 t)))
      = rows (rowAt t) (mulf (slopeAll m c) (normed (zAll m c)))
    ∧ slope (z (iblk m c 0 t) (iblk m c 1 t) (iblk m c 2 t) (iblk m c 3 t) (iblk m c 4 t)) (iblk m c 5 t) (iblk m c 6 t) (iblk m c 7 t)
      = rows (rowAt t) (slopeAll m c) := by
  obtain ⟨e0, e1, e2, e3, e4, e5, e6, e7⟩ := blocks m c t
  have ez : z (iblk m c 0 t) (iblk m c 1 t) (iblk m c 2 t) (iblk m c 3 t) (iblk m c 4 t) = rows (rowAt t) (zAll m c) := by
    unfold z
    rw [e0, e1, e2, e3, e4]
    exact layer_rows (φ := .bf16) (ψ := .bf16) _ _ _ _ _ _
  rw [ez, e5, e6, e7]
  refine ⟨steep_rows _ _ _ _ _, missed_rows _ _ _ _ _, ?_, slope_rows _ _ _ _ _⟩
  rw [slope_rows, normed_rows]
  rfl

/-- One point's share of the sum of a whole array's rows. -/
def share {C : ℕ} (U : FVec Ideal ⟨2, ![4096, C]⟩ .f32) (k : ℕ) (y : (⟨2, ![1, C]⟩ : Shape).Idx) : EReal :=
  if h : k < cfg0.N then colSum (rows (rowAt ⟨k, h⟩) U) y else 0

theorem share_at {C : ℕ} (U : FVec Ideal ⟨2, ![4096, C]⟩ .f32) (t : Fin cfg0.N) (y : (⟨2, ![1, C]⟩ : Shape).Idx) :
    colSum (rows (rowAt t) U) y = share U t.val y := by
  unfold share
  rw [dif_pos t.isLt]

/-- The shares make up the sum. -/
theorem shares {C : ℕ} (U : FVec Ideal ⟨2, ![4096, C]⟩ .f32) (y : (⟨2, ![1, C]⟩ : Shape).Idx) :
    ∑ k ∈ Finset.range 8, share U k y = colSum U y :=
  Cert.Products.stretches (B := 512) rfl (fun r : Fin 4096 => (U (ValueIdx.ix2 r (y 1)) : EReal)) _ fun k hk =>
    ⟨fun r => by have := r.isLt; omega, dif_pos (lt_of_lt_of_eq hk N_0.symm)⟩

/-- One half. -/
theorem ofBits_half : Ideal.ofBits .f32 0x3F000000#32 = ((1 / 2 : ℝ) : EReal) := by
  simp [Ideal.ofBits, Ideal.ieee]
  refine (EReal.coe_mul 8388608 ((2 ^ 24)⁻¹)).symm.trans (congrArg _ ?_)
  norm_num

/-- After the last point the three sums are whole. -/
theorem sums (t : Fin cfg0.N) (ht : t.val % 8 = 7) :
    (outsAt0 m c t.val t.isLt).2.1 = mulf (all 0x3F000000#32) (colSum (missedAll m c))
    ∧ (outsAt0 m c t.val t.isLt).2.2.1 = colSum (mulf (slopeAll m c) (normed (zAll m c)))
    ∧ (outsAt0 m c t.val t.isLt).2.2.2 = colSum (slopeAll m c) := by
  have hN : cfg0.N = 8 := N_0
  have h7 : t.val + 1 = 8 := by have := t.isLt; omega
  have zero : ∀ x : EReal, Ideal.ofBits .f32 0x00000000#32 + x = 0 + x := fun x => congrArg (· + x) Ideal.ofBits_zero_f32
  refine ⟨funext fun y => ?_, funext fun y => ?_, funext fun y => ?_⟩
  · refine (Pipeline.eq_sum_of_reset_step_apply_single (fun n h => (outsAt0 m c n h).2.1) 8 (fun _ => (0 : EReal))
      (fun k y => Ideal.ofBits .f32 0x3F000000#32 * share (missedAll m c) k y) (fun t h0 y => ?_) (fun t h0 y => ?_) hN.le t y).trans ?_
    · rw [outsAt0_A m c t h0, ← share_at]
      dsimp only
      rw [(first ..).2.1, (of_blocks m c t).2.1]
      exact zero _
    · rw [outsAt0_B m c t h0, ← share_at]
      dsimp only
      rw [(next ..).2.1, (of_blocks m c t).2.1]
      rfl
    · rw [h7, zero_add, factor _ (by rw [ofBits_half]; exact EReal.coe_nonneg.2 (by norm_num)) (by rw [ofBits_half]; exact EReal.coe_ne_top _), shares]
      rfl
  · refine (Pipeline.eq_sum_of_reset_step_apply_single (fun n h => (outsAt0 m c n h).2.2.1) 8 (fun _ => (0 : EReal))
      (share (mulf (slopeAll m c) (normed (zAll m c)))) (fun t h0 y => ?_) (fun t h0 y => ?_) hN.le t y).trans ?_
    · rw [outsAt0_A m c t h0, ← share_at]
      dsimp only
      rw [(first ..).2.2.1, (of_blocks m c t).2.2.1]
      exact zero _
    · rw [outsAt0_B m c t h0, ← share_at]
      dsimp only
      rw [(next ..).2.2.1, (of_blocks m c t).2.2.1]
      rfl
    · rw [h7, zero_add, shares]
  · refine (Pipeline.eq_sum_of_reset_step_apply_single (fun n h => (outsAt0 m c n h).2.2.2) 8 (fun _ => (0 : EReal))
      (share (slopeAll m c)) (fun t h0 y => ?_) (fun t h0 y => ?_) hN.le t y).trans ?_
    · rw [outsAt0_A m c t h0, ← share_at]
      dsimp only
      rw [(first ..).2.2.2, (of_blocks m c t).2.2.2]
      exact zero _
    · rw [outsAt0_B m c t h0, ← share_at]
      dsimp only
      rw [(next ..).2.2.2, (of_blocks m c t).2.2.2]
      rfl
    · rw [h7, zero_add, shares]

/-- Every point leaves its rows of the derivative. -/
theorem steep_at (t : Fin cfg0.N) : (outsAt0 m c t.val t.isLt).1 = rows (rowAt t) (steepAll m c) := by
  by_cases h0 : t.val % 8 = 0
  · rw [outsAt0_A m c t h0]
    dsimp only
    rw [(first ..).1, (of_blocks m c t).1]
  · rw [outsAt0_B m c t h0]
    dsimp only
    rw [(next ..).1, (of_blocks m c t).1]

/-! ## The arrays after the run -/

theorem final_steep : (dats m 0 c).arrAt 8 cfg0.N = steepAll m c := by
  have at8 : ∀ t : Fin cfg0.N, win0_8.index t = ![t.val, 0] := (by decide +kernel : ∀ t : Fin grid0.N, _)
  refine (dats m 0 c).arrAt_eq_of_cover 8 _ (fun t _ => ?_) (fun i => ?_)
  · rw [flushed8, steep_at]
    funext y
    exact congrArg (steepAll m c) (funext fun a => Fin.ext (tile (C := 1024) (at8 t) y a).symm)
  · have hi : (i 0).val < 4096 := (i 0).isLt
    refine ⟨⟨(i 0).val / 512, by show _ < 8; omega⟩, flush0_8 _, ?_⟩
    exact Eq.mpr (congrArg (i ∈ ·) (View.set_slice_whole main_v0_0 (win0_8.rect _))) (Rect.mem_set_unit.2 (Sums.in_rows i (by decide) (at8 _)))

theorem final_half : (dats m 0 c).arrAt 9 cfg0.N = mulf (all 0x3F000000#32) (colSum (missedAll m c)) := by
  have at9 : ∀ t : Fin cfg0.N, win0_9.index t = ![0, 0] := (by decide +kernel : ∀ t : Fin grid0.N, _)
  refine (dats m 0 c).arrAt_eq_of_cover 9 _ (fun t ht => ?_) (fun i => ⟨⟨7, by show 7 < 8; omega⟩, (flush0_9 _).2 rfl, ?_⟩)
  · rw [flushed9, (sums m c t ((flush0_9 t).1 ht)).1]
    funext y
    exact congrArg (mulf (all 0x3F000000#32) (colSum (missedAll m c))) (funext fun a => Fin.ext (whole (R := 1) (C := 1) (at9 t) y a).symm)
  · exact Eq.mpr (congrArg (i ∈ ·) (View.set_slice_whole main_v0_1 (win0_9.rect _))) (Rect.mem_set_unit.2 (in_whole i (at9 _)))

theorem final_scales : (dats m 0 c).arrAt 10 cfg0.N = colSum (mulf (slopeAll m c) (normed (zAll m c))) := by
  have at10 : ∀ t : Fin cfg0.N, win0_10.index t = ![0, 0] := (by decide +kernel : ∀ t : Fin grid0.N, _)
  refine (dats m 0 c).arrAt_eq_of_cover 10 _ (fun t ht => ?_) (fun i => ⟨⟨7, by show 7 < 8; omega⟩, (flush0_10 _).2 rfl, ?_⟩)
  · rw [flushed10, (sums m c t ((flush0_10 t).1 ht)).2.1]
    funext y
    exact congrArg (colSum (mulf (slopeAll m c) (normed (zAll m c)))) (funext fun a => Fin.ext (whole (R := 1) (C := 1024) (at10 t) y a).symm)
  · exact Eq.mpr (congrArg (i ∈ ·) (View.set_slice_whole main_v0_2 (win0_10.rect _))) (Rect.mem_set_unit.2 (in_whole i (at10 _)))

theorem final_shifts : (dats m 0 c).arrAt 11 cfg0.N = colSum (slopeAll m c) := by
  have at11 : ∀ t : Fin cfg0.N, win0_11.index t = ![0, 0] := (by decide +kernel : ∀ t : Fin grid0.N, _)
  refine (dats m 0 c).arrAt_eq_of_cover 11 _ (fun t ht => ?_) (fun i => ⟨⟨7, by show 7 < 8; omega⟩, (flush0_11 _).2 rfl, ?_⟩)
  · rw [flushed11, (sums m c t ((flush0_11 t).1 ht)).2.2]
    funext y
    exact congrArg (colSum (slopeAll m c)) (funext fun a => Fin.ext (whole (R := 1) (C := 1024) (at11 t) y a).symm)
  · exact Eq.mpr (congrArg (i ∈ ·) (View.set_slice_whole main_v0_3 (win0_11.rect _))) (Rect.mem_set_unit.2 (in_whole i (at11 _)))

end Cert.LossIdeal.Value

namespace Cert.Norms

open Idealize.ShloMosaic Idealize.ShloMosaic.TcCoe Idealize.SL.Sem

theorem loss : Cert.algebraic_LossIdeal_LossReferenceIdeal (hLossIdeal := Cert.LossIdeal.Gen.facts) (hLossReferenceIdeal := Cert.LossReferenceIdeal.Gen.facts) :=
  fun m g m' g' _ hm => ⟨_, _, _, _, (θ_run _ _ _).mono
    (fun _ h c => ⟨(h c).1.trans (Cert.LossIdeal.Value.final_steep m c), (h c).2.1.trans (Cert.LossIdeal.Value.final_half m c),
      (h c).2.2.1.trans (Cert.LossIdeal.Value.final_scales m c), (h c).2.2.2.1.trans (Cert.LossIdeal.Value.final_shifts m c), (h c).2.2.2.2⟩)
    (Cert.LossIdeal.Value.run_blocks m g),
    (θ_run _ _ _).mono (fun _ h c => by
      obtain ⟨h0, h1, h2, h3, h4, h5, h6, h7⟩ := hm c
      refine ⟨(h c).1.trans ((Cert.LossReferenceIdeal.Value.steep_eq m' c).trans ?_), (h c).2.1.trans ((Cert.LossReferenceIdeal.Value.half_eq m' c).trans ?_),
        (h c).2.2.1.trans ((Cert.LossReferenceIdeal.Value.scales_eq m' c).trans ?_), (h c).2.2.2.1.trans ((Cert.LossReferenceIdeal.Value.shifts_eq m' c).trans ?_),
        (h c).2.2.2.2⟩
      all_goals
        unfold Cert.LossReferenceIdeal.Value.z
        rw [h0, h1, h2, h3, h4, h5, h6, h7])
      (Cert.LossReferenceIdeal.Value.run m' g')⟩

end Cert.Norms

end
-- ==== Proof.ProjClaim.lean ====
/- THE INPUT PROJECTIONS: each run leaves some columns of the projection block by block, which is what the reference cuts out of
   the whole. -/
module

public import proofs.«01_k».proof.Proof.Norms
public import proofs.«01_k».proof.Defs
public import proofs.«01_k».proof.Proof.Gen.ProjQkv.Frame
public import proofs.«01_k».proof.Proof.Gen.ProjQkvIdeal.Value
public import proofs.«01_k».proof.Proof.Gen.ProjQkvReferenceIdeal.Run
public import proofs.«01_k».proof.Proof.Gen.ProjAg.Frame
public import proofs.«01_k».proof.Proof.Gen.ProjAgIdeal.Value
public import proofs.«01_k».proof.Proof.Gen.ProjAgReferenceIdeal.Run

@[expose] public section

set_option maxRecDepth 65536

noncomputable section

/-! ## Queries, keys and values -/

namespace Cert.ProjQkvIdeal.Value

open Cert.ProjQkvIdeal Cert.ProjQkvIdeal.Gen Idealize.ShloMosaic Idealize.ShloMosaic.TcCoe Idealize.SL.Sem
open Cert.Norms Cert.Products

set_option Elab.async false

/-- What the body stores of its blocks. -/
theorem stored (c : Dev nD) (i : grid0.Coords) (a2 : Memref sig .tc .vmem S512x1024 .f32) (h2 : a2.IsWhole) (a3 : Memref sig .tc .vmem S1024x768 .bf16)
    (h3 : a3.IsWhole) (a4 : Memref sig .tc .vmem S1x768 .f32) (h4 : a4.IsWhole) (a5 : Memref sig .tc .vmem S512x768 .bf16) (h5 : a5.IsWhole)
    (A : Vec Ideal S512x1024 .f32) (W : Vec Ideal S1024x768 .bf16) (b : Vec Ideal S1x768 .f32) :
    out0_A_3 c i a2 h2 a3 h3 a4 h4 a5 h5 A W b = affine (φ := .f32) (ψ := .bf16) A W b := by
  have hz : (![0, 0] : Fin 2 → ℕ) = fun _ => 0 := funext fun a => by fin_cases a <;> rfl
  refine (View.read_writes_eq_canon _ _ _ (cover0_A_3 c i a2 h2 a3 h3 a4 h4 a5 h5 A W b)).trans ?_
  unfold kernelRun0_A
  dsimp only
  sl_unfold_words
  rw [View.canon_unit_zero hz]
  simp only [View.readAt_eq_ld, h2.read_unread, h3.read_unread, h4.read_unread, View.ld_unit_zero (S := S512x1024) hz,
    View.ld_unit_zero (S := S1024x768) hz, View.ld_unit_zero (S := S1x768) hz]
  exact congrArg₂ (fun u v : FVec Ideal S512x768 .f32 => addf u v) (kernel_times (φ := .bf16) (ψ := .bf16) A W _ rfl) (kernel_along (R := 512) (C := 768) b _)

/-- The array after the run. -/
theorem final_columns (m : (ℓ : Loc nD τ sig) → Buf (Elt Ideal) ℓ) (c : Dev nD) :
    (dats m 0 c).arrAt 3 cfg0.N = columns 2304 0 (by decide) (affine (φ := .f32) (ψ := .bf16) (m ((c : Thread nD τ).loc main_arg0))
      (m ((c : Thread nD τ).loc main_arg1)) (m ((c : Thread nD τ).loc main_arg2))) := by
  have at0 : ∀ t : Fin cfg0.N, win0_0.index t = ![t.val % 8, 0] := (by decide +kernel : ∀ t : Fin grid0.N, _)
  have at1 : ∀ t : Fin cfg0.N, win0_1.index t = ![0, t.val / 8] := (by decide +kernel : ∀ t : Fin grid0.N, _)
  have at2 : ∀ t : Fin cfg0.N, win0_2.index t = ![0, t.val / 8] := (by decide +kernel : ∀ t : Fin grid0.N, _)
  have at3 : ∀ t : Fin cfg0.N, win0_3.index t = ![t.val % 8, t.val / 8] := (by decide +kernel : ∀ t : Fin grid0.N, _)
  have hN : cfg0.N = 24 := N_0
  refine (dats m 0 c).arrAt_eq_of_cover 3 _ (fun t _ => ?_) (fun i => ?_)
  · rw [flushed3]
    unfold outsAt0
    rw [stored]
    funext y
    have ht := lt_of_lt_of_eq t.isLt hN
    have e0 : (((cfg0.win 3).blk t).view.emb y 0).val = t.val % 8 * 512 + (y 0).val :=
      (congrArg (fun q : Fin 2 → ℕ => q 0 * 512 + 1 * (y 0).val) (at3 t)).trans (by rw [Nat.one_mul]; rfl)
    have e1 : (((cfg0.win 3).blk t).view.emb y 1).val = t.val / 8 * 768 + (y 1).val :=
      (congrArg (fun q : Fin 2 → ℕ => q 1 * 768 + 1 * (y 1).val) (at3 t)).trans (by rw [Nat.one_mul]; rfl)
    refine affine_moved (φ := .f32) (ψ := .bf16) _ _ _ _ _ _ y (ValueIdx.ix2 (((cfg0.win 3).blk t).view.emb y 0) ⟨0 + (((cfg0.win 3).blk t).view.emb y 1).val, _⟩)
      (fun k => ?_) (fun k => ?_) ?_
    · exact congrArg (m ((c : Thread nD τ).loc main_arg0)) (funext fun a => Fin.ext
        (at_block (R := 4096) (C := 1024) (B := 512) (D := 1024) (at0 t) (ValueIdx.ix2 (y 0) k) _ k e0 (by rw [Nat.zero_mul, Nat.zero_add]) a))
    · refine (dif_pos (moved0_1 t _)).trans (congrArg (m ((c : Thread nD τ).loc main_arg1)) (funext fun a => Fin.ext
        (at_block (R := 1024) (C := 2816) (B := 1024) (D := 768) (at1 t) (ValueIdx.ix2 k (y 1)) k _ (by rw [Nat.zero_mul, Nat.zero_add])
          ((Nat.zero_add _).trans e1) a)))
    · refine (dif_pos (moved0_2 t _)).trans (congrArg (m ((c : Thread nD τ).loc main_arg2)) (funext fun a => Fin.ext
        (at_block (R := 1) (C := 2816) (B := 1) (D := 768) (at2 t) (ValueIdx.ix2 0 (y 1)) 0 _ rfl ((Nat.zero_add _).trans e1) a)))
  · have h0 : (i 0).val < 4096 := (i 0).isLt
    have h1 : (i 1).val < 2304 := (i 1).isLt
    have hlt : (i 1).val / 768 * 8 + (i 0).val / 512 < cfg0.N := by omega
    have e := at3 ⟨_, hlt⟩
    dsimp only at e
    rw [show ((i 1).val / 768 * 8 + (i 0).val / 512) % 8 = (i 0).val / 512 by omega,
      show ((i 1).val / 768 * 8 + (i 0).val / 512) / 8 = (i 1).val / 768 by omega] at e
    refine ⟨⟨_, hlt⟩, flush0_3 _, ?_⟩
    exact Eq.mpr (congrArg (i ∈ ·) (View.set_slice_whole main_v0 (win0_3.rect _))) (Rect.mem_set_unit.2 (in_block i (by decide) (by decide) e))

end Cert.ProjQkvIdeal.Value

/-! ## The gate and what it gates -/

namespace Cert.ProjAgIdeal.Value

open Cert.ProjAgIdeal Cert.ProjAgIdeal.Gen Idealize.ShloMosaic Idealize.ShloMosaic.TcCoe Idealize.SL.Sem
open Cert.Norms Cert.Products

set_option Elab.async false

/-- What the body stores of its blocks. -/
theorem stored (A : Vec Ideal S512x1024 .f32) (W : Vec Ideal S1024x256 .bf16) (b : Vec Ideal S1x256 .f32) :
    out0_3 A W b = affine (φ := .f32) (ψ := .bf16) A W b := by
  have hz : (![0, 0] : Fin 2 → ℕ) = fun _ => 0 := funext fun a => by fin_cases a <;> rfl
  unfold out0_3
  rw [View.canon_unit_zero hz]
  rw [View.ld_unit_zero hz, View.ld_unit_zero hz, View.ld_unit_zero hz]
  exact congrArg₂ (fun u v : FVec Ideal S512x256 .f32 => addf u v) (kernel_times (φ := .bf16) (ψ := .bf16) A W _ rfl) (kernel_along (R := 512) (C := 256) b _)

/-- The array after the run. -/
theorem final_columns (m : (ℓ : Loc nD τ sig) → Buf (Elt Ideal) ℓ) (c : Dev nD) :
    (dats m 0 c).arrAt 3 cfg0.N = columns 512 2304 (by decide) (affine (φ := .f32) (ψ := .bf16) (m ((c : Thread nD τ).loc main_arg0))
      (m ((c : Thread nD τ).loc main_arg1)) (m ((c : Thread nD τ).loc main_arg2))) := by
  have at0 : ∀ t : Fin cfg0.N, win0_0.index t = ![t.val % 8, 0] := (by decide +kernel : ∀ t : Fin grid0.N, _)
  have at1 : ∀ t : Fin cfg0.N, win0_1.index t = ![0, 9 + t.val / 8] := (by decide +kernel : ∀ t : Fin grid0.N, _)
  have at2 : ∀ t : Fin cfg0.N, win0_2.index t = ![0, 9 + t.val / 8] := (by decide +kernel : ∀ t : Fin grid0.N, _)
  have at3 : ∀ t : Fin cfg0.N, win0_3.index t = ![t.val % 8, t.val / 8] := (by decide +kernel : ∀ t : Fin grid0.N, _)
  have hN : cfg0.N = 16 := N_0
  refine (dats m 0 c).arrAt_eq_of_cover 3 _ (fun t _ => ?_) (fun i => ?_)
  · rw [flushed3, stored]
    funext y
    have e0 : (((cfg0.win 3).blk t).view.emb y 0).val = t.val % 8 * 512 + (y 0).val :=
      (congrArg (fun q : Fin 2 → ℕ => q 0 * 512 + 1 * (y 0).val) (at3 t)).trans (by rw [Nat.one_mul]; rfl)
    have e1 : (((cfg0.win 3).blk t).view.emb y 1).val = t.val / 8 * 256 + (y 1).val :=
      (congrArg (fun q : Fin 2 → ℕ => q 1 * 256 + 1 * (y 1).val) (at3 t)).trans (by rw [Nat.one_mul]; rfl)
    have e1' : 2304 + (((cfg0.win 3).blk t).view.emb y 1).val = (9 + t.val / 8) * 256 + (y 1).val := by rw [e1]; omega
    refine affine_moved (φ := .f32) (ψ := .bf16) _ _ _ _ _ _ y (ValueIdx.ix2 (((cfg0.win 3).blk t).view.emb y 0) ⟨2304 + (((cfg0.win 3).blk t).view.emb y 1).val, _⟩)
      (fun k => ?_) (fun k => ?_) ?_
    · exact congrArg (m ((c : Thread nD τ).loc main_arg0)) (funext fun a => Fin.ext
        (at_block (R := 4096) (C := 1024) (B := 512) (D := 1024) (at0 t) (ValueIdx.ix2 (y 0) k) _ k e0 (by rw [Nat.zero_mul, Nat.zero_add]) a))
    · exact congrArg (m ((c : Thread nD τ).loc main_arg1)) (funext fun a => Fin.ext
        (at_block (R := 1024) (C := 2816) (B := 1024) (D := 256) (at1 t) (ValueIdx.ix2 k (y 1)) k _ (by rw [Nat.zero_mul, Nat.zero_add]) e1' a))
    · exact congrArg (m ((c : Thread nD τ).loc main_arg2)) (funext fun a => Fin.ext
        (at_block (R := 1) (C := 2816) (B := 1) (D := 256) (at2 t) (ValueIdx.ix2 0 (y 1)) 0 _ rfl e1' a))
  · have h0 : (i 0).val < 4096 := (i 0).isLt
    have h1 : (i 1).val < 512 := (i 1).isLt
    have hlt : (i 1).val / 256 * 8 + (i 0).val / 512 < cfg0.N := by omega
    have e := at3 ⟨_, hlt⟩
    dsimp only at e
    rw [show ((i 1).val / 256 * 8 + (i 0).val / 512) % 8 = (i 0).val / 512 by omega,
      show ((i 1).val / 256 * 8 + (i 0).val / 512) / 8 = (i 1).val / 256 by omega] at e
    refine ⟨⟨_, hlt⟩, flush0_3 _, ?_⟩
    exact Eq.mpr (congrArg (i ∈ ·) (View.set_slice_whole main_v0 (win0_3.rect _))) (Rect.mem_set_unit.2 (in_block i (by decide) (by decide) e))

end Cert.ProjAgIdeal.Value

/-! ## The claims -/

namespace Cert.Norms

open Idealize.ShloMosaic Idealize.ShloMosaic.TcCoe Idealize.SL.Sem

set_option Elab.async false

/-- The reference's columns, for any extents. -/
theorem host_columns {R K C C' o : ℕ} (X : FVec Ideal ⟨2, ![R, K]⟩ .f32) (W : FVec Ideal ⟨2, ![K, C]⟩ .bf16) (b : FVec Ideal ⟨2, ![1, C]⟩ .f32)
    (h : o + C' ≤ C) (hs) (d : DotDims ⟨2, ![R, K]⟩ ⟨2, ![K, C]⟩ ⟨2, ![R, C]⟩) (hd : d = DotDims.plain R K C) (hb) (hw) :
    extractStridedSlice ⟨2, ![R, C']⟩ ![0, o] (addf (Host.dotGeneral d none X (extf .f32 W hw)) (broadcastInDim ⟨2, ![R, C]⟩ ![0, 1] hb b)) hs
      = columns C' o h (affine (φ := .f32) (ψ := .bf16) X W b) := by
  rw [columns_eq h, host_times _ _ _ hd, host_along]
  rfl

theorem proj_qkv : Cert.algebraic_ProjQkvIdeal_ProjQkvReferenceIdeal (hProjQkvIdeal := Cert.ProjQkvIdeal.Gen.facts) (hProjQkvReferenceIdeal := Cert.ProjQkvReferenceIdeal.Gen.facts) :=
  fun m g m' g' _ hm => ⟨_, (θ_run _ _ _).mono (fun _ h c => ⟨(h c).1.trans (Cert.ProjQkvIdeal.Value.final_columns m c), (h c).2⟩) (Cert.ProjQkvIdeal.Value.run_blocks m g),
    (θ_run _ _ _).mono (fun _ h c => by
      obtain ⟨h0, h1, h2⟩ := hm c
      refine ⟨(h c).1.trans ?_, (h c).2⟩
      rw [h0, h1, h2]
      exact congrArg (fun U : FVec Ideal ⟨2, ![4096, 2304]⟩ .f32 => truncf .bf16 U Cert.ProjQkvReferenceIdeal.Gen.bitsLt_bf16_f32)
        (host_columns (R := 4096) (K := 1024) (C := 2816) (C' := 2304) (o := 0) _ _ _ (by decide) _ _ rfl _ _)) (Cert.ProjQkvReferenceIdeal.Value.run m' g')⟩

theorem proj_ag : Cert.algebraic_ProjAgIdeal_ProjAgReferenceIdeal (hProjAgIdeal := Cert.ProjAgIdeal.Gen.facts) (hProjAgReferenceIdeal := Cert.ProjAgReferenceIdeal.Gen.facts) :=
  fun m g m' g' _ hm => ⟨_, (θ_run _ _ _).mono (fun _ h c => ⟨(h c).1.trans (Cert.ProjAgIdeal.Value.final_columns m c), (h c).2⟩) (Cert.ProjAgIdeal.Value.run_blocks m g),
    (θ_run _ _ _).mono (fun _ h c => by
      obtain ⟨h0, h1, h2⟩ := hm c
      refine ⟨(h c).1.trans ?_, (h c).2⟩
      rw [h0, h1, h2]
      exact host_columns (R := 4096) (K := 1024) (C := 2816) (C' := 512) (o := 2304) _ _ _ (by decide) _ _ rfl _ _) (Cert.ProjAgReferenceIdeal.Value.run m' g')⟩

end Cert.Norms

end
-- ==== Proof.NormClaim.lean ====
/- THE FIRST NORM: the run leaves the normed rows, their scales and the layer's output row block by row block, which is what the
   reference computes at once. -/
module

public import proofs.«01_k».proof.Proof.Norms
public import proofs.«01_k».proof.Defs
public import proofs.«01_k».proof.Proof.Gen.Norm.Frame
public import proofs.«01_k».proof.Proof.Gen.NormIdeal.Value
public import proofs.«01_k».proof.Proof.Gen.NormReferenceIdeal.Run

@[expose] public section

set_option maxRecDepth 65536

noncomputable section

/-! ## The reference -/

namespace Cert.NormReferenceIdeal.Value

open Cert.NormReferenceIdeal Cert.NormReferenceIdeal.Gen Idealize.ShloMosaic Idealize.ShloMosaic.TcCoe Idealize.SL.Sem
open Cert.Norms

set_option Elab.async false

theorem product (A W) : Host.dotGeneral (F := Ideal) (φ₁ := .bf16) (φ₂ := .bf16) dot_S4096x1024_S1024x1024_S4096x1024_1_0_0_1_n_n none A W = times (φ := .bf16) (ψ := .bf16) A W :=
  host_times A W _ rfl

theorem row_spread (g : FVec Ideal S1x1024 .f32) : broadcastInDim S4096x1024 ![0, 1] bcast_S1x1024_S4096x1024_0_1 g = along g := host_along g _

theorem col_spread (v : FVec Ideal S4096x1 .f32) : broadcastInDim S4096x1024 ![0, 1] bcast_S4096x1_S4096x1024_0_1 v = across v := host_across v _

theorem rows_sum (U : FVec Ideal S4096x1024 .f32) : broadcastInDim S4096x1 ![0] bcast_S4096_S4096x1_0
    (Host.reduceAdd U (constant (F := Ideal) S_ .f32 0x00000000#32) reducesTo_S4096x1024_S4096_d1 h_S_) = rowSum U := host_rowSum U _ _ _

theorem every (b : BitVec 32) : broadcastInDim S4096x1024 ![] bcast_S_S4096x1024 (constant (F := Ideal) S_ .f32 b) = all b := rfl

theorem every_row (b : BitVec 32) : broadcastInDim S4096x1 ![] bcast_S_S4096x1 (constant (F := Ideal) S_ .f32 b) = all b := rfl

/-- The three results. -/
theorem run_norm (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = normed (residual (φ := .bf16) (ψ := .bf16) (m ((c.tc : Thread nD τ).loc main_arg0)) (m ((c.tc : Thread nD τ).loc main_arg1)) (m ((c.tc : Thread nD τ).loc main_arg2)))
      ∧ r.2.mem ((c.tc : Thread nD τ).loc main_v17) = scale (residual (φ := .bf16) (ψ := .bf16) (m ((c.tc : Thread nD τ).loc main_arg0)) (m ((c.tc : Thread nD τ).loc main_arg1)) (m ((c.tc : Thread nD τ).loc main_arg2)))
      ∧ r.2.mem ((c.tc : Thread nD τ).loc main_v26) = output (residual (φ := .bf16) (ψ := .bf16) (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => by
    refine ⟨(h c).1.trans ?_, (h c).2.1.trans ?_, (h c).2.2.1.trans ?_, (h c).2.2.2⟩
    · rw [every, product, host_divf, host_divf, rows_sum, rows_sum, every_row, every_row, host_rsqrt, col_spread, col_spread]
      rfl
    · rw [every, product, host_divf, host_divf, rows_sum, rows_sum, every_row, every_row, host_rsqrt, col_spread]
      rfl
    · rw [every, row_spread, row_spread, product, host_divf, host_divf, rows_sum, rows_sum, every_row, every_row, host_rsqrt, col_spread, col_spread]
      rfl) (run m ρ)

end Cert.NormReferenceIdeal.Value

/-! ## The kernel -/

namespace Cert.NormIdeal.Value

open Cert.NormIdeal Cert.NormIdeal.Gen Idealize.ShloMosaic Idealize.ShloMosaic.TcCoe Idealize.SL.Sem
open Cert.Norms

set_option Elab.async false

theorem origin : (![0, 0] : Fin 2 → ℕ) = fun _ => 0 := funext fun a => by fin_cases a <;> rfl

theorem rows_sum (U : FVec Ideal S512x1024 .f32) :
    shapeCast S512x1 (multiReduction .add [1] S512 U 0x00000000#32 reduces_S512x1024_S512 (.inl rfl) rfl) shapeCasts_S512_S512x1 = rowSum U :=
  kernel_rowSum U _ _ _ _ _

theorem product (A : Vec Ideal S512x1024 .bf16) (W : Vec Ideal S1024x1024 .bf16) :
    matmul (φ₁ := .bf16) (φ₂ := .bf16) dot_S512x1024_S1024x1024_S512x1024_1_0_0_1_n_n none A W (constant S512x1024 .f32 0x00000000#32) = times (φ := .bf16) (ψ := .bf16) A W :=
  kernel_times A W _ rfl

section Point

variable (A : Vec Ideal S512x1024 .bf16) (W : Vec Ideal S1024x1024 .bf16) (X : Vec Ideal S512x1024 .f32) (g b : Vec Ideal S1x1024 .f32)

/-- What is normed, of one point's blocks. -/
abbrev z : FVec Ideal ⟨2, ![512, 1024]⟩ .f32 := residual (φ := .bf16) (ψ := .bf16) A W X

theorem centred_eq : k0_pay1 X A W = centred (z A W X) := by
  unfold k0_pay1
  simp only [kernel_across, kernel_all, product]
  rw [rows_sum]
  rfl

theorem scale_eq : k0_pay2 X A W = scale (z A W X) := by
  unfold k0_pay2
  simp only [centred_eq, kernel_all]
  rw [rows_sum]
  rfl

theorem normed_eq : k0_pay3 X A W = normed (z A W X) := by
  unfold k0_pay3
  simp only [centred_eq, scale_eq, kernel_across]
  rfl

theorem output_eq : k0_pay4 X A W g b = output (z A W X) g b := by
  unfold k0_pay4
  simp only [normed_eq, kernel_along]
  rfl

theorem stored : out0_5 A W X g b = normed (z A W X) ∧ out0_6 A W X g b = scale (z A W X) ∧ out0_7 A W X g b = output (z A W X) g b := by
  unfold out0_5 out0_6 out0_7
  rw [View.canon_unit_zero origin, View.canon_unit_zero origin, View.canon_unit_zero origin]
  simp only [View.ld_unit_zero (S := S512x1024) origin, View.ld_unit_zero (S := S1024x1024) origin, View.ld_unit_zero (S := S1x1024) origin]
  exact ⟨normed_eq A W X, scale_eq A W X, output_eq A W X g b⟩

end Point

variable (m : (ℓ : Loc nD τ sig) → Buf (Elt Ideal) ℓ) (c : Dev nD)

/-- What is normed. -/
abbrev zAll : FVec Ideal ⟨2, ![4096, 1024]⟩ .f32 :=
  residual (φ := .bf16) (ψ := .bf16) (m ((c : Thread nD τ).loc main_arg0)) (m ((c : Thread nD τ).loc main_arg1)) (m ((c : Thread nD τ).loc main_arg2))

/-- The rows of point `t`. -/
abbrev rowAt (t : Fin cfg0.N) : Fin 512 → Fin 4096 := stretch (show cfg0.N = 8 from N_0) t

theorem blocks (t : Fin cfg0.N) : z (iblk m c 0 t) (iblk m c 1 t) (iblk m c 2 t) = rows (rowAt t) (zAll m c)
    ∧ iblk m c 3 t = m ((c : Thread nD τ).loc main_arg3) ∧ iblk m c 4 t = m ((c : Thread nD τ).loc main_arg4) := by
  have at0 : ∀ t : Fin cfg0.N, win0_0.index t = ![t.val, 0] := (by decide +kernel : ∀ t : Fin grid0.N, _)
  have at1 : ∀ t : Fin cfg0.N, win0_1.index t = ![0, 0] := (by decide +kernel : ∀ t : Fin grid0.N, _)
  have at2 : ∀ t : Fin cfg0.N, win0_2.index t = ![t.val, 0] := (by decide +kernel : ∀ t : Fin grid0.N, _)
  have at3 : ∀ t : Fin cfg0.N, win0_3.index t = ![0, 0] := (by decide +kernel : ∀ t : Fin grid0.N, _)
  have at4 : ∀ t : Fin cfg0.N, win0_4.index t = ![0, 0] := (by decide +kernel : ∀ t : Fin grid0.N, _)
  have e0 : (iblk m c 0 t : FVec Ideal ⟨2, ![512, 1024]⟩ .bf16) = rows (φ := .bf16) (rowAt t) (m ((c : Thread nD τ).loc main_arg0)) :=
    funext fun y => congrArg (m ((c : Thread nD τ).loc main_arg0)) (funext fun a => Fin.ext (tile (C := 1024) (at0 t) y a))
  have e1 : iblk m c 1 t = m ((c : Thread nD τ).loc main_arg1) :=
    funext fun y => congrArg (m ((c : Thread nD τ).loc main_arg1)) (funext fun a => Fin.ext (whole (R := 1024) (C := 1024) (at1 t) y a))
  have e2 : (iblk m c 2 t : FVec Ideal ⟨2, ![512, 1024]⟩ .f32) = rows (φ := .f32) (rowAt t) (m ((c : Thread nD τ).loc main_arg2)) :=
    funext fun y => congrArg (m ((c : Thread nD τ).loc main_arg2)) (funext fun a => Fin.ext (tile (C := 1024) (at2 t) y a))
  refine ⟨?_, funext fun y => congrArg (m ((c : Thread nD τ).loc main_arg3)) (funext fun a => Fin.ext (whole (R := 1) (C := 1024) (at3 t) y a)),
    funext fun y => congrArg (m ((c : Thread nD τ).loc main_arg4)) (funext fun a => Fin.ext (whole (R := 1) (C := 1024) (at4 t) y a))⟩
  unfold z
  rw [e0, e1, e2]
  exact residual_rows (φ := .bf16) (ψ := .bf16) _ _ _ _

theorem final_normed : (dats m 0 c).arrAt 5 cfg0.N = normed (zAll m c) := by
  have at5 : ∀ t : Fin cfg0.N, win0_5.index t = ![t.val, 0] := (by decide +kernel : ∀ t : Fin grid0.N, _)
  refine (dats m 0 c).arrAt_eq_of_cover 5 _ (fun t _ => ?_) (fun i => ?_)
  · rw [flushed5, (stored ..).1, (blocks m c t).1, normed_rows]
    funext y
    exact congrArg (normed (zAll m c)) (funext fun a => Fin.ext (tile (C := 1024) (at5 t) y a).symm)
  · have hi : (i 0).val < 4096 := (i 0).isLt
    refine ⟨⟨(i 0).val / 512, by show _ < 8; omega⟩, flush0_5 _, ?_⟩
    exact Eq.mpr (congrArg (i ∈ ·) (View.set_slice_whole main_v0_0 (win0_5.rect _))) (Rect.mem_set_unit.2 (Sums.in_rows i (by decide) (at5 _)))

theorem final_scale : (dats m 0 c).arrAt 6 cfg0.N = scale (zAll m c) := by
  have at6 : ∀ t : Fin cfg0.N, win0_6.index t = ![t.val, 0] := (by decide +kernel : ∀ t : Fin grid0.N, _)
  refine (dats m 0 c).arrAt_eq_of_cover 6 _ (fun t _ => ?_) (fun i => ?_)
  · rw [flushed6, (stored ..).2.1, (blocks m c t).1, scale_rows]
    funext y
    exact congrArg (scale (zAll m c)) (funext fun a => Fin.ext (tile (C := 1) (at6 t) y a).symm)
  · have hi : (i 0).val < 4096 := (i 0).isLt
    refine ⟨⟨(i 0).val / 512, by show _ < 8; omega⟩, flush0_6 _, ?_⟩
    exact Eq.mpr (congrArg (i ∈ ·) (View.set_slice_whole main_v0_1 (win0_6.rect _))) (Rect.mem_set_unit.2 (Sums.in_rows i (by decide) (at6 _)))

theorem final_output : (dats m 0 c).arrAt 7 cfg0.N
    = output (zAll m c) (m ((c : Thread nD τ).loc main_arg3)) (m ((c : Thread nD τ).loc main_arg4)) := by
  have at7 : ∀ t : Fin cfg0.N, win0_7.index t = ![t.val, 0] := (by decide +kernel : ∀ t : Fin grid0.N, _)
  refine (dats m 0 c).arrAt_eq_of_cover 7 _ (fun t _ => ?_) (fun i => ?_)
  · rw [flushed7, (stored ..).2.2, (blocks m c t).1, (blocks m c t).2.1, (blocks m c t).2.2, output_rows]
    funext y
    exact congrArg (output (zAll m c) (m ((c : Thread nD τ).loc main_arg3)) (m ((c : Thread nD τ).loc main_arg4)))
      (funext fun a => Fin.ext (tile (C := 1024) (at7 t) y a).symm)
  · have hi : (i 0).val < 4096 := (i 0).isLt
    refine ⟨⟨(i 0).val / 512, by show _ < 8; omega⟩, flush0_7 _, ?_⟩
    exact Eq.mpr (congrArg (i ∈ ·) (View.set_slice_whole main_v0_2 (win0_7.rect _))) (Rect.mem_set_unit.2 (Sums.in_rows i (by decide) (at7 _)))

end Cert.NormIdeal.Value

namespace Cert.Norms

open Idealize.ShloMosaic Idealize.ShloMosaic.TcCoe Idealize.SL.Sem

theorem norm : Cert.algebraic_NormIdeal_NormReferenceIdeal (hNormIdeal := Cert.NormIdeal.Gen.facts) (hNormReferenceIdeal := Cert.NormReferenceIdeal.Gen.facts) :=
  fun m g m' g' _ hm => ⟨_, _, _, (θ_run _ _ _).mono
    (fun _ h c => ⟨(h c).1.trans (Cert.NormIdeal.Value.final_normed m c), (h c).2.1.trans (Cert.NormIdeal.Value.final_scale m c),
      (h c).2.2.1.trans (Cert.NormIdeal.Value.final_output m c), (h c).2.2.2⟩)
    (Cert.NormIdeal.Value.run_blocks m g),
    (θ_run _ _ _).mono (fun _ h c => by
      obtain ⟨h0, h1, h2, h3, h4⟩ := hm c
      refine ⟨(h c).1.trans ?_, (h c).2.1.trans ?_, (h c).2.2.1.trans ?_, (h c).2.2.2⟩
      all_goals rw [h0, h1, h2]
      rw [h3, h4])
      (Cert.NormReferenceIdeal.Value.run_norm m' g')⟩

end Cert.Norms

end
-- ==== Proof.GradUpClaim.lean ====
/- THE GRADIENTS OF THE TWO UP PROJECTIONS: the columns of one argument come in eleven groups of 512, the first half of a group
   the gate's and the second half the value's; the run leaves the gate's rows of the product in one array and the value's in
   another. -/
module

public import proofs.«01_k».proof.Proof.Products
public import proofs.«01_k».proof.Defs
public import proofs.«01_k».proof.Proof.Gen.GradUp.Frame
public import proofs.«01_k».proof.Proof.Gen.GradUpIdeal.Value
public import proofs.«01_k».proof.Proof.Gen.GradUpReferenceIdeal.Run

@[expose] public section

set_option maxRecDepth 65536

noncomputable section

namespace Cert.Products

open Idealize.ShloMosaic

set_option Elab.async false

/-- Where half `s` of the groups keeps its row `r`. -/
def inHalf (s : Fin 2) (r : Fin 2816) : Fin 5632 := ⟨512 * (r.val / 256) + 256 * s.val + r.val % 256, by
  have := r.isLt
  have := s.isLt
  omega⟩

/-- Half `s` of the product's rows. -/
def halfCols (s : Fin 2) (A : FVec Ideal ⟨2, ![4096, 5632]⟩ .bf16) (B : FVec Ideal ⟨2, ![4096, 1024]⟩ .bf16) : FVec Ideal ⟨2, ![2816, 1024]⟩ .f32 :=
  fun i => cols A B (ValueIdx.ix2 (inHalf s (i 0)) (i 1))

/-- Half `s` of one group. -/
def half (s : Fin 2) (A : FVec Ideal ⟨2, ![1024, 512]⟩ .bf16) : FVec Ideal ⟨2, ![1024, 256]⟩ .bf16 :=
  fun j => A (ValueIdx.ix2 (j 0) ⟨256 * s.val + (j 1).val, by have : (j 1).val < 256 := (j 1).isLt; have := s.isLt; omega⟩)

/-- The halves as the host cuts them out. -/
theorem host_half (s : Fin 2) (P : FVec Ideal ⟨2, ![5632, 1024]⟩ .f32) (h4 : (⟨2, ![5632, 1024]⟩ : Shape).ShapeCasts ⟨4, ![11, 2, 256, 1024]⟩)
    (hs : (⟨4, ![11, 2, 256, 1024]⟩ : Shape).Slices ![0, s.val, 0, 0] ⟨4, ![11, 1, 256, 1024]⟩)
    (h3 : (⟨4, ![11, 1, 256, 1024]⟩ : Shape).ShapeCasts ⟨3, ![11, 256, 1024]⟩) (h2 : (⟨3, ![11, 256, 1024]⟩ : Shape).ShapeCasts ⟨2, ![2816, 1024]⟩)
    (i : (⟨2, ![2816, 1024]⟩ : Shape).Idx) :
    shapeCast ⟨2, ![2816, 1024]⟩ (shapeCast ⟨3, ![11, 256, 1024]⟩ (extractStridedSlice ⟨4, ![11, 1, 256, 1024]⟩ ![0, s.val, 0, 0]
      (shapeCast ⟨4, ![11, 2, 256, 1024]⟩ P h4) hs) h3) h2 i = P (ValueIdx.ix2 (inHalf s (i 0)) (i 1)) := by
  have h0 : (i 0).val < 2816 := (i 0).isLt
  have hr : (i 0).val / 256 < 11 := by omega
  have hl : (i 0).val % 256 < 256 := by omega
  refine (shapeCast_apply _ h2 i (ValueIdx.ix3 ⟨_, hr⟩ ⟨_, hl⟩ (i 1)) ?_).trans
    ((shapeCast_apply _ h3 _ (ValueIdx.ix4 ⟨_, hr⟩ 0 ⟨_, hl⟩ (i 1)) ?_).trans
      ((extractStridedSlice_apply _ _ hs _ (ValueIdx.ix4 ⟨_, hr⟩ s ⟨_, hl⟩ (i 1)) ?_).trans
        (shapeCast_apply _ h4 _ (ValueIdx.ix2 (inHalf s (i 0)) (i 1)) ?_)))
  · rw [Shape.rowMajor_val_three, Shape.rowMajor_val_two]
    show ((i 0).val / 256 * 256 + (i 0).val % 256) * 1024 + (i 1).val = (i 0).val * 1024 + (i 1).val
    omega
  · rw [Shape.rowMajor_val_four, Shape.rowMajor_val_three]
    show (((i 0).val / 256 * 1 + 0) * 256 + (i 0).val % 256) * 1024 + (i 1).val = ((i 0).val / 256 * 256 + (i 0).val % 256) * 1024 + (i 1).val
    omega
  · exact fun a => match a with
    | ⟨0, _⟩ => (Nat.zero_add _).symm
    | ⟨1, _⟩ => rfl
    | ⟨2, _⟩ => (Nat.zero_add _).symm
    | ⟨3, _⟩ => (Nat.zero_add _).symm
  · rw [Shape.rowMajor_val_two, Shape.rowMajor_val_four]
    show (512 * ((i 0).val / 256) + 256 * s.val + (i 0).val % 256) * 1024 + (i 1).val
      = (((i 0).val / 256 * 2 + s.val) * 256 + (i 0).val % 256) * 1024 + (i 1).val
    omega

end Cert.Products

namespace Cert.GradUpIdeal.Value

open Cert.GradUpIdeal Cert.GradUpIdeal.Gen Idealize.ShloMosaic Idealize.ShloMosaic.TcCoe Idealize.SL.Sem
open Cert.Products

set_option Elab.async false

/-- The product of one point's blocks. -/
theorem point_cols (A : Vec Ideal S1024x512 .bf16) (B : Vec Ideal S1024x1024 .bf16) (y : S512x1024.Idx) :
    k0_pay3 A B y = cols (φ := .bf16) (ψ := .bf16) A B y := by
  unfold k0_pay3
  refine (kernel_cols A B (constant S512x1024 .f32 0x00000000#32) dot_S1024x512_S1024x1024_S512x1024_0_0_1_1_n_n rfl rfl rfl rfl rfl rfl y).trans ?_
  show Ideal.ofBits .f32 0x00000000#32 + _ = _
  rw [Ideal.ofBits_zero_f32, zero_add]

/-- One half of it. -/
theorem point_half (s : Fin 2) (A : Vec Ideal S1024x512 .bf16) (B : Vec Ideal S1024x1024 .bf16) (y : S256x1024.Idx)
    (hs : S512x1024.Slices ![256 * s.val, 0] S256x1024) :
    extractStridedSlice S256x1024 ![256 * s.val, 0] (k0_pay3 A B) hs y = cols (φ := .bf16) (ψ := .bf16) (half s A) B y := by
  have h0 : (y 0).val < 256 := (y 0).isLt
  have hlt : 256 * s.val + (y 0).val < 512 := by have := s.isLt; omega
  refine (extractStridedSlice_apply _ _ hs y (ValueIdx.ix2 ⟨_, hlt⟩ (y 1)) fun a => match a with
    | ⟨0, _⟩ => rfl
    | ⟨1, _⟩ => (Nat.zero_add _).symm).trans ?_
  exact point_cols A B _

/-- One point adds its product's half. -/
theorem step_gate (acc : Vec Ideal S256x1024 .f32) (A : Vec Ideal S1024x512 .bf16) (B : Vec Ideal S1024x1024 .bf16) (y : S256x1024.Idx) :
    k0_pay4 A B acc y = acc y + cols (φ := .bf16) (ψ := .bf16) (half 0 A) B y := by
  unfold k0_pay4
  rw [shapeCast_self]
  exact congrArg (acc y + ·) (point_half 0 A B y _)

theorem step_value (acc : Vec Ideal S256x1024 .f32) (A : Vec Ideal S1024x512 .bf16) (B : Vec Ideal S1024x1024 .bf16) (y : S256x1024.Idx) :
    k0_pay5 A B acc y = acc y + cols (φ := .bf16) (ψ := .bf16) (half 1 A) B y := by
  unfold k0_pay5
  rw [shapeCast_self]
  exact congrArg (acc y + ·) (point_half 1 A B y _)

variable (m : (ℓ : Loc nD τ sig) → Buf (Elt Ideal) ℓ) (c : Dev nD)

/-- A run of points that adds up one half. -/
theorem fold_half (s : Fin 2) (reset : (n : ℕ) → n < cfg0.N → Vec Ideal S256x1024 .f32)
    (step : (n : ℕ) → n < cfg0.N → Vec Ideal S256x1024 .f32 → Vec Ideal S256x1024 .f32)
    (hreset : ∀ n h y, reset n h y = cols (φ := .bf16) (ψ := .bf16) (half s (iblk m c 0 ⟨n, h⟩)) (iblk m c 1 ⟨n, h⟩) y)
    (hstep : ∀ n h acc y, step n h acc y = acc y + cols (φ := .bf16) (ψ := .bf16) (half s (iblk m c 0 ⟨n, h⟩)) (iblk m c 1 ⟨n, h⟩) y)
    (i : S2816x1024.Idx) (hlt : 4 * run2Of i + 3 < cfg0.N) :
    Pipeline.accAt reset step (4 * run2Of i) 3 hlt (loc2Of i)
      = halfCols s (m ((c : Thread nD τ).loc main_arg0)) (m ((c : Thread nD τ).loc main_arg1)) i := by
  have at0 : ∀ t : Fin cfg0.N, win0_0.index t = ![t.val % 4, t.val / 4] := (by decide +kernel : ∀ t : Fin grid0.N, _)
  have at1 : ∀ t : Fin cfg0.N, win0_1.index t = ![t.val % 4, 0] := (by decide +kernel : ∀ t : Fin grid0.N, _)
  have h0 : (i 0).val < 2816 := (i 0).isLt
  have h1 : (i 1).val < 1024 := (i 1).isLt
  have hr : run2Of i = (i 0).val / 256 := by show 1 * ((i 0).val / 256 - 0) + 1 * ((i 1).val / 1024 - 0) = _; omega
  refine fold_cols (φ := .bf16) (ψ := .bf16) reset step (fun n h => half s (iblk m c 0 ⟨n, h⟩)) (fun n h => iblk m c 1 ⟨n, h⟩)
    (m ((c : Thread nD τ).loc main_arg0)) (m ((c : Thread nD τ).loc main_arg1)) rfl _ hlt hreset hstep (loc2Of i)
    (ValueIdx.ix2 (inHalf s (i 0)) (i 1)) (fun k h j hj hk => ?_) (fun k h j hj hk => ?_)
  · have e := at0 ⟨_, h⟩
    dsimp only at e
    rw [show (4 * run2Of i + k) % 4 = k by omega, show (4 * run2Of i + k) / 4 = (i 0).val / 256 by omega] at e
    exact congrArg (m ((c : Thread nD τ).loc main_arg0)) (funext fun a => Fin.ext
      (at_block (R := 4096) (C := 5632) (B := 1024) (D := 512) e (ValueIdx.ix2 j ⟨256 * s.val + (i 0).val % 256, _⟩) ⟨_, hj⟩ (inHalf s (i 0))
        (by show 1024 * k + j.val = k * 1024 + j.val; omega)
        (by show 512 * ((i 0).val / 256) + 256 * s.val + (i 0).val % 256 = (i 0).val / 256 * 512 + (256 * s.val + (i 0).val % 256); omega) a))
  · have e := at1 ⟨_, h⟩
    dsimp only at e
    rw [show (4 * run2Of i + k) % 4 = k by omega] at e
    exact congrArg (m ((c : Thread nD τ).loc main_arg1)) (funext fun a => Fin.ext
      (at_block (R := 4096) (C := 1024) (B := 1024) (D := 1024) e (ValueIdx.ix2 j (loc2Of i 1)) ⟨_, hj⟩ (i 1)
        (by show 1024 * k + j.val = k * 1024 + j.val; omega) (by show (i 1).val = 0 * 1024 + (i 1).val % 1024; omega) a))

/-- The arrays after the run. -/
theorem final_gate : G2 m c = halfCols 0 (m ((c : Thread nD τ).loc main_arg0)) (m ((c : Thread nD τ).loc main_arg1)) := by
  funext i
  have h0 : (i 0).val < 2816 := (i 0).isLt
  have h1 : (i 1).val < 1024 := (i 1).isLt
  have hN : cfg0.N = 44 := N_0
  have hr : run2Of i = (i 0).val / 256 := by show 1 * ((i 0).val / 256 - 0) + 1 * ((i 1).val / 1024 - 0) = _; omega
  have hlt : 4 * run2Of i + 3 < cfg0.N := by rw [hr, hN]; omega
  unfold G2
  rw [dif_pos hlt]
  exact fold_half m c 0 (reset2 m c) (step2 m c)
    (fun n h y => (step_gate _ _ _ y).trans ((congrArg (· + _) Ideal.ofBits_zero_f32).trans (zero_add _))) (fun n h acc y => step_gate _ _ _ y) i hlt

theorem final_value : G3 m c = halfCols 1 (m ((c : Thread nD τ).loc main_arg0)) (m ((c : Thread nD τ).loc main_arg1)) := by
  funext i
  have h0 : (i 0).val < 2816 := (i 0).isLt
  have h1 : (i 1).val < 1024 := (i 1).isLt
  have hN : cfg0.N = 44 := N_0
  have hr : run3Of i = (i 0).val / 256 := by show 1 * ((i 0).val / 256 - 0) + 1 * ((i 1).val / 1024 - 0) = _; omega
  have hlt : 4 * run3Of i + 3 < cfg0.N := by rw [hr, hN]; omega
  unfold G3
  rw [dif_pos hlt]
  exact fold_half m c 1 (reset3 m c) (step3 m c)
    (fun n h y => (step_value _ _ _ y).trans ((congrArg (· + _) Ideal.ofBits_zero_f32).trans (zero_add _))) (fun n h acc y => step_value _ _ _ y) i hlt

end Cert.GradUpIdeal.Value

namespace Cert.Products

open Idealize.ShloMosaic Idealize.ShloMosaic.TcCoe Idealize.SL.Sem

set_option Elab.async false

theorem grad_up : Cert.algebraic_GradUpIdeal_GradUpReferenceIdeal (hGradUpIdeal := Cert.GradUpIdeal.Gen.facts) (hGradUpReferenceIdeal := Cert.GradUpReferenceIdeal.Gen.facts) :=
  fun m g m' g' _ hm => ⟨_, _, (θ_run _ _ _).mono
    (fun _ h c => ⟨(h c).1.trans (Cert.GradUpIdeal.Value.final_gate m c), (h c).2.1.trans (Cert.GradUpIdeal.Value.final_value m c), (h c).2.2⟩)
    (Cert.GradUpIdeal.Value.run m g),
    (θ_run _ _ _).mono (fun _ h c => by
      obtain ⟨h0, h1⟩ := hm c
      refine ⟨(h c).1.trans ?_, (h c).2.1.trans ?_, (h c).2.2⟩
      · rw [h0, h1]
        exact funext fun i => (host_half 0 _ _ _ _ _ i).trans (congrFun (host_cols (φ := .bf16) _ _ _ rfl _) _)
      · rw [h0, h1]
        exact funext fun i => (host_half 1 _ _ _ _ _ i).trans (congrFun (host_cols (φ := .bf16) _ _ _ rfl _) _))
      (Cert.GradUpReferenceIdeal.Value.run m' g')⟩

end Cert.Products

end
-- ==== Proof.Mixing.lean ====
/- TWO NORMS AND A GATE, BACKWARD, for any number of rows and any length: a root mean square norm, and `y σ(y)` of a layer norm under
   another. Some of the rows can be taken before or after. -/
module

public import proofs.«01_k».proof.Proof.Norms

@[expose] public section

set_option maxRecDepth 65536

noncomputable section

namespace Cert.Mixing

open Idealize.ShloMosaic hiding ix2 ix1
open Idealize.ShloMosaic.ValueIdx (ix2 ix1)
open Cert.Norms

set_option Elab.async false

variable {R R' C : ℕ} {L : BitVec 32}

/-! ## The parts; `L` are the bits of the rows' length -/

/-- Each row's mean. -/
def meanOf (L : BitVec 32) (U : FVec Ideal ⟨2, ![R, C]⟩ .f32) : FVec Ideal ⟨2, ![R, 1]⟩ .f32 := divf (rowSum U) (all L)

/-- One over each row's root mean square, kept from zero. -/
def root (L : BitVec 32) (U : FVec Ideal ⟨2, ![R, C]⟩ .f32) : FVec Ideal ⟨2, ![R, 1]⟩ .f32 := rsqrt (addf (meanOf L (mulf U U)) (all 0x3727C5AC#32))

/-- What the gradient of the root mean square norm's scales adds up. -/
def weigh (L : BitVec 32) (U D : FVec Ideal ⟨2, ![R, C]⟩ .f32) : FVec Ideal ⟨2, ![R, C]⟩ .f32 := mulf (mulf D U) (across (root L U))

/-- From the derivative in that norm's output to that in its rows. -/
def unroot (L : BitVec 32) (U D : FVec Ideal ⟨2, ![R, C]⟩ .f32) (g : FVec Ideal ⟨2, ![1, C]⟩ .f32) : FVec Ideal ⟨2, ![R, C]⟩ .f32 :=
  subf (mulf (across (root L U)) (mulf D (along g)))
    (mulf (mulf U (across (mulf (mulf (root L U) (root L U)) (root L U)))) (across (meanOf L (mulf (mulf D (along g)) U))))

/-- Less each row's mean. -/
def level (L : BitVec 32) (Z : FVec Ideal ⟨2, ![R, C]⟩ .f32) : FVec Ideal ⟨2, ![R, C]⟩ .f32 := subf Z (across (meanOf L Z))

/-- The rows under the layer norm. -/
def even (L : BitVec 32) (Z : FVec Ideal ⟨2, ![R, C]⟩ .f32) : FVec Ideal ⟨2, ![R, C]⟩ .f32 := mulf (level L Z) (across (root L (level L Z)))

/-- The layer norm's output. -/
def under (L : BitVec 32) (Z : FVec Ideal ⟨2, ![R, C]⟩ .f32) (g b : FVec Ideal ⟨2, ![1, C]⟩ .f32) : FVec Ideal ⟨2, ![R, C]⟩ .f32 :=
  addf (mulf (even L Z) (along g)) (along b)

/-- The gated rows. -/
def gated (Y : FVec Ideal ⟨2, ![R, C]⟩ .f32) : FVec Ideal ⟨2, ![R, C]⟩ .f32 := mulf Y (logistic Y)

/-- From the derivative in the gated rows to that in the rows. -/
def ungate (Y D : FVec Ideal ⟨2, ![R, C]⟩ .f32) : FVec Ideal ⟨2, ![R, C]⟩ .f32 :=
  mulf (mulf D (logistic Y)) (addf (all 0x3F800000#32) (mulf Y (subf (all 0x3F800000#32) (logistic Y))))

/-- From the derivative in the layer norm's output to that in its rows. -/
def uneven (L : BitVec 32) (Z H : FVec Ideal ⟨2, ![R, C]⟩ .f32) (g : FVec Ideal ⟨2, ![1, C]⟩ .f32) : FVec Ideal ⟨2, ![R, C]⟩ .f32 :=
  mulf (across (root L (level L Z))) (subf (subf (mulf H (along g)) (across (meanOf L (mulf H (along g)))))
    (mulf (even L Z) (across (meanOf L (mulf (mulf H (along g)) (even L Z))))))

/-- The derivative in the layer norm's output, from that in the output of the norm over the gate. -/
def through (L : BitVec 32) (Z D : FVec Ideal ⟨2, ![R, C]⟩ .f32) (g' g b : FVec Ideal ⟨2, ![1, C]⟩ .f32) : FVec Ideal ⟨2, ![R, C]⟩ .f32 :=
  ungate (under L Z g b) (unroot L (gated (under L Z g b)) D g')

/-! ## Some of the rows -/

theorem meanOf_rows (e : Fin R' → Fin R) (U : FVec Ideal ⟨2, ![R, C]⟩ .f32) : meanOf L (rows e U) = rows e (meanOf L U) := rfl

theorem root_rows (e : Fin R' → Fin R) (U : FVec Ideal ⟨2, ![R, C]⟩ .f32) : root L (rows e U) = rows e (root L U) := rfl

theorem weigh_rows (e : Fin R' → Fin R) (U D : FVec Ideal ⟨2, ![R, C]⟩ .f32) : weigh L (rows e U) (rows e D) = rows e (weigh L U D) := by
  unfold weigh
  rw [root_rows]
  rfl

theorem unroot_rows (e : Fin R' → Fin R) (U D : FVec Ideal ⟨2, ![R, C]⟩ .f32) (g : FVec Ideal ⟨2, ![1, C]⟩ .f32) :
    unroot L (rows e U) (rows e D) g = rows e (unroot L U D g) := by
  unfold unroot
  rw [root_rows]
  rfl

theorem level_rows (e : Fin R' → Fin R) (Z : FVec Ideal ⟨2, ![R, C]⟩ .f32) : level L (rows e Z) = rows e (level L Z) := rfl

theorem even_rows (e : Fin R' → Fin R) (Z : FVec Ideal ⟨2, ![R, C]⟩ .f32) : even L (rows e Z) = rows e (even L Z) := by
  unfold even
  rw [level_rows, root_rows]
  rfl

theorem under_rows (e : Fin R' → Fin R) (Z : FVec Ideal ⟨2, ![R, C]⟩ .f32) (g b : FVec Ideal ⟨2, ![1, C]⟩ .f32) :
    under L (rows e Z) g b = rows e (under L Z g b) := by
  unfold under
  rw [even_rows]
  rfl

theorem gated_rows (e : Fin R' → Fin R) (Y : FVec Ideal ⟨2, ![R, C]⟩ .f32) : gated (rows e Y) = rows e (gated Y) := rfl

theorem ungate_rows (e : Fin R' → Fin R) (Y D : FVec Ideal ⟨2, ![R, C]⟩ .f32) : ungate (rows e Y) (rows e D) = rows e (ungate Y D) := rfl

theorem uneven_rows (e : Fin R' → Fin R) (Z H : FVec Ideal ⟨2, ![R, C]⟩ .f32) (g : FVec Ideal ⟨2, ![1, C]⟩ .f32) :
    uneven L (rows e Z) (rows e H) g = rows e (uneven L Z H g) := by
  unfold uneven
  rw [even_rows, level_rows, root_rows]
  rfl

theorem through_rows (e : Fin R' → Fin R) (Z D : FVec Ideal ⟨2, ![R, C]⟩ .f32) (g' g b : FVec Ideal ⟨2, ![1, C]⟩ .f32) :
    through L (rows e Z) (rows e D) g' g b = rows e (through L Z D g' g b) := by
  unfold through
  rw [under_rows, gated_rows, unroot_rows, ungate_rows]

theorem columns_rows {C' o : ℕ} (h : o + C' ≤ C) (e : Fin R' → Fin R) (U : FVec Ideal ⟨2, ![R, C]⟩ .f32) :
    columns C' o h (rows e U) = rows e (columns C' o h U) := rfl

/-! ## The host's gate -/

/-- One. -/
theorem ofBits_one : Ideal.ofBits .f32 0x3F800000#32 = 1 := by
  simp [Ideal.ofBits, Ideal.ieee]
  refine (EReal.coe_mul 8388608 ((2 ^ 23)⁻¹)).symm.trans ?_
  norm_num

theorem host_gate (Y : FVec Ideal ⟨2, ![R, C]⟩ .f32) : Host.divf (all 0x3F800000#32) (addf (all 0x3F800000#32) (Host.exp (Host.negf Y))) = logistic Y := by
  funext y
  show Ideal.div (Ideal.ofBits .f32 0x3F800000#32) (Ideal.ofBits .f32 0x3F800000#32 + Ideal.exp (-(Y y))) = Ideal.logistic (Y y)
  rw [ofBits_one]
  rfl

end Cert.Mixing

end
-- ==== Proof.MixTerms.lean ====
/- THE MIX, BACKWARD: what the reference's and the kernel's terms are, by the two norms and the gate. -/
module

public import proofs.«01_k».proof.Proof.Mixing
public import proofs.«01_k».proof.Defs
public import proofs.«01_k».proof.Proof.Gen.Mix.Frame
public import proofs.«01_k».proof.Proof.Gen.MixIdeal.Value
public import proofs.«01_k».proof.Proof.Gen.MixReferenceIdeal.Run

@[expose] public section

set_option maxRecDepth 65536

noncomputable section

/-! ## The lengths -/

namespace Cert.Mixing

/-- The length of the attention's rows, 768. -/
abbrev LA : BitVec 32 := 0x44400000#32

/-- The length of the convolution's rows, 256. -/
abbrev LC : BitVec 32 := 0x43800000#32

end Cert.Mixing

/-! ## The reference -/

namespace Cert.MixReferenceIdeal.Value

open Cert.MixReferenceIdeal Cert.MixReferenceIdeal.Gen Idealize.ShloMosaic Idealize.ShloMosaic.TcCoe Idealize.SL.Sem Idealize.ShloMosaic.StableHlo
open Cert.Norms Cert.Mixing

set_option Elab.async false

theorem row_spread (g : FVec Ideal S1x256 .f32) : broadcastInDim S4096x256 ![0, 1] bcast_S1x256_S4096x256_0_1 g = along g := host_along g _

theorem col_spread (v : FVec Ideal S4096x1 .f32) : broadcastInDim S4096x256 ![0, 1] bcast_S4096x1_S4096x256_0_1 v = across v := host_across v _

theorem row_spread' (g : FVec Ideal S1x768 .f32) : broadcastInDim S4096x768 ![0, 1] bcast_S1x768_S4096x768_0_1 g = along g := host_along g _

theorem col_spread' (v : FVec Ideal S4096x1 .f32) : broadcastInDim S4096x768 ![0, 1] bcast_S4096x1_S4096x768_0_1 v = across v := host_across v _

/-- A mean on the host. -/
theorem means (U : FVec Ideal S4096x256 .f32) : Host.divf (broadcastInDim S4096x1 ![0] bcast_S4096_S4096x1_0
    (Host.reduceAdd U (constant (F := Ideal) S_ .f32 0x00000000#32) reducesTo_S4096x256_S4096_d1 h_S_))
    (broadcastInDim S4096x1 ![] bcast_S_S4096x1 (constant (F := Ideal) S_ .f32 0x43800000#32)) = meanOf LC U :=
  congrArg (fun s => divf s (all LC)) (host_rowSum U _ _ _)

theorem means' (U : FVec Ideal S4096x768 .f32) : Host.divf (broadcastInDim S4096x1 ![0] bcast_S4096_S4096x1_0
    (Host.reduceAdd U (constant (F := Ideal) S_ .f32 0x00000000#32) reducesTo_S4096x768_S4096_d1 h_S_))
    (broadcastInDim S4096x1 ![] bcast_S_S4096x1 (constant (F := Ideal) S_ .f32 0x44400000#32)) = meanOf LA U :=
  congrArg (fun s => divf s (all LA)) (host_rowSum U _ _ _)

theorem cols_sum (U : FVec Ideal S4096x256 .f32) : broadcastInDim S1x256 ![1] bcast_S256_S1x256_1
    (Host.reduceAdd U (constant (F := Ideal) S_ .f32 0x00000000#32) reducesTo_S4096x256_S256_d0 h_S_) = colSum U := host_colSum U _ _ _

theorem cols_sum' (U : FVec Ideal S4096x768 .f32) : broadcastInDim S1x768 ![1] bcast_S768_S1x768_1
    (Host.reduceAdd U (constant (F := Ideal) S_ .f32 0x00000000#32) reducesTo_S4096x768_S768_d0 h_S_) = colSum U := host_colSum U _ _ _

theorem every (b : BitVec 32) : broadcastInDim S4096x256 ![] bcast_S_S4096x256 (constant (F := Ideal) S_ .f32 b) = all b := rfl

section Terms

variable (m : (ℓ : Loc nD τ sig) → Buf (Elt Ideal) ℓ) (c : Dev nD)

/-- The arguments. -/
abbrev D : FVec Ideal ⟨2, ![4096, 1024]⟩ .f32 := m ((c : Thread nD τ).loc main_arg0)
abbrev U : FVec Ideal ⟨2, ![4096, 768]⟩ .f32 := m ((c : Thread nD τ).loc main_arg1)
abbrev Z : FVec Ideal ⟨2, ![4096, 256]⟩ .f32 := m ((c : Thread nD τ).loc main_arg2)
abbrev ga : FVec Ideal ⟨2, ![1, 768]⟩ .f32 := m ((c : Thread nD τ).loc main_arg3)
abbrev gc : FVec Ideal ⟨2, ![1, 256]⟩ .f32 := m ((c : Thread nD τ).loc main_arg4)
abbrev cg : FVec Ideal ⟨2, ![1, 256]⟩ .f32 := m ((c : Thread nD τ).loc main_arg5)
abbrev cb : FVec Ideal ⟨2, ![1, 256]⟩ .f32 := m ((c : Thread nD τ).loc main_arg6)

/-- The attention's columns of the derivative, and the convolution's. -/
abbrev DA : FVec Ideal ⟨2, ![4096, 768]⟩ .f32 := columns 768 0 (by decide) (D m c)
abbrev DC : FVec Ideal ⟨2, ![4096, 256]⟩ .f32 := columns 256 768 (by decide) (D m c)

theorem half_eq : res_main_v0 (launchContents m c) = DA m c := columns_eq (by decide) (D m c) _

theorem half_eq' : res_main_v59 (launchContents m c) = DC m c := columns_eq (by decide) (D m c) _

theorem root_eq : res_main_v8 (launchContents m c) = root LA (U m c) := by
  unfold res_main_v8
  rw [means']
  rfl

theorem weighed_eq : res_main_v15 (launchContents m c) = mulf (DA m c) (along (ga m c)) := by
  unfold res_main_v15
  rw [half_eq, row_spread']

theorem mean_eq : res_main_v33 (launchContents m c) = meanOf LC (Z m c) := by
  unfold res_main_v33
  rw [means]

theorem level_eq : res_main_v35 (launchContents m c) = level LC (Z m c) := by
  unfold res_main_v35
  rw [mean_eq, col_spread]
  rfl

theorem scale_eq : res_main_v43 (launchContents m c) = root LC (level LC (Z m c)) := by
  unfold res_main_v43
  rw [level_eq, means]
  rfl

theorem even_eq : res_main_v47 (launchContents m c) = even LC (Z m c) := by
  unfold res_main_v47
  rw [mean_eq, scale_eq, col_spread, col_spread]
  rfl

theorem under_eq : res_main_v51 (launchContents m c) = under LC (Z m c) (cg m c) (cb m c) := by
  unfold res_main_v51
  rw [even_eq, row_spread, row_spread]
  rfl

theorem gate_eq : res_main_v57 (launchContents m c) = logistic (under LC (Z m c) (cg m c) (cb m c)) := by
  unfold res_main_v57
  rw [under_eq, every]
  exact host_gate _

theorem gated_eq : res_main_v58 (launchContents m c) = gated (under LC (Z m c) (cg m c) (cb m c)) := by
  unfold res_main_v58
  rw [under_eq, gate_eq]
  rfl

theorem root_eq' : res_main_v67 (launchContents m c) = root LC (gated (under LC (Z m c) (cg m c) (cb m c))) := by
  unfold res_main_v67
  rw [gated_eq, means]
  rfl

theorem weighed_eq' : res_main_v74 (launchContents m c) = mulf (DC m c) (along (gc m c)) := by
  unfold res_main_v74
  rw [half_eq', row_spread]

theorem through_eq : res_main_v95 (launchContents m c) = through LC (Z m c) (DC m c) (gc m c) (cg m c) (cb m c) := by
  unfold res_main_v95
  rw [under_eq, gate_eq, gated_eq, root_eq', weighed_eq', every, col_spread, col_spread, means, col_spread]
  rfl

theorem slope_eq : res_main_v97 (launchContents m c) = mulf (through LC (Z m c) (DC m c) (gc m c) (cg m c) (cb m c)) (along (cg m c)) := by
  unfold res_main_v97
  rw [through_eq, row_spread]

end Terms

/-- The seven results. -/
theorem run_mix (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = unroot LA (U m c) (DA m c) (ga m c)
      ∧ r.2.mem ((c.tc : Thread nD τ).loc main_v113) = uneven LC (Z m c) (through LC (Z m c) (DC m c) (gc m c) (cg m c) (cb m c)) (cg m c)
      ∧ r.2.mem ((c.tc : Thread nD τ).loc main_v13) = colSum (weigh LA (U m c) (DA m c))
      ∧ r.2.mem ((c.tc : Thread nD τ).loc main_v72) = colSum (weigh LC (gated (under LC (Z m c) (cg m c) (cb m c))) (DC m c))
      ∧ r.2.mem ((c.tc : Thread nD τ).loc main_v116) = colSum (mulf (through LC (Z m c) (DC m c) (gc m c) (cg m c) (cb m c)) (even LC (Z m c)))
      ∧ r.2.mem ((c.tc : Thread nD τ).loc main_v118) = colSum (through LC (Z m c) (DC m c) (gc m c) (cg m c) (cb m c))
      ∧ r.2.mem ((c.tc : Thread nD τ).loc main_v120) = colSum (uneven LC (Z m c) (through LC (Z m c) (DC m c) (gc m c) (cg m c) (cb m c)) (cg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => by
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2⟩
    · rw [root_eq, weighed_eq, col_spread', col_spread', means', col_spread']
      rfl
    · rw [slope_eq, even_eq, scale_eq, means, means, col_spread, col_spread, col_spread]
      rfl
    · rw [root_eq, half_eq, col_spread', cols_sum']
      rfl
    · rw [half_eq', gated_eq, root_eq', col_spread, cols_sum]
      rfl
    · rw [through_eq, even_eq, cols_sum]
    · rw [through_eq, cols_sum]
    · rw [slope_eq, even_eq, scale_eq, means, means, col_spread, col_spread, col_spread, cols_sum]
      rfl) (run m ρ)

end Cert.MixReferenceIdeal.Value

/-! ## The kernel -/

namespace Cert.MixIdeal.Value

open Cert.MixIdeal Cert.MixIdeal.Gen Idealize.ShloMosaic Idealize.ShloMosaic.TcCoe Idealize.SL.Sem
open Cert.Norms Cert.Mixing

set_option Elab.async false

/-! The sums, at the kernel's shapes. -/

theorem rows_sum (U : FVec Ideal S512x256 .f32) :
    shapeCast S512x1 (multiReduction .add [1] S512 U 0x00000000#32 reduces_S512x256_S512 (.inl rfl) rfl) shapeCasts_S512_S512x1 = rowSum U :=
  kernel_rowSum U _ _ _ _ _

theorem rows_sum' (U : FVec Ideal S512x768 .f32) :
    shapeCast S512x1 (multiReduction .add [1] S512 U 0x00000000#32 reduces_S512x768_S512 (.inl rfl) rfl) shapeCasts_S512_S512x1 = rowSum U :=
  kernel_rowSum U _ _ _ _ _

theorem cols_sum (U : FVec Ideal S512x256 .f32) :
    shapeCast S1x256 (multiReduction .add [0] S256 U 0x00000000#32 reduces_S512x256_S256 (.inl rfl) rfl) shapeCasts_S256_S1x256 = colSum U :=
  kernel_colSum U _ _ _ _ _

theorem cols_sum' (U : FVec Ideal S512x768 .f32) :
    shapeCast S1x768 (multiReduction .add [0] S768 U 0x00000000#32 reduces_S512x768_S768 (.inl rfl) rfl) shapeCasts_S768_S1x768 = colSum U :=
  kernel_colSum U _ _ _ _ _

section Point

variable (DA U : Vec Ideal S512x768 .f32) (DC Z : Vec Ideal S512x256 .f32) (ga : Vec Ideal S1x768 .f32) (gc cg cb : Vec Ideal S1x256 .f32)

theorem root_eq : k0_pay8 U = root LA U := by
  unfold k0_pay8
  simp only [kernel_all]
  rw [rows_sum']
  rfl

theorem weigh_eq (acc : Vec Ideal S1x768 .f32) : k0_pay9 U DA acc = addf (φ := .f32) acc (colSum (weigh LA U DA)) := by
  unfold k0_pay9
  simp only [root_eq, kernel_across, shapeCast_self]
  rw [cols_sum']
  rfl

theorem unroot_eq : k0_pay10 U DA ga = unroot LA U DA ga := by
  unfold k0_pay10
  simp only [root_eq, kernel_along, kernel_across, kernel_all]
  rw [rows_sum']
  rfl

theorem level_eq : k0_pay11 Z = level LC Z := by
  unfold k0_pay11
  simp only [kernel_across, kernel_all]
  rw [rows_sum]
  rfl

theorem scale_eq : k0_pay12 Z = root LC (level LC Z) := by
  unfold k0_pay12
  simp only [level_eq, kernel_all]
  rw [rows_sum]
  rfl

theorem even_eq : k0_pay13 Z = even LC Z := by
  unfold k0_pay13
  simp only [level_eq, scale_eq, kernel_across]
  rfl

theorem under_eq : k0_pay14 Z cg cb = under LC Z cg cb := by
  unfold k0_pay14
  simp only [even_eq, kernel_along]
  rfl

theorem gate_eq : k0_pay15 Z cg cb = logistic (under LC Z cg cb) := by
  unfold k0_pay15
  simp only [under_eq]

theorem gated_eq : k0_pay16 Z cg cb = gated (under LC Z cg cb) := by
  unfold k0_pay16
  simp only [under_eq, gate_eq]
  rfl

theorem root_eq' : k0_pay17 Z cg cb = root LC (gated (under LC Z cg cb)) := by
  unfold k0_pay17
  simp only [gated_eq, kernel_all]
  rw [rows_sum]
  rfl

theorem weigh_eq' (acc : Vec Ideal S1x256 .f32) : k0_pay21 (k0_pay18 acc) (k0_pay19 Z cg cb DC) (k0_pay20 Z cg cb)
    = addf (φ := .f32) acc (colSum (weigh LC (gated (under LC Z cg cb)) DC)) := by
  unfold k0_pay21 k0_pay18 k0_pay19 k0_pay20
  simp only [gated_eq, root_eq', kernel_across, shapeCast_self]
  rw [cols_sum]
  rfl

/-- The derivative in the layer norm's output, in the kernel's words. -/
abbrev ungated : FVec Ideal S512x256 .f32 :=
  k0_pay22 (k0_pay14 Z cg cb) (k0_pay15 Z cg cb) (k0_pay16 Z cg cb) DC (k0_pay17 Z cg cb) gc

theorem through_eq : ungated DC Z gc cg cb = through LC Z DC gc cg cb := by
  unfold ungated k0_pay22
  simp only [under_eq, gate_eq, gated_eq, root_eq', kernel_along, kernel_across, kernel_all]
  rw [rows_sum]
  rfl

theorem scales_eq (acc : Vec Ideal S1x256 .f32) :
    k0_pay23 (k0_pay13 Z) (k0_pay14 Z cg cb) (k0_pay15 Z cg cb) (k0_pay16 Z cg cb) DC (k0_pay17 Z cg cb) gc acc
      = addf (φ := .f32) acc (colSum (mulf (through LC Z DC gc cg cb) (even LC Z))) := by
  unfold k0_pay23
  rw [show k0_pay22 (k0_pay14 Z cg cb) (k0_pay15 Z cg cb) (k0_pay16 Z cg cb) DC (k0_pay17 Z cg cb) gc = _ from through_eq DC Z gc cg cb, even_eq]
  simp only [shapeCast_self]
  rw [cols_sum]

theorem shifts_eq (acc : Vec Ideal S1x256 .f32) :
    k0_pay24 (k0_pay14 Z cg cb) (k0_pay15 Z cg cb) (k0_pay16 Z cg cb) DC (k0_pay17 Z cg cb) gc acc
      = addf (φ := .f32) acc (colSum (through LC Z DC gc cg cb)) := by
  unfold k0_pay24
  rw [show k0_pay22 (k0_pay14 Z cg cb) (k0_pay15 Z cg cb) (k0_pay16 Z cg cb) DC (k0_pay17 Z cg cb) gc = _ from through_eq DC Z gc cg cb]
  simp only [shapeCast_self]
  rw [cols_sum]

theorem uneven_eq : k0_pay1 (k0_pay12 Z) (k0_pay13 Z) (ungated DC Z gc cg cb) cg = uneven LC Z (through LC Z DC gc cg cb) cg := by
  unfold k0_pay1
  simp only [through_eq, even_eq, scale_eq, kernel_along, kernel_across, kernel_all]
  rw [rows_sum, rows_sum]
  rfl

theorem biases_eq (acc : Vec Ideal S1x256 .f32) : k0_pay2 (k0_pay12 Z) (k0_pay13 Z) (ungated DC Z gc cg cb) cg acc
    = addf (φ := .f32) acc (colSum (uneven LC Z (through LC Z DC gc cg cb) cg)) := by
  unfold k0_pay2
  simp only [uneven_eq, shapeCast_self]
  rw [cols_sum]

end Point

end Cert.MixIdeal.Value

end
-- ==== Proof.MixClaim.lean ====
/- THE MIX, BACKWARD: the run leaves the derivatives in the attention's and in the convolution's rows row block by row block and adds up
   the five gradients of the parameters, which is what the reference computes at once. -/
module

public import proofs.«01_k».proof.Proof.MixTerms
public import proofs.«01_k».proof.Proof.Products
public import Idealize.ShloMosaic.Lib.Pipeline.ValueKit

@[expose] public section

set_option maxRecDepth 65536

noncomputable section

namespace Cert.MixIdeal.Value

open Cert.MixIdeal Cert.MixIdeal.Gen Idealize.ShloMosaic Idealize.ShloMosaic.TcCoe Idealize.SL.Sem
open Cert.Norms Cert.Mixing

set_option Elab.async false

/-! ## What each case of the body stores -/

section Stored

theorem origin : (![0, 0] : Fin 2 → ℕ) = fun _ => 0 := funext fun a => by fin_cases a <;> rfl

/-- The attention's columns, and the convolution's. -/
abbrev left {R : ℕ} (D : FVec Ideal ⟨2, ![R, 1024]⟩ .f32) : FVec Ideal ⟨2, ![R, 768]⟩ .f32 := columns 768 0 (by decide) D
abbrev right {R : ℕ} (D : FVec Ideal ⟨2, ![R, 1024]⟩ .f32) : FVec Ideal ⟨2, ![R, 256]⟩ .f32 := columns 256 768 (by decide) D

/-- What a load of the first columns reads, and of the last. -/
theorem left_ld (D : Vec Ideal S512x1024 .f32) (inb) :
    View.ld D (Rect.unit (s := S512x1024) ![0, 0] ![512, 768] inb) = left D :=
  (View.ld_unit D _ _ inb).trans (columns_eq (by decide) D _)

theorem right_ld (D : Vec Ideal S512x1024 .f32) (inb) :
    View.ld D (Rect.unit (s := S512x1024) ![0, 768] ![512, 256] inb) = right D :=
  (View.ld_unit D _ _ inb).trans (columns_eq (by decide) D _)

variable (c : Dev nD) (i : grid0.Coords)
  (a1 : Memref sig .tc .vmem S512x1024 .f32) (h1 : a1.IsWhole) (a2 : Memref sig .tc .vmem S512x768 .f32) (h2 : a2.IsWhole) (a3 : Memref sig .tc .vmem S512x256 .f32) (h3 : a3.IsWhole)
  (a4 : Memref sig .tc .vmem S1x768 .f32) (h4 : a4.IsWhole) (a5 : Memref sig .tc .vmem S1x256 .f32) (h5 : a5.IsWhole) (a6 : Memref sig .tc .vmem S1x256 .f32) (h6 : a6.IsWhole)
  (a7 : Memref sig .tc .vmem S1x256 .f32) (h7 : a7.IsWhole) (a8 : Memref sig .tc .vmem S512x768 .f32) (h8 : a8.IsWhole) (a9 : Memref sig .tc .vmem S512x256 .f32) (h9 : a9.IsWhole)
  (a10 : Memref sig .tc .vmem S1x768 .f32) (h10 : a10.IsWhole) (a11 : Memref sig .tc .vmem S1x256 .f32) (h11 : a11.IsWhole) (a12 : Memref sig .tc .vmem S1x256 .f32) (h12 : a12.IsWhole)
  (a13 : Memref sig .tc .vmem S1x256 .f32) (h13 : a13.IsWhole) (a14 : Memref sig .tc .vmem S1x256 .f32) (h14 : a14.IsWhole)
  (D : Vec Ideal S512x1024 .f32) (U : Vec Ideal S512x768 .f32) (Z : Vec Ideal S512x256 .f32) (ga : Vec Ideal S1x768 .f32)
  (gc cg cb : Vec Ideal S1x256 .f32)

/-- The first point clears the five sums and then adds to them. -/
theorem first (hc : cond0_0 i) :
    out0_A_7 c i a1 h1 a2 h2 a3 h3 a4 h4 a5 h5 a6 h6 a7 h7 a8 h8 a9 h9 a10 h10 a11 h11 a12 h12 a13 h13 a14 h14 hc D U Z ga gc cg cb
      = unroot LA U (left D) ga
    ∧ out0_A_8 c i a1 h1 a2 h2 a3 h3 a4 h4 a5 h5 a6 h6 a7 h7 a8 h8 a9 h9 a10 h10 a11 h11 a12 h12 a13 h13 a14 h14 hc D U Z ga gc cg cb
      = uneven LC Z (through LC Z (right D) gc cg cb) cg
    ∧ out0_A_9 c i a1 h1 a2 h2 a3 h3 a4 h4 a5 h5 a6 h6 a7 h7 a8 h8 a9 h9 a10 h10 a11 h11 a12 h12 a13 h13 a14 h14 hc D U Z ga gc cg cb
      = addf (φ := .f32) (all 0x00000000#32) (colSum (weigh LA U (left D)))
    ∧ out0_A_10 c i a1 h1 a2 h2 a3 h3 a4 h4 a5 h5 a6 h6 a7 h7 a8 h8 a9 h9 a10 h10 a11 h11 a12 h12 a13 h13 a14 h14 hc D U Z ga gc cg cb
      = addf (φ := .f32) (all 0x00000000#32) (colSum (weigh LC (gated (under LC Z cg cb)) (right D)))
    ∧ out0_A_11 c i a1 h1 a2 h2 a3 h3 a4 h4 a5 h5 a6 h6 a7 h7 a8 h8 a9 h9 a10 h10 a11 h11 a12 h12 a13 h13 a14 h14 hc D U Z ga gc cg cb
      = addf (φ := .f32) (all 0x00000000#32) (colSum (mulf (through LC Z (right D) gc cg cb) (even LC Z)))
    ∧ out0_A_12 c i a1 h1 a2 h2 a3 h3 a4 h4 a5 h5 a6 h6 a7 h7 a8 h8 a9 h9 a10 h10 a11 h11 a12 h12 a13 h13 a14 h14 hc D U Z ga gc cg cb
      = addf (φ := .f32) (all 0x00000000#32) (colSum (through LC Z (right D) gc cg cb))
    ∧ out0_A_13 c i a1 h1 a2 h2 a3 h3 a4 h4 a5 h5 a6 h6 a7 h7 a8 h8 a9 h9 a10 h10 a11 h11 a12 h12 a13 h13 a14 h14 hc D U Z ga gc cg cb
      = addf (φ := .f32) (all 0x00000000#32) (colSum (uneven LC Z (through LC Z (right D) gc cg cb) cg)) := by
  refine ⟨(View.read_writes_eq_canon _ _ _ (cover0_A_7 c i a1 h1 a2 h2 a3 h3 a4 h4 a5 h5 a6 h6 a7 h7 a8 h8 a9 h9 a10 h10 a11 h11 a12 h12 a13 h13 a14 h14 hc D U Z ga gc cg cb)).trans ?_,
    (View.read_writes_eq_canon _ _ _ (cover0_A_8 c i a1 h1 a2 h2 a3 h3 a4 h4 a5 h5 a6 h6 a7 h7 a8 h8 a9 h9 a10 h10 a11 h11 a12 h12 a13 h13 a14 h14 hc D U Z ga gc cg cb)).trans ?_,
    (View.read_writes_eq_canon _ _ _ (cover0_A_9 c i a1 h1 a2 h2 a3 h3 a4 h4 a5 h5 a6 h6 a7 h7 a8 h8 a9 h9 a10 h10 a11 h11 a12 h12 a13 h13 a14 h14 hc D U Z ga gc cg cb)).trans ?_,
    (View.read_writes_eq_canon _ _ _ (cover0_A_10 c i a1 h1 a2 h2 a3 h3 a4 h4 a5 h5 a6 h6 a7 h7 a8 h8 a9 h9 a10 h10 a11 h11 a12 h12 a13 h13 a14 h14 hc D U Z ga gc cg cb)).trans ?_,
    (View.read_writes_eq_canon _ _ _ (cover0_A_11 c i a1 h1 a2 h2 a3 h3 a4 h4 a5 h5 a6 h6 a7 h7 a8 h8 a9 h9 a10 h10 a11 h11 a12 h12 a13 h13 a14 h14 hc D U Z ga gc cg cb)).trans ?_,
    (View.read_writes_eq_canon _ _ _ (cover0_A_12 c i a1 h1 a2 h2 a3 h3 a4 h4 a5 h5 a6 h6 a7 h7 a8 h8 a9 h9 a10 h10 a11 h11 a12 h12 a13 h13 a14 h14 hc D U Z ga gc cg cb)).trans ?_,
    (View.read_writes_eq_canon _ _ _ (cover0_A_13 c i a1 h1 a2 h2 a3 h3 a4 h4 a5 h5 a6 h6 a7 h7 a8 h8 a9 h9 a10 h10 a11 h11 a12 h12 a13 h13 a14 h14 hc D U Z ga gc cg cb)).trans ?_⟩
  all_goals
    unfold kernelRun0_A
    dsimp only
    sl_unfold_words
    first
    | rw [View.canon_unit_zero origin]
    | rw [View.canon_cons_unit_zero (S := S1x768) origin, View.readCov_unit_zero (S := S1x768) _ origin]
    | rw [View.canon_cons_unit_zero (S := S1x256) origin, View.readCov_unit_zero (S := S1x256) _ origin]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
      View.ld_unit_zero (S := S512x768) origin, View.ld_unit_zero (S := S512x256) origin, View.ld_unit_zero (S := S1x768) origin,
      View.ld_unit_zero (S := S1x256) origin, shapeCast_self]
  · rw [left_ld]
    exact unroot_eq (left D) U ga
  · rw [right_ld]
    exact uneven_eq (right D) Z gc cg cb
  · rw [left_ld]
    exact weigh_eq (left D) U _
  · rw [right_ld]
    exact weigh_eq' (right D) Z cg cb _
  · rw [right_ld]
    exact scales_eq (right D) Z gc cg cb _
  · rw [right_ld]
    exact shifts_eq (right D) Z gc cg cb _
  · rw [right_ld]
    exact biases_eq (right D) Z gc cg cb _

/-- Every other point adds to what the point before it left. -/
theorem next (hc : ¬cond0_0 i) (o9 : Vec Ideal S1x768 .f32) (o10 o11 o12 o13 : Vec Ideal S1x256 .f32) :
    out0_B_7 c i a1 h1 a2 h2 a3 h3 a4 h4 a5 h5 a6 h6 a7 h7 a8 h8 a9 h9 a10 h10 a11 h11 a12 h12 a13 h13 a14 h14 hc D U Z ga gc cg cb o9 o10 o11 o12 o13
      = unroot LA U (left D) ga
    ∧ out0_B_8 c i a1 h1 a2 h2 a3 h3 a4 h4 a5 h5 a6 h6 a7 h7 a8 h8 a9 h9 a10 h10 a11 h11 a12 h12 a13 h13 a14 h14 hc D U Z ga gc cg cb o9 o10 o11 o12 o13
      = uneven LC Z (through LC Z (right D) gc cg cb) cg
    ∧ out0_B_9 c i a1 h1 a2 h2 a3 h3 a4 h4 a5 h5 a6 h6 a7 h7 a8 h8 a9 h9 a10 h10 a11 h11 a12 h12 a13 h13 a14 h14 hc D U Z ga gc cg cb o9 o10 o11 o12 o13
      = addf (φ := .f32) o9 (colSum (weigh LA U (left D)))
    ∧ out0_B_10 c i a1 h1 a2 h2 a3 h3 a4 h4 a5 h5 a6 h6 a7 h7 a8 h8 a9 h9 a10 h10 a11 h11 a12 h12 a13 h13 a14 h14 hc D U Z ga gc cg cb o9 o10 o11 o12 o13
      = addf (φ := .f32) o10 (colSum (weigh LC (gated (under LC Z cg cb)) (right D)))
    ∧ out0_B_11 c i a1 h1 a2 h2 a3 h3 a4 h4 a5 h5 a6 h6 a7 h7 a8 h8 a9 h9 a10 h10 a11 h11 a12 h12 a13 h13 a14 h14 hc D U Z ga gc cg cb o9 o10 o11 o12 o13
      = addf (φ := .f32) o11 (colSum (mulf (through LC Z (right D) gc cg cb) (even LC Z)))
    ∧ out0_B_12 c i a1 h1 a2 h2 a3 h3 a4 h4 a5 h5 a6 h6 a7 h7 a8 h8 a9 h9 a10 h10 a11 h11 a12 h12 a13 h13 a14 h14 hc D U Z ga gc cg cb o9 o10 o11 o12 o13
      = addf (φ := .f32) o12 (colSum (through LC Z (right D) gc cg cb))
    ∧ out0_B_13 c i a1 h1 a2 h2 a3 h3 a4 h4 a5 h5 a6 h6 a7 h7 a8 h8 a9 h9 a10 h10 a11 h11 a12 h12 a13 h13 a14 h14 hc D U Z ga gc cg cb o9 o10 o11 o12 o13
      = addf (φ := .f32) o13 (colSum (uneven LC Z (through LC Z (right D) gc cg cb) cg)) := by
  refine ⟨(View.read_writes_eq_canon _ _ _ (cover0_B_7 c i a1 h1 a2 h2 a3 h3 a4 h4 a5 h5 a6 h6 a7 h7 a8 h8 a9 h9 a10 h10 a11 h11 a12 h12 a13 h13 a14 h14 hc D U Z ga gc cg cb o9 o10 o11 o12 o13)).trans ?_,
    (View.read_writes_eq_canon _ _ _ (cover0_B_8 c i a1 h1 a2 h2 a3 h3 a4 h4 a5 h5 a6 h6 a7 h7 a8 h8 a9 h9 a10 h10 a11 h11 a12 h12 a13 h13 a14 h14 hc D U Z ga gc cg cb o9 o10 o11 o12 o13)).trans ?_,
    (View.read_writes_eq_canon _ _ _ (cover0_B_9 c i a1 h1 a2 h2 a3 h3 a4 h4 a5 h5 a6 h6 a7 h7 a8 h8 a9 h9 a10 h10 a11 h11 a12 h12 a13 h13 a14 h14 hc D U Z ga gc cg cb o9 o10 o11 o12 o13)).trans ?_,
    (View.read_writes_eq_canon _ _ _ (cover0_B_10 c i a1 h1 a2 h2 a3 h3 a4 h4 a5 h5 a6 h6 a7 h7 a8 h8 a9 h9 a10 h10 a11 h11 a12 h12 a13 h13 a14 h14 hc D U Z ga gc cg cb o9 o10 o11 o12 o13)).trans ?_,
    (View.read_writes_eq_canon _ _ _ (cover0_B_11 c i a1 h1 a2 h2 a3 h3 a4 h4 a5 h5 a6 h6 a7 h7 a8 h8 a9 h9 a10 h10 a11 h11 a12 h12 a13 h13 a14 h14 hc D U Z ga gc cg cb o9 o10 o11 o12 o13)).trans ?_,
    (View.read_writes_eq_canon _ _ _ (cover0_B_12 c i a1 h1 a2 h2 a3 h3 a4 h4 a5 h5 a6 h6 a7 h7 a8 h8 a9 h9 a10 h10 a11 h11 a12 h12 a13 h13 a14 h14 hc D U Z ga gc cg cb o9 o10 o11 o12 o13)).trans ?_,
    (View.read_writes_eq_canon _ _ _ (cover0_B_13 c i a1 h1 a2 h2 a3 h3 a4 h4 a5 h5 a6 h6 a7 h7 a8 h8 a9 h9 a10 h10 a11 h11 a12 h12 a13 h13 a14 h14 hc D U Z ga gc cg cb o9 o10 o11 o12 o13)).trans ?_⟩
  all_goals
    unfold kernelRun0_B
    dsimp only
    sl_unfold_words
    rw [View.canon_unit_zero origin]
    simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
      View.ld_unit_zero (S := S512x768) origin, View.ld_unit_zero (S := S512x256) origin, View.ld_unit_zero (S := S1x768) origin,
      View.ld_unit_zero (S := S1x256) origin, shapeCast_self]
  · rw [left_ld]
    exact unroot_eq (left D) U ga
  · rw [right_ld]
    exact uneven_eq (right D) Z gc cg cb
  · rw [left_ld]
    exact weigh_eq (left D) U _
  · rw [right_ld]
    exact weigh_eq' (right D) Z cg cb _
  · rw [right_ld]
    exact scales_eq (right D) Z gc cg cb _
  · rw [right_ld]
    exact shifts_eq (right D) Z gc cg cb _
  · rw [right_ld]
    exact biases_eq (right D) Z gc cg cb _

end Stored

/-! ## The blocks a point sees -/

variable (m : (ℓ : Loc nD τ sig) → Buf (Elt Ideal) ℓ) (c : Dev nD)

/-- The rows of point `t`. -/
abbrev rowAt (t : Fin cfg0.N) : Fin 512 → Fin 4096 := stretch (show cfg0.N = 8 from N_0) t

theorem blocks (t : Fin cfg0.N) :
    (iblk m c 0 t : FVec Ideal ⟨2, ![512, 1024]⟩ .f32) = rows (φ := .f32) (rowAt t) (m ((c : Thread nD τ).loc main_arg0))
    ∧ (iblk m c 1 t : FVec Ideal ⟨2, ![512, 768]⟩ .f32) = rows (φ := .f32) (rowAt t) (m ((c : Thread nD τ).loc main_arg1))
    ∧ (iblk m c 2 t : FVec Ideal ⟨2, ![512, 256]⟩ .f32) = rows (φ := .f32) (rowAt t) (m ((c : Thread nD τ).loc main_arg2))
    ∧ iblk m c 3 t = m ((c : Thread nD τ).loc main_arg3)
    ∧ iblk m c 4 t = m ((c : Thread nD τ).loc main_arg4)
    ∧ iblk m c 5 t = m ((c : Thread nD τ).loc main_arg5)
    ∧ iblk m c 6 t = m ((c : Thread nD τ).loc main_arg6) := by
  have at0 : ∀ t : Fin cfg0.N, win0_0.index t = ![t.val, 0] := (by decide +kernel : ∀ t : Fin grid0.N, _)
  have at1 : ∀ t : Fin cfg0.N, win0_1.index t = ![t.val, 0] := (by decide +kernel : ∀ t : Fin grid0.N, _)
  have at2 : ∀ t : Fin cfg0.N, win0_2.index t = ![t.val, 0] := (by decide +kernel : ∀ t : Fin grid0.N, _)
  have at3 : ∀ t : Fin cfg0.N, win0_3.index t = ![0, 0] := (by decide +kernel : ∀ t : Fin grid0.N, _)
  have at4 : ∀ t : Fin cfg0.N, win0_4.index t = ![0, 0] := (by decide +kernel : ∀ t : Fin grid0.N, _)
  have at5 : ∀ t : Fin cfg0.N, win0_5.index t = ![0, 0] := (by decide +kernel : ∀ t : Fin grid0.N, _)
  have at6 : ∀ t : Fin cfg0.N, win0_6.index t = ![0, 0] := (by decide +kernel : ∀ t : Fin grid0.N, _)
  refine ⟨funext fun y => congrArg (m ((c : Thread nD τ).loc main_arg0)) (funext fun a => Fin.ext (tile (C := 1024) (at0 t) y a)),
    funext fun y => congrArg (m ((c : Thread nD τ).loc main_arg1)) (funext fun a => Fin.ext (tile (C := 768) (at1 t) y a)),
    funext fun y => congrArg (m ((c : Thread nD τ).loc main_arg2)) (funext fun a => Fin.ext (tile (C := 256) (at2 t) y a)),
    funext fun y => congrArg (m ((c : Thread nD τ).loc main_arg3)) (funext fun a => Fin.ext (whole (R := 1) (C := 768) (at3 t) y a)),
    funext fun y => congrArg (m ((c : Thread nD τ).loc main_arg4)) (funext fun a => Fin.ext (whole (R := 1) (C := 256) (at4 t) y a)),
    funext fun y => congrArg (m ((c : Thread nD τ).loc main_arg5)) (funext fun a => Fin.ext (whole (R := 1) (C := 256) (at5 t) y a)),
    funext fun y => congrArg (m ((c : Thread nD τ).loc main_arg6)) (funext fun a => Fin.ext (whole (R := 1) (C := 256) (at6 t) y a))⟩

/-! ## What a point leaves, by the rows it sees -/

/-- The derivative in the attention's rows. -/
abbrev attnAll : FVec Ideal ⟨2, ![4096, 768]⟩ .f32 := unroot LA (m ((c : Thread nD τ).loc main_arg1)) (left (m ((c : Thread nD τ).loc main_arg0))) (m ((c : Thread nD τ).loc main_arg3))

/-- What the gradient of the attention's weights adds up. -/
abbrev weighAll : FVec Ideal ⟨2, ![4096, 768]⟩ .f32 := weigh LA (m ((c : Thread nD τ).loc main_arg1)) (left (m ((c : Thread nD τ).loc main_arg0)))

/-- What the gradient of the convolution's weights adds up. -/
abbrev weighAll' : FVec Ideal ⟨2, ![4096, 256]⟩ .f32 :=
  weigh LC (gated (under LC (m ((c : Thread nD τ).loc main_arg2)) (m ((c : Thread nD τ).loc main_arg5)) (m ((c : Thread nD τ).loc main_arg6)))) (right (m ((c : Thread nD τ).loc main_arg0)))

/-- What the gradient of the layer norm's shifts adds up. -/
abbrev throughAll : FVec Ideal ⟨2, ![4096, 256]⟩ .f32 :=
  through LC (m ((c : Thread nD τ).loc main_arg2)) (right (m ((c : Thread nD τ).loc main_arg0))) (m ((c : Thread nD τ).loc main_arg4)) (m ((c : Thread nD τ).loc main_arg5)) (m ((c : Thread nD τ).loc main_arg6))

/-- What the gradient of the layer norm's weights adds up. -/
abbrev scalesAll : FVec Ideal ⟨2, ![4096, 256]⟩ .f32 := mulf (throughAll m c) (even LC (m ((c : Thread nD τ).loc main_arg2)))

/-- The derivative in the convolution's rows. -/
abbrev convAll : FVec Ideal ⟨2, ![4096, 256]⟩ .f32 := uneven LC (m ((c : Thread nD τ).loc main_arg2)) (throughAll m c) (m ((c : Thread nD τ).loc main_arg5))

/-- The six of one point's blocks are rows of the six of the whole arrays. -/
theorem of_blocks (t : Fin cfg0.N) :
    unroot LA (iblk m c 1 t) (left (iblk m c 0 t)) (iblk m c 3 t) = rows (rowAt t) (attnAll m c)
    ∧ uneven LC (iblk m c 2 t) (through LC (iblk m c 2 t) (right (iblk m c 0 t)) (iblk m c 4 t) (iblk m c 5 t) (iblk m c 6 t)) (iblk m c 5 t)
      = rows (rowAt t) (convAll m c)
    ∧ weigh LA (iblk m c 1 t) (left (iblk m c 0 t)) = rows (rowAt t) (weighAll m c)
    ∧ weigh LC (gated (under LC (iblk m c 2 t) (iblk m c 5 t) (iblk m c 6 t))) (right (iblk m c 0 t)) = rows (rowAt t) (weighAll' m c)
    ∧ mulf (through LC (iblk m c 2 t) (right (iblk m c 0 t)) (iblk m c 4 t) (iblk m c 5 t) (iblk m c 6 t)) (even LC (iblk m c 2 t))
      = rows (rowAt t) (scalesAll m c)
    ∧ through LC (iblk m c 2 t) (right (iblk m c 0 t)) (iblk m c 4 t) (iblk m c 5 t) (iblk m c 6 t) = rows (rowAt t) (throughAll m c) := by
  obtain ⟨e0, e1, e2, e3, e4, e5, e6⟩ := blocks m c t
  have et : through LC (iblk m c 2 t) (right (iblk m c 0 t)) (iblk m c 4 t) (iblk m c 5 t) (iblk m c 6 t) = rows (rowAt t) (throughAll m c) := by
    rw [e0, e2, e4, e5, e6]
    unfold right
    rw [columns_rows, through_rows]
  rw [et, e0, e1, e2, e3, e5, e6]
  unfold left right
  refine ⟨?_, uneven_rows _ _ _ _, ?_, ?_, ?_, rfl⟩
  · rw [columns_rows, unroot_rows]
  · rw [columns_rows, weigh_rows]
  · rw [columns_rows, under_rows, gated_rows, weigh_rows]
  · rw [even_rows]
    rfl

/-- One point's share of the sum of a whole array's rows. -/
def share {C : ℕ} (U : FVec Ideal ⟨2, ![4096, C]⟩ .f32) (k : ℕ) (y : (⟨2, ![1, C]⟩ : Shape).Idx) : EReal :=
  if h : k < cfg0.N then colSum (rows (rowAt ⟨k, h⟩) U) y else 0

theorem share_at {C : ℕ} (U : FVec Ideal ⟨2, ![4096, C]⟩ .f32) (t : Fin cfg0.N) (y : (⟨2, ![1, C]⟩ : Shape).Idx) :
    colSum (rows (rowAt t) U) y = share U t.val y := by
  unfold share
  rw [dif_pos t.isLt]

/-- The shares make up the sum. -/
theorem shares {C : ℕ} (U : FVec Ideal ⟨2, ![4096, C]⟩ .f32) (y : (⟨2, ![1, C]⟩ : Shape).Idx) :
    ∑ k ∈ Finset.range 8, share U k y = colSum U y :=
  Cert.Products.stretches (B := 512) rfl (fun r : Fin 4096 => (U (ValueIdx.ix2 r (y 1)) : EReal)) _ fun k hk =>
    ⟨fun r => by have := r.isLt; omega, dif_pos (lt_of_lt_of_eq hk N_0.symm)⟩

/-- What is cleared at the first point and added to at every point is the whole sum after the last. -/
theorem adds {C : ℕ} (U : FVec Ideal ⟨2, ![4096, C]⟩ .f32) (o : ∀ n, n < cfg0.N → FVec Ideal ⟨2, ![1, C]⟩ .f32)
    (h0 : ∀ t : Fin cfg0.N, t.val % 8 = 0 → o t.val t.isLt = addf (all 0x00000000#32) (colSum (rows (rowAt t) U)))
    (h1 : ∀ t : Fin cfg0.N, ¬t.val % 8 = 0 →
      o t.val t.isLt = addf (o (t.val - 1) (Nat.lt_of_le_of_lt (Nat.sub_le _ _) t.isLt)) (colSum (rows (rowAt t) U)))
    (t : Fin cfg0.N) (ht : t.val % 8 = 7) : o t.val t.isLt = colSum U := by
  have hN : cfg0.N = 8 := N_0
  have h7 : t.val + 1 = 8 := by have := t.isLt; omega
  funext y
  refine (Pipeline.eq_sum_of_reset_step_apply_single o 8 (fun _ => (0 : EReal)) (share U) (fun t h y => ?_) (fun t h y => ?_) hN.le t y).trans ?_
  · rw [h0 t h, ← share_at]
    exact congrArg (· + _) Ideal.ofBits_zero_f32
  · rw [h1 t h, ← share_at]
    rfl
  · rw [h7, zero_add, shares]

/-- What a first point leaves. -/
theorem first_at (t : Fin cfg0.N) (h0 : t.val % 8 = 0) : outsAt0 m c t.val t.isLt
    = (rows (rowAt t) (attnAll m c), rows (rowAt t) (convAll m c), addf (all 0x00000000#32) (colSum (rows (rowAt t) (weighAll m c))),
      addf (all 0x00000000#32) (colSum (rows (rowAt t) (weighAll' m c))), addf (all 0x00000000#32) (colSum (rows (rowAt t) (scalesAll m c))),
      addf (all 0x00000000#32) (colSum (rows (rowAt t) (throughAll m c))), addf (all 0x00000000#32) (colSum (rows (rowAt t) (convAll m c)))) := by
  obtain ⟨b0, b1, b2, b3, b4, b5⟩ := of_blocks m c t
  rw [outsAt0_A m c t h0, (first ..).1, (first ..).2.1, (first ..).2.2.1, (first ..).2.2.2.1, (first ..).2.2.2.2.1, (first ..).2.2.2.2.2.1,
    (first ..).2.2.2.2.2.2, b0, b1, b2, b3, b4, b5]

/-- What every other point leaves. -/
theorem next_at (t : Fin cfg0.N) (h0 : ¬t.val % 8 = 0) : outsAt0 m c t.val t.isLt
    = (rows (rowAt t) (attnAll m c), rows (rowAt t) (convAll m c),
      addf (outsAt0 m c (t.val - 1) (Nat.lt_of_le_of_lt (Nat.sub_le _ _) t.isLt)).2.2.1 (colSum (rows (rowAt t) (weighAll m c))),
      addf (outsAt0 m c (t.val - 1) (Nat.lt_of_le_of_lt (Nat.sub_le _ _) t.isLt)).2.2.2.1 (colSum (rows (rowAt t) (weighAll' m c))),
      addf (outsAt0 m c (t.val - 1) (Nat.lt_of_le_of_lt (Nat.sub_le _ _) t.isLt)).2.2.2.2.1 (colSum (rows (rowAt t) (scalesAll m c))),
      addf (outsAt0 m c (t.val - 1) (Nat.lt_of_le_of_lt (Nat.sub_le _ _) t.isLt)).2.2.2.2.2.1 (colSum (rows (rowAt t) (throughAll m c))),
      addf (outsAt0 m c (t.val - 1) (Nat.lt_of_le_of_lt (Nat.sub_le _ _) t.isLt)).2.2.2.2.2.2 (colSum (rows (rowAt t) (convAll m c)))) := by
  obtain ⟨b0, b1, b2, b3, b4, b5⟩ := of_blocks m c t
  rw [outsAt0_B m c t h0, (next ..).1, (next ..).2.1, (next ..).2.2.1, (next ..).2.2.2.1, (next ..).2.2.2.2.1, (next ..).2.2.2.2.2.1,
    (next ..).2.2.2.2.2.2, b0, b1, b2, b3, b4, b5]

/-- After the last point the five sums are whole. -/
theorem sums (t : Fin cfg0.N) (ht : t.val % 8 = 7) :
    (outsAt0 m c t.val t.isLt).2.2.1 = colSum (weighAll m c)
    ∧ (outsAt0 m c t.val t.isLt).2.2.2.1 = colSum (weighAll' m c)
    ∧ (outsAt0 m c t.val t.isLt).2.2.2.2.1 = colSum (scalesAll m c)
    ∧ (outsAt0 m c t.val t.isLt).2.2.2.2.2.1 = colSum (throughAll m c)
    ∧ (outsAt0 m c t.val t.isLt).2.2.2.2.2.2 = colSum (convAll m c) :=
  ⟨adds _ (fun n h => (outsAt0 m c n h).2.2.1) (fun t h => congrArg (·.2.2.1) (first_at m c t h)) (fun t h => congrArg (·.2.2.1) (next_at m c t h)) t ht,
    adds _ (fun n h => (outsAt0 m c n h).2.2.2.1) (fun t h => congrArg (·.2.2.2.1) (first_at m c t h)) (fun t h => congrArg (·.2.2.2.1) (next_at m c t h)) t ht,
    adds _ (fun n h => (outsAt0 m c n h).2.2.2.2.1) (fun t h => congrArg (·.2.2.2.2.1) (first_at m c t h)) (fun t h => congrArg (·.2.2.2.2.1) (next_at m c t h)) t ht,
    adds _ (fun n h => (outsAt0 m c n h).2.2.2.2.2.1) (fun t h => congrArg (·.2.2.2.2.2.1) (first_at m c t h)) (fun t h => congrArg (·.2.2.2.2.2.1) (next_at m c t h)) t ht,
    adds _ (fun n h => (outsAt0 m c n h).2.2.2.2.2.2) (fun t h => congrArg (·.2.2.2.2.2.2) (first_at m c t h)) (fun t h => congrArg (·.2.2.2.2.2.2) (next_at m c t h)) t ht⟩

/-- Every point leaves its rows of the two derivatives. -/
theorem rows_at (t : Fin cfg0.N) :
    (outsAt0 m c t.val t.isLt).1 = rows (rowAt t) (attnAll m c) ∧ (outsAt0 m c t.val t.isLt).2.1 = rows (rowAt t) (convAll m c) := by
  by_cases h0 : t.val % 8 = 0
  · rw [first_at m c t h0]
    exact ⟨rfl, rfl⟩
  · rw [next_at m c t h0]
    exact ⟨rfl, rfl⟩

/-! ## The arrays after the run -/

theorem final_attn : (dats m 0 c).arrAt 7 cfg0.N = attnAll m c := by
  have at7 : ∀ t : Fin cfg0.N, win0_7.index t = ![t.val, 0] := (by decide +kernel : ∀ t : Fin grid0.N, _)
  refine (dats m 0 c).arrAt_eq_of_cover 7 _ (fun t _ => ?_) (fun i => ?_)
  · rw [flushed7, (rows_at m c t).1]
    funext y
    exact congrArg (attnAll m c) (funext fun a => Fin.ext (tile (C := 768) (at7 t) y a).symm)
  · have hi : (i 0).val < 4096 := (i 0).isLt
    refine ⟨⟨(i 0).val / 512, by show _ < 8; omega⟩, flush0_7 _, ?_⟩
    exact Eq.mpr (congrArg (i ∈ ·) (View.set_slice_whole main_v0_0 (win0_7.rect _))) (Rect.mem_set_unit.2 (Sums.in_rows i (by decide) (at7 _)))

theorem final_conv : (dats m 0 c).arrAt 8 cfg0.N = convAll m c := by
  have at8 : ∀ t : Fin cfg0.N, win0_8.index t = ![t.val, 0] := (by decide +kernel : ∀ t : Fin grid0.N, _)
  refine (dats m 0 c).arrAt_eq_of_cover 8 _ (fun t _ => ?_) (fun i => ?_)
  · rw [flushed8, (rows_at m c t).2]
    funext y
    exact congrArg (convAll m c) (funext fun a => Fin.ext (tile (C := 256) (at8 t) y a).symm)
  · have hi : (i 0).val < 4096 := (i 0).isLt
    refine ⟨⟨(i 0).val / 512, by show _ < 8; omega⟩, flush0_8 _, ?_⟩
    exact Eq.mpr (congrArg (i ∈ ·) (View.set_slice_whole main_v0_1 (win0_8.rect _))) (Rect.mem_set_unit.2 (Sums.in_rows i (by decide) (at8 _)))

theorem final_weights : (dats m 0 c).arrAt 9 cfg0.N = colSum (weighAll m c) := by
  have at9 : ∀ t : Fin cfg0.N, win0_9.index t = ![0, 0] := (by decide +kernel : ∀ t : Fin grid0.N, _)
  refine (dats m 0 c).arrAt_eq_of_cover 9 _ (fun t ht => ?_) (fun i => ⟨⟨7, by show 7 < 8; omega⟩, (flush0_9 _).2 rfl, ?_⟩)
  · rw [flushed9, (sums m c t ((flush0_9 t).1 ht)).1]
    funext y
    exact congrArg (colSum (weighAll m c)) (funext fun a => Fin.ext (whole (R := 1) (C := 768) (at9 t) y a).symm)
  · exact Eq.mpr (congrArg (i ∈ ·) (View.set_slice_whole main_v0_2 (win0_9.rect _))) (Rect.mem_set_unit.2 (in_whole i (at9 _)))

theorem final_weights' : (dats m 0 c).arrAt 10 cfg0.N = colSum (weighAll' m c) := by
  have at10 : ∀ t : Fin cfg0.N, win0_10.index t = ![0, 0] := (by decide +kernel : ∀ t : Fin grid0.N, _)
  refine (dats m 0 c).arrAt_eq_of_cover 10 _ (fun t ht => ?_) (fun i => ⟨⟨7, by show 7 < 8; omega⟩, (flush0_10 _).2 rfl, ?_⟩)
  · rw [flushed10, (sums m c t ((flush0_10 t).1 ht)).2.1]
    funext y
    exact congrArg (colSum (weighAll' m c)) (funext fun a => Fin.ext (whole (R := 1) (C := 256) (at10 t) y a).symm)
  · exact Eq.mpr (congrArg (i ∈ ·) (View.set_slice_whole main_v0_3 (win0_10.rect _))) (Rect.mem_set_unit.2 (in_whole i (at10 _)))

theorem final_scales : (dats m 0 c).arrAt 11 cfg0.N = colSum (scalesAll m c) := by
  have at11 : ∀ t : Fin cfg0.N, win0_11.index t = ![0, 0] := (by decide +kernel : ∀ t : Fin grid0.N, _)
  refine (dats m 0 c).arrAt_eq_of_cover 11 _ (fun t ht => ?_) (fun i => ⟨⟨7, by show 7 < 8; omega⟩, (flush0_11 _).2 rfl, ?_⟩)
  · rw [flushed11, (sums m c t ((flush0_11 t).1 ht)).2.2.1]
    funext y
    exact congrArg (colSum (scalesAll m c)) (funext fun a => Fin.ext (whole (R := 1) (C := 256) (at11 t) y a).symm)
  · exact Eq.mpr (congrArg (i ∈ ·) (View.set_slice_whole main_v0_4 (win0_11.rect _))) (Rect.mem_set_unit.2 (in_whole i (at11 _)))

theorem final_shifts : (dats m 0 c).arrAt 12 cfg0.N = colSum (throughAll m c) := by
  have at12 : ∀ t : Fin cfg0.N, win0_12.index t = ![0, 0] := (by decide +kernel : ∀ t : Fin grid0.N, _)
  refine (dats m 0 c).arrAt_eq_of_cover 12 _ (fun t ht => ?_) (fun i => ⟨⟨7, by show 7 < 8; omega⟩, (flush0_12 _).2 rfl, ?_⟩)
  · rw [flushed12, (sums m c t ((flush0_12 t).1 ht)).2.2.2.1]
    funext y
    exact congrArg (colSum (throughAll m c)) (funext fun a => Fin.ext (whole (R := 1) (C := 256) (at12 t) y a).symm)
  · exact Eq.mpr (congrArg (i ∈ ·) (View.set_slice_whole main_v0_5 (win0_12.rect _))) (Rect.mem_set_unit.2 (in_whole i (at12 _)))

theorem final_biases : (dats m 0 c).arrAt 13 cfg0.N = colSum (convAll m c) := by
  have at13 : ∀ t : Fin cfg0.N, win0_13.index t = ![0, 0] := (by decide +kernel : ∀ t : Fin grid0.N, _)
  refine (dats m 0 c).arrAt_eq_of_cover 13 _ (fun t ht => ?_) (fun i => ⟨⟨7, by show 7 < 8; omega⟩, (flush0_13 _).2 rfl, ?_⟩)
  · rw [flushed13, (sums m c t ((flush0_13 t).1 ht)).2.2.2.2]
    funext y
    exact congrArg (colSum (convAll m c)) (funext fun a => Fin.ext (whole (R := 1) (C := 256) (at13 t) y a).symm)
  · exact Eq.mpr (congrArg (i ∈ ·) (View.set_slice_whole main_v0_6 (win0_13.rect _))) (Rect.mem_set_unit.2 (in_whole i (at13 _)))

end Cert.MixIdeal.Value

namespace Cert.Mixing

open Idealize.ShloMosaic Idealize.ShloMosaic.TcCoe Idealize.SL.Sem

theorem mix : Cert.algebraic_MixIdeal_MixReferenceIdeal (hMixIdeal := Cert.MixIdeal.Gen.facts) (hMixReferenceIdeal := Cert.MixReferenceIdeal.Gen.facts) :=
  fun m g m' g' _ hm => ⟨_, _, _, _, _, _, _, (θ_run _ _ _).mono
    (fun _ h c => ⟨(h c).1.trans (Cert.MixIdeal.Value.final_attn m c),
      (h c).2.1.trans (Cert.MixIdeal.Value.final_conv m c),
      (h c).2.2.1.trans (Cert.MixIdeal.Value.final_weights m c),
      (h c).2.2.2.1.trans (Cert.MixIdeal.Value.final_weights' m c),
      (h c).2.2.2.2.1.trans (Cert.MixIdeal.Value.final_scales m c),
      (h c).2.2.2.2.2.1.trans (Cert.MixIdeal.Value.final_shifts m c),
      (h c).2.2.2.2.2.2.1.trans (Cert.MixIdeal.Value.final_biases m c), (h c).2.2.2.2.2.2.2⟩)
    (Cert.MixIdeal.Value.run_blocks m g),
    (θ_run _ _ _).mono (fun _ h c => by
      obtain ⟨h0, h1, h2, h3, h4, h5, h6⟩ := hm c
      have eA : Cert.MixReferenceIdeal.Value.DA m' c = Cert.MixIdeal.Value.left (m ((c.tc).loc Cert.MixIdeal.main_arg0)) := congrArg Cert.MixIdeal.Value.left h0
      have eC : Cert.MixReferenceIdeal.Value.DC m' c = Cert.MixIdeal.Value.right (m ((c.tc).loc Cert.MixIdeal.main_arg0)) := congrArg Cert.MixIdeal.Value.right h0
      have e1 : Cert.MixReferenceIdeal.Value.U m' c = _ := h1
      have e2 : Cert.MixReferenceIdeal.Value.Z m' c = _ := h2
      have e3 : Cert.MixReferenceIdeal.Value.ga m' c = _ := h3
      have e4 : Cert.MixReferenceIdeal.Value.gc m' c = _ := h4
      have e5 : Cert.MixReferenceIdeal.Value.cg m' c = _ := h5
      have e6 : Cert.MixReferenceIdeal.Value.cb m' c = _ := h6
      refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
      · rw [eA, e1, e3]
      · rw [eC, e2, e4, e5, e6]
      · rw [eA, e1]
      · rw [eC, e2, e5, e6]
      · rw [eC, e2, e4, e5, e6]
      · rw [eC, e2, e4, e5, e6]
      · rw [eC, e2, e4, e5, e6])
      (Cert.MixReferenceIdeal.Value.run_mix m' g')⟩

end Cert.Mixing

end
-- ==== Proof.NormBwdTerms.lean ====
/- THE UP PROJECTIONS' DERIVATIVE AND THE FIRST NORM'S: what the reference's and the kernel's terms are, by two products and the norm's
   way back. -/
module

public import proofs.«01_k».proof.Proof.Norms
public import proofs.«01_k».proof.Proof.GradUpClaim
public import proofs.«01_k».proof.Proof.Gen.NormBwd.Frame
public import proofs.«01_k».proof.Proof.Gen.NormBwdIdeal.Value
public import proofs.«01_k».proof.Proof.Gen.NormBwdReferenceIdeal.Run

@[expose] public section

set_option maxRecDepth 65536

noncomputable section

namespace Cert.UpBack

open Idealize.ShloMosaic
open Cert.Norms Cert.Products

set_option Elab.async false

variable {R : ℕ}

/-! ## The derivative in the layer's output -/

/-- The columns of half `s`: eleven groups of 512, in each 256 of the gate's and then 256 of the value's. -/
def halfIn (s : Fin 2) (A : FVec Ideal ⟨2, ![R, 5632]⟩ .bf16) : FVec Ideal ⟨2, ![R, 2816]⟩ .bf16 := fun i => A (ValueIdx.ix2 (i 0) (inHalf s (i 1)))

/-- The weights of half `s`: all of the gate's, then all of the value's. -/
def sideIn (s : Fin 2) (W : FVec Ideal ⟨2, ![1024, 5632]⟩ .bf16) : FVec Ideal ⟨2, ![1024, 2816]⟩ .bf16 := fun i =>
  W (ValueIdx.ix2 (i 0) ⟨2816 * s.val + (i 1).val, by have : (i 1).val < 2816 := (i 1).isLt; have := s.isLt; omega⟩)

/-- Back through the two projections. -/
def upBack (A : FVec Ideal ⟨2, ![R, 5632]⟩ .bf16) (W : FVec Ideal ⟨2, ![1024, 5632]⟩ .bf16) : FVec Ideal ⟨2, ![R, 1024]⟩ .f32 :=
  addf (rowsBy (halfIn 0 A) (sideIn 0 W)) (rowsBy (halfIn 1 A) (sideIn 1 W))

/-- With the residual's share. -/
def arrived (P D : FVec Ideal ⟨2, ![R, 1024]⟩ .f32) : FVec Ideal ⟨2, ![R, 1024]⟩ .f32 := addf P (mulf (all 0x3F9837F0#32) D)

/-- Back through the norm, by what its way forward left. -/
def normBack (N : FVec Ideal ⟨2, ![R, 1024]⟩ .f32) (r : FVec Ideal ⟨2, ![R, 1]⟩ .f32) (g : FVec Ideal ⟨2, ![1, 1024]⟩ .f32)
    (X : FVec Ideal ⟨2, ![R, 1024]⟩ .f32) : FVec Ideal ⟨2, ![R, 1024]⟩ .f32 := back r N (mulf X (along g))

/-- The host cuts half `s` of the columns out of the groups. -/
theorem host_halfIn (s : Fin 2) (A : FVec Ideal ⟨2, ![4096, 5632]⟩ .bf16) (h4 : (⟨2, ![4096, 5632]⟩ : Shape).ShapeCasts ⟨4, ![4096, 11, 2, 256]⟩)
    (hs : (⟨4, ![4096, 11, 2, 256]⟩ : Shape).Slices ![0, 0, s.val, 0] ⟨4, ![4096, 11, 1, 256]⟩)
    (h3 : (⟨4, ![4096, 11, 1, 256]⟩ : Shape).ShapeCasts ⟨3, ![4096, 11, 256]⟩) (h2 : (⟨3, ![4096, 11, 256]⟩ : Shape).ShapeCasts ⟨2, ![4096, 2816]⟩) :
    shapeCast ⟨2, ![4096, 2816]⟩ (shapeCast ⟨3, ![4096, 11, 256]⟩ (extractStridedSlice ⟨4, ![4096, 11, 1, 256]⟩ ![0, 0, s.val, 0]
      (shapeCast ⟨4, ![4096, 11, 2, 256]⟩ A h4) hs) h3) h2 = halfIn s A := by
  funext i
  have h1 : (i 1).val < 2816 := (i 1).isLt
  have hr : (i 1).val / 256 < 11 := by omega
  have hl : (i 1).val % 256 < 256 := by omega
  refine (shapeCast_apply _ h2 i (ValueIdx.ix3 (i 0) ⟨_, hr⟩ ⟨_, hl⟩) ?_).trans
    ((shapeCast_apply _ h3 _ (ValueIdx.ix4 (i 0) ⟨_, hr⟩ 0 ⟨_, hl⟩) ?_).trans
      ((extractStridedSlice_apply _ _ hs _ (ValueIdx.ix4 (i 0) ⟨_, hr⟩ s ⟨_, hl⟩) ?_).trans
        (shapeCast_apply _ h4 _ (ValueIdx.ix2 (i 0) (inHalf s (i 1))) ?_)))
  · rw [Shape.rowMajor_val_three, Shape.rowMajor_val_two]
    show ((i 0).val * 11 + (i 1).val / 256) * 256 + (i 1).val % 256 = (i 0).val * 2816 + (i 1).val
    omega
  · rw [Shape.rowMajor_val_four, Shape.rowMajor_val_three]
    show (((i 0).val * 11 + (i 1).val / 256) * 1 + 0) * 256 + (i 1).val % 256 = ((i 0).val * 11 + (i 1).val / 256) * 256 + (i 1).val % 256
    omega
  · exact fun a => match a with
    | ⟨0, _⟩ => (Nat.zero_add _).symm
    | ⟨1, _⟩ => (Nat.zero_add _).symm
    | ⟨2, _⟩ => rfl
    | ⟨3, _⟩ => (Nat.zero_add _).symm
  · rw [Shape.rowMajor_val_two, Shape.rowMajor_val_four]
    show (i 0).val * 5632 + (512 * ((i 1).val / 256) + 256 * s.val + (i 1).val % 256)
      = (((i 0).val * 11 + (i 1).val / 256) * 2 + s.val) * 256 + (i 1).val % 256
    omega

/-- And one side of the weights. -/
theorem host_sideIn (s : Fin 2) (o : ℕ) (ho : o = 2816 * s.val) (W : FVec Ideal ⟨2, ![1024, 5632]⟩ .bf16) (hs : (⟨2, ![1024, 5632]⟩ : Shape).Slices ![0, o] ⟨2, ![1024, 2816]⟩) :
    extractStridedSlice ⟨2, ![1024, 2816]⟩ ![0, o] W hs = sideIn s W := by
  subst ho
  exact funext fun i => extractStridedSlice_apply _ W hs i _ fun a => match a with
    | ⟨0, _⟩ => (Nat.zero_add _).symm
    | ⟨1, _⟩ => rfl

end Cert.UpBack

/-! ## The reference -/

namespace Cert.NormBwdReferenceIdeal.Value

open Cert.NormBwdReferenceIdeal Cert.NormBwdReferenceIdeal.Gen Idealize.ShloMosaic Idealize.ShloMosaic.TcCoe Idealize.SL.Sem Idealize.ShloMosaic.StableHlo
open Cert.Norms Cert.Products Cert.UpBack

set_option Elab.async false

theorem row_spread (g : FVec Ideal S1x1024 .f32) : broadcastInDim S4096x1024 ![0, 1] bcast_S1x1024_S4096x1024_0_1 g = along g := host_along g _

theorem col_spread (v : FVec Ideal S4096x1 .f32) : broadcastInDim S4096x1024 ![0, 1] bcast_S4096x1_S4096x1024_0_1 v = across v := host_across v _

theorem means (U : FVec Ideal S4096x1024 .f32) : Host.divf (broadcastInDim S4096x1 ![0] bcast_S4096_S4096x1_0
    (Host.reduceAdd U (constant (F := Ideal) S_ .f32 0x00000000#32) reducesTo_S4096x1024_S4096_d1 h_S_))
    (broadcastInDim S4096x1 ![] bcast_S_S4096x1 (constant (F := Ideal) S_ .f32 0x44800000#32)) = mean U :=
  congrArg (fun s => divf s (all 0x44800000#32)) (host_rowSum U _ _ _)

theorem cols_sum (U : FVec Ideal S4096x1024 .f32) : broadcastInDim S1x1024 ![1] bcast_S1024_S1x1024_1
    (Host.reduceAdd U (constant (F := Ideal) S_ .f32 0x00000000#32) reducesTo_S4096x1024_S1024_d0 h_S_) = colSum U := host_colSum U _ _ _

theorem arrived_eq (A : FVec Ideal S4096x5632 .bf16) (W : FVec Ideal S1024x5632 .bf16) (D : FVec Ideal S4096x1024 .f32) :
    addf (addf (Host.dotGeneral dot_S4096x2816_S2816x1024_S4096x1024_1_0_0_1_n_n none (shapeCast _ (shapeCast _ (extractStridedSlice S4096x11x1x256 ![0, 0, 0, 0]
        (shapeCast _ A shapeCasts_S4096x5632_S4096x11x2x256) slices_S4096x11x2x256_S4096x11x1x256_0_0_0_0) shapeCasts_S4096x11x1x256_S4096x11x256) shapeCasts_S4096x11x256_S4096x2816)
        (transpose S2816x1024 [1, 0] (extractStridedSlice S1024x2816 ![0, 0] W slices_S1024x5632_S1024x2816_0_0) transposes_S1024x2816_S2816x1024_1_0))
      (Host.dotGeneral dot_S4096x2816_S2816x1024_S4096x1024_1_0_0_1_n_n none (shapeCast _ (shapeCast _ (extractStridedSlice S4096x11x1x256 ![0, 0, 1, 0]
        (shapeCast _ A shapeCasts_S4096x5632_S4096x11x2x256) slices_S4096x11x2x256_S4096x11x1x256_0_0_1_0) shapeCasts_S4096x11x1x256_S4096x11x256) shapeCasts_S4096x11x256_S4096x2816)
        (transpose S2816x1024 [1, 0] (extractStridedSlice S1024x2816 ![0, 2816] W slices_S1024x5632_S1024x2816_0_2816) transposes_S1024x2816_S2816x1024_1_0)))
      (mulf (broadcastInDim S4096x1024 ![] bcast_S_S4096x1024 (constant S_ .f32 0x3F9837F0#32)) D) = arrived (upBack A W) D := by
  refine congrArg (fun P => addf (φ := .f32) P (mulf (all 0x3F9837F0#32) D)) (congrArg₂ (addf (φ := .f32)) ?_ ?_)
  · exact (host_rowsBy _ _ _ rfl _).trans (congrArg₂ rowsBy (host_halfIn 0 A _ _ _ _) (host_sideIn 0 0 rfl W _))
  · exact (host_rowsBy _ _ _ rfl _).trans (congrArg₂ rowsBy (host_halfIn 1 A _ _ _ _) (host_sideIn 1 2816 rfl W _))

section Terms

variable (m : (ℓ : Loc nD τ sig) → Buf (Elt Ideal) ℓ) (c : Dev nD)

/-- The arguments. -/
abbrev A : FVec Ideal ⟨2, ![4096, 5632]⟩ .bf16 := m ((c : Thread nD τ).loc main_arg0)
abbrev W : FVec Ideal ⟨2, ![1024, 5632]⟩ .bf16 := m ((c : Thread nD τ).loc main_arg1)
abbrev D : FVec Ideal ⟨2, ![4096, 1024]⟩ .f32 := m ((c : Thread nD τ).loc main_arg2)
abbrev N : FVec Ideal ⟨2, ![4096, 1024]⟩ .f32 := m ((c : Thread nD τ).loc main_arg3)
abbrev r : FVec Ideal ⟨2, ![4096, 1]⟩ .f32 := m ((c : Thread nD τ).loc main_arg4)
abbrev g : FVec Ideal ⟨2, ![1, 1024]⟩ .f32 := m ((c : Thread nD τ).loc main_arg5)

theorem back_eq : res_main_v34 m c = normBack (N m c) (r m c) (g m c) (arrived (upBack (A m c) (W m c)) (D m c)) := by
  unfold res_main_v34
  rw [arrived_eq, row_spread, means, means, col_spread, col_spread, col_spread]
  rfl

end Terms

theorem run_normBwd (m : (ℓ : Loc nD τ sig) → Buf (Elt Ideal) ℓ) (ρ : Dev nD → PrngReg) :
    θ_run (defs (F := Ideal)) (onTc (τ := τ) (main (F := Ideal))) ⟨m, fun _ => 0, ρ⟩ fun s => ∀ c : Dev nD,
      s.2.mem ((c.tc : Thread nD τ).loc main_v34) = normBack (N m c) (r m c) (g m c) (arrived (upBack (A m c) (W m c)) (D m c))
      ∧ s.2.mem ((c.tc : Thread nD τ).loc main_v37) = colSum (mulf (arrived (upBack (A m c) (W m c)) (D m c)) (N m c))
      ∧ s.2.mem ((c.tc : Thread nD τ).loc main_v39) = colSum (arrived (upBack (A m c) (W m c)) (D m c))
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5) :=
  (θ_run defs _ _).mono (fun _ h c => ⟨(h c).1.trans (back_eq m c),
      (h c).2.1.trans (by rw [arrived_eq, cols_sum]),
      (h c).2.2.1.trans (by rw [arrived_eq, cols_sum]), (h c).2.2.2⟩)
    (run m ρ)

end Cert.NormBwdReferenceIdeal.Value

/-! ## The kernel -/

namespace Cert.NormBwdIdeal.Value

open Cert.NormBwdIdeal Cert.NormBwdIdeal.Gen Idealize.ShloMosaic Idealize.ShloMosaic.TcCoe Idealize.SL.Sem
open Cert.Norms Cert.Products Cert.UpBack

set_option Elab.async false

/-- Half `s` of one group's columns. -/
def part (s : Fin 2) (A : FVec Ideal S512x512 .bf16) : FVec Ideal S512x256 .bf16 :=
  fun j => A (ValueIdx.ix2 (j 0) ⟨256 * s.val + (j 1).val, by have : (j 1).val < 256 := (j 1).isLt; have := s.isLt; omega⟩)

/-- What one group adds to the two products. -/
def both (A : FVec Ideal S512x512 .bf16) (V W : FVec Ideal S1024x256 .bf16) : FVec Ideal S512x1024 .f32 :=
  addf (rowsBy (part 0 A) V) (rowsBy (part 1 A) W)

/-- What a load of the first columns reads, and of the last. -/
theorem part_ld0 (A : Vec Ideal S512x512 .bf16) (inb) :
    View.ld A (Rect.unit (s := S512x512) ![0, 0] ![512, 256] inb) = part 0 A :=
  (View.ld_unit A _ _ inb).trans (funext fun i => extractStridedSlice_apply _ A _ i _ fun a => match a with
    | ⟨0, _⟩ => (Nat.zero_add _).symm
    | ⟨1, _⟩ => rfl)

theorem part_ld1 (A : Vec Ideal S512x512 .bf16) (inb) :
    View.ld A (Rect.unit (s := S512x512) ![0, 256] ![512, 256] inb) = part 1 A :=
  (View.ld_unit A _ _ inb).trans (funext fun i => extractStridedSlice_apply _ A _ i _ fun a => match a with
    | ⟨0, _⟩ => (Nat.zero_add _).symm
    | ⟨1, _⟩ => rfl)

theorem zeros_eq : k0_pay1 (F := Ideal) = all 0x00000000#32 := by
  unfold k0_pay1
  exact shapeCast_self _ _

theorem grown_eq (P : Vec Ideal S512x1024 .f32) (A : FVec Ideal S512x512 .bf16) (V W : Vec Ideal S1024x256 .bf16) :
    k0_pay2 P (part 0 A) V (part 1 A) W = addf (φ := .f32) P (both A V W) := by
  unfold k0_pay2
  exact (shapeCast_self _ _).trans (congrArg (addf (φ := .f32) P)
    (congrArg₂ (addf (φ := .f32)) (kernel_rowsBy (part 0 A) V _ rfl) (kernel_rowsBy (part 1 A) W _ rfl)))

theorem rows_sum (U : FVec Ideal S512x1024 .f32) :
    shapeCast S512x1 (multiReduction .add [1] S512 U 0x00000000#32 reduces_S512x1024_S512 (.inl rfl) rfl) shapeCasts_S512_S512x1 = rowSum U :=
  kernel_rowSum U _ _ _ _ _

theorem cols_sum (U : FVec Ideal S512x1024 .f32) :
    shapeCast S1x1024 (multiReduction .add [0] S1024 U 0x00000000#32 reduces_S512x1024_S1024 (.inl rfl) rfl) shapeCasts_S1024_S1x1024 = colSum U :=
  kernel_colSum U _ _ _ _ _

theorem back_eq (P D N : Vec Ideal S512x1024 .f32) (r : Vec Ideal S512x1 .f32) (g : Vec Ideal S1x1024 .f32) :
    k0_pay3 N r (k0_pay9 P D g) (k0_pay10 P D g) = normBack N r g (arrived P D) := by
  unfold k0_pay3 k0_pay10
  dsimp only
  rw [rows_sum, rows_sum]
  simp only [kernel_across, kernel_all]
  unfold k0_pay9 k0_pay6
  dsimp only
  rw [kernel_along]
  rfl

theorem scales_eq (P D N : Vec Ideal S512x1024 .f32) (o : Vec Ideal S1x1024 .f32) :
    k0_pay7 P D N o = addf (φ := .f32) o (colSum (mulf (arrived P D) N)) := by
  unfold k0_pay7
  dsimp only
  rw [cols_sum, shapeCast_self]
  rfl

theorem shifts_eq (P D : Vec Ideal S512x1024 .f32) (o : Vec Ideal S1x1024 .f32) :
    k0_pay8 P D o = addf (φ := .f32) o (colSum (arrived P D)) := by
  unfold k0_pay8
  dsimp only
  rw [cols_sum, shapeCast_self]
  rfl

end Cert.NormBwdIdeal.Value

end
-- ==== Proof.NormBwdClaim.lean ====
/- THE UP PROJECTIONS' DERIVATIVE AND THE FIRST NORM'S: for each of eight row blocks the run adds up eleven products of column blocks;
   at the last it goes back through the norm, leaves its rows and adds to the two sums, which is what the reference computes at once. -/
module

public import proofs.«01_k».proof.Proof.NormBwdTerms
public import proofs.«01_k».proof.Proof.Sums
public import proofs.«01_k».proof.Defs
public import Idealize.ShloMosaic.Lib.Pipeline.ValueKit

@[expose] public section

set_option maxRecDepth 65536

noncomputable section

namespace Cert.NormBwdIdeal.Value

open Cert.NormBwdIdeal Cert.NormBwdIdeal.Gen Idealize.ShloMosaic Idealize.ShloMosaic.TcCoe Idealize.SL.Sem
open Cert.Norms Cert.Products Cert.UpBack

set_option Elab.async false

/-! ## What each case of the body stores -/

section Stored

theorem origin : (![0, 0] : Fin 2 → ℕ) = fun _ => 0 := funext fun a => by fin_cases a <;> rfl

variable (c : Dev nD) (i : grid0.Coords)
  (a2 : Memref sig .tc .vmem S512x512 .bf16) (h2 : a2.IsWhole) (a3 : Memref sig .tc .vmem S1024x256 .bf16) (h3 : a3.IsWhole) (a4 : Memref sig .tc .vmem S1024x256 .bf16) (h4 : a4.IsWhole)
  (a5 : Memref sig .tc .vmem S512x1024 .f32) (h5 : a5.IsWhole) (a6 : Memref sig .tc .vmem S512x1024 .f32) (h6 : a6.IsWhole) (a7 : Memref sig .tc .vmem S512x1 .f32) (h7 : a7.IsWhole)
  (a8 : Memref sig .tc .vmem S1x1024 .f32) (h8 : a8.IsWhole) (a9 : Memref sig .tc .vmem S512x1024 .f32) (h9 : a9.IsWhole) (a10 : Memref sig .tc .vmem S1x1024 .f32) (h10 : a10.IsWhole)
  (a11 : Memref sig .tc .vmem S1x1024 .f32) (h11 : a11.IsWhole) (a12 : Memref sig .tc .vmem S512x1024 .f32) (h12 : a12.IsWhole)
  (A : Vec Ideal S512x512 .bf16) (V W : Vec Ideal S1024x256 .bf16) (D N : Vec Ideal S512x1024 .f32) (r : Vec Ideal S512x1 .f32)
  (g : Vec Ideal S1x1024 .f32)

/-- The first column block clears the sum and then adds to it. -/
theorem first_block (hc0 : cond0_0 i) (hc1 : ¬cond0_1 i) :
    sout0_A_0 c i a2 h2 a3 h3 a4 h4 a5 h5 a6 h6 a7 h7 a8 h8 a9 h9 a10 h10 a11 h11 a12 h12 hc0 hc1 A V W D N r g = addf (φ := .f32) (all 0x00000000#32) (both A V W) := by
  refine (View.read_writes_eq_canon _ _ _ (scover0_A_0 c i a2 h2 a3 h3 a4 h4 a5 h5 a6 h6 a7 h7 a8 h8 a9 h9 a10 h10 a11 h11 a12 h12 hc0 hc1 A V W D N r g)).trans ?_
  unfold kernelRun0_A
  dsimp only
  sl_unfold_words
  rw [View.canon_cons_unit_zero (S := S512x1024) origin, View.readCov_unit_zero (S := S512x1024) _ origin]
  simp only [View.readAt_eq_ld, h2.read_unread, h3.read_unread, h4.read_unread, h5.read_unread, h6.read_unread, h7.read_unread, h8.read_unread, h9.read_unread, h10.read_unread, h11.read_unread, h12.read_unread,
      View.ld_unit_zero (S := S512x1024) origin, View.ld_unit_zero (S := S1024x256) origin, View.ld_unit_zero (S := S512x1) origin,
      View.ld_unit_zero (S := S1x1024) origin]
  rw [part_ld0, part_ld1, zeros_eq, grown_eq]

/-- The others add to what the point before left. -/
theorem next_block (hc0 : ¬cond0_0 i) (hc1 : ¬cond0_1 i) (P : Vec Ideal S512x1024 .f32) :
    sout0_B_0 c i a2 h2 a3 h3 a4 h4 a5 h5 a6 h6 a7 h7 a8 h8 a9 h9 a10 h10 a11 h11 a12 h12 hc0 hc1 A V W D N r g P = addf (φ := .f32) P (both A V W) := by
  refine (View.read_writes_eq_canon _ _ _ (scover0_B_0 c i a2 h2 a3 h3 a4 h4 a5 h5 a6 h6 a7 h7 a8 h8 a9 h9 a10 h10 a11 h11 a12 h12 hc0 hc1 A V W D N r g P)).trans ?_
  unfold kernelRun0_B
  dsimp only
  sl_unfold_words
  rw [View.canon_unit_zero origin]
  simp only [View.readAt_eq_ld, h2.read_unread, h3.read_unread, h4.read_unread, h5.read_unread, h6.read_unread, h7.read_unread, h8.read_unread, h9.read_unread, h10.read_unread, h11.read_unread, h12.read_unread,
      View.ld_unit_zero (S := S512x1024) origin, View.ld_unit_zero (S := S1024x256) origin, View.ld_unit_zero (S := S512x1) origin,
      View.ld_unit_zero (S := S1x1024) origin]
  rw [part_ld0, part_ld1, grown_eq]

/-- The last column block of the first row block clears the two sums and adds to them. -/
theorem first_rows (hc0 : ¬cond0_0 i) (hc1 : cond0_1 i) (hc2 : cond0_2 i) (P : Vec Ideal S512x1024 .f32) :
    out0_C_7 c i a2 h2 a3 h3 a4 h4 a5 h5 a6 h6 a7 h7 a8 h8 a9 h9 a10 h10 a11 h11 a12 h12 hc0 hc1 hc2 A V W D N r g P
      = normBack N r g (arrived (addf P (both A V W)) D)
    ∧ out0_C_8 c i a2 h2 a3 h3 a4 h4 a5 h5 a6 h6 a7 h7 a8 h8 a9 h9 a10 h10 a11 h11 a12 h12 hc0 hc1 hc2 A V W D N r g P
      = addf (φ := .f32) (all 0x00000000#32) (colSum (mulf (arrived (addf P (both A V W)) D) N))
    ∧ out0_C_9 c i a2 h2 a3 h3 a4 h4 a5 h5 a6 h6 a7 h7 a8 h8 a9 h9 a10 h10 a11 h11 a12 h12 hc0 hc1 hc2 A V W D N r g P
      = addf (φ := .f32) (all 0x00000000#32) (colSum (arrived (addf P (both A V W)) D))
    ∧ sout0_C_0 c i a2 h2 a3 h3 a4 h4 a5 h5 a6 h6 a7 h7 a8 h8 a9 h9 a10 h10 a11 h11 a12 h12 hc0 hc1 hc2 A V W D N r g P = addf (φ := .f32) P (both A V W) := by
  refine ⟨(View.read_writes_eq_canon _ _ _ (cover0_C_7 c i a2 h2 a3 h3 a4 h4 a5 h5 a6 h6 a7 h7 a8 h8 a9 h9 a10 h10 a11 h11 a12 h12 hc0 hc1 hc2 A V W D N r g P)).trans ?_,
    (View.read_writes_eq_canon _ _ _ (cover0_C_8 c i a2 h2 a3 h3 a4 h4 a5 h5 a6 h6 a7 h7 a8 h8 a9 h9 a10 h10 a11 h11 a12 h12 hc0 hc1 hc2 A V W D N r g P)).trans ?_,
    (View.read_writes_eq_canon _ _ _ (cover0_C_9 c i a2 h2 a3 h3 a4 h4 a5 h5 a6 h6 a7 h7 a8 h8 a9 h9 a10 h10 a11 h11 a12 h12 hc0 hc1 hc2 A V W D N r g P)).trans ?_,
    (View.read_writes_eq_canon _ _ _ (scover0_C_0 c i a2 h2 a3 h3 a4 h4 a5 h5 a6 h6 a7 h7 a8 h8 a9 h9 a10 h10 a11 h11 a12 h12 hc0 hc1 hc2 A V W D N r g P)).trans ?_⟩
  all_goals
    unfold kernelRun0_C
    dsimp only
    sl_unfold_words
    first
    | rw [View.canon_unit_zero origin]
    | rw [View.canon_cons_unit_zero (S := S1x1024) origin, View.readCov_unit_zero (S := S1x1024) _ origin]
    try rw [View.readCov_unit_zero (S := S512x1024) _ origin]
    simp only [View.readAt_eq_ld, h2.read_unread, h3.read_unread, h4.read_unread, h5.read_unread, h6.read_unread, h7.read_unread, h8.read_unread, h9.read_unread, h10.read_unread, h11.read_unread, h12.read_unread,
      View.ld_unit_zero (S := S512x1024) origin, View.ld_unit_zero (S := S1024x256) origin, View.ld_unit_zero (S := S512x1) origin,
      View.ld_unit_zero (S := S1x1024) origin]
  · rw [part_ld0, part_ld1, grown_eq]
    exact back_eq _ D N r g
  · rw [part_ld0, part_ld1, grown_eq]
    exact scales_eq _ D N _
  · rw [part_ld0, part_ld1, grown_eq]
    exact shifts_eq _ D _
  · rw [part_ld0, part_ld1, grown_eq]

/-- The last column block of every other row block adds to what the point before left. -/
theorem next_rows (hc0 : ¬cond0_0 i) (hc1 : cond0_1 i) (hc2 : ¬cond0_2 i) (o8 o9 : Vec Ideal S1x1024 .f32) (P : Vec Ideal S512x1024 .f32) :
    out0_D_7 c i a2 h2 a3 h3 a4 h4 a5 h5 a6 h6 a7 h7 a8 h8 a9 h9 a10 h10 a11 h11 a12 h12 hc0 hc1 hc2 A V W D N r g o8 o9 P
      = normBack N r g (arrived (addf P (both A V W)) D)
    ∧ out0_D_8 c i a2 h2 a3 h3 a4 h4 a5 h5 a6 h6 a7 h7 a8 h8 a9 h9 a10 h10 a11 h11 a12 h12 hc0 hc1 hc2 A V W D N r g o8 o9 P
      = addf (φ := .f32) o8 (colSum (mulf (arrived (addf P (both A V W)) D) N))
    ∧ out0_D_9 c i a2 h2 a3 h3 a4 h4 a5 h5 a6 h6 a7 h7 a8 h8 a9 h9 a10 h10 a11 h11 a12 h12 hc0 hc1 hc2 A V W D N r g o8 o9 P
      = addf (φ := .f32) o9 (colSum (arrived (addf P (both A V W)) D))
    ∧ sout0_D_0 c i a2 h2 a3 h3 a4 h4 a5 h5 a6 h6 a7 h7 a8 h8 a9 h9 a10 h10 a11 h11 a12 h12 hc0 hc1 hc2 A V W D N r g o8 o9 P = addf (φ := .f32) P (both A V W) := by
  refine ⟨(View.read_writes_eq_canon _ _ _ (cover0_D_7 c i a2 h2 a3 h3 a4 h4 a5 h5 a6 h6 a7 h7 a8 h8 a9 h9 a10 h10 a11 h11 a12 h12 hc0 hc1 hc2 A V W D N r g o8 o9 P)).trans ?_,
    (View.read_writes_eq_canon _ _ _ (cover0_D_8 c i a2 h2 a3 h3 a4 h4 a5 h5 a6 h6 a7 h7 a8 h8 a9 h9 a10 h10 a11 h11 a12 h12 hc0 hc1 hc2 A V W D N r g o8 o9 P)).trans ?_,
    (View.read_writes_eq_canon _ _ _ (cover0_D_9 c i a2 h2 a3 h3 a4 h4 a5 h5 a6 h6 a7 h7 a8 h8 a9 h9 a10 h10 a11 h11 a12 h12 hc0 hc1 hc2 A V W D N r g o8 o9 P)).trans ?_,
    (View.read_writes_eq_canon _ _ _ (scover0_D_0 c i a2 h2 a3 h3 a4 h4 a5 h5 a6 h6 a7 h7 a8 h8 a9 h9 a10 h10 a11 h11 a12 h12 hc0 hc1 hc2 A V W D N r g o8 o9 P)).trans ?_⟩
  all_goals
    unfold kernelRun0_D
    dsimp only
    sl_unfold_words
    rw [View.canon_unit_zero origin]
    try rw [View.readCov_unit_zero (S := S512x1024) _ origin]
    simp only [View.readAt_eq_ld, h2.read_unread, h3.read_unread, h4.read_unread, h5.read_unread, h6.read_unread, h7.read_unread, h8.read_unread, h9.read_unread, h10.read_unread, h11.read_unread, h12.read_unread,
      View.ld_unit_zero (S := S512x1024) origin, View.ld_unit_zero (S := S1024x256) origin, View.ld_unit_zero (S := S512x1) origin,
      View.ld_unit_zero (S := S1x1024) origin]
  · rw [part_ld0, part_ld1, grown_eq]
    exact back_eq _ D N r g
  · rw [part_ld0, part_ld1, grown_eq]
    exact scales_eq _ D N _
  · rw [part_ld0, part_ld1, grown_eq]
    exact shifts_eq _ D _
  · rw [part_ld0, part_ld1, grown_eq]

end Stored

/-! ## The blocks a point sees -/

variable (m : (ℓ : Loc nD τ sig) → Buf (Elt Ideal) ℓ) (c : Dev nD)

/-- The row block of point `t`: eleven points each. -/
def blockOf (t : Fin cfg0.N) : Fin 8 := ⟨t.val / 11, by have := lt_of_lt_of_eq t.isLt N_0; omega⟩

/-- Its rows. -/
abbrev rowAt (t : Fin cfg0.N) : Fin 512 → Fin 4096 := stretch rfl (blockOf t)

/-- The arguments. -/
abbrev aA : FVec Ideal ⟨2, ![4096, 5632]⟩ .bf16 := m ((c : Thread nD τ).loc main_arg0)
abbrev aW : FVec Ideal ⟨2, ![1024, 5632]⟩ .bf16 := m ((c : Thread nD τ).loc main_arg1)
abbrev aD : FVec Ideal ⟨2, ![4096, 1024]⟩ .f32 := m ((c : Thread nD τ).loc main_arg2)
abbrev aN : FVec Ideal ⟨2, ![4096, 1024]⟩ .f32 := m ((c : Thread nD τ).loc main_arg3)
abbrev ar : FVec Ideal ⟨2, ![4096, 1]⟩ .f32 := m ((c : Thread nD τ).loc main_arg4)
abbrev ag : FVec Ideal ⟨2, ![1, 1024]⟩ .f32 := m ((c : Thread nD τ).loc main_arg5)

theorem blocks (t : Fin cfg0.N) :
    (iblk m c 3 t : FVec Ideal ⟨2, ![512, 1024]⟩ .f32) = rows (rowAt t) (aD m c)
    ∧ (iblk m c 4 t : FVec Ideal ⟨2, ![512, 1024]⟩ .f32) = rows (rowAt t) (aN m c)
    ∧ (iblk m c 5 t : FVec Ideal ⟨2, ![512, 1]⟩ .f32) = rows (rowAt t) (ar m c)
    ∧ iblk m c 6 t = ag m c := by
  have at3 : ∀ t : Fin cfg0.N, win0_3.index t = ![t.val / 11, 0] := (by decide +kernel : ∀ t : Fin grid0.N, _)
  have at4 : ∀ t : Fin cfg0.N, win0_4.index t = ![t.val / 11, 0] := (by decide +kernel : ∀ t : Fin grid0.N, _)
  have at5 : ∀ t : Fin cfg0.N, win0_5.index t = ![t.val / 11, 0] := (by decide +kernel : ∀ t : Fin grid0.N, _)
  have at6 : ∀ t : Fin cfg0.N, win0_6.index t = ![0, 0] := (by decide +kernel : ∀ t : Fin grid0.N, _)
  exact ⟨funext fun y => congrArg (aD m c) (funext fun a => Fin.ext (tile (hN := rfl) (t := blockOf t) (C := 1024) (at3 t) y a)),
    funext fun y => congrArg (aN m c) (funext fun a => Fin.ext (tile (hN := rfl) (t := blockOf t) (C := 1024) (at4 t) y a)),
    funext fun y => congrArg (ar m c) (funext fun a => Fin.ext (tile (hN := rfl) (t := blockOf t) (C := 1) (at5 t) y a)),
    funext fun y => congrArg (ag m c) (funext fun a => Fin.ext (whole (R := 1) (C := 1024) (at6 t) y a))⟩

/-! ## The eleven products of a row block -/

/-- A point's product of half `s`: 256 of the 2816 terms. -/
theorem piece (t : Fin cfg0.N) (s : Fin 2) (X : FVec Ideal S1024x256 .bf16)
    (e : ∀ j : Fin 256, 256 * (t.val % 11) + j.val < 2816)
    (hX : ∀ (a : Fin 1024) (j : Fin 256), X (ValueIdx.ix2 a j) = sideIn s (aW m c) (ValueIdx.ix2 a ⟨256 * (t.val % 11) + j.val, e j⟩)) (y : S512x1024.Idx) :
    rowsBy (part s (iblk m c 0 t)) X y = ∑ j : Fin 256, (halfIn s (aA m c) (ValueIdx.ix2 (rowAt t (y 0)) ⟨256 * (t.val % 11) + j.val, e j⟩)
      * sideIn s (aW m c) (ValueIdx.ix2 (y 1) ⟨256 * (t.val % 11) + j.val, e j⟩) : EReal) := by
  have at0 : ∀ t : Fin cfg0.N, win0_0.index t = ![t.val / 11, t.val % 11] := (by decide +kernel : ∀ t : Fin grid0.N, _)
  refine Finset.sum_congr rfl fun j _ => congrArg₂ (· * ·) (congrArg (aA m c) (funext fun a => Fin.ext ?_)) (hX (y 1) j)
  have hj := j.isLt
  exact at_block (R := 4096) (C := 5632) (B := 512) (D := 512) (at0 t) (ValueIdx.ix2 (y 0) ⟨256 * s.val + j.val, by have := s.isLt; omega⟩)
    (rowAt t (y 0)) (inHalf s ⟨256 * (t.val % 11) + j.val, e j⟩)
    (by show 512 * (t.val / 11) + (y 0).val = t.val / 11 * 512 + (y 0).val; omega)
    (by
      show 512 * ((256 * (t.val % 11) + j.val) / 256) + 256 * s.val + (256 * (t.val % 11) + j.val) % 256 = t.val % 11 * 512 + (256 * s.val + j.val)
      omega) a

/-- What point `k` adds. -/
def term (k : ℕ) (y : S512x1024.Idx) : EReal :=
  if h : k < cfg0.N then both (iblk m c 0 ⟨k, h⟩) (iblk m c 1 ⟨k, h⟩) (iblk m c 2 ⟨k, h⟩) y else 0

theorem term_at (t : Fin cfg0.N) (y : S512x1024.Idx) : both (iblk m c 0 t) (iblk m c 1 t) (iblk m c 2 t) y = term m c t.val y := by
  unfold term
  rw [dif_pos t.isLt]

/-- A row block's eleven make up its rows of the two products. -/
theorem terms (t : Fin cfg0.N) (y : S512x1024.Idx) :
    ∑ k ∈ Finset.range 11, term m c (11 * (t.val / 11) + k) y = rows (rowAt t) (upBack (aA m c) (aW m c)) y := by
  have at1 : ∀ t : Fin cfg0.N, win0_1.index t = ![0, t.val % 11] := (by decide +kernel : ∀ t : Fin grid0.N, _)
  have at2 : ∀ t : Fin cfg0.N, win0_2.index t = ![0, t.val % 11 + 11] := (by decide +kernel : ∀ t : Fin grid0.N, _)
  have hN : cfg0.N = 88 := N_0
  have ht := t.isLt
  have hlt : ∀ k, k < 11 → 11 * (t.val / 11) + k < cfg0.N := fun k hk => by omega
  have e : ∀ k, k < 11 → ∀ j : Fin 256, 256 * k + j.val < 2816 := fun k hk j => by have := j.isLt; omega
  let f : Fin 2 → Fin 2816 → EReal := fun s l => halfIn s (aA m c) (ValueIdx.ix2 (rowAt t (y 0)) l) * sideIn s (aW m c) (ValueIdx.ix2 (y 1) l)
  let p : Fin 2 → ℕ → EReal := fun s k => if h : k < 11 then ∑ j : Fin 256, f s ⟨256 * k + j.val, e k h j⟩ else 0
  have hpk : ∀ s k (h : k < 11), p s k = ∑ j : Fin 256, f s ⟨256 * k + j.val, e k h j⟩ := fun s k h => dif_pos h
  have hp : ∀ s, ∑ k ∈ Finset.range 11, p s k = ∑ l, f s l := fun s =>
    stretches (B := 256) rfl (f s) (p s) fun k hk => ⟨e k hk, hpk s k hk⟩
  refine Eq.trans (Finset.sum_congr rfl fun k hk => ?_) (Finset.sum_add_distrib.trans (congrArg₂ (· + ·) (hp 0) (hp 1)))
  have hk' : k < 11 := Finset.mem_range.1 hk
  generalize ht' : (⟨11 * (t.val / 11) + k, hlt k hk'⟩ : Fin cfg0.N) = u
  have hu : u.val = 11 * (t.val / 11) + k := (congrArg Fin.val ht').symm
  have hm : u.val % 11 = k := by omega
  have hd : blockOf u = blockOf t := Fin.ext (show u.val / 11 = t.val / 11 by omega)
  rw [← hu, ← term_at m c u y]
  show rowsBy (part 0 (iblk m c 0 u)) (iblk m c 1 u) y + rowsBy (part 1 (iblk m c 0 u)) (iblk m c 2 u) y = p 0 k + p 1 k
  have e' : ∀ j : Fin 256, 256 * (u.val % 11) + j.val < 2816 := fun j => by have := j.isLt; omega
  refine congrArg₂ (· + ·) ?_ ?_
  · refine (piece m c u 0 (iblk m c 1 u) e' (fun a j => congrArg (aW m c) (funext fun b => Fin.ext ?_)) y).trans ?_
    · exact at_block (R := 1024) (C := 5632) (B := 1024) (D := 256) (at1 u) (ValueIdx.ix2 a j) a _ (by show a.val = 0 * 1024 + a.val; omega)
        (by show 2816 * 0 + (256 * (u.val % 11) + j.val) = u.val % 11 * 256 + j.val; omega) b
    · unfold rowAt
      rw [hd]
      subst hm
      exact (hpk 0 _ hk').symm
  · refine (piece m c u 1 (iblk m c 2 u) e' (fun a j => congrArg (aW m c) (funext fun b => Fin.ext ?_)) y).trans ?_
    · exact at_block (R := 1024) (C := 5632) (B := 1024) (D := 256) (at2 u) (ValueIdx.ix2 a j) a _ (by show a.val = 0 * 1024 + a.val; omega)
        (by show 2816 * 1 + (256 * (u.val % 11) + j.val) = (u.val % 11 + 11) * 256 + j.val; omega) b
    · unfold rowAt
      rw [hd]
      subst hm
      exact (hpk 1 _ hk').symm

/-- The point before. -/
abbrev before (t : Fin cfg0.N) : t.val - 1 < cfg0.N := Nat.lt_of_le_of_lt (Nat.sub_le _ _) t.isLt

/-- What a first column block leaves, the two sums as they were. -/
theorem at_first (t : Fin cfg0.N) (h0 : t.val % 11 = 0) (h1 : ¬t.val % 11 = 10) : (outsAt0 m c t.val t.isLt).2
    = ((outsAt0 m c (t.val - 1) (before t)).2.1, (outsAt0 m c (t.val - 1) (before t)).2.2.1, addf (φ := .f32) (all 0x00000000#32) (both (iblk m c 0 t) (iblk m c 1 t) (iblk m c 2 t))) := by
  rw [outsAt0_A m c t h0 h1, first_block]
  rfl

/-- What a column block between leaves. -/
theorem at_next (t : Fin cfg0.N) (h0 : ¬t.val % 11 = 0) (h1 : ¬t.val % 11 = 10) : (outsAt0 m c t.val t.isLt).2
    = ((outsAt0 m c (t.val - 1) (before t)).2.1, (outsAt0 m c (t.val - 1) (before t)).2.2.1, addf (φ := .f32) (outsAt0 m c (t.val - 1) (before t)).2.2.2 (both (iblk m c 0 t) (iblk m c 1 t) (iblk m c 2 t))) := by
  rw [outsAt0_B m c t h0 h1, next_block]
  rfl

/-- What the last column block leaves, of the first row block and of every other. -/
theorem at_first_rows (t : Fin cfg0.N) (h0 : ¬t.val % 11 = 0) (h1 : t.val % 11 = 10) (h2 : t.val < 11) : outsAt0 m c t.val t.isLt
    = (normBack (iblk m c 4 t) (iblk m c 5 t) (iblk m c 6 t) (arrived (addf (φ := .f32) (outsAt0 m c (t.val - 1) (before t)).2.2.2 (both (iblk m c 0 t) (iblk m c 1 t) (iblk m c 2 t))) (iblk m c 3 t)),
      addf (φ := .f32) (all 0x00000000#32) (colSum (mulf (arrived (addf (φ := .f32) (outsAt0 m c (t.val - 1) (before t)).2.2.2 (both (iblk m c 0 t) (iblk m c 1 t) (iblk m c 2 t))) (iblk m c 3 t)) (iblk m c 4 t))),
      addf (φ := .f32) (all 0x00000000#32) (colSum (arrived (addf (φ := .f32) (outsAt0 m c (t.val - 1) (before t)).2.2.2 (both (iblk m c 0 t) (iblk m c 1 t) (iblk m c 2 t))) (iblk m c 3 t))), (addf (φ := .f32) (outsAt0 m c (t.val - 1) (before t)).2.2.2 (both (iblk m c 0 t) (iblk m c 1 t) (iblk m c 2 t)))) := by
  rw [outsAt0_C m c t h0 h1 h2, (first_rows ..).1, (first_rows ..).2.1, (first_rows ..).2.2.1, (first_rows ..).2.2.2]

theorem at_next_rows (t : Fin cfg0.N) (h0 : ¬t.val % 11 = 0) (h1 : t.val % 11 = 10) (h2 : ¬t.val < 11) : outsAt0 m c t.val t.isLt
    = (normBack (iblk m c 4 t) (iblk m c 5 t) (iblk m c 6 t) (arrived (addf (φ := .f32) (outsAt0 m c (t.val - 1) (before t)).2.2.2 (both (iblk m c 0 t) (iblk m c 1 t) (iblk m c 2 t))) (iblk m c 3 t)),
      addf (φ := .f32) (outsAt0 m c (t.val - 1) (before t)).2.1 (colSum (mulf (arrived (addf (φ := .f32) (outsAt0 m c (t.val - 1) (before t)).2.2.2 (both (iblk m c 0 t) (iblk m c 1 t) (iblk m c 2 t))) (iblk m c 3 t)) (iblk m c 4 t))),
      addf (φ := .f32) (outsAt0 m c (t.val - 1) (before t)).2.2.1 (colSum (arrived (addf (φ := .f32) (outsAt0 m c (t.val - 1) (before t)).2.2.2 (both (iblk m c 0 t) (iblk m c 1 t) (iblk m c 2 t))) (iblk m c 3 t))), (addf (φ := .f32) (outsAt0 m c (t.val - 1) (before t)).2.2.2 (both (iblk m c 0 t) (iblk m c 1 t) (iblk m c 2 t)))) := by
  rw [outsAt0_D m c t h0 h1 h2, (next_rows ..).1, (next_rows ..).2.1, (next_rows ..).2.2.1, (next_rows ..).2.2.2]

/-- What a point leaves in the sum of the products. -/
theorem cleared (t : Fin cfg0.N) (h : t.val % 11 = 0) :
    (outsAt0 m c t.val t.isLt).2.2.2 = addf (φ := .f32) (all 0x00000000#32) (both (iblk m c 0 t) (iblk m c 1 t) (iblk m c 2 t)) := by
  rw [at_first m c t h (by omega)]

theorem grown (t : Fin cfg0.N) (h : ¬t.val % 11 = 0) :
    (outsAt0 m c t.val t.isLt).2.2.2 = addf (φ := .f32) (outsAt0 m c (t.val - 1) (before t)).2.2.2 (both (iblk m c 0 t) (iblk m c 1 t) (iblk m c 2 t)) := by
  by_cases h1 : t.val % 11 = 10
  · by_cases h2 : t.val < 11
    · rw [at_first_rows m c t h h1 h2]
    · rw [at_next_rows m c t h h1 h2]
  · rw [at_next m c t h h1]

/-- After the last of them it holds the row block's rows. -/
theorem products (t : Fin cfg0.N) (h : t.val % 11 = 10) : (outsAt0 m c t.val t.isLt).2.2.2 = rows (rowAt t) (upBack (aA m c) (aW m c)) := by
  funext y
  refine (Pipeline.eq_sum_of_reset_step_apply_of_mod (fun n h => (outsAt0 m c n h).2.2.2) 11 (fun _ => (0 : EReal)) (term m c)
    (fun t h y => ?_) (fun t h y => ?_) t h y).trans ?_
  · rw [cleared m c t h, ← term_at]
    exact congrArg (· + _) Ideal.ofBits_zero_f32
  · rw [grown m c t h, ← term_at]
    rfl
  · rw [zero_add, terms]

/-! ## What a point leaves, by the rows it sees -/

/-- The derivative in the layer's output. -/
abbrev cameAll : FVec Ideal ⟨2, ![4096, 1024]⟩ .f32 := arrived (upBack (aA m c) (aW m c)) (aD m c)

/-- What the gradient of the norm's scales adds up. -/
abbrev scalesAll : FVec Ideal ⟨2, ![4096, 1024]⟩ .f32 := mulf (cameAll m c) (aN m c)

/-- The derivative in what is normed. -/
abbrev backAll : FVec Ideal ⟨2, ![4096, 1024]⟩ .f32 := normBack (aN m c) (ar m c) (ag m c) (cameAll m c)

/-- The three of one row block are rows of the three of the whole arrays. -/
theorem of_rows (t : Fin cfg0.N) (P : Vec Ideal S512x1024 .f32) (hP : P = rows (rowAt t) (upBack (aA m c) (aW m c))) :
    normBack (iblk m c 4 t) (iblk m c 5 t) (iblk m c 6 t) (arrived P (iblk m c 3 t)) = rows (rowAt t) (backAll m c)
    ∧ mulf (arrived P (iblk m c 3 t)) (iblk m c 4 t) = rows (rowAt t) (scalesAll m c)
    ∧ arrived P (iblk m c 3 t) = rows (rowAt t) (cameAll m c) := by
  obtain ⟨e3, e4, e5, e6⟩ := blocks m c t
  rw [e3, e4, e5, e6, hP]
  exact ⟨rfl, rfl, rfl⟩

/-- What the last column block of the first row block leaves. -/
theorem first_at (t : Fin cfg0.N) (h1 : t.val % 11 = 10) (h2 : t.val < 11) :
    (outsAt0 m c t.val t.isLt).1 = rows (rowAt t) (backAll m c)
    ∧ (outsAt0 m c t.val t.isLt).2.1 = addf (all 0x00000000#32) (colSum (rows (rowAt t) (scalesAll m c)))
    ∧ (outsAt0 m c t.val t.isLt).2.2.1 = addf (all 0x00000000#32) (colSum (rows (rowAt t) (cameAll m c))) := by
  have h0 : ¬t.val % 11 = 0 := by omega
  obtain ⟨b0, b1, b2⟩ := of_rows m c t _ ((grown m c t h0).symm.trans (products m c t h1))
  rw [at_first_rows m c t h0 h1 h2, b0, b1, b2]
  exact ⟨rfl, rfl, rfl⟩

/-- And of every other row block. -/
theorem next_at (t : Fin cfg0.N) (h1 : t.val % 11 = 10) (h2 : ¬t.val < 11) :
    (outsAt0 m c t.val t.isLt).1 = rows (rowAt t) (backAll m c)
    ∧ (outsAt0 m c t.val t.isLt).2.1 = addf (outsAt0 m c (t.val - 1) (before t)).2.1 (colSum (rows (rowAt t) (scalesAll m c)))
    ∧ (outsAt0 m c t.val t.isLt).2.2.1 = addf (outsAt0 m c (t.val - 1) (before t)).2.2.1 (colSum (rows (rowAt t) (cameAll m c))) := by
  have h0 : ¬t.val % 11 = 0 := by omega
  obtain ⟨b0, b1, b2⟩ := of_rows m c t _ ((grown m c t h0).symm.trans (products m c t h1))
  rw [at_next_rows m c t h0 h1 h2, b0, b1, b2]
  exact ⟨rfl, rfl, rfl⟩

/-- Between them the two sums stay as they are. -/
theorem kept (t : Fin cfg0.N) (h1 : ¬t.val % 11 = 10) :
    (outsAt0 m c t.val t.isLt).2.1 = (outsAt0 m c (t.val - 1) (before t)).2.1
    ∧ (outsAt0 m c t.val t.isLt).2.2.1 = (outsAt0 m c (t.val - 1) (before t)).2.2.1 := by
  by_cases h0 : t.val % 11 = 0
  · rw [at_first m c t h0 h1]
    exact ⟨rfl, rfl⟩
  · rw [at_next m c t h0 h1]
    exact ⟨rfl, rfl⟩

/-! ## The two sums -/

/-- One row block's share of the sum of a whole array's rows. -/
def share (U : FVec Ideal ⟨2, ![4096, 1024]⟩ .f32) (k : ℕ) (y : (⟨2, ![1, 1024]⟩ : Shape).Idx) : EReal :=
  if h : k < 8 then colSum (rows (stretch rfl (⟨k, h⟩ : Fin 8)) U) y else 0

theorem share_at (U : FVec Ideal ⟨2, ![4096, 1024]⟩ .f32) (t : Fin cfg0.N) (y : (⟨2, ![1, 1024]⟩ : Shape).Idx) :
    colSum (rows (rowAt t) U) y = share U (t.val / 11) y := by
  have h : t.val / 11 < 8 := (blockOf t).isLt
  unfold share
  rw [dif_pos h]
  rfl

theorem shares (U : FVec Ideal ⟨2, ![4096, 1024]⟩ .f32) (y : (⟨2, ![1, 1024]⟩ : Shape).Idx) :
    ∑ k ∈ Finset.range 8, share U k y = colSum U y := by
  have e : ∀ k, k < 8 → ∀ r : Fin 512, 512 * k + r.val < 4096 := fun k hk r => by have := r.isLt; omega
  have h : ∀ k (hk : k < 8), share U k y = ∑ r : Fin 512, (U (ValueIdx.ix2 ⟨512 * k + r.val, e k hk r⟩ (y 1)) : EReal) := fun k hk => by
    unfold share
    rw [dif_pos hk]
    rfl
  exact stretches (J := 8) (B := 512) (K := 4096) rfl (fun r => (U (ValueIdx.ix2 r (y 1)) : EReal)) _ fun k hk => ⟨e k hk, h k hk⟩

/-- What is cleared at the end of the first row block, added to at the end of each and kept between is the whole sum after the last. -/
theorem adds (U : FVec Ideal ⟨2, ![4096, 1024]⟩ .f32) (o : ∀ n, n < cfg0.N → FVec Ideal ⟨2, ![1, 1024]⟩ .f32)
    (h0 : ∀ t : Fin cfg0.N, t.val % 11 = 10 → t.val < 11 → o t.val t.isLt = addf (all 0x00000000#32) (colSum (rows (rowAt t) U)))
    (h1 : ∀ t : Fin cfg0.N, t.val % 11 = 10 → ¬t.val < 11 → o t.val t.isLt = addf (o (t.val - 1) (before t)) (colSum (rows (rowAt t) U)))
    (hk : ∀ t : Fin cfg0.N, ¬t.val % 11 = 10 → o t.val t.isLt = o (t.val - 1) (before t))
    (t : Fin cfg0.N) (ht : t.val % 88 = 87) : o t.val t.isLt = colSum U := by
  have hN : cfg0.N = 88 := N_0
  have hsum : ∀ n (h : n < cfg0.N), 10 ≤ n → ∀ y, o n h y = ∑ k ∈ Finset.range ((n + 1) / 11), share U k y := fun n => by
    induction n with
    | zero => exact fun _ h => absurd h (by omega)
    | succ n ih =>
      intro h hn y
      by_cases hl : (n + 1) % 11 = 10
      · by_cases hf : n + 1 < 11
        · rw [h0 ⟨n + 1, h⟩ hl hf, show (n + 1 + 1) / 11 = 0 + 1 by omega, Finset.sum_range_succ, Finset.sum_range_zero]
          refine congrArg₂ (· + ·) Ideal.ofBits_zero_f32 ((share_at U ⟨n + 1, h⟩ y).trans ?_)
          show share U ((n + 1) / 11) y = _
          rw [show (n + 1) / 11 = 0 by omega]
        · rw [h1 ⟨n + 1, h⟩ hl hf, show (n + 1 + 1) / 11 = (n + 1) / 11 + 1 by omega, Finset.sum_range_succ]
          exact congrArg₂ (· + ·) (ih (by omega) (by omega) y) (share_at U ⟨n + 1, h⟩ y)
      · rw [hk ⟨n + 1, h⟩ hl, show (n + 1 + 1) / 11 = (n + 1) / 11 by omega]
        exact ih (by omega) (by omega) y
  have h7 : t.val = 87 := by have := t.isLt; omega
  funext y
  rw [hsum t.val t.isLt (by omega) y, h7]
  exact shares U y

/-- After the last point the two sums are whole. -/
theorem sums (t : Fin cfg0.N) (ht : t.val % 88 = 87) :
    (outsAt0 m c t.val t.isLt).2.1 = colSum (scalesAll m c) ∧ (outsAt0 m c t.val t.isLt).2.2.1 = colSum (cameAll m c) :=
  ⟨adds _ (fun n h => (outsAt0 m c n h).2.1) (fun t h h' => (first_at m c t h h').2.1) (fun t h h' => (next_at m c t h h').2.1)
      (fun t h => (kept m c t h).1) t ht,
    adds _ (fun n h => (outsAt0 m c n h).2.2.1) (fun t h h' => (first_at m c t h h').2.2) (fun t h h' => (next_at m c t h h').2.2)
      (fun t h => (kept m c t h).2) t ht⟩

/-- The end of a row block leaves its rows of the derivative. -/
theorem rows_at (t : Fin cfg0.N) (h : t.val % 11 = 10) : (outsAt0 m c t.val t.isLt).1 = rows (rowAt t) (backAll m c) := by
  by_cases h2 : t.val < 11
  · exact (first_at m c t h h2).1
  · exact (next_at m c t h h2).1

/-! ## The arrays after the run -/

theorem final_back : (dats m 0 c).arrAt 7 cfg0.N = backAll m c := by
  have at7 : ∀ t : Fin cfg0.N, win0_7.index t = ![t.val / 11, 0] := (by decide +kernel : ∀ t : Fin grid0.N, _)
  refine (dats m 0 c).arrAt_eq_of_cover 7 _ (fun t ht => ?_) (fun i => ?_)
  · rw [flushed7, rows_at m c t ((flush0_7 t).1 ht)]
    funext y
    exact congrArg (backAll m c) (funext fun a => Fin.ext (tile (hN := rfl) (t := blockOf t) (C := 1024) (at7 t) y a).symm)
  · have hi : (i 0).val < 4096 := (i 0).isLt
    have hlt : 11 * ((i 0).val / 512) + 10 < cfg0.N := by rw [show cfg0.N = 88 from N_0]; omega
    refine ⟨⟨_, hlt⟩, (flush0_7 _).2 (by show (11 * ((i 0).val / 512) + 10) % 11 = 10; omega), ?_⟩
    have e := at7 ⟨_, hlt⟩
    rw [show (11 * ((i 0).val / 512) + 10) / 11 = (i 0).val / 512 by omega] at e
    exact Eq.mpr (congrArg (i ∈ ·) (View.set_slice_whole main_v0_0 (win0_7.rect _))) (Rect.mem_set_unit.2 (Sums.in_rows i (by decide) e))

theorem final_scales : (dats m 0 c).arrAt 8 cfg0.N = colSum (scalesAll m c) := by
  have at8 : ∀ t : Fin cfg0.N, win0_8.index t = ![0, 0] := (by decide +kernel : ∀ t : Fin grid0.N, _)
  refine (dats m 0 c).arrAt_eq_of_cover 8 _ (fun t ht => ?_) (fun i => ⟨⟨87, by show 87 < 88; omega⟩, (flush0_8 _).2 rfl, ?_⟩)
  · rw [flushed8, (sums m c t ((flush0_8 t).1 ht)).1]
    funext y
    exact congrArg (colSum (scalesAll m c)) (funext fun a => Fin.ext (whole (R := 1) (C := 1024) (at8 t) y a).symm)
  · exact Eq.mpr (congrArg (i ∈ ·) (View.set_slice_whole main_v0_1 (win0_8.rect _))) (Rect.mem_set_unit.2 (in_whole i (at8 _)))

theorem final_shifts : (dats m 0 c).arrAt 9 cfg0.N = colSum (cameAll m c) := by
  have at9 : ∀ t : Fin cfg0.N, win0_9.index t = ![0, 0] := (by decide +kernel : ∀ t : Fin grid0.N, _)
  refine (dats m 0 c).arrAt_eq_of_cover 9 _ (fun t ht => ?_) (fun i => ⟨⟨87, by show 87 < 88; omega⟩, (flush0_9 _).2 rfl, ?_⟩)
  · rw [flushed9, (sums m c t ((flush0_9 t).1 ht)).2]
    funext y
    exact congrArg (colSum (cameAll m c)) (funext fun a => Fin.ext (whole (R := 1) (C := 1024) (at9 t) y a).symm)
  · exact Eq.mpr (congrArg (i ∈ ·) (View.set_slice_whole main_v0_2 (win0_9.rect _))) (Rect.mem_set_unit.2 (in_whole i (at9 _)))

end Cert.NormBwdIdeal.Value

namespace Cert.UpBack

open Idealize.ShloMosaic Idealize.ShloMosaic.TcCoe Idealize.SL.Sem

theorem norm_bwd : Cert.algebraic_NormBwdIdeal_NormBwdReferenceIdeal (hNormBwdIdeal := Cert.NormBwdIdeal.Gen.facts) (hNormBwdReferenceIdeal := Cert.NormBwdReferenceIdeal.Gen.facts) :=
  fun m g m' g' _ hm => ⟨_, _, _, (θ_run _ _ _).mono
    (fun _ h c => ⟨(h c).1.trans (Cert.NormBwdIdeal.Value.final_back m c),
      (h c).2.1.trans (Cert.NormBwdIdeal.Value.final_scales m c),
      (h c).2.2.1.trans (Cert.NormBwdIdeal.Value.final_shifts m c), (h c).2.2.2⟩)
    (Cert.NormBwdIdeal.Value.run_blocks m g),
    (θ_run _ _ _).mono (fun _ h c => by
      obtain ⟨h0, h1, h2, h3, h4, h5⟩ := hm c
      have e0 : Cert.NormBwdReferenceIdeal.Value.A m' c = _ := h0
      have e1 : Cert.NormBwdReferenceIdeal.Value.W m' c = _ := h1
      have e2 : Cert.NormBwdReferenceIdeal.Value.D m' c = _ := h2
      have e3 : Cert.NormBwdReferenceIdeal.Value.N m' c = _ := h3
      have e4 : Cert.NormBwdReferenceIdeal.Value.r m' c = _ := h4
      have e5 : Cert.NormBwdReferenceIdeal.Value.g m' c = _ := h5
      refine ⟨(h c).1.trans ?_, (h c).2.1.trans ?_, (h c).2.2.1.trans ?_, (h c).2.2.2⟩
      · rw [e0, e1, e2, e3, e4, e5]
      · rw [e0, e1, e2, e3]
      · rw [e0, e1, e2])
      (Cert.NormBwdReferenceIdeal.Value.run_normBwd m' g')⟩

end Cert.UpBack

end
-- ==== Proof.lean ====
/- The proof of the claims: the gradients' exchange and the weights' gather run from any memory and leave every argument
   and semaphore as it was, and their results are their references', over any float values; so do the sums, the updates,
   the products, the projections, the first norm and its derivative, the loss and the mix's derivative, whose results are their
   references' over the extended reals. -/
module

public import proofs.«01_k».proof.Defs
public import proofs.«01_k».proof.Proof.Gen.Kernel
public import proofs.«01_k».proof.Proof.GradClaim
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Gen.Weights
public import proofs.«01_k».proof.Proof.WeightClaim
public import proofs.«01_k».proof.Proof.Gen.WeightsReference
public import proofs.«01_k».proof.Proof.Gen.WeightsReferenceIdeal
public import proofs.«01_k».proof.Proof.Gen.WeightsReferenceIdeal.Run
public import proofs.«01_k».proof.Proof.SumClaim
public import proofs.«01_k».proof.Proof.AdamwClaim
public import proofs.«01_k».proof.Proof.ProductClaim
public import proofs.«01_k».proof.Proof.LossClaim
public import proofs.«01_k».proof.Proof.ProjClaim
public import proofs.«01_k».proof.Proof.NormClaim
public import proofs.«01_k».proof.Proof.GradUpClaim
public import proofs.«01_k».proof.Proof.MixClaim
public import proofs.«01_k».proof.Proof.NormBwdClaim
public import Idealize.ShloMosaic.Adequacy
public import Idealize.ShloMosaic.Init

@[expose] public section

noncomputable section

set_option maxRecDepth 65536
set_option Elab.async false

namespace Cert.Proof

open Idealize.ShloMosaic Idealize.SL.Sem

/-- The exchange's frame for `Kernel`, from the run of its same text. -/
theorem frame_kernel : Cert.quiescent_Kernel := fun m g _ =>
  (θ_run Cert.KernelIdeal.defs _ _).mono (fun _ h => ⟨fun c => ⟨(h.1 c).arg0, (h.1 c).arg1, (h.1 c).arg2, (h.1 c).arg3, (h.1 c).arg4⟩, h.2⟩)
    (Cert.KernelIdeal.Grads.run_main (F := Bits) m g)

/-- And for `KernelIdeal`. -/
theorem frame_kernelIdeal : Cert.quiescent_KernelIdeal := fun m g _ =>
  (θ_run Cert.KernelIdeal.defs _ _).mono (fun _ h => ⟨fun c => ⟨(h.1 c).arg0, (h.1 c).arg1, (h.1 c).arg2, (h.1 c).arg3, (h.1 c).arg4⟩, h.2⟩)
    (Cert.KernelIdeal.Grads.run_main (F := Ideal) m g)

/-- The gather's frame for `Weights`, from the run of its same text. -/
theorem frame_weights : Cert.quiescent_Weights := fun m g _ =>
  (θ_run Cert.WeightsIdeal.defs _ _).mono (fun _ h => ⟨fun c => ⟨(h.1 c).arg0, (h.1 c).arg1, (h.1 c).arg2, (h.1 c).arg3, (h.1 c).arg4, (h.1 c).arg5⟩, h.2⟩)
    (Cert.WeightsIdeal.Weights.run_main (F := Bits) m g)

/-- And for `WeightsIdeal`. -/
theorem frame_weightsIdeal : Cert.quiescent_WeightsIdeal := fun m g _ =>
  (θ_run Cert.WeightsIdeal.defs _ _).mono (fun _ h => ⟨fun c => ⟨(h.1 c).arg0, (h.1 c).arg1, (h.1 c).arg2, (h.1 c).arg3, (h.1 c).arg4, (h.1 c).arg5⟩, h.2⟩)
    (Cert.WeightsIdeal.Weights.run_main (F := Ideal) m g)

/-- A signature without semaphores has no cell of one. -/
theorem no_sem {sig : RefSig} (hr : Sem sig → False) (hd : DmaSem sig → False) : ∀ sm : SemLoc sig, False
  | .reg s => hr s
  | .dma s => hd s

/-- So its counters are at zero. -/
theorem idle {nD : ℕ} {τ : Topo} {sig : RefSig} (hr : Sem sig → False) (hd : DmaSem sig → False) (f : GSem nD τ sig → Int) : f = fun _ => 0 :=
  funext fun s => (no_sem hr hd s.2).elim

theorem claim : Cert.Claim := ⟨Cert.Kernel.Gen.facts, Cert.KernelIdeal.Gen.facts, Cert.ReferenceIdeal.Gen.facts, Cert.Reference.Gen.facts,
  Cert.Weights.Gen.facts, Cert.WeightsIdeal.Gen.facts, Cert.WeightsReferenceIdeal.Gen.facts, Cert.WeightsReference.Gen.facts,
  Cert.SumIn.Gen.facts, Cert.SumInIdeal.Gen.facts, Cert.SumInReferenceIdeal.Gen.facts,
  Cert.SumOut.Gen.facts, Cert.SumOutIdeal.Gen.facts, Cert.SumOutReferenceIdeal.Gen.facts,
  Cert.SumUp.Gen.facts, Cert.SumUpIdeal.Gen.facts, Cert.SumUpReferenceIdeal.Gen.facts,
  Cert.SumSmall.Gen.facts, Cert.SumSmallIdeal.Gen.facts, Cert.SumSmallReferenceIdeal.Gen.facts,
  Cert.AdamwIn.Gen.facts, Cert.AdamwInIdeal.Gen.facts, Cert.AdamwInReferenceIdeal.Gen.facts,
  Cert.AdamwOut.Gen.facts, Cert.AdamwOutIdeal.Gen.facts, Cert.AdamwOutReferenceIdeal.Gen.facts,
  Cert.AdamwUp.Gen.facts, Cert.AdamwUpIdeal.Gen.facts, Cert.AdamwUpReferenceIdeal.Gen.facts,
  Cert.AdamwDown.Gen.facts, Cert.AdamwDownIdeal.Gen.facts, Cert.AdamwDownReferenceIdeal.Gen.facts,
  Cert.AdamwConv.Gen.facts, Cert.AdamwConvIdeal.Gen.facts, Cert.AdamwConvReferenceIdeal.Gen.facts,
  Cert.AdamwFfnConv.Gen.facts, Cert.AdamwFfnConvIdeal.Gen.facts, Cert.AdamwFfnConvReferenceIdeal.Gen.facts,
  Cert.AdamwSmall.Gen.facts, Cert.AdamwSmallIdeal.Gen.facts, Cert.AdamwSmallReferenceIdeal.Gen.facts,
  Cert.GradX.Gen.facts, Cert.GradXIdeal.Gen.facts, Cert.GradXReferenceIdeal.Gen.facts,
  Cert.GradIn.Gen.facts, Cert.GradInIdeal.Gen.facts, Cert.GradInReferenceIdeal.Gen.facts,
  Cert.GradOut.Gen.facts, Cert.GradOutIdeal.Gen.facts, Cert.GradOutReferenceIdeal.Gen.facts,
  Cert.Loss.Gen.facts, Cert.LossIdeal.Gen.facts, Cert.LossReferenceIdeal.Gen.facts,
  Cert.ProjQkv.Gen.facts, Cert.ProjQkvIdeal.Gen.facts, Cert.ProjQkvReferenceIdeal.Gen.facts,
  Cert.ProjAg.Gen.facts, Cert.ProjAgIdeal.Gen.facts, Cert.ProjAgReferenceIdeal.Gen.facts,
  Cert.Norm.Gen.facts, Cert.NormIdeal.Gen.facts, Cert.NormReferenceIdeal.Gen.facts,
  Cert.DMixed.Gen.facts, Cert.DMixedIdeal.Gen.facts, Cert.DMixedReferenceIdeal.Gen.facts,
  Cert.GradUp.Gen.facts, Cert.GradUpIdeal.Gen.facts, Cert.GradUpReferenceIdeal.Gen.facts,
  Cert.Mix.Gen.facts, Cert.MixIdeal.Gen.facts, Cert.MixReferenceIdeal.Gen.facts,
  Cert.NormBwd.Gen.facts, Cert.NormBwdIdeal.Gen.facts, Cert.NormBwdReferenceIdeal.Gen.facts,
  frame_kernel, frame_kernelIdeal,
  fun m g _ => (θ_run Cert.ReferenceIdeal.defs _ _).mono (fun r h => ⟨fun c => (h c).2.2.2.2.2, idle (fun s => s.elim0) (fun s => s.elim0) _⟩)
    (Cert.ReferenceIdeal.Value.run (F := Ideal) m g),
  fun m g _ => (θ_run Cert.ReferenceIdeal.defs _ _).mono (fun r h => ⟨fun c => (h c).2.2.2.2.2, idle (fun s => s.elim0) (fun s => s.elim0) _⟩)
    (Cert.ReferenceIdeal.Value.run (F := Bits) m g),
  frame_weights, frame_weightsIdeal,
  fun m g _ => (θ_run Cert.WeightsReferenceIdeal.defs _ _).mono (fun r h => ⟨fun c => (h c).2.2.2.2.2.2, idle (fun s => s.elim0) (fun s => s.elim0) _⟩)
    (Cert.WeightsReferenceIdeal.Value.run (F := Ideal) m g),
  fun m g _ => (θ_run Cert.WeightsReferenceIdeal.defs _ _).mono (fun r h => ⟨fun c => (h c).2.2.2.2.2.2, idle (fun s => s.elim0) (fun s => s.elim0) _⟩)
    (Cert.WeightsReferenceIdeal.Value.run (F := Bits) m g),
  fun m g _ => Cert.SumIn.Gen.frame m g, fun m g _ => Cert.SumInIdeal.Gen.frame m g,
  fun m g _ => (θ_run Cert.SumInReferenceIdeal.defs _ _).mono (fun r h => ⟨fun c => (h c).2, idle (fun s => s.elim0) (fun s => s.elim0) _⟩)
    (Cert.SumInReferenceIdeal.Value.run (F := Ideal) m g),
  fun m g _ => Cert.SumOut.Gen.frame m g, fun m g _ => Cert.SumOutIdeal.Gen.frame m g,
  fun m g _ => (θ_run Cert.SumOutReferenceIdeal.defs _ _).mono (fun r h => ⟨fun c => (h c).2, idle (fun s => s.elim0) (fun s => s.elim0) _⟩)
    (Cert.SumOutReferenceIdeal.Value.run (F := Ideal) m g),
  fun m g _ => Cert.SumUp.Gen.frame m g, fun m g _ => Cert.SumUpIdeal.Gen.frame m g,
  fun m g _ => (θ_run Cert.SumUpReferenceIdeal.defs _ _).mono (fun r h => ⟨fun c => (h c).2, idle (fun s => s.elim0) (fun s => s.elim0) _⟩)
    (Cert.SumUpReferenceIdeal.Value.run (F := Ideal) m g),
  fun m g _ => Cert.SumSmall.Gen.frame m g, fun m g _ => Cert.SumSmallIdeal.Gen.frame m g,
  fun m g _ => (θ_run Cert.SumSmallReferenceIdeal.defs _ _).mono (fun r h => ⟨fun c => (h c).2, idle (fun s => s.elim0) (fun s => s.elim0) _⟩)
    (Cert.SumSmallReferenceIdeal.Value.run (F := Ideal) m g),
  fun m g _ => Cert.AdamwIn.Gen.frame m g, fun m g _ => Cert.AdamwInIdeal.Gen.frame m g,
  fun m g _ => (θ_run Cert.AdamwInReferenceIdeal.defs _ _).mono (fun r h => ⟨fun c => (h c).2.2.2, idle (fun s => s.elim0) (fun s => s.elim0) _⟩)
    (Cert.AdamwInReferenceIdeal.Value.run (F := Ideal) m g),
  fun m g _ => Cert.AdamwOut.Gen.frame m g, fun m g _ => Cert.AdamwOutIdeal.Gen.frame m g,
  fun m g _ => (θ_run Cert.AdamwOutReferenceIdeal.defs _ _).mono (fun r h => ⟨fun c => (h c).2.2.2, idle (fun s => s.elim0) (fun s => s.elim0) _⟩)
    (Cert.AdamwOutReferenceIdeal.Value.run (F := Ideal) m g),
  fun m g _ => Cert.AdamwUp.Gen.frame m g, fun m g _ => Cert.AdamwUpIdeal.Gen.frame m g,
  fun m g _ => (θ_run Cert.AdamwUpReferenceIdeal.defs _ _).mono (fun r h => ⟨fun c => (h c).2.2.2, idle (fun s => s.elim0) (fun s => s.elim0) _⟩)
    (Cert.AdamwUpReferenceIdeal.Value.run (F := Ideal) m g),
  fun m g _ => Cert.AdamwDown.Gen.frame m g, fun m g _ => Cert.AdamwDownIdeal.Gen.frame m g,
  fun m g _ => (θ_run Cert.AdamwDownReferenceIdeal.defs _ _).mono (fun r h => ⟨fun c => (h c).2.2.2, idle (fun s => s.elim0) (fun s => s.elim0) _⟩)
    (Cert.AdamwDownReferenceIdeal.Value.run (F := Ideal) m g),
  fun m g _ => Cert.AdamwConv.Gen.frame m g, fun m g _ => Cert.AdamwConvIdeal.Gen.frame m g,
  fun m g _ => (θ_run Cert.AdamwConvReferenceIdeal.defs _ _).mono (fun r h => ⟨fun c => (h c).2.2.2, idle (fun s => s.elim0) (fun s => s.elim0) _⟩)
    (Cert.AdamwConvReferenceIdeal.Value.run (F := Ideal) m g),
  fun m g _ => Cert.AdamwFfnConv.Gen.frame m g, fun m g _ => Cert.AdamwFfnConvIdeal.Gen.frame m g,
  fun m g _ => (θ_run Cert.AdamwFfnConvReferenceIdeal.defs _ _).mono (fun r h => ⟨fun c => (h c).2.2.2, idle (fun s => s.elim0) (fun s => s.elim0) _⟩)
    (Cert.AdamwFfnConvReferenceIdeal.Value.run (F := Ideal) m g),
  fun m g _ => Cert.AdamwSmall.Gen.frame m g, fun m g _ => Cert.AdamwSmallIdeal.Gen.frame m g,
  fun m g _ => (θ_run Cert.AdamwSmallReferenceIdeal.defs _ _).mono (fun r h => ⟨fun c => (h c).2.2.2, idle (fun s => s.elim0) (fun s => s.elim0) _⟩)
    (Cert.AdamwSmallReferenceIdeal.Value.run (F := Ideal) m g),
  fun m g _ => Cert.GradX.Gen.frame m g, fun m g _ => Cert.GradXIdeal.Gen.frame m g,
  fun m g _ => (θ_run Cert.GradXReferenceIdeal.defs _ _).mono (fun r h => ⟨fun c => (h c).2, idle (fun s => s.elim0) (fun s => s.elim0) _⟩)
    (Cert.GradXReferenceIdeal.Value.run (F := Ideal) m g),
  fun m g _ => Cert.GradIn.Gen.frame m g, fun m g _ => Cert.GradInIdeal.Gen.frame m g,
  fun m g _ => (θ_run Cert.GradInReferenceIdeal.defs _ _).mono (fun r h => ⟨fun c => (h c).2, idle (fun s => s.elim0) (fun s => s.elim0) _⟩)
    (Cert.GradInReferenceIdeal.Value.run (F := Ideal) m g),
  fun m g _ => Cert.GradOut.Gen.frame m g, fun m g _ => Cert.GradOutIdeal.Gen.frame m g,
  fun m g _ => (θ_run Cert.GradOutReferenceIdeal.defs _ _).mono (fun r h => ⟨fun c => (h c).2, idle (fun s => s.elim0) (fun s => s.elim0) _⟩)
    (Cert.GradOutReferenceIdeal.Value.run (F := Ideal) m g),
  fun m g _ => Cert.Loss.Gen.frame m g, fun m g _ => Cert.LossIdeal.Gen.frame m g,
  fun m g _ => (θ_run Cert.LossReferenceIdeal.defs _ _).mono (fun r h => ⟨fun c => (h c).2.2.2.2, idle (fun s => s.elim0) (fun s => s.elim0) _⟩)
    (Cert.LossReferenceIdeal.Value.run (F := Ideal) m g),
  fun m g _ => Cert.ProjQkv.Gen.frame m g, fun m g _ => Cert.ProjQkvIdeal.Gen.frame m g,
  fun m g _ => (θ_run Cert.ProjQkvReferenceIdeal.defs _ _).mono (fun r h => ⟨fun c => (h c).2, idle (fun s => s.elim0) (fun s => s.elim0) _⟩)
    (Cert.ProjQkvReferenceIdeal.Value.run (F := Ideal) m g),
  fun m g _ => Cert.ProjAg.Gen.frame m g, fun m g _ => Cert.ProjAgIdeal.Gen.frame m g,
  fun m g _ => (θ_run Cert.ProjAgReferenceIdeal.defs _ _).mono (fun r h => ⟨fun c => (h c).2, idle (fun s => s.elim0) (fun s => s.elim0) _⟩)
    (Cert.ProjAgReferenceIdeal.Value.run (F := Ideal) m g),
  fun m g _ => Cert.Norm.Gen.frame m g, fun m g _ => Cert.NormIdeal.Gen.frame m g,
  fun m g _ => (θ_run Cert.NormReferenceIdeal.defs _ _).mono (fun r h => ⟨fun c => (h c).2.2.2, idle (fun s => s.elim0) (fun s => s.elim0) _⟩)
    (Cert.NormReferenceIdeal.Value.run (F := Ideal) m g),
  fun m g _ => Cert.DMixed.Gen.frame m g, fun m g _ => Cert.DMixedIdeal.Gen.frame m g,
  fun m g _ => (θ_run Cert.DMixedReferenceIdeal.defs _ _).mono (fun r h => ⟨fun c => (h c).2, idle (fun s => s.elim0) (fun s => s.elim0) _⟩)
    (Cert.DMixedReferenceIdeal.Value.run (F := Ideal) m g),
  fun m g _ => Cert.GradUp.Gen.frame m g, fun m g _ => Cert.GradUpIdeal.Gen.frame m g,
  fun m g _ => (θ_run Cert.GradUpReferenceIdeal.defs _ _).mono (fun r h => ⟨fun c => (h c).2.2, idle (fun s => s.elim0) (fun s => s.elim0) _⟩)
    (Cert.GradUpReferenceIdeal.Value.run (F := Ideal) m g),
  fun m g _ => Cert.Mix.Gen.frame m g, fun m g _ => Cert.MixIdeal.Gen.frame m g,
  fun m g _ => (θ_run Cert.MixReferenceIdeal.defs _ _).mono (fun r h => ⟨fun c => (h c).2.2.2.2.2.2.2, idle (fun s => s.elim0) (fun s => s.elim0) _⟩)
    (Cert.MixReferenceIdeal.Value.run (F := Ideal) m g),
  fun m g _ => Cert.NormBwd.Gen.frame m g, fun m g _ => Cert.NormBwdIdeal.Gen.frame m g,
  fun m g _ => (θ_run Cert.NormBwdReferenceIdeal.defs _ _).mono (fun r h => ⟨fun c => (h c).2.2.2, idle (fun s => s.elim0) (fun s => s.elim0) _⟩)
    (Cert.NormBwdReferenceIdeal.Value.run (F := Ideal) m g),
  trivial,
  fun m g m' g' _ hm => Cert.KernelIdeal.Grads.value (F := Ideal) m g m' g' hm,
  fun m g m' g' _ hm => Cert.KernelIdeal.Grads.value (F := Bits) m g m' g' hm,
  trivial,
  fun m g m' g' _ hm => Cert.WeightsIdeal.Weights.value (F := Ideal) m g m' g' hm,
  fun m g m' g' _ hm => Cert.WeightsIdeal.Weights.value (F := Bits) m g m' g' hm,
  trivial, Cert.Sums.sum_in, trivial, Cert.Sums.sum_out, trivial, Cert.Sums.sum_up, trivial, Cert.Sums.sum_small,
  trivial, Cert.Adamw.steps.1,
  trivial, Cert.Adamw.steps.2.1,
  trivial, Cert.Adamw.steps.2.2.1,
  trivial, Cert.Adamw.steps.2.2.2.1,
  trivial, Cert.Adamw.steps.2.2.2.2.1,
  trivial, Cert.Adamw.steps.2.2.2.2.2.1,
  trivial, Cert.Adamw.steps.2.2.2.2.2.2,
  trivial, Cert.Products.grad_x, trivial, Cert.Products.grad_in, trivial, Cert.Products.grad_out,
  trivial, Cert.Norms.loss, trivial, Cert.Norms.proj_qkv, trivial, Cert.Norms.proj_ag, trivial, Cert.Norms.norm,
  trivial, Cert.Products.d_mixed, trivial, Cert.Products.grad_up,
  trivial, Cert.Mixing.mix, trivial, Cert.UpBack.norm_bwd⟩

end Cert.Proof

end
